-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latent [hPre_finite_latent : Cert.Pre_finite_latent.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3))) = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_finite_latent [hPre_finite_latent : Cert.Pre_finite_latent.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_finite_latent.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2)) (m ((c.tc : Thread Cert.LatentRefIdeal.nD Cert.LatentRefIdeal.τ).loc Cert.LatentRefIdeal.main_arg3))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DMixcat (m : (ℓ : Loc Cert.DMixcat.nD Cert.DMixcat.τ Cert.DMixcat.sig) → Buf (Elt Bits) ℓ) : Prop :=
  True

def Pre_DMixcatIdeal (m : (ℓ : Loc Cert.DMixcatIdeal.nD Cert.DMixcatIdeal.τ Cert.DMixcatIdeal.sig) → Buf (Elt Ideal) ℓ) : Prop :=
  True

def Pre_DMixcatRefIdeal (m : (ℓ : Loc Cert.DMixcatRefIdeal.nD Cert.DMixcatRefIdeal.τ Cert.DMixcatRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInRefIdeal (m : (ℓ : Loc Cert.LnInRefIdeal.nD Cert.LnInRefIdeal.τ Cert.LnInRefIdeal.sig) → Buf (Elt Ideal) ℓ) : Prop :=
  True

def Pre_LnMix (m : (ℓ : Loc Cert.LnMix.nD Cert.LnMix.τ Cert.LnMix.sig) → Buf (Elt Bits) ℓ) : Prop :=
  True

def Pre_LnMixIdeal (m : (ℓ : Loc Cert.LnMixIdeal.nD Cert.LnMixIdeal.τ Cert.LnMixIdeal.sig) → Buf (Elt Ideal) ℓ) : Prop :=
  True

def Pre_LnMixRefIdeal (m : (ℓ : Loc Cert.LnMixRefIdeal.nD Cert.LnMixRefIdeal.τ Cert.LnMixRefIdeal.sig) → Buf (Elt Ideal) ℓ) : Prop :=
  True

def Pre_LnInBwd (m : (ℓ : Loc Cert.LnInBwd.nD Cert.LnInBwd.τ Cert.LnInBwd.sig) → Buf (Elt Bits) ℓ) : Prop :=
  True

def Pre_LnInBwdIdeal (m : (ℓ : Loc Cert.LnInBwdIdeal.nD Cert.LnInBwdIdeal.τ Cert.LnInBwdIdeal.sig) → Buf (Elt Ideal) ℓ) : Prop :=
  True

def Pre_LnInBwdIdeal_finite_in [hPre_finite_in : Cert.Pre_finite_in.Facts] (m : (ℓ : Loc Cert.LnInBwdIdeal.nD Cert.LnInBwdIdeal.τ Cert.LnInBwdIdeal.sig) → Buf (Elt Ideal) ℓ) : Prop :=
  ∀ c : Dev Cert.LnInBwdIdeal.nD,
    (Cert.Pre_finite_in.fn (F := Ideal) (m ((c.tc : Thread Cert.LnInBwdIdeal.nD Cert.LnInBwdIdeal.τ).loc Cert.LnInBwdIdeal.main_arg0)) (m ((c.tc : Thread Cert.LnInBwdIdeal.nD Cert.LnInBwdIdeal.τ).loc Cert.LnInBwdIdeal.main_arg1)) (m ((c.tc : Thread Cert.LnInBwdIdeal.nD Cert.LnInBwdIdeal.τ).loc Cert.LnInBwdIdeal.main_arg2))) = (fun _ => 1#1)

def Pre_LnInBwdRefIdeal (m : (ℓ : Loc Cert.LnInBwdRefIdeal.nD Cert.LnInBwdRefIdeal.τ Cert.LnInBwdRefIdeal.sig) → Buf (Elt Ideal) ℓ) : Prop :=
  True

def Pre_LnInBwdRefIdeal_finite_in [hPre_finite_in : Cert.Pre_finite_in.Facts] (m : (ℓ : Loc Cert.LnInBwdRefIdeal.nD Cert.LnInBwdRefIdeal.τ Cert.LnInBwdRefIdeal.sig) → Buf (Elt Ideal) ℓ) : Prop :=
  ∀ c : Dev Cert.LnInBwdRefIdeal.nD,
    (Cert.Pre_finite_in.fn (F := Ideal) (m ((c.tc : Thread Cert.LnInBwdRefIdeal.nD Cert.LnInBwdRefIdeal.τ).loc Cert.LnInBwdRefIdeal.main_arg0)) (m ((c.tc : Thread Cert.LnInBwdRefIdeal.nD Cert.LnInBwdRefIdeal.τ).loc Cert.LnInBwdRefIdeal.main_arg1)) (m ((c.tc : Thread Cert.LnInBwdRefIdeal.nD Cert.LnInBwdRefIdeal.τ).loc Cert.LnInBwdRefIdeal.main_arg2))) = (fun _ => 1#1)

def Pre_LnFfnBwd (m : (ℓ : Loc Cert.LnFfnBwd.nD Cert.LnFfnBwd.τ Cert.LnFfnBwd.sig) → Buf (Elt Bits) ℓ) : Prop :=
  True

def Pre_LnFfnBwdIdeal (m : (ℓ : Loc Cert.LnFfnBwdIdeal.nD Cert.LnFfnBwdIdeal.τ Cert.LnFfnBwdIdeal.sig) → Buf (Elt Ideal) ℓ) : Prop :=
  True

def Pre_LnFfnBwdIdeal_finite_ffn [hPre_finite_ffn : Cert.Pre_finite_ffn.Facts] (m : (ℓ : Loc Cert.LnFfnBwdIdeal.nD Cert.LnFfnBwdIdeal.τ Cert.LnFfnBwdIdeal.sig) → Buf (Elt Ideal) ℓ) : Prop :=
  ∀ c : Dev Cert.LnFfnBwdIdeal.nD,
    (Cert.Pre_finite_ffn.fn (F := Ideal) (m ((c.tc : Thread Cert.LnFfnBwdIdeal.nD Cert.LnFfnBwdIdeal.τ).loc Cert.LnFfnBwdIdeal.main_arg0)) (m ((c.tc : Thread Cert.LnFfnBwdIdeal.nD Cert.LnFfnBwdIdeal.τ).loc Cert.LnFfnBwdIdeal.main_arg1)) (m ((c.tc : Thread Cert.LnFfnBwdIdeal.nD Cert.LnFfnBwdIdeal.τ).loc Cert.LnFfnBwdIdeal.main_arg2)) (m ((c.tc : Thread Cert.LnFfnBwdIdeal.nD Cert.LnFfnBwdIdeal.τ).loc Cert.LnFfnBwdIdeal.main_arg3))) = (fun _ => 1#1)

def Pre_LnFfnBwdRefIdeal (m : (ℓ : Loc Cert.LnFfnBwdRefIdeal.nD Cert.LnFfnBwdRefIdeal.τ Cert.LnFfnBwdRefIdeal.sig) → Buf (Elt Ideal) ℓ) : Prop :=
  True

def Pre_LnFfnBwdRefIdeal_finite_ffn [hPre_finite_ffn : Cert.Pre_finite_ffn.Facts] (m : (ℓ : Loc Cert.LnFfnBwdRefIdeal.nD Cert.LnFfnBwdRefIdeal.τ Cert.LnFfnBwdRefIdeal.sig) → Buf (Elt Ideal) ℓ) : Prop :=
  ∀ c : Dev Cert.LnFfnBwdRefIdeal.nD,
    (Cert.Pre_finite_ffn.fn (F := Ideal) (m ((c.tc : Thread Cert.LnFfnBwdRefIdeal.nD Cert.LnFfnBwdRefIdeal.τ).loc Cert.LnFfnBwdRefIdeal.main_arg0)) (m ((c.tc : Thread Cert.LnFfnBwdRefIdeal.nD Cert.LnFfnBwdRefIdeal.τ).loc Cert.LnFfnBwdRefIdeal.main_arg1)) (m ((c.tc : Thread Cert.LnFfnBwdRefIdeal.nD Cert.LnFfnBwdRefIdeal.τ).loc Cert.LnFfnBwdRefIdeal.main_arg2)) (m ((c.tc : Thread Cert.LnFfnBwdRefIdeal.nD Cert.LnFfnBwdRefIdeal.τ).loc Cert.LnFfnBwdRefIdeal.main_arg3))) = (fun _ => 1#1)

def Pre_LnMixBwd (m : (ℓ : Loc Cert.LnMixBwd.nD Cert.LnMixBwd.τ Cert.LnMixBwd.sig) → Buf (Elt Bits) ℓ) : Prop :=
  True

def Pre_LnMixBwdIdeal (m : (ℓ : Loc Cert.LnMixBwdIdeal.nD Cert.LnMixBwdIdeal.τ Cert.LnMixBwdIdeal.sig) → Buf (Elt Ideal) ℓ) : Prop :=
  True

def Pre_LnMixBwdIdeal_finite_mix [hPre_finite_mix : Cert.Pre_finite_mix.Facts] (m : (ℓ : Loc Cert.LnMixBwdIdeal.nD Cert.LnMixBwdIdeal.τ Cert.LnMixBwdIdeal.sig) → Buf (Elt Ideal) ℓ) : Prop :=
  ∀ c : Dev Cert.LnMixBwdIdeal.nD,
    (Cert.Pre_finite_mix.fn (F := Ideal) (m ((c.tc : Thread Cert.LnMixBwdIdeal.nD Cert.LnMixBwdIdeal.τ).loc Cert.LnMixBwdIdeal.main_arg0)) (m ((c.tc : Thread Cert.LnMixBwdIdeal.nD Cert.LnMixBwdIdeal.τ).loc Cert.LnMixBwdIdeal.main_arg1)) (m ((c.tc : Thread Cert.LnMixBwdIdeal.nD Cert.LnMixBwdIdeal.τ).loc Cert.LnMixBwdIdeal.main_arg2)) (m ((c.tc : Thread Cert.LnMixBwdIdeal.nD Cert.LnMixBwdIdeal.τ).loc Cert.LnMixBwdIdeal.main_arg3)) (m ((c.tc : Thread Cert.LnMixBwdIdeal.nD Cert.LnMixBwdIdeal.τ).loc Cert.LnMixBwdIdeal.main_arg4))) = (fun _ => 1#1)

def Pre_LnMixBwdRefIdeal (m : (ℓ : Loc Cert.LnMixBwdRefIdeal.nD Cert.LnMixBwdRefIdeal.τ Cert.LnMixBwdRefIdeal.sig) → Buf (Elt Ideal) ℓ) : Prop :=
  True

def Pre_LnMixBwdRefIdeal_finite_mix [hPre_finite_mix : Cert.Pre_finite_mix.Facts] (m : (ℓ : Loc Cert.LnMixBwdRefIdeal.nD Cert.LnMixBwdRefIdeal.τ Cert.LnMixBwdRefIdeal.sig) → Buf (Elt Ideal) ℓ) : Prop :=
  ∀ c : Dev Cert.LnMixBwdRefIdeal.nD,
    (Cert.Pre_finite_mix.fn (F := Ideal) (m ((c.tc : Thread Cert.LnMixBwdRefIdeal.nD Cert.LnMixBwdRefIdeal.τ).loc Cert.LnMixBwdRefIdeal.main_arg0)) (m ((c.tc : Thread Cert.LnMixBwdRefIdeal.nD Cert.LnMixBwdRefIdeal.τ).loc Cert.LnMixBwdRefIdeal.main_arg1)) (m ((c.tc : Thread Cert.LnMixBwdRefIdeal.nD Cert.LnMixBwdRefIdeal.τ).loc Cert.LnMixBwdRefIdeal.main_arg2)) (m ((c.tc : Thread Cert.LnMixBwdRefIdeal.nD Cert.LnMixBwdRefIdeal.τ).loc Cert.LnMixBwdRefIdeal.main_arg3)) (m ((c.tc : Thread Cert.LnMixBwdRefIdeal.nD Cert.LnMixBwdRefIdeal.τ).loc Cert.LnMixBwdRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentIdeal_pre_finite_latent [hLatentIdeal : Cert.LatentIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latent m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_LatentRefIdeal_pre_finite_latent [hLatentRefIdeal : Cert.LatentRefIdeal.Facts] [hPre_finite_latent : Cert.Pre_finite_latent.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_finite_latent m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DMixcat [hDMixcat : Cert.DMixcat.Facts] : Prop :=
  ∀ (m : (ℓ : Loc Cert.DMixcat.nD Cert.DMixcat.τ Cert.DMixcat.sig) → Buf (Elt Bits) ℓ) (g : Dev Cert.DMixcat.nD → PrngReg), Pre_DMixcat m →
    θ_run (Cert.DMixcat.defs (F := Bits)) (onTc (τ := Cert.DMixcat.τ) (Cert.DMixcat.main (F := Bits))) ⟨m, fun _ => 0, g⟩ (fun r => (∀ c : Dev Cert.DMixcat.nD,
      r.2.mem ((c.tc : Thread Cert.DMixcat.nD Cert.DMixcat.τ).loc Cert.DMixcat.main_arg0) = m ((c.tc : Thread Cert.DMixcat.nD Cert.DMixcat.τ).loc Cert.DMixcat.main_arg0)
      ∧ r.2.mem ((c.tc : Thread Cert.DMixcat.nD Cert.DMixcat.τ).loc Cert.DMixcat.main_arg1) = m ((c.tc : Thread Cert.DMixcat.nD Cert.DMixcat.τ).loc Cert.DMixcat.main_arg1))
      ∧ r.2.sem = fun _ => 0)

def quiescent_DMixcatIdeal [hDMixcatIdeal : Cert.DMixcatIdeal.Facts] : Prop :=
  ∀ (m : (ℓ : Loc Cert.DMixcatIdeal.nD Cert.DMixcatIdeal.τ Cert.DMixcatIdeal.sig) → Buf (Elt Ideal) ℓ) (g : Dev Cert.DMixcatIdeal.nD → PrngReg), Pre_DMixcatIdeal m →
    θ_run (Cert.DMixcatIdeal.defs (F := Ideal)) (onTc (τ := Cert.DMixcatIdeal.τ) (Cert.DMixcatIdeal.main (F := Ideal))) ⟨m, fun _ => 0, g⟩ (fun r => (∀ c : Dev Cert.DMixcatIdeal.nD,
      r.2.mem ((c.tc : Thread Cert.DMixcatIdeal.nD Cert.DMixcatIdeal.τ).loc Cert.DMixcatIdeal.main_arg0) = m ((c.tc : Thread Cert.DMixcatIdeal.nD Cert.DMixcatIdeal.τ).loc Cert.DMixcatIdeal.main_arg0)
      ∧ r.2.mem ((c.tc : Thread Cert.DMixcatIdeal.nD Cert.DMixcatIdeal.τ).loc Cert.DMixcatIdeal.main_arg1) = m ((c.tc : Thread Cert.DMixcatIdeal.nD Cert.DMixcatIdeal.τ).loc Cert.DMixcatIdeal.main_arg1))
      ∧ r.2.sem = fun _ => 0)

def quiescent_DMixcatRefIdeal [hDMixcatRefIdeal : Cert.DMixcatRefIdeal.Facts] : Prop :=
  ∀ (m : (ℓ : Loc Cert.DMixcatRefIdeal.nD Cert.DMixcatRefIdeal.τ Cert.DMixcatRefIdeal.sig) → Buf (Elt Ideal) ℓ) (g : Dev Cert.DMixcatRefIdeal.nD → PrngReg), Pre_DMixcatRefIdeal m →
    θ_run (Cert.DMixcatRefIdeal.defs (F := Ideal)) (onTc (τ := Cert.DMixcatRefIdeal.τ) (Cert.DMixcatRefIdeal.main (F := Ideal))) ⟨m, fun _ => 0, g⟩ (fun r => (∀ c : Dev Cert.DMixcatRefIdeal.nD,
      r.2.mem ((c.tc : Thread Cert.DMixcatRefIdeal.nD Cert.DMixcatRefIdeal.τ).loc Cert.DMixcatRefIdeal.main_arg0) = m ((c.tc : Thread Cert.DMixcatRefIdeal.nD Cert.DMixcatRefIdeal.τ).loc Cert.DMixcatRefIdeal.main_arg0)
      ∧ r.2.mem ((c.tc : Thread Cert.DMixcatRefIdeal.nD Cert.DMixcatRefIdeal.τ).loc Cert.DMixcatRefIdeal.main_arg1) = m ((c.tc : Thread Cert.DMixcatRefIdeal.nD Cert.DMixcatRefIdeal.τ).loc Cert.DMixcatRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInRefIdeal [hLnInRefIdeal : Cert.LnInRefIdeal.Facts] : Prop :=
  ∀ (m : (ℓ : Loc Cert.LnInRefIdeal.nD Cert.LnInRefIdeal.τ Cert.LnInRefIdeal.sig) → Buf (Elt Ideal) ℓ) (g : Dev Cert.LnInRefIdeal.nD → PrngReg), Pre_LnInRefIdeal m →
    θ_run (Cert.LnInRefIdeal.defs (F := Ideal)) (onTc (τ := Cert.LnInRefIdeal.τ) (Cert.LnInRefIdeal.main (F := Ideal))) ⟨m, fun _ => 0, g⟩ (fun r => (∀ c : Dev Cert.LnInRefIdeal.nD,
      r.2.mem ((c.tc : Thread Cert.LnInRefIdeal.nD Cert.LnInRefIdeal.τ).loc Cert.LnInRefIdeal.main_arg0) = m ((c.tc : Thread Cert.LnInRefIdeal.nD Cert.LnInRefIdeal.τ).loc Cert.LnInRefIdeal.main_arg0)
      ∧ r.2.mem ((c.tc : Thread Cert.LnInRefIdeal.nD Cert.LnInRefIdeal.τ).loc Cert.LnInRefIdeal.main_arg1) = m ((c.tc : Thread Cert.LnInRefIdeal.nD Cert.LnInRefIdeal.τ).loc Cert.LnInRefIdeal.main_arg1)
      ∧ r.2.mem ((c.tc : Thread Cert.LnInRefIdeal.nD Cert.LnInRefIdeal.τ).loc Cert.LnInRefIdeal.main_arg2) = m ((c.tc : Thread Cert.LnInRefIdeal.nD Cert.LnInRefIdeal.τ).loc Cert.LnInRefIdeal.main_arg2))
      ∧ r.2.sem = fun _ => 0)

def quiescent_LnMix [hLnMix : Cert.LnMix.Facts] : Prop :=
  ∀ (m : (ℓ : Loc Cert.LnMix.nD Cert.LnMix.τ Cert.LnMix.sig) → Buf (Elt Bits) ℓ) (g : Dev Cert.LnMix.nD → PrngReg), Pre_LnMix m →
    θ_run (Cert.LnMix.defs (F := Bits)) (onTc (τ := Cert.LnMix.τ) (Cert.LnMix.main (F := Bits))) ⟨m, fun _ => 0, g⟩ (fun r => (∀ c : Dev Cert.LnMix.nD,
      r.2.mem ((c.tc : Thread Cert.LnMix.nD Cert.LnMix.τ).loc Cert.LnMix.main_arg0) = m ((c.tc : Thread Cert.LnMix.nD Cert.LnMix.τ).loc Cert.LnMix.main_arg0)
      ∧ r.2.mem ((c.tc : Thread Cert.LnMix.nD Cert.LnMix.τ).loc Cert.LnMix.main_arg1) = m ((c.tc : Thread Cert.LnMix.nD Cert.LnMix.τ).loc Cert.LnMix.main_arg1)
      ∧ r.2.mem ((c.tc : Thread Cert.LnMix.nD Cert.LnMix.τ).loc Cert.LnMix.main_arg2) = m ((c.tc : Thread Cert.LnMix.nD Cert.LnMix.τ).loc Cert.LnMix.main_arg2)
      ∧ r.2.mem ((c.tc : Thread Cert.LnMix.nD Cert.LnMix.τ).loc Cert.LnMix.main_arg3) = m ((c.tc : Thread Cert.LnMix.nD Cert.LnMix.τ).loc Cert.LnMix.main_arg3))
      ∧ r.2.sem = fun _ => 0)

def quiescent_LnMixIdeal [hLnMixIdeal : Cert.LnMixIdeal.Facts] : Prop :=
  ∀ (m : (ℓ : Loc Cert.LnMixIdeal.nD Cert.LnMixIdeal.τ Cert.LnMixIdeal.sig) → Buf (Elt Ideal) ℓ) (g : Dev Cert.LnMixIdeal.nD → PrngReg), Pre_LnMixIdeal m →
    θ_run (Cert.LnMixIdeal.defs (F := Ideal)) (onTc (τ := Cert.LnMixIdeal.τ) (Cert.LnMixIdeal.main (F := Ideal))) ⟨m, fun _ => 0, g⟩ (fun r => (∀ c : Dev Cert.LnMixIdeal.nD,
      r.2.mem ((c.tc : Thread Cert.LnMixIdeal.nD Cert.LnMixIdeal.τ).loc Cert.LnMixIdeal.main_arg0) = m ((c.tc : Thread Cert.LnMixIdeal.nD Cert.LnMixIdeal.τ).loc Cert.LnMixIdeal.main_arg0)
      ∧ r.2.mem ((c.tc : Thread Cert.LnMixIdeal.nD Cert.LnMixIdeal.τ).loc Cert.LnMixIdeal.main_arg1) = m ((c.tc : Thread Cert.LnMixIdeal.nD Cert.LnMixIdeal.τ).loc Cert.LnMixIdeal.main_arg1)
      ∧ r.2.mem ((c.tc : Thread Cert.LnMixIdeal.nD Cert.LnMixIdeal.τ).loc Cert.LnMixIdeal.main_arg2) = m ((c.tc : Thread Cert.LnMixIdeal.nD Cert.LnMixIdeal.τ).loc Cert.LnMixIdeal.main_arg2)
      ∧ r.2.mem ((c.tc : Thread Cert.LnMixIdeal.nD Cert.LnMixIdeal.τ).loc Cert.LnMixIdeal.main_arg3) = m ((c.tc : Thread Cert.LnMixIdeal.nD Cert.LnMixIdeal.τ).loc Cert.LnMixIdeal.main_arg3))
      ∧ r.2.sem = fun _ => 0)

def quiescent_LnMixRefIdeal [hLnMixRefIdeal : Cert.LnMixRefIdeal.Facts] : Prop :=
  ∀ (m : (ℓ : Loc Cert.LnMixRefIdeal.nD Cert.LnMixRefIdeal.τ Cert.LnMixRefIdeal.sig) → Buf (Elt Ideal) ℓ) (g : Dev Cert.LnMixRefIdeal.nD → PrngReg), Pre_LnMixRefIdeal m →
    θ_run (Cert.LnMixRefIdeal.defs (F := Ideal)) (onTc (τ := Cert.LnMixRefIdeal.τ) (Cert.LnMixRefIdeal.main (F := Ideal))) ⟨m, fun _ => 0, g⟩ (fun r => (∀ c : Dev Cert.LnMixRefIdeal.nD,
      r.2.mem ((c.tc : Thread Cert.LnMixRefIdeal.nD Cert.LnMixRefIdeal.τ).loc Cert.LnMixRefIdeal.main_arg0) = m ((c.tc : Thread Cert.LnMixRefIdeal.nD Cert.LnMixRefIdeal.τ).loc Cert.LnMixRefIdeal.main_arg0)
      ∧ r.2.mem ((c.tc : Thread Cert.LnMixRefIdeal.nD Cert.LnMixRefIdeal.τ).loc Cert.LnMixRefIdeal.main_arg1) = m ((c.tc : Thread Cert.LnMixRefIdeal.nD Cert.LnMixRefIdeal.τ).loc Cert.LnMixRefIdeal.main_arg1)
      ∧ r.2.mem ((c.tc : Thread Cert.LnMixRefIdeal.nD Cert.LnMixRefIdeal.τ).loc Cert.LnMixRefIdeal.main_arg2) = m ((c.tc : Thread Cert.LnMixRefIdeal.nD Cert.LnMixRefIdeal.τ).loc Cert.LnMixRefIdeal.main_arg2)
      ∧ r.2.mem ((c.tc : Thread Cert.LnMixRefIdeal.nD Cert.LnMixRefIdeal.τ).loc Cert.LnMixRefIdeal.main_arg3) = m ((c.tc : Thread Cert.LnMixRefIdeal.nD Cert.LnMixRefIdeal.τ).loc Cert.LnMixRefIdeal.main_arg3))
      ∧ r.2.sem = fun _ => 0)

def quiescent_LnInBwd [hLnInBwd : Cert.LnInBwd.Facts] : Prop :=
  ∀ (m : (ℓ : Loc Cert.LnInBwd.nD Cert.LnInBwd.τ Cert.LnInBwd.sig) → Buf (Elt Bits) ℓ) (g : Dev Cert.LnInBwd.nD → PrngReg), Pre_LnInBwd m →
    θ_run (Cert.LnInBwd.defs (F := Bits)) (onTc (τ := Cert.LnInBwd.τ) (Cert.LnInBwd.main (F := Bits))) ⟨m, fun _ => 0, g⟩ (fun r => (∀ c : Dev Cert.LnInBwd.nD,
      r.2.mem ((c.tc : Thread Cert.LnInBwd.nD Cert.LnInBwd.τ).loc Cert.LnInBwd.main_arg0) = m ((c.tc : Thread Cert.LnInBwd.nD Cert.LnInBwd.τ).loc Cert.LnInBwd.main_arg0)
      ∧ r.2.mem ((c.tc : Thread Cert.LnInBwd.nD Cert.LnInBwd.τ).loc Cert.LnInBwd.main_arg1) = m ((c.tc : Thread Cert.LnInBwd.nD Cert.LnInBwd.τ).loc Cert.LnInBwd.main_arg1)
      ∧ r.2.mem ((c.tc : Thread Cert.LnInBwd.nD Cert.LnInBwd.τ).loc Cert.LnInBwd.main_arg2) = m ((c.tc : Thread Cert.LnInBwd.nD Cert.LnInBwd.τ).loc Cert.LnInBwd.main_arg2))
      ∧ r.2.sem = fun _ => 0)

def quiescent_LnInBwdIdeal [hLnInBwdIdeal : Cert.LnInBwdIdeal.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg), Pre_LnInBwdIdeal m →
    θ_run (Cert.LnInBwdIdeal.defs (F := Ideal)) (onTc (τ := Cert.LnInBwdIdeal.τ) (Cert.LnInBwdIdeal.main (F := Ideal))) ⟨m, fun _ => 0, g⟩ (fun r => (∀ c : Dev Cert.LnInBwdIdeal.nD,
      r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
      ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
      ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2))
      ∧ r.2.sem = fun _ => 0)

def quiescent_LnInBwdIdeal_pre_finite_in [hLnInBwdIdeal : Cert.LnInBwdIdeal.Facts] [hPre_finite_in : Cert.Pre_finite_in.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg), Pre_LnInBwdIdeal_finite_in m →
    θ_run (Cert.LnInBwdIdeal.defs (F := Ideal)) (onTc (τ := Cert.LnInBwdIdeal.τ) (Cert.LnInBwdIdeal.main (F := Ideal))) ⟨m, fun _ => 0, g⟩ (fun r => (∀ c : Dev Cert.LnInBwdIdeal.nD,
      r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
      ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
      ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2))
      ∧ r.2.sem = fun _ => 0)

def quiescent_LnInBwdRefIdeal [hLnInBwdRefIdeal : Cert.LnInBwdRefIdeal.Facts] : Prop :=
  ∀ (m : (ℓ : Loc Cert.LnInBwdRefIdeal.nD Cert.LnInBwdRefIdeal.τ Cert.LnInBwdRefIdeal.sig) → Buf (Elt Ideal) ℓ) (g : Dev Cert.LnInBwdRefIdeal.nD → PrngReg), Pre_LnInBwdRefIdeal m →
    θ_run (Cert.LnInBwdRefIdeal.defs (F := Ideal)) (onTc (τ := Cert.LnInBwdRefIdeal.τ) (Cert.LnInBwdRefIdeal.main (F := Ideal))) ⟨m, fun _ => 0, g⟩ (fun r => (∀ c : Dev Cert.LnInBwdRefIdeal.nD,
      r.2.mem ((c.tc : Thread Cert.LnInBwdRefIdeal.nD Cert.LnInBwdRefIdeal.τ).loc Cert.LnInBwdRefIdeal.main_arg0) = m ((c.tc : Thread Cert.LnInBwdRefIdeal.nD Cert.LnInBwdRefIdeal.τ).loc Cert.LnInBwdRefIdeal.main_arg0)
      ∧ r.2.mem ((c.tc : Thread Cert.LnInBwdRefIdeal.nD Cert.LnInBwdRefIdeal.τ).loc Cert.LnInBwdRefIdeal.main_arg1) = m ((c.tc : Thread Cert.LnInBwdRefIdeal.nD Cert.LnInBwdRefIdeal.τ).loc Cert.LnInBwdRefIdeal.main_arg1)
      ∧ r.2.mem ((c.tc : Thread Cert.LnInBwdRefIdeal.nD Cert.LnInBwdRefIdeal.τ).loc Cert.LnInBwdRefIdeal.main_arg2) = m ((c.tc : Thread Cert.LnInBwdRefIdeal.nD Cert.LnInBwdRefIdeal.τ).loc Cert.LnInBwdRefIdeal.main_arg2))
      ∧ r.2.sem = fun _ => 0)

def quiescent_LnInBwdRefIdeal_pre_finite_in [hLnInBwdRefIdeal : Cert.LnInBwdRefIdeal.Facts] [hPre_finite_in : Cert.Pre_finite_in.Facts] : Prop :=
  ∀ (m : (ℓ : Loc Cert.LnInBwdRefIdeal.nD Cert.LnInBwdRefIdeal.τ Cert.LnInBwdRefIdeal.sig) → Buf (Elt Ideal) ℓ) (g : Dev Cert.LnInBwdRefIdeal.nD → PrngReg), Pre_LnInBwdRefIdeal_finite_in m →
    θ_run (Cert.LnInBwdRefIdeal.defs (F := Ideal)) (onTc (τ := Cert.LnInBwdRefIdeal.τ) (Cert.LnInBwdRefIdeal.main (F := Ideal))) ⟨m, fun _ => 0, g⟩ (fun r => (∀ c : Dev Cert.LnInBwdRefIdeal.nD,
      r.2.mem ((c.tc : Thread Cert.LnInBwdRefIdeal.nD Cert.LnInBwdRefIdeal.τ).loc Cert.LnInBwdRefIdeal.main_arg0) = m ((c.tc : Thread Cert.LnInBwdRefIdeal.nD Cert.LnInBwdRefIdeal.τ).loc Cert.LnInBwdRefIdeal.main_arg0)
      ∧ r.2.mem ((c.tc : Thread Cert.LnInBwdRefIdeal.nD Cert.LnInBwdRefIdeal.τ).loc Cert.LnInBwdRefIdeal.main_arg1) = m ((c.tc : Thread Cert.LnInBwdRefIdeal.nD Cert.LnInBwdRefIdeal.τ).loc Cert.LnInBwdRefIdeal.main_arg1)
      ∧ r.2.mem ((c.tc : Thread Cert.LnInBwdRefIdeal.nD Cert.LnInBwdRefIdeal.τ).loc Cert.LnInBwdRefIdeal.main_arg2) = m ((c.tc : Thread Cert.LnInBwdRefIdeal.nD Cert.LnInBwdRefIdeal.τ).loc Cert.LnInBwdRefIdeal.main_arg2))
      ∧ r.2.sem = fun _ => 0)

def quiescent_LnFfnBwd [hLnFfnBwd : Cert.LnFfnBwd.Facts] : Prop :=
  ∀ (m : (ℓ : Loc Cert.LnFfnBwd.nD Cert.LnFfnBwd.τ Cert.LnFfnBwd.sig) → Buf (Elt Bits) ℓ) (g : Dev Cert.LnFfnBwd.nD → PrngReg), Pre_LnFfnBwd m →
    θ_run (Cert.LnFfnBwd.defs (F := Bits)) (onTc (τ := Cert.LnFfnBwd.τ) (Cert.LnFfnBwd.main (F := Bits))) ⟨m, fun _ => 0, g⟩ (fun r => (∀ c : Dev Cert.LnFfnBwd.nD,
      r.2.mem ((c.tc : Thread Cert.LnFfnBwd.nD Cert.LnFfnBwd.τ).loc Cert.LnFfnBwd.main_arg0) = m ((c.tc : Thread Cert.LnFfnBwd.nD Cert.LnFfnBwd.τ).loc Cert.LnFfnBwd.main_arg0)
      ∧ r.2.mem ((c.tc : Thread Cert.LnFfnBwd.nD Cert.LnFfnBwd.τ).loc Cert.LnFfnBwd.main_arg1) = m ((c.tc : Thread Cert.LnFfnBwd.nD Cert.LnFfnBwd.τ).loc Cert.LnFfnBwd.main_arg1)
      ∧ r.2.mem ((c.tc : Thread Cert.LnFfnBwd.nD Cert.LnFfnBwd.τ).loc Cert.LnFfnBwd.main_arg2) = m ((c.tc : Thread Cert.LnFfnBwd.nD Cert.LnFfnBwd.τ).loc Cert.LnFfnBwd.main_arg2)
      ∧ r.2.mem ((c.tc : Thread Cert.LnFfnBwd.nD Cert.LnFfnBwd.τ).loc Cert.LnFfnBwd.main_arg3) = m ((c.tc : Thread Cert.LnFfnBwd.nD Cert.LnFfnBwd.τ).loc Cert.LnFfnBwd.main_arg3))
      ∧ r.2.sem = fun _ => 0)

def quiescent_LnFfnBwdIdeal [hLnFfnBwdIdeal : Cert.LnFfnBwdIdeal.Facts] : Prop :=
  ∀ (m : (ℓ : Loc Cert.LnFfnBwdIdeal.nD Cert.LnFfnBwdIdeal.τ Cert.LnFfnBwdIdeal.sig) → Buf (Elt Ideal) ℓ) (g : Dev Cert.LnFfnBwdIdeal.nD → PrngReg), Pre_LnFfnBwdIdeal m →
    θ_run (Cert.LnFfnBwdIdeal.defs (F := Ideal)) (onTc (τ := Cert.LnFfnBwdIdeal.τ) (Cert.LnFfnBwdIdeal.main (F := Ideal))) ⟨m, fun _ => 0, g⟩ (fun r => (∀ c : Dev Cert.LnFfnBwdIdeal.nD,
      r.2.mem ((c.tc : Thread Cert.LnFfnBwdIdeal.nD Cert.LnFfnBwdIdeal.τ).loc Cert.LnFfnBwdIdeal.main_arg0) = m ((c.tc : Thread Cert.LnFfnBwdIdeal.nD Cert.LnFfnBwdIdeal.τ).loc Cert.LnFfnBwdIdeal.main_arg0)
      ∧ r.2.mem ((c.tc : Thread Cert.LnFfnBwdIdeal.nD Cert.LnFfnBwdIdeal.τ).loc Cert.LnFfnBwdIdeal.main_arg1) = m ((c.tc : Thread Cert.LnFfnBwdIdeal.nD Cert.LnFfnBwdIdeal.τ).loc Cert.LnFfnBwdIdeal.main_arg1)
      ∧ r.2.mem ((c.tc : Thread Cert.LnFfnBwdIdeal.nD Cert.LnFfnBwdIdeal.τ).loc Cert.LnFfnBwdIdeal.main_arg2) = m ((c.tc : Thread Cert.LnFfnBwdIdeal.nD Cert.LnFfnBwdIdeal.τ).loc Cert.LnFfnBwdIdeal.main_arg2)
      ∧ r.2.mem ((c.tc : Thread Cert.LnFfnBwdIdeal.nD Cert.LnFfnBwdIdeal.τ).loc Cert.LnFfnBwdIdeal.main_arg3) = m ((c.tc : Thread Cert.LnFfnBwdIdeal.nD Cert.LnFfnBwdIdeal.τ).loc Cert.LnFfnBwdIdeal.main_arg3))
      ∧ r.2.sem = fun _ => 0)

def quiescent_LnFfnBwdIdeal_pre_finite_ffn [hLnFfnBwdIdeal : Cert.LnFfnBwdIdeal.Facts] [hPre_finite_ffn : Cert.Pre_finite_ffn.Facts] : Prop :=
  ∀ (m : (ℓ : Loc Cert.LnFfnBwdIdeal.nD Cert.LnFfnBwdIdeal.τ Cert.LnFfnBwdIdeal.sig) → Buf (Elt Ideal) ℓ) (g : Dev Cert.LnFfnBwdIdeal.nD → PrngReg), Pre_LnFfnBwdIdeal_finite_ffn m →
    θ_run (Cert.LnFfnBwdIdeal.defs (F := Ideal)) (onTc (τ := Cert.LnFfnBwdIdeal.τ) (Cert.LnFfnBwdIdeal.main (F := Ideal))) ⟨m, fun _ => 0, g⟩ (fun r => (∀ c : Dev Cert.LnFfnBwdIdeal.nD,
      r.2.mem ((c.tc : Thread Cert.LnFfnBwdIdeal.nD Cert.LnFfnBwdIdeal.τ).loc Cert.LnFfnBwdIdeal.main_arg0) = m ((c.tc : Thread Cert.LnFfnBwdIdeal.nD Cert.LnFfnBwdIdeal.τ).loc Cert.LnFfnBwdIdeal.main_arg0)
      ∧ r.2.mem ((c.tc : Thread Cert.LnFfnBwdIdeal.nD Cert.LnFfnBwdIdeal.τ).loc Cert.LnFfnBwdIdeal.main_arg1) = m ((c.tc : Thread Cert.LnFfnBwdIdeal.nD Cert.LnFfnBwdIdeal.τ).loc Cert.LnFfnBwdIdeal.main_arg1)
      ∧ r.2.mem ((c.tc : Thread Cert.LnFfnBwdIdeal.nD Cert.LnFfnBwdIdeal.τ).loc Cert.LnFfnBwdIdeal.main_arg2) = m ((c.tc : Thread Cert.LnFfnBwdIdeal.nD Cert.LnFfnBwdIdeal.τ).loc Cert.LnFfnBwdIdeal.main_arg2)
      ∧ r.2.mem ((c.tc : Thread Cert.LnFfnBwdIdeal.nD Cert.LnFfnBwdIdeal.τ).loc Cert.LnFfnBwdIdeal.main_arg3) = m ((c.tc : Thread Cert.LnFfnBwdIdeal.nD Cert.LnFfnBwdIdeal.τ).loc Cert.LnFfnBwdIdeal.main_arg3))
      ∧ r.2.sem = fun _ => 0)

def quiescent_LnFfnBwdRefIdeal [hLnFfnBwdRefIdeal : Cert.LnFfnBwdRefIdeal.Facts] : Prop :=
  ∀ (m : (ℓ : Loc Cert.LnFfnBwdRefIdeal.nD Cert.LnFfnBwdRefIdeal.τ Cert.LnFfnBwdRefIdeal.sig) → Buf (Elt Ideal) ℓ) (g : Dev Cert.LnFfnBwdRefIdeal.nD → PrngReg), Pre_LnFfnBwdRefIdeal m →
    θ_run (Cert.LnFfnBwdRefIdeal.defs (F := Ideal)) (onTc (τ := Cert.LnFfnBwdRefIdeal.τ) (Cert.LnFfnBwdRefIdeal.main (F := Ideal))) ⟨m, fun _ => 0, g⟩ (fun r => (∀ c : Dev Cert.LnFfnBwdRefIdeal.nD,
      r.2.mem ((c.tc : Thread Cert.LnFfnBwdRefIdeal.nD Cert.LnFfnBwdRefIdeal.τ).loc Cert.LnFfnBwdRefIdeal.main_arg0) = m ((c.tc : Thread Cert.LnFfnBwdRefIdeal.nD Cert.LnFfnBwdRefIdeal.τ).loc Cert.LnFfnBwdRefIdeal.main_arg0)
      ∧ r.2.mem ((c.tc : Thread Cert.LnFfnBwdRefIdeal.nD Cert.LnFfnBwdRefIdeal.τ).loc Cert.LnFfnBwdRefIdeal.main_arg1) = m ((c.tc : Thread Cert.LnFfnBwdRefIdeal.nD Cert.LnFfnBwdRefIdeal.τ).loc Cert.LnFfnBwdRefIdeal.main_arg1)
      ∧ r.2.mem ((c.tc : Thread Cert.LnFfnBwdRefIdeal.nD Cert.LnFfnBwdRefIdeal.τ).loc Cert.LnFfnBwdRefIdeal.main_arg2) = m ((c.tc : Thread Cert.LnFfnBwdRefIdeal.nD Cert.LnFfnBwdRefIdeal.τ).loc Cert.LnFfnBwdRefIdeal.main_arg2)
      ∧ r.2.mem ((c.tc : Thread Cert.LnFfnBwdRefIdeal.nD Cert.LnFfnBwdRefIdeal.τ).loc Cert.LnFfnBwdRefIdeal.main_arg3) = m ((c.tc : Thread Cert.LnFfnBwdRefIdeal.nD Cert.LnFfnBwdRefIdeal.τ).loc Cert.LnFfnBwdRefIdeal.main_arg3))
      ∧ r.2.sem = fun _ => 0)

def quiescent_LnFfnBwdRefIdeal_pre_finite_ffn [hLnFfnBwdRefIdeal : Cert.LnFfnBwdRefIdeal.Facts] [hPre_finite_ffn : Cert.Pre_finite_ffn.Facts] : Prop :=
  ∀ (m : (ℓ : Loc Cert.LnFfnBwdRefIdeal.nD Cert.LnFfnBwdRefIdeal.τ Cert.LnFfnBwdRefIdeal.sig) → Buf (Elt Ideal) ℓ) (g : Dev Cert.LnFfnBwdRefIdeal.nD → PrngReg), Pre_LnFfnBwdRefIdeal_finite_ffn m →
    θ_run (Cert.LnFfnBwdRefIdeal.defs (F := Ideal)) (onTc (τ := Cert.LnFfnBwdRefIdeal.τ) (Cert.LnFfnBwdRefIdeal.main (F := Ideal))) ⟨m, fun _ => 0, g⟩ (fun r => (∀ c : Dev Cert.LnFfnBwdRefIdeal.nD,
      r.2.mem ((c.tc : Thread Cert.LnFfnBwdRefIdeal.nD Cert.LnFfnBwdRefIdeal.τ).loc Cert.LnFfnBwdRefIdeal.main_arg0) = m ((c.tc : Thread Cert.LnFfnBwdRefIdeal.nD Cert.LnFfnBwdRefIdeal.τ).loc Cert.LnFfnBwdRefIdeal.main_arg0)
      ∧ r.2.mem ((c.tc : Thread Cert.LnFfnBwdRefIdeal.nD Cert.LnFfnBwdRefIdeal.τ).loc Cert.LnFfnBwdRefIdeal.main_arg1) = m ((c.tc : Thread Cert.LnFfnBwdRefIdeal.nD Cert.LnFfnBwdRefIdeal.τ).loc Cert.LnFfnBwdRefIdeal.main_arg1)
      ∧ r.2.mem ((c.tc : Thread Cert.LnFfnBwdRefIdeal.nD Cert.LnFfnBwdRefIdeal.τ).loc Cert.LnFfnBwdRefIdeal.main_arg2) = m ((c.tc : Thread Cert.LnFfnBwdRefIdeal.nD Cert.LnFfnBwdRefIdeal.τ).loc Cert.LnFfnBwdRefIdeal.main_arg2)
      ∧ r.2.mem ((c.tc : Thread Cert.LnFfnBwdRefIdeal.nD Cert.LnFfnBwdRefIdeal.τ).loc Cert.LnFfnBwdRefIdeal.main_arg3) = m ((c.tc : Thread Cert.LnFfnBwdRefIdeal.nD Cert.LnFfnBwdRefIdeal.τ).loc Cert.LnFfnBwdRefIdeal.main_arg3))
      ∧ r.2.sem = fun _ => 0)

def quiescent_LnMixBwd [hLnMixBwd : Cert.LnMixBwd.Facts] : Prop :=
  ∀ (m : (ℓ : Loc Cert.LnMixBwd.nD Cert.LnMixBwd.τ Cert.LnMixBwd.sig) → Buf (Elt Bits) ℓ) (g : Dev Cert.LnMixBwd.nD → PrngReg), Pre_LnMixBwd m →
    θ_run (Cert.LnMixBwd.defs (F := Bits)) (onTc (τ := Cert.LnMixBwd.τ) (Cert.LnMixBwd.main (F := Bits))) ⟨m, fun _ => 0, g⟩ (fun r => (∀ c : Dev Cert.LnMixBwd.nD,
      r.2.mem ((c.tc : Thread Cert.LnMixBwd.nD Cert.LnMixBwd.τ).loc Cert.LnMixBwd.main_arg0) = m ((c.tc : Thread Cert.LnMixBwd.nD Cert.LnMixBwd.τ).loc Cert.LnMixBwd.main_arg0)
      ∧ r.2.mem ((c.tc : Thread Cert.LnMixBwd.nD Cert.LnMixBwd.τ).loc Cert.LnMixBwd.main_arg1) = m ((c.tc : Thread Cert.LnMixBwd.nD Cert.LnMixBwd.τ).loc Cert.LnMixBwd.main_arg1)
      ∧ r.2.mem ((c.tc : Thread Cert.LnMixBwd.nD Cert.LnMixBwd.τ).loc Cert.LnMixBwd.main_arg2) = m ((c.tc : Thread Cert.LnMixBwd.nD Cert.LnMixBwd.τ).loc Cert.LnMixBwd.main_arg2)
      ∧ r.2.mem ((c.tc : Thread Cert.LnMixBwd.nD Cert.LnMixBwd.τ).loc Cert.LnMixBwd.main_arg3) = m ((c.tc : Thread Cert.LnMixBwd.nD Cert.LnMixBwd.τ).loc Cert.LnMixBwd.main_arg3)
      ∧ r.2.mem ((c.tc : Thread Cert.LnMixBwd.nD Cert.LnMixBwd.τ).loc Cert.LnMixBwd.main_arg4) = m ((c.tc : Thread Cert.LnMixBwd.nD Cert.LnMixBwd.τ).loc Cert.LnMixBwd.main_arg4))
      ∧ r.2.sem = fun _ => 0)

def quiescent_LnMixBwdIdeal [hLnMixBwdIdeal : Cert.LnMixBwdIdeal.Facts] : Prop :=
  ∀ (m : (ℓ : Loc Cert.LnMixBwdIdeal.nD Cert.LnMixBwdIdeal.τ Cert.LnMixBwdIdeal.sig) → Buf (Elt Ideal) ℓ) (g : Dev Cert.LnMixBwdIdeal.nD → PrngReg), Pre_LnMixBwdIdeal m →
    θ_run (Cert.LnMixBwdIdeal.defs (F := Ideal)) (onTc (τ := Cert.LnMixBwdIdeal.τ) (Cert.LnMixBwdIdeal.main (F := Ideal))) ⟨m, fun _ => 0, g⟩ (fun r => (∀ c : Dev Cert.LnMixBwdIdeal.nD,
      r.2.mem ((c.tc : Thread Cert.LnMixBwdIdeal.nD Cert.LnMixBwdIdeal.τ).loc Cert.LnMixBwdIdeal.main_arg0) = m ((c.tc : Thread Cert.LnMixBwdIdeal.nD Cert.LnMixBwdIdeal.τ).loc Cert.LnMixBwdIdeal.main_arg0)
      ∧ r.2.mem ((c.tc : Thread Cert.LnMixBwdIdeal.nD Cert.LnMixBwdIdeal.τ).loc Cert.LnMixBwdIdeal.main_arg1) = m ((c.tc : Thread Cert.LnMixBwdIdeal.nD Cert.LnMixBwdIdeal.τ).loc Cert.LnMixBwdIdeal.main_arg1)
      ∧ r.2.mem ((c.tc : Thread Cert.LnMixBwdIdeal.nD Cert.LnMixBwdIdeal.τ).loc Cert.LnMixBwdIdeal.main_arg2) = m ((c.tc : Thread Cert.LnMixBwdIdeal.nD Cert.LnMixBwdIdeal.τ).loc Cert.LnMixBwdIdeal.main_arg2)
      ∧ r.2.mem ((c.tc : Thread Cert.LnMixBwdIdeal.nD Cert.LnMixBwdIdeal.τ).loc Cert.LnMixBwdIdeal.main_arg3) = m ((c.tc : Thread Cert.LnMixBwdIdeal.nD Cert.LnMixBwdIdeal.τ).loc Cert.LnMixBwdIdeal.main_arg3)
      ∧ r.2.mem ((c.tc : Thread Cert.LnMixBwdIdeal.nD Cert.LnMixBwdIdeal.τ).loc Cert.LnMixBwdIdeal.main_arg4) = m ((c.tc : Thread Cert.LnMixBwdIdeal.nD Cert.LnMixBwdIdeal.τ).loc Cert.LnMixBwdIdeal.main_arg4))
      ∧ r.2.sem = fun _ => 0)

def quiescent_LnMixBwdIdeal_pre_finite_mix [hLnMixBwdIdeal : Cert.LnMixBwdIdeal.Facts] [hPre_finite_mix : Cert.Pre_finite_mix.Facts] : Prop :=
  ∀ (m : (ℓ : Loc Cert.LnMixBwdIdeal.nD Cert.LnMixBwdIdeal.τ Cert.LnMixBwdIdeal.sig) → Buf (Elt Ideal) ℓ) (g : Dev Cert.LnMixBwdIdeal.nD → PrngReg), Pre_LnMixBwdIdeal_finite_mix m →
    θ_run (Cert.LnMixBwdIdeal.defs (F := Ideal)) (onTc (τ := Cert.LnMixBwdIdeal.τ) (Cert.LnMixBwdIdeal.main (F := Ideal))) ⟨m, fun _ => 0, g⟩ (fun r => (∀ c : Dev Cert.LnMixBwdIdeal.nD,
      r.2.mem ((c.tc : Thread Cert.LnMixBwdIdeal.nD Cert.LnMixBwdIdeal.τ).loc Cert.LnMixBwdIdeal.main_arg0) = m ((c.tc : Thread Cert.LnMixBwdIdeal.nD Cert.LnMixBwdIdeal.τ).loc Cert.LnMixBwdIdeal.main_arg0)
      ∧ r.2.mem ((c.tc : Thread Cert.LnMixBwdIdeal.nD Cert.LnMixBwdIdeal.τ).loc Cert.LnMixBwdIdeal.main_arg1) = m ((c.tc : Thread Cert.LnMixBwdIdeal.nD Cert.LnMixBwdIdeal.τ).loc Cert.LnMixBwdIdeal.main_arg1)
      ∧ r.2.mem ((c.tc : Thread Cert.LnMixBwdIdeal.nD Cert.LnMixBwdIdeal.τ).loc Cert.LnMixBwdIdeal.main_arg2) = m ((c.tc : Thread Cert.LnMixBwdIdeal.nD Cert.LnMixBwdIdeal.τ).loc Cert.LnMixBwdIdeal.main_arg2)
      ∧ r.2.mem ((c.tc : Thread Cert.LnMixBwdIdeal.nD Cert.LnMixBwdIdeal.τ).loc Cert.LnMixBwdIdeal.main_arg3) = m ((c.tc : Thread Cert.LnMixBwdIdeal.nD Cert.LnMixBwdIdeal.τ).loc Cert.LnMixBwdIdeal.main_arg3)
      ∧ r.2.mem ((c.tc : Thread Cert.LnMixBwdIdeal.nD Cert.LnMixBwdIdeal.τ).loc Cert.LnMixBwdIdeal.main_arg4) = m ((c.tc : Thread Cert.LnMixBwdIdeal.nD Cert.LnMixBwdIdeal.τ).loc Cert.LnMixBwdIdeal.main_arg4))
      ∧ r.2.sem = fun _ => 0)

def quiescent_LnMixBwdRefIdeal [hLnMixBwdRefIdeal : Cert.LnMixBwdRefIdeal.Facts] : Prop :=
  ∀ (m : (ℓ : Loc Cert.LnMixBwdRefIdeal.nD Cert.LnMixBwdRefIdeal.τ Cert.LnMixBwdRefIdeal.sig) → Buf (Elt Ideal) ℓ) (g : Dev Cert.LnMixBwdRefIdeal.nD → PrngReg), Pre_LnMixBwdRefIdeal m →
    θ_run (Cert.LnMixBwdRefIdeal.defs (F := Ideal)) (onTc (τ := Cert.LnMixBwdRefIdeal.τ) (Cert.LnMixBwdRefIdeal.main (F := Ideal))) ⟨m, fun _ => 0, g⟩ (fun r => (∀ c : Dev Cert.LnMixBwdRefIdeal.nD,
      r.2.mem ((c.tc : Thread Cert.LnMixBwdRefIdeal.nD Cert.LnMixBwdRefIdeal.τ).loc Cert.LnMixBwdRefIdeal.main_arg0) = m ((c.tc : Thread Cert.LnMixBwdRefIdeal.nD Cert.LnMixBwdRefIdeal.τ).loc Cert.LnMixBwdRefIdeal.main_arg0)
      ∧ r.2.mem ((c.tc : Thread Cert.LnMixBwdRefIdeal.nD Cert.LnMixBwdRefIdeal.τ).loc Cert.LnMixBwdRefIdeal.main_arg1) = m ((c.tc : Thread Cert.LnMixBwdRefIdeal.nD Cert.LnMixBwdRefIdeal.τ).loc Cert.LnMixBwdRefIdeal.main_arg1)
      ∧ r.2.mem ((c.tc : Thread Cert.LnMixBwdRefIdeal.nD Cert.LnMixBwdRefIdeal.τ).loc Cert.LnMixBwdRefIdeal.main_arg2) = m ((c.tc : Thread Cert.LnMixBwdRefIdeal.nD Cert.LnMixBwdRefIdeal.τ).loc Cert.LnMixBwdRefIdeal.main_arg2)
      ∧ r.2.mem ((c.tc : Thread Cert.LnMixBwdRefIdeal.nD Cert.LnMixBwdRefIdeal.τ).loc Cert.LnMixBwdRefIdeal.main_arg3) = m ((c.tc : Thread Cert.LnMixBwdRefIdeal.nD Cert.LnMixBwdRefIdeal.τ).loc Cert.LnMixBwdRefIdeal.main_arg3)
      ∧ r.2.mem ((c.tc : Thread Cert.LnMixBwdRefIdeal.nD Cert.LnMixBwdRefIdeal.τ).loc Cert.LnMixBwdRefIdeal.main_arg4) = m ((c.tc : Thread Cert.LnMixBwdRefIdeal.nD Cert.LnMixBwdRefIdeal.τ).loc Cert.LnMixBwdRefIdeal.main_arg4))
      ∧ r.2.sem = fun _ => 0)

def quiescent_LnMixBwdRefIdeal_pre_finite_mix [hLnMixBwdRefIdeal : Cert.LnMixBwdRefIdeal.Facts] [hPre_finite_mix : Cert.Pre_finite_mix.Facts] : Prop :=
  ∀ (m : (ℓ : Loc Cert.LnMixBwdRefIdeal.nD Cert.LnMixBwdRefIdeal.τ Cert.LnMixBwdRefIdeal.sig) → Buf (Elt Ideal) ℓ) (g : Dev Cert.LnMixBwdRefIdeal.nD → PrngReg), Pre_LnMixBwdRefIdeal_finite_mix m →
    θ_run (Cert.LnMixBwdRefIdeal.defs (F := Ideal)) (onTc (τ := Cert.LnMixBwdRefIdeal.τ) (Cert.LnMixBwdRefIdeal.main (F := Ideal))) ⟨m, fun _ => 0, g⟩ (fun r => (∀ c : Dev Cert.LnMixBwdRefIdeal.nD,
      r.2.mem ((c.tc : Thread Cert.LnMixBwdRefIdeal.nD Cert.LnMixBwdRefIdeal.τ).loc Cert.LnMixBwdRefIdeal.main_arg0) = m ((c.tc : Thread Cert.LnMixBwdRefIdeal.nD Cert.LnMixBwdRefIdeal.τ).loc Cert.LnMixBwdRefIdeal.main_arg0)
      ∧ r.2.mem ((c.tc : Thread Cert.LnMixBwdRefIdeal.nD Cert.LnMixBwdRefIdeal.τ).loc Cert.LnMixBwdRefIdeal.main_arg1) = m ((c.tc : Thread Cert.LnMixBwdRefIdeal.nD Cert.LnMixBwdRefIdeal.τ).loc Cert.LnMixBwdRefIdeal.main_arg1)
      ∧ r.2.mem ((c.tc : Thread Cert.LnMixBwdRefIdeal.nD Cert.LnMixBwdRefIdeal.τ).loc Cert.LnMixBwdRefIdeal.main_arg2) = m ((c.tc : Thread Cert.LnMixBwdRefIdeal.nD Cert.LnMixBwdRefIdeal.τ).loc Cert.LnMixBwdRefIdeal.main_arg2)
      ∧ r.2.mem ((c.tc : Thread Cert.LnMixBwdRefIdeal.nD Cert.LnMixBwdRefIdeal.τ).loc Cert.LnMixBwdRefIdeal.main_arg3) = m ((c.tc : Thread Cert.LnMixBwdRefIdeal.nD Cert.LnMixBwdRefIdeal.τ).loc Cert.LnMixBwdRefIdeal.main_arg3)
      ∧ r.2.mem ((c.tc : Thread Cert.LnMixBwdRefIdeal.nD Cert.LnMixBwdRefIdeal.τ).loc Cert.LnMixBwdRefIdeal.main_arg4) = m ((c.tc : Thread Cert.LnMixBwdRefIdeal.nD Cert.LnMixBwdRefIdeal.τ).loc Cert.LnMixBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v15_1)) (v3 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_v15_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Latent_LatentIdeal : Prop :=
  IdealRules.named_const.Statement Cert.LatentIdeal.κ "log2e" .f32 0x3FB8AA3B#32 (((Real.log 2)⁻¹ : ℝ) : EReal)
  ∧ IdealRules.named_const.Statement Cert.LatentIdeal.κ "ln2" .f32 0x3F317218#32 ((Real.log 2 : ℝ) : EReal)

def algebraic_LatentIdeal_LatentRefIdeal_pre_finite_latent [hLatentIdeal : Cert.LatentIdeal.Facts] [hLatentRefIdeal : Cert.LatentRefIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_finite_latent m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)) →
    ∃ (v0 : (c : Dev Cert.LatentIdeal.nD) → Buf (Elt Ideal) ((c.tc : Thread Cert.LatentIdeal.nD Cert.LatentIdeal.τ).loc Cert.LatentIdeal.main_v14_0)) (v1 : (c : Dev Cert.LatentIdeal.nD) → Buf (Elt Ideal) ((c.tc : Thread Cert.LatentIdeal.nD Cert.LatentIdeal.τ).loc Cert.LatentIdeal.main_v18)) (v2 : (c : Dev Cert.LatentIdeal.nD) → Buf (Elt Ideal) ((c.tc : Thread Cert.LatentIdeal.nD Cert.LatentIdeal.τ).loc Cert.LatentIdeal.main_v15_1)) (v3 : (c : Dev Cert.LatentIdeal.nD) → Buf (Elt Ideal) ((c.tc : Thread Cert.LatentIdeal.nD Cert.LatentIdeal.τ).loc Cert.LatentIdeal.main_v15_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v14_0) = v0 c
          ∧ r.2.mem ((c.tc : Thread Cert.LatentIdeal.nD Cert.LatentIdeal.τ).loc Cert.LatentIdeal.main_v18) = v1 c
          ∧ r.2.mem ((c.tc : Thread Cert.LatentIdeal.nD Cert.LatentIdeal.τ).loc Cert.LatentIdeal.main_v15_1) = v2 c
          ∧ r.2.mem ((c.tc : Thread Cert.LatentIdeal.nD Cert.LatentIdeal.τ).loc Cert.LatentIdeal.main_v15_2) = v3 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v60) = v0 c
          ∧ r.2.mem ((c.tc : Thread Cert.LatentRefIdeal.nD Cert.LatentRefIdeal.τ).loc Cert.LatentRefIdeal.main_v62) = v1 c
          ∧ r.2.mem ((c.tc : Thread Cert.LatentRefIdeal.nD Cert.LatentRefIdeal.τ).loc Cert.LatentRefIdeal.main_v64) = v2 c
          ∧ r.2.mem ((c.tc : Thread Cert.LatentRefIdeal.nD Cert.LatentRefIdeal.τ).loc Cert.LatentRefIdeal.main_v66) = v3 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v12) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)) →
    ∃ (v0 : (c : Dev Cert.DH1Ideal.nD) → Buf (Elt Ideal) ((c.tc : Thread Cert.DH1Ideal.nD Cert.DH1Ideal.τ).loc Cert.DH1Ideal.main_v1)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v1) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v10) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v1)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v1) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v4) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v0) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v4) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)
      ∧ m' ((c.tc : Thread Cert.DHRefIdeal.nD Cert.DHRefIdeal.τ).loc Cert.DHRefIdeal.main_arg2) = m ((c.tc : Thread Cert.DHIdeal.nD Cert.DHIdeal.τ).loc Cert.DHIdeal.main_arg2)) →
    ∃ (v0 : (c : Dev Cert.DHIdeal.nD) → Buf (Elt Ideal) ((c.tc : Thread Cert.DHIdeal.nD Cert.DHIdeal.τ).loc Cert.DHIdeal.main_v1)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v1) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v8) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1)
          ∧ r.2.mem ((c.tc : Thread Cert.DHRefIdeal.nD Cert.DHRefIdeal.τ).loc Cert.DHRefIdeal.main_arg2) = m' ((c.tc : Thread Cert.DHRefIdeal.nD Cert.DHRefIdeal.τ).loc Cert.DHRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DMixcat_DMixcatIdeal : Prop :=
  True

def algebraic_DMixcatIdeal_DMixcatRefIdeal [hDMixcatIdeal : Cert.DMixcatIdeal.Facts] [hDMixcatRefIdeal : Cert.DMixcatRefIdeal.Facts] : Prop :=
  ∀ (m : (ℓ : Loc Cert.DMixcatIdeal.nD Cert.DMixcatIdeal.τ Cert.DMixcatIdeal.sig) → Buf (Elt Ideal) ℓ) (g : Dev Cert.DMixcatIdeal.nD → PrngReg)
    (m' : (ℓ : Loc Cert.DMixcatRefIdeal.nD Cert.DMixcatRefIdeal.τ Cert.DMixcatRefIdeal.sig) → Buf (Elt Ideal) ℓ) (g' : Dev Cert.DMixcatRefIdeal.nD → PrngReg), Pre_DMixcatIdeal m →
    (∀ c : Dev Cert.DMixcatIdeal.nD,
      m' ((c.tc : Thread Cert.DMixcatRefIdeal.nD Cert.DMixcatRefIdeal.τ).loc Cert.DMixcatRefIdeal.main_arg0) = m ((c.tc : Thread Cert.DMixcatIdeal.nD Cert.DMixcatIdeal.τ).loc Cert.DMixcatIdeal.main_arg0)
      ∧ m' ((c.tc : Thread Cert.DMixcatRefIdeal.nD Cert.DMixcatRefIdeal.τ).loc Cert.DMixcatRefIdeal.main_arg1) = m ((c.tc : Thread Cert.DMixcatIdeal.nD Cert.DMixcatIdeal.τ).loc Cert.DMixcatIdeal.main_arg1)) →
    ∃ (v0 : (c : Dev Cert.DMixcatIdeal.nD) → Buf (Elt Ideal) ((c.tc : Thread Cert.DMixcatIdeal.nD Cert.DMixcatIdeal.τ).loc Cert.DMixcatIdeal.main_v1)),
      θ_run (Cert.DMixcatIdeal.defs (F := Ideal)) (onTc (τ := Cert.DMixcatIdeal.τ) (Cert.DMixcatIdeal.main (F := Ideal))) ⟨m, fun _ => 0, g⟩ (fun r => ∀ c : Dev Cert.DMixcatIdeal.nD,
          r.2.mem ((c.tc : Thread Cert.DMixcatIdeal.nD Cert.DMixcatIdeal.τ).loc Cert.DMixcatIdeal.main_v1) = v0 c
          ∧ r.2.mem ((c.tc : Thread Cert.DMixcatIdeal.nD Cert.DMixcatIdeal.τ).loc Cert.DMixcatIdeal.main_arg0) = m ((c.tc : Thread Cert.DMixcatIdeal.nD Cert.DMixcatIdeal.τ).loc Cert.DMixcatIdeal.main_arg0)
          ∧ r.2.mem ((c.tc : Thread Cert.DMixcatIdeal.nD Cert.DMixcatIdeal.τ).loc Cert.DMixcatIdeal.main_arg1) = m ((c.tc : Thread Cert.DMixcatIdeal.nD Cert.DMixcatIdeal.τ).loc Cert.DMixcatIdeal.main_arg1))
      ∧ θ_run (Cert.DMixcatRefIdeal.defs (F := Ideal)) (onTc (τ := Cert.DMixcatRefIdeal.τ) (Cert.DMixcatRefIdeal.main (F := Ideal))) ⟨m', fun _ => 0, g'⟩ (fun r => ∀ c : Dev Cert.DMixcatRefIdeal.nD,
          r.2.mem ((c.tc : Thread Cert.DMixcatRefIdeal.nD Cert.DMixcatRefIdeal.τ).loc Cert.DMixcatRefIdeal.main_v4) = v0 c
          ∧ r.2.mem ((c.tc : Thread Cert.DMixcatRefIdeal.nD Cert.DMixcatRefIdeal.τ).loc Cert.DMixcatRefIdeal.main_arg0) = m' ((c.tc : Thread Cert.DMixcatRefIdeal.nD Cert.DMixcatRefIdeal.τ).loc Cert.DMixcatRefIdeal.main_arg0)
          ∧ r.2.mem ((c.tc : Thread Cert.DMixcatRefIdeal.nD Cert.DMixcatRefIdeal.τ).loc Cert.DMixcatRefIdeal.main_arg1) = m' ((c.tc : Thread Cert.DMixcatRefIdeal.nD Cert.DMixcatRefIdeal.τ).loc Cert.DMixcatRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_LnIn_LnInIdeal : Prop :=
  True

def algebraic_LnInIdeal_LnInRefIdeal [hLnInIdeal : Cert.LnInIdeal.Facts] [hLnInRefIdeal : Cert.LnInRefIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInRefIdeal.nD Cert.LnInRefIdeal.τ Cert.LnInRefIdeal.sig) → Buf (Elt Ideal) ℓ) (g' : Dev Cert.LnInRefIdeal.nD → PrngReg), Pre_LnInIdeal m →
    (∀ c : Dev Cert.LnInIdeal.nD,
      m' ((c.tc : Thread Cert.LnInRefIdeal.nD Cert.LnInRefIdeal.τ).loc Cert.LnInRefIdeal.main_arg0) = m ((c.tc : Thread Cert.LnInIdeal.nD Cert.LnInIdeal.τ).loc Cert.LnInIdeal.main_arg0)
      ∧ m' ((c.tc : Thread Cert.LnInRefIdeal.nD Cert.LnInRefIdeal.τ).loc Cert.LnInRefIdeal.main_arg1) = m ((c.tc : Thread Cert.LnInIdeal.nD Cert.LnInIdeal.τ).loc Cert.LnInIdeal.main_arg1)
      ∧ m' ((c.tc : Thread Cert.LnInRefIdeal.nD Cert.LnInRefIdeal.τ).loc Cert.LnInRefIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v2)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v2) = v0 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.LnInRefIdeal.defs (F := Ideal)) (onTc (τ := Cert.LnInRefIdeal.τ) (Cert.LnInRefIdeal.main (F := Ideal))) ⟨m', fun _ => 0, g'⟩ (fun r => ∀ c : Dev Cert.LnInRefIdeal.nD,
          r.2.mem ((c.tc : Thread Cert.LnInRefIdeal.nD Cert.LnInRefIdeal.τ).loc Cert.LnInRefIdeal.main_v21) = v0 c
          ∧ r.2.mem ((c.tc : Thread Cert.LnInRefIdeal.nD Cert.LnInRefIdeal.τ).loc Cert.LnInRefIdeal.main_arg0) = m' ((c.tc : Thread Cert.LnInRefIdeal.nD Cert.LnInRefIdeal.τ).loc Cert.LnInRefIdeal.main_arg0)
          ∧ r.2.mem ((c.tc : Thread Cert.LnInRefIdeal.nD Cert.LnInRefIdeal.τ).loc Cert.LnInRefIdeal.main_arg1) = m' ((c.tc : Thread Cert.LnInRefIdeal.nD Cert.LnInRefIdeal.τ).loc Cert.LnInRefIdeal.main_arg1)
          ∧ r.2.mem ((c.tc : Thread Cert.LnInRefIdeal.nD Cert.LnInRefIdeal.τ).loc Cert.LnInRefIdeal.main_arg2) = m' ((c.tc : Thread Cert.LnInRefIdeal.nD Cert.LnInRefIdeal.τ).loc Cert.LnInRefIdeal.main_arg2))

def preserves_LnMix_LnMixIdeal : Prop :=
  True

def algebraic_LnMixIdeal_LnMixRefIdeal [hLnMixIdeal : Cert.LnMixIdeal.Facts] [hLnMixRefIdeal : Cert.LnMixRefIdeal.Facts] : Prop :=
  ∀ (m : (ℓ : Loc Cert.LnMixIdeal.nD Cert.LnMixIdeal.τ Cert.LnMixIdeal.sig) → Buf (Elt Ideal) ℓ) (g : Dev Cert.LnMixIdeal.nD → PrngReg)
    (m' : (ℓ : Loc Cert.LnMixRefIdeal.nD Cert.LnMixRefIdeal.τ Cert.LnMixRefIdeal.sig) → Buf (Elt Ideal) ℓ) (g' : Dev Cert.LnMixRefIdeal.nD → PrngReg), Pre_LnMixIdeal m →
    (∀ c : Dev Cert.LnMixIdeal.nD,
      m' ((c.tc : Thread Cert.LnMixRefIdeal.nD Cert.LnMixRefIdeal.τ).loc Cert.LnMixRefIdeal.main_arg0) = m ((c.tc : Thread Cert.LnMixIdeal.nD Cert.LnMixIdeal.τ).loc Cert.LnMixIdeal.main_arg0)
      ∧ m' ((c.tc : Thread Cert.LnMixRefIdeal.nD Cert.LnMixRefIdeal.τ).loc Cert.LnMixRefIdeal.main_arg1) = m ((c.tc : Thread Cert.LnMixIdeal.nD Cert.LnMixIdeal.τ).loc Cert.LnMixIdeal.main_arg1)
      ∧ m' ((c.tc : Thread Cert.LnMixRefIdeal.nD Cert.LnMixRefIdeal.τ).loc Cert.LnMixRefIdeal.main_arg2) = m ((c.tc : Thread Cert.LnMixIdeal.nD Cert.LnMixIdeal.τ).loc Cert.LnMixIdeal.main_arg2)
      ∧ m' ((c.tc : Thread Cert.LnMixRefIdeal.nD Cert.LnMixRefIdeal.τ).loc Cert.LnMixRefIdeal.main_arg3) = m ((c.tc : Thread Cert.LnMixIdeal.nD Cert.LnMixIdeal.τ).loc Cert.LnMixIdeal.main_arg3)) →
    ∃ (v0 : (c : Dev Cert.LnMixIdeal.nD) → Buf (Elt Ideal) ((c.tc : Thread Cert.LnMixIdeal.nD Cert.LnMixIdeal.τ).loc Cert.LnMixIdeal.main_v2)),
      θ_run (Cert.LnMixIdeal.defs (F := Ideal)) (onTc (τ := Cert.LnMixIdeal.τ) (Cert.LnMixIdeal.main (F := Ideal))) ⟨m, fun _ => 0, g⟩ (fun r => ∀ c : Dev Cert.LnMixIdeal.nD,
          r.2.mem ((c.tc : Thread Cert.LnMixIdeal.nD Cert.LnMixIdeal.τ).loc Cert.LnMixIdeal.main_v2) = v0 c
          ∧ r.2.mem ((c.tc : Thread Cert.LnMixIdeal.nD Cert.LnMixIdeal.τ).loc Cert.LnMixIdeal.main_arg0) = m ((c.tc : Thread Cert.LnMixIdeal.nD Cert.LnMixIdeal.τ).loc Cert.LnMixIdeal.main_arg0)
          ∧ r.2.mem ((c.tc : Thread Cert.LnMixIdeal.nD Cert.LnMixIdeal.τ).loc Cert.LnMixIdeal.main_arg1) = m ((c.tc : Thread Cert.LnMixIdeal.nD Cert.LnMixIdeal.τ).loc Cert.LnMixIdeal.main_arg1)
          ∧ r.2.mem ((c.tc : Thread Cert.LnMixIdeal.nD Cert.LnMixIdeal.τ).loc Cert.LnMixIdeal.main_arg2) = m ((c.tc : Thread Cert.LnMixIdeal.nD Cert.LnMixIdeal.τ).loc Cert.LnMixIdeal.main_arg2)
          ∧ r.2.mem ((c.tc : Thread Cert.LnMixIdeal.nD Cert.LnMixIdeal.τ).loc Cert.LnMixIdeal.main_arg3) = m ((c.tc : Thread Cert.LnMixIdeal.nD Cert.LnMixIdeal.τ).loc Cert.LnMixIdeal.main_arg3))
      ∧ θ_run (Cert.LnMixRefIdeal.defs (F := Ideal)) (onTc (τ := Cert.LnMixRefIdeal.τ) (Cert.LnMixRefIdeal.main (F := Ideal))) ⟨m', fun _ => 0, g'⟩ (fun r => ∀ c : Dev Cert.LnMixRefIdeal.nD,
          r.2.mem ((c.tc : Thread Cert.LnMixRefIdeal.nD Cert.LnMixRefIdeal.τ).loc Cert.LnMixRefIdeal.main_v24) = v0 c
          ∧ r.2.mem ((c.tc : Thread Cert.LnMixRefIdeal.nD Cert.LnMixRefIdeal.τ).loc Cert.LnMixRefIdeal.main_arg0) = m' ((c.tc : Thread Cert.LnMixRefIdeal.nD Cert.LnMixRefIdeal.τ).loc Cert.LnMixRefIdeal.main_arg0)
          ∧ r.2.mem ((c.tc : Thread Cert.LnMixRefIdeal.nD Cert.LnMixRefIdeal.τ).loc Cert.LnMixRefIdeal.main_arg1) = m' ((c.tc : Thread Cert.LnMixRefIdeal.nD Cert.LnMixRefIdeal.τ).loc Cert.LnMixRefIdeal.main_arg1)
          ∧ r.2.mem ((c.tc : Thread Cert.LnMixRefIdeal.nD Cert.LnMixRefIdeal.τ).loc Cert.LnMixRefIdeal.main_arg2) = m' ((c.tc : Thread Cert.LnMixRefIdeal.nD Cert.LnMixRefIdeal.τ).loc Cert.LnMixRefIdeal.main_arg2)
          ∧ r.2.mem ((c.tc : Thread Cert.LnMixRefIdeal.nD Cert.LnMixRefIdeal.τ).loc Cert.LnMixRefIdeal.main_arg3) = m' ((c.tc : Thread Cert.LnMixRefIdeal.nD Cert.LnMixRefIdeal.τ).loc Cert.LnMixRefIdeal.main_arg3))

def preserves_LnInBwd_LnInBwdIdeal : Prop :=
  True

def algebraic_LnInBwdIdeal_LnInBwdRefIdeal_pre_finite_in [hLnInBwdIdeal : Cert.LnInBwdIdeal.Facts] [hLnInBwdRefIdeal : Cert.LnInBwdRefIdeal.Facts] [hPre_finite_in : Cert.Pre_finite_in.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg)
    (m' : (ℓ : Loc Cert.LnInBwdRefIdeal.nD Cert.LnInBwdRefIdeal.τ Cert.LnInBwdRefIdeal.sig) → Buf (Elt Ideal) ℓ) (g' : Dev Cert.LnInBwdRefIdeal.nD → PrngReg), Pre_LnInBwdIdeal_finite_in m →
    (∀ c : Dev Cert.LnInBwdIdeal.nD,
      m' ((c.tc : Thread Cert.LnInBwdRefIdeal.nD Cert.LnInBwdRefIdeal.τ).loc Cert.LnInBwdRefIdeal.main_arg0) = m ((c.tc : Thread Cert.LnInBwdIdeal.nD Cert.LnInBwdIdeal.τ).loc Cert.LnInBwdIdeal.main_arg0)
      ∧ m' ((c.tc : Thread Cert.LnInBwdRefIdeal.nD Cert.LnInBwdRefIdeal.τ).loc Cert.LnInBwdRefIdeal.main_arg1) = m ((c.tc : Thread Cert.LnInBwdIdeal.nD Cert.LnInBwdIdeal.τ).loc Cert.LnInBwdIdeal.main_arg1)
      ∧ m' ((c.tc : Thread Cert.LnInBwdRefIdeal.nD Cert.LnInBwdRefIdeal.τ).loc Cert.LnInBwdRefIdeal.main_arg2) = m ((c.tc : Thread Cert.LnInBwdIdeal.nD Cert.LnInBwdIdeal.τ).loc Cert.LnInBwdIdeal.main_arg2)) →
    ∃ (v0 : (c : Dev Cert.LnInBwdIdeal.nD) → Buf (Elt Ideal) ((c.tc : Thread Cert.LnInBwdIdeal.nD Cert.LnInBwdIdeal.τ).loc Cert.LnInBwdIdeal.main_v1_0)) (v1 : (c : Dev Cert.LnInBwdIdeal.nD) → Buf (Elt Ideal) ((c.tc : Thread Cert.LnInBwdIdeal.nD Cert.LnInBwdIdeal.τ).loc Cert.LnInBwdIdeal.main_v1_1)) (v2 : (c : Dev Cert.LnInBwdIdeal.nD) → Buf (Elt Ideal) ((c.tc : Thread Cert.LnInBwdIdeal.nD Cert.LnInBwdIdeal.τ).loc Cert.LnInBwdIdeal.main_v1_2)),
      θ_run (Cert.LnInBwdIdeal.defs (F := Ideal)) (onTc (τ := Cert.LnInBwdIdeal.τ) (Cert.LnInBwdIdeal.main (F := Ideal))) ⟨m, fun _ => 0, g⟩ (fun r => ∀ c : Dev Cert.LnInBwdIdeal.nD,
          r.2.mem ((c.tc : Thread Cert.LnInBwdIdeal.nD Cert.LnInBwdIdeal.τ).loc Cert.LnInBwdIdeal.main_v1_0) = v0 c
          ∧ r.2.mem ((c.tc : Thread Cert.LnInBwdIdeal.nD Cert.LnInBwdIdeal.τ).loc Cert.LnInBwdIdeal.main_v1_1) = v1 c
          ∧ r.2.mem ((c.tc : Thread Cert.LnInBwdIdeal.nD Cert.LnInBwdIdeal.τ).loc Cert.LnInBwdIdeal.main_v1_2) = v2 c
          ∧ r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
          ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
          ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2))
      ∧ θ_run (Cert.LnInBwdRefIdeal.defs (F := Ideal)) (onTc (τ := Cert.LnInBwdRefIdeal.τ) (Cert.LnInBwdRefIdeal.main (F := Ideal))) ⟨m', fun _ => 0, g'⟩ (fun r => ∀ c : Dev Cert.LnInBwdRefIdeal.nD,
          r.2.mem ((c.tc : Thread Cert.LnInBwdRefIdeal.nD Cert.LnInBwdRefIdeal.τ).loc Cert.LnInBwdRefIdeal.main_v57) = v0 c
          ∧ r.2.mem ((c.tc : Thread Cert.LnInBwdRefIdeal.nD Cert.LnInBwdRefIdeal.τ).loc Cert.LnInBwdRefIdeal.main_v58) = v1 c
          ∧ r.2.mem ((c.tc : Thread Cert.LnInBwdRefIdeal.nD Cert.LnInBwdRefIdeal.τ).loc Cert.LnInBwdRefIdeal.main_v59) = v2 c
          ∧ r.2.mem ((c.tc : Thread Cert.LnInBwdRefIdeal.nD Cert.LnInBwdRefIdeal.τ).loc Cert.LnInBwdRefIdeal.main_arg0) = m' ((c.tc : Thread Cert.LnInBwdRefIdeal.nD Cert.LnInBwdRefIdeal.τ).loc Cert.LnInBwdRefIdeal.main_arg0)
          ∧ r.2.mem ((c.tc : Thread Cert.LnInBwdRefIdeal.nD Cert.LnInBwdRefIdeal.τ).loc Cert.LnInBwdRefIdeal.main_arg1) = m' ((c.tc : Thread Cert.LnInBwdRefIdeal.nD Cert.LnInBwdRefIdeal.τ).loc Cert.LnInBwdRefIdeal.main_arg1)
          ∧ r.2.mem ((c.tc : Thread Cert.LnInBwdRefIdeal.nD Cert.LnInBwdRefIdeal.τ).loc Cert.LnInBwdRefIdeal.main_arg2) = m' ((c.tc : Thread Cert.LnInBwdRefIdeal.nD Cert.LnInBwdRefIdeal.τ).loc Cert.LnInBwdRefIdeal.main_arg2))

def preserves_LnFfnBwd_LnFfnBwdIdeal : Prop :=
  True

def algebraic_LnFfnBwdIdeal_LnFfnBwdRefIdeal_pre_finite_ffn [hLnFfnBwdIdeal : Cert.LnFfnBwdIdeal.Facts] [hLnFfnBwdRefIdeal : Cert.LnFfnBwdRefIdeal.Facts] [hPre_finite_ffn : Cert.Pre_finite_ffn.Facts] : Prop :=
  ∀ (m : (ℓ : Loc Cert.LnFfnBwdIdeal.nD Cert.LnFfnBwdIdeal.τ Cert.LnFfnBwdIdeal.sig) → Buf (Elt Ideal) ℓ) (g : Dev Cert.LnFfnBwdIdeal.nD → PrngReg)
    (m' : (ℓ : Loc Cert.LnFfnBwdRefIdeal.nD Cert.LnFfnBwdRefIdeal.τ Cert.LnFfnBwdRefIdeal.sig) → Buf (Elt Ideal) ℓ) (g' : Dev Cert.LnFfnBwdRefIdeal.nD → PrngReg), Pre_LnFfnBwdIdeal_finite_ffn m →
    (∀ c : Dev Cert.LnFfnBwdIdeal.nD,
      m' ((c.tc : Thread Cert.LnFfnBwdRefIdeal.nD Cert.LnFfnBwdRefIdeal.τ).loc Cert.LnFfnBwdRefIdeal.main_arg0) = m ((c.tc : Thread Cert.LnFfnBwdIdeal.nD Cert.LnFfnBwdIdeal.τ).loc Cert.LnFfnBwdIdeal.main_arg0)
      ∧ m' ((c.tc : Thread Cert.LnFfnBwdRefIdeal.nD Cert.LnFfnBwdRefIdeal.τ).loc Cert.LnFfnBwdRefIdeal.main_arg1) = m ((c.tc : Thread Cert.LnFfnBwdIdeal.nD Cert.LnFfnBwdIdeal.τ).loc Cert.LnFfnBwdIdeal.main_arg1)
      ∧ m' ((c.tc : Thread Cert.LnFfnBwdRefIdeal.nD Cert.LnFfnBwdRefIdeal.τ).loc Cert.LnFfnBwdRefIdeal.main_arg2) = m ((c.tc : Thread Cert.LnFfnBwdIdeal.nD Cert.LnFfnBwdIdeal.τ).loc Cert.LnFfnBwdIdeal.main_arg2)
      ∧ m' ((c.tc : Thread Cert.LnFfnBwdRefIdeal.nD Cert.LnFfnBwdRefIdeal.τ).loc Cert.LnFfnBwdRefIdeal.main_arg3) = m ((c.tc : Thread Cert.LnFfnBwdIdeal.nD Cert.LnFfnBwdIdeal.τ).loc Cert.LnFfnBwdIdeal.main_arg3)) →
    ∃ (v0 : (c : Dev Cert.LnFfnBwdIdeal.nD) → Buf (Elt Ideal) ((c.tc : Thread Cert.LnFfnBwdIdeal.nD Cert.LnFfnBwdIdeal.τ).loc Cert.LnFfnBwdIdeal.main_v1_0)) (v1 : (c : Dev Cert.LnFfnBwdIdeal.nD) → Buf (Elt Ideal) ((c.tc : Thread Cert.LnFfnBwdIdeal.nD Cert.LnFfnBwdIdeal.τ).loc Cert.LnFfnBwdIdeal.main_v1_1)) (v2 : (c : Dev Cert.LnFfnBwdIdeal.nD) → Buf (Elt Ideal) ((c.tc : Thread Cert.LnFfnBwdIdeal.nD Cert.LnFfnBwdIdeal.τ).loc Cert.LnFfnBwdIdeal.main_v1_2)),
      θ_run (Cert.LnFfnBwdIdeal.defs (F := Ideal)) (onTc (τ := Cert.LnFfnBwdIdeal.τ) (Cert.LnFfnBwdIdeal.main (F := Ideal))) ⟨m, fun _ => 0, g⟩ (fun r => ∀ c : Dev Cert.LnFfnBwdIdeal.nD,
          r.2.mem ((c.tc : Thread Cert.LnFfnBwdIdeal.nD Cert.LnFfnBwdIdeal.τ).loc Cert.LnFfnBwdIdeal.main_v1_0) = v0 c
          ∧ r.2.mem ((c.tc : Thread Cert.LnFfnBwdIdeal.nD Cert.LnFfnBwdIdeal.τ).loc Cert.LnFfnBwdIdeal.main_v1_1) = v1 c
          ∧ r.2.mem ((c.tc : Thread Cert.LnFfnBwdIdeal.nD Cert.LnFfnBwdIdeal.τ).loc Cert.LnFfnBwdIdeal.main_v1_2) = v2 c
          ∧ r.2.mem ((c.tc : Thread Cert.LnFfnBwdIdeal.nD Cert.LnFfnBwdIdeal.τ).loc Cert.LnFfnBwdIdeal.main_arg0) = m ((c.tc : Thread Cert.LnFfnBwdIdeal.nD Cert.LnFfnBwdIdeal.τ).loc Cert.LnFfnBwdIdeal.main_arg0)
          ∧ r.2.mem ((c.tc : Thread Cert.LnFfnBwdIdeal.nD Cert.LnFfnBwdIdeal.τ).loc Cert.LnFfnBwdIdeal.main_arg1) = m ((c.tc : Thread Cert.LnFfnBwdIdeal.nD Cert.LnFfnBwdIdeal.τ).loc Cert.LnFfnBwdIdeal.main_arg1)
          ∧ r.2.mem ((c.tc : Thread Cert.LnFfnBwdIdeal.nD Cert.LnFfnBwdIdeal.τ).loc Cert.LnFfnBwdIdeal.main_arg2) = m ((c.tc : Thread Cert.LnFfnBwdIdeal.nD Cert.LnFfnBwdIdeal.τ).loc Cert.LnFfnBwdIdeal.main_arg2)
          ∧ r.2.mem ((c.tc : Thread Cert.LnFfnBwdIdeal.nD Cert.LnFfnBwdIdeal.τ).loc Cert.LnFfnBwdIdeal.main_arg3) = m ((c.tc : Thread Cert.LnFfnBwdIdeal.nD Cert.LnFfnBwdIdeal.τ).loc Cert.LnFfnBwdIdeal.main_arg3))
      ∧ θ_run (Cert.LnFfnBwdRefIdeal.defs (F := Ideal)) (onTc (τ := Cert.LnFfnBwdRefIdeal.τ) (Cert.LnFfnBwdRefIdeal.main (F := Ideal))) ⟨m', fun _ => 0, g'⟩ (fun r => ∀ c : Dev Cert.LnFfnBwdRefIdeal.nD,
          r.2.mem ((c.tc : Thread Cert.LnFfnBwdRefIdeal.nD Cert.LnFfnBwdRefIdeal.τ).loc Cert.LnFfnBwdRefIdeal.main_v60) = v0 c
          ∧ r.2.mem ((c.tc : Thread Cert.LnFfnBwdRefIdeal.nD Cert.LnFfnBwdRefIdeal.τ).loc Cert.LnFfnBwdRefIdeal.main_v61) = v1 c
          ∧ r.2.mem ((c.tc : Thread Cert.LnFfnBwdRefIdeal.nD Cert.LnFfnBwdRefIdeal.τ).loc Cert.LnFfnBwdRefIdeal.main_v62) = v2 c
          ∧ r.2.mem ((c.tc : Thread Cert.LnFfnBwdRefIdeal.nD Cert.LnFfnBwdRefIdeal.τ).loc Cert.LnFfnBwdRefIdeal.main_arg0) = m' ((c.tc : Thread Cert.LnFfnBwdRefIdeal.nD Cert.LnFfnBwdRefIdeal.τ).loc Cert.LnFfnBwdRefIdeal.main_arg0)
          ∧ r.2.mem ((c.tc : Thread Cert.LnFfnBwdRefIdeal.nD Cert.LnFfnBwdRefIdeal.τ).loc Cert.LnFfnBwdRefIdeal.main_arg1) = m' ((c.tc : Thread Cert.LnFfnBwdRefIdeal.nD Cert.LnFfnBwdRefIdeal.τ).loc Cert.LnFfnBwdRefIdeal.main_arg1)
          ∧ r.2.mem ((c.tc : Thread Cert.LnFfnBwdRefIdeal.nD Cert.LnFfnBwdRefIdeal.τ).loc Cert.LnFfnBwdRefIdeal.main_arg2) = m' ((c.tc : Thread Cert.LnFfnBwdRefIdeal.nD Cert.LnFfnBwdRefIdeal.τ).loc Cert.LnFfnBwdRefIdeal.main_arg2)
          ∧ r.2.mem ((c.tc : Thread Cert.LnFfnBwdRefIdeal.nD Cert.LnFfnBwdRefIdeal.τ).loc Cert.LnFfnBwdRefIdeal.main_arg3) = m' ((c.tc : Thread Cert.LnFfnBwdRefIdeal.nD Cert.LnFfnBwdRefIdeal.τ).loc Cert.LnFfnBwdRefIdeal.main_arg3))

def preserves_LnMixBwd_LnMixBwdIdeal : Prop :=
  True

def algebraic_LnMixBwdIdeal_LnMixBwdRefIdeal_pre_finite_mix [hLnMixBwdIdeal : Cert.LnMixBwdIdeal.Facts] [hLnMixBwdRefIdeal : Cert.LnMixBwdRefIdeal.Facts] [hPre_finite_mix : Cert.Pre_finite_mix.Facts] : Prop :=
  ∀ (m : (ℓ : Loc Cert.LnMixBwdIdeal.nD Cert.LnMixBwdIdeal.τ Cert.LnMixBwdIdeal.sig) → Buf (Elt Ideal) ℓ) (g : Dev Cert.LnMixBwdIdeal.nD → PrngReg)
    (m' : (ℓ : Loc Cert.LnMixBwdRefIdeal.nD Cert.LnMixBwdRefIdeal.τ Cert.LnMixBwdRefIdeal.sig) → Buf (Elt Ideal) ℓ) (g' : Dev Cert.LnMixBwdRefIdeal.nD → PrngReg), Pre_LnMixBwdIdeal_finite_mix m →
    (∀ c : Dev Cert.LnMixBwdIdeal.nD,
      m' ((c.tc : Thread Cert.LnMixBwdRefIdeal.nD Cert.LnMixBwdRefIdeal.τ).loc Cert.LnMixBwdRefIdeal.main_arg0) = m ((c.tc : Thread Cert.LnMixBwdIdeal.nD Cert.LnMixBwdIdeal.τ).loc Cert.LnMixBwdIdeal.main_arg0)
      ∧ m' ((c.tc : Thread Cert.LnMixBwdRefIdeal.nD Cert.LnMixBwdRefIdeal.τ).loc Cert.LnMixBwdRefIdeal.main_arg1) = m ((c.tc : Thread Cert.LnMixBwdIdeal.nD Cert.LnMixBwdIdeal.τ).loc Cert.LnMixBwdIdeal.main_arg1)
      ∧ m' ((c.tc : Thread Cert.LnMixBwdRefIdeal.nD Cert.LnMixBwdRefIdeal.τ).loc Cert.LnMixBwdRefIdeal.main_arg2) = m ((c.tc : Thread Cert.LnMixBwdIdeal.nD Cert.LnMixBwdIdeal.τ).loc Cert.LnMixBwdIdeal.main_arg2)
      ∧ m' ((c.tc : Thread Cert.LnMixBwdRefIdeal.nD Cert.LnMixBwdRefIdeal.τ).loc Cert.LnMixBwdRefIdeal.main_arg3) = m ((c.tc : Thread Cert.LnMixBwdIdeal.nD Cert.LnMixBwdIdeal.τ).loc Cert.LnMixBwdIdeal.main_arg3)
      ∧ m' ((c.tc : Thread Cert.LnMixBwdRefIdeal.nD Cert.LnMixBwdRefIdeal.τ).loc Cert.LnMixBwdRefIdeal.main_arg4) = m ((c.tc : Thread Cert.LnMixBwdIdeal.nD Cert.LnMixBwdIdeal.τ).loc Cert.LnMixBwdIdeal.main_arg4)) →
    ∃ (v0 : (c : Dev Cert.LnMixBwdIdeal.nD) → Buf (Elt Ideal) ((c.tc : Thread Cert.LnMixBwdIdeal.nD Cert.LnMixBwdIdeal.τ).loc Cert.LnMixBwdIdeal.main_v1_0)) (v1 : (c : Dev Cert.LnMixBwdIdeal.nD) → Buf (Elt Ideal) ((c.tc : Thread Cert.LnMixBwdIdeal.nD Cert.LnMixBwdIdeal.τ).loc Cert.LnMixBwdIdeal.main_v1_1)) (v2 : (c : Dev Cert.LnMixBwdIdeal.nD) → Buf (Elt Ideal) ((c.tc : Thread Cert.LnMixBwdIdeal.nD Cert.LnMixBwdIdeal.τ).loc Cert.LnMixBwdIdeal.main_v1_2)),
      θ_run (Cert.LnMixBwdIdeal.defs (F := Ideal)) (onTc (τ := Cert.LnMixBwdIdeal.τ) (Cert.LnMixBwdIdeal.main (F := Ideal))) ⟨m, fun _ => 0, g⟩ (fun r => ∀ c : Dev Cert.LnMixBwdIdeal.nD,
          r.2.mem ((c.tc : Thread Cert.LnMixBwdIdeal.nD Cert.LnMixBwdIdeal.τ).loc Cert.LnMixBwdIdeal.main_v1_0) = v0 c
          ∧ r.2.mem ((c.tc : Thread Cert.LnMixBwdIdeal.nD Cert.LnMixBwdIdeal.τ).loc Cert.LnMixBwdIdeal.main_v1_1) = v1 c
          ∧ r.2.mem ((c.tc : Thread Cert.LnMixBwdIdeal.nD Cert.LnMixBwdIdeal.τ).loc Cert.LnMixBwdIdeal.main_v1_2) = v2 c
          ∧ r.2.mem ((c.tc : Thread Cert.LnMixBwdIdeal.nD Cert.LnMixBwdIdeal.τ).loc Cert.LnMixBwdIdeal.main_arg0) = m ((c.tc : Thread Cert.LnMixBwdIdeal.nD Cert.LnMixBwdIdeal.τ).loc Cert.LnMixBwdIdeal.main_arg0)
          ∧ r.2.mem ((c.tc : Thread Cert.LnMixBwdIdeal.nD Cert.LnMixBwdIdeal.τ).loc Cert.LnMixBwdIdeal.main_arg1) = m ((c.tc : Thread Cert.LnMixBwdIdeal.nD Cert.LnMixBwdIdeal.τ).loc Cert.LnMixBwdIdeal.main_arg1)
          ∧ r.2.mem ((c.tc : Thread Cert.LnMixBwdIdeal.nD Cert.LnMixBwdIdeal.τ).loc Cert.LnMixBwdIdeal.main_arg2) = m ((c.tc : Thread Cert.LnMixBwdIdeal.nD Cert.LnMixBwdIdeal.τ).loc Cert.LnMixBwdIdeal.main_arg2)
          ∧ r.2.mem ((c.tc : Thread Cert.LnMixBwdIdeal.nD Cert.LnMixBwdIdeal.τ).loc Cert.LnMixBwdIdeal.main_arg3) = m ((c.tc : Thread Cert.LnMixBwdIdeal.nD Cert.LnMixBwdIdeal.τ).loc Cert.LnMixBwdIdeal.main_arg3)
          ∧ r.2.mem ((c.tc : Thread Cert.LnMixBwdIdeal.nD Cert.LnMixBwdIdeal.τ).loc Cert.LnMixBwdIdeal.main_arg4) = m ((c.tc : Thread Cert.LnMixBwdIdeal.nD Cert.LnMixBwdIdeal.τ).loc Cert.LnMixBwdIdeal.main_arg4))
      ∧ θ_run (Cert.LnMixBwdRefIdeal.defs (F := Ideal)) (onTc (τ := Cert.LnMixBwdRefIdeal.τ) (Cert.LnMixBwdRefIdeal.main (F := Ideal))) ⟨m', fun _ => 0, g'⟩ (fun r => ∀ c : Dev Cert.LnMixBwdRefIdeal.nD,
          r.2.mem ((c.tc : Thread Cert.LnMixBwdRefIdeal.nD Cert.LnMixBwdRefIdeal.τ).loc Cert.LnMixBwdRefIdeal.main_v65) = v0 c
          ∧ r.2.mem ((c.tc : Thread Cert.LnMixBwdRefIdeal.nD Cert.LnMixBwdRefIdeal.τ).loc Cert.LnMixBwdRefIdeal.main_v66) = v1 c
          ∧ r.2.mem ((c.tc : Thread Cert.LnMixBwdRefIdeal.nD Cert.LnMixBwdRefIdeal.τ).loc Cert.LnMixBwdRefIdeal.main_v67) = v2 c
          ∧ r.2.mem ((c.tc : Thread Cert.LnMixBwdRefIdeal.nD Cert.LnMixBwdRefIdeal.τ).loc Cert.LnMixBwdRefIdeal.main_arg0) = m' ((c.tc : Thread Cert.LnMixBwdRefIdeal.nD Cert.LnMixBwdRefIdeal.τ).loc Cert.LnMixBwdRefIdeal.main_arg0)
          ∧ r.2.mem ((c.tc : Thread Cert.LnMixBwdRefIdeal.nD Cert.LnMixBwdRefIdeal.τ).loc Cert.LnMixBwdRefIdeal.main_arg1) = m' ((c.tc : Thread Cert.LnMixBwdRefIdeal.nD Cert.LnMixBwdRefIdeal.τ).loc Cert.LnMixBwdRefIdeal.main_arg1)
          ∧ r.2.mem ((c.tc : Thread Cert.LnMixBwdRefIdeal.nD Cert.LnMixBwdRefIdeal.τ).loc Cert.LnMixBwdRefIdeal.main_arg2) = m' ((c.tc : Thread Cert.LnMixBwdRefIdeal.nD Cert.LnMixBwdRefIdeal.τ).loc Cert.LnMixBwdRefIdeal.main_arg2)
          ∧ r.2.mem ((c.tc : Thread Cert.LnMixBwdRefIdeal.nD Cert.LnMixBwdRefIdeal.τ).loc Cert.LnMixBwdRefIdeal.main_arg3) = m' ((c.tc : Thread Cert.LnMixBwdRefIdeal.nD Cert.LnMixBwdRefIdeal.τ).loc Cert.LnMixBwdRefIdeal.main_arg3)
          ∧ r.2.mem ((c.tc : Thread Cert.LnMixBwdRefIdeal.nD Cert.LnMixBwdRefIdeal.τ).loc Cert.LnMixBwdRefIdeal.main_arg4) = m' ((c.tc : Thread Cert.LnMixBwdRefIdeal.nD Cert.LnMixBwdRefIdeal.τ).loc Cert.LnMixBwdRefIdeal.main_arg4))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v73) = v0 c
          ∧ r.2.mem ((c.tc : Thread Cert.LossRefIdeal.nD Cert.LossRefIdeal.τ).loc Cert.LossRefIdeal.main_v74) = v1 c
          ∧ r.2.mem ((c.tc : Thread Cert.LossRefIdeal.nD Cert.LossRefIdeal.τ).loc Cert.LossRefIdeal.main_v75) = v2 c
          ∧ r.2.mem ((c.tc : Thread Cert.LossRefIdeal.nD Cert.LossRefIdeal.τ).loc Cert.LossRefIdeal.main_v76) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def Claim : Prop :=
  ∃ (hKernel : Cert.Kernel.Facts) (hKernelIdeal : Cert.KernelIdeal.Facts) (hReferenceIdeal : Cert.ReferenceIdeal.Facts) (hLatent : Cert.Latent.Facts) (hLatentIdeal : Cert.LatentIdeal.Facts) (hLatentRefIdeal : Cert.LatentRefIdeal.Facts) (hDwUp : Cert.DwUp.Facts) (hDwUpIdeal : Cert.DwUpIdeal.Facts) (hDwUpRefIdeal : Cert.DwUpRefIdeal.Facts) (hDH1 : Cert.DH1.Facts) (hDH1Ideal : Cert.DH1Ideal.Facts) (hDH1RefIdeal : Cert.DH1RefIdeal.Facts) (hDwDown : Cert.DwDown.Facts) (hDwDownIdeal : Cert.DwDownIdeal.Facts) (hDwDownRefIdeal : Cert.DwDownRefIdeal.Facts) (hDAct : Cert.DAct.Facts) (hDActIdeal : Cert.DActIdeal.Facts) (hDActRefIdeal : Cert.DActRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hDwIn : Cert.DwIn.Facts) (hDwInIdeal : Cert.DwInIdeal.Facts) (hDwInRefIdeal : Cert.DwInRefIdeal.Facts) (hDH : Cert.DH.Facts) (hDHIdeal : Cert.DHIdeal.Facts) (hDHRefIdeal : Cert.DHRefIdeal.Facts) (hDwOut : Cert.DwOut.Facts) (hDwOutIdeal : Cert.DwOutIdeal.Facts) (hDwOutRefIdeal : Cert.DwOutRefIdeal.Facts) (hDMixcat : Cert.DMixcat.Facts) (hDMixcatIdeal : Cert.DMixcatIdeal.Facts) (hDMixcatRefIdeal : Cert.DMixcatRefIdeal.Facts) (hProj : Cert.Proj.Facts) (hProjIdeal : Cert.ProjIdeal.Facts) (hProjRefIdeal : Cert.ProjRefIdeal.Facts) (hOutProj : Cert.OutProj.Facts) (hOutProjIdeal : Cert.OutProjIdeal.Facts) (hOutProjRefIdeal : Cert.OutProjRefIdeal.Facts) (hLnIn : Cert.LnIn.Facts) (hLnInIdeal : Cert.LnInIdeal.Facts) (hLnInRefIdeal : Cert.LnInRefIdeal.Facts) (hLnMix : Cert.LnMix.Facts) (hLnMixIdeal : Cert.LnMixIdeal.Facts) (hLnMixRefIdeal : Cert.LnMixRefIdeal.Facts) (hLnInBwd : Cert.LnInBwd.Facts) (hLnInBwdIdeal : Cert.LnInBwdIdeal.Facts) (hLnInBwdRefIdeal : Cert.LnInBwdRefIdeal.Facts) (hLnFfnBwd : Cert.LnFfnBwd.Facts) (hLnFfnBwdIdeal : Cert.LnFfnBwdIdeal.Facts) (hLnFfnBwdRefIdeal : Cert.LnFfnBwdRefIdeal.Facts) (hLnMixBwd : Cert.LnMixBwd.Facts) (hLnMixBwdIdeal : Cert.LnMixBwdIdeal.Facts) (hLnMixBwdRefIdeal : Cert.LnMixBwdRefIdeal.Facts) (hLoss : Cert.Loss.Facts) (hLossIdeal : Cert.LossIdeal.Facts) (hLossRefIdeal : Cert.LossRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hPre_finite : Cert.Pre_finite.Facts) (hPre_finite_latent : Cert.Pre_finite_latent.Facts) (hPre_finite_in : Cert.Pre_finite_in.Facts) (hPre_finite_ffn : Cert.Pre_finite_ffn.Facts) (hPre_finite_mix : Cert.Pre_finite_mix.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Latent (hLatent := hLatent)
    ∧ quiescent_LatentIdeal (hLatentIdeal := hLatentIdeal)
    ∧ quiescent_LatentIdeal_pre_finite_latent (hLatentIdeal := hLatentIdeal) (hPre_finite_latent := hPre_finite_latent)
    ∧ quiescent_LatentRefIdeal (hLatentRefIdeal := hLatentRefIdeal)
    ∧ quiescent_LatentRefIdeal_pre_finite_latent (hLatentRefIdeal := hLatentRefIdeal) (hPre_finite_latent := hPre_finite_latent)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DAct (hDAct := hDAct)
    ∧ quiescent_DActIdeal (hDActIdeal := hDActIdeal)
    ∧ quiescent_DActRefIdeal (hDActRefIdeal := hDActRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DH (hDH := hDH)
    ∧ quiescent_DHIdeal (hDHIdeal := hDHIdeal)
    ∧ quiescent_DHRefIdeal (hDHRefIdeal := hDHRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DMixcat (hDMixcat := hDMixcat)
    ∧ quiescent_DMixcatIdeal (hDMixcatIdeal := hDMixcatIdeal)
    ∧ quiescent_DMixcatRefIdeal (hDMixcatRefIdeal := hDMixcatRefIdeal)
    ∧ quiescent_Proj (hProj := hProj)
    ∧ quiescent_ProjIdeal (hProjIdeal := hProjIdeal)
    ∧ quiescent_ProjRefIdeal (hProjRefIdeal := hProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_LnIn (hLnIn := hLnIn)
    ∧ quiescent_LnInIdeal (hLnInIdeal := hLnInIdeal)
    ∧ quiescent_LnInRefIdeal (hLnInRefIdeal := hLnInRefIdeal)
    ∧ quiescent_LnMix (hLnMix := hLnMix)
    ∧ quiescent_LnMixIdeal (hLnMixIdeal := hLnMixIdeal)
    ∧ quiescent_LnMixRefIdeal (hLnMixRefIdeal := hLnMixRefIdeal)
    ∧ quiescent_LnInBwd (hLnInBwd := hLnInBwd)
    ∧ quiescent_LnInBwdIdeal (hLnInBwdIdeal := hLnInBwdIdeal)
    ∧ quiescent_LnInBwdIdeal_pre_finite_in (hLnInBwdIdeal := hLnInBwdIdeal) (hPre_finite_in := hPre_finite_in)
    ∧ quiescent_LnInBwdRefIdeal (hLnInBwdRefIdeal := hLnInBwdRefIdeal)
    ∧ quiescent_LnInBwdRefIdeal_pre_finite_in (hLnInBwdRefIdeal := hLnInBwdRefIdeal) (hPre_finite_in := hPre_finite_in)
    ∧ quiescent_LnFfnBwd (hLnFfnBwd := hLnFfnBwd)
    ∧ quiescent_LnFfnBwdIdeal (hLnFfnBwdIdeal := hLnFfnBwdIdeal)
    ∧ quiescent_LnFfnBwdIdeal_pre_finite_ffn (hLnFfnBwdIdeal := hLnFfnBwdIdeal) (hPre_finite_ffn := hPre_finite_ffn)
    ∧ quiescent_LnFfnBwdRefIdeal (hLnFfnBwdRefIdeal := hLnFfnBwdRefIdeal)
    ∧ quiescent_LnFfnBwdRefIdeal_pre_finite_ffn (hLnFfnBwdRefIdeal := hLnFfnBwdRefIdeal) (hPre_finite_ffn := hPre_finite_ffn)
    ∧ quiescent_LnMixBwd (hLnMixBwd := hLnMixBwd)
    ∧ quiescent_LnMixBwdIdeal (hLnMixBwdIdeal := hLnMixBwdIdeal)
    ∧ quiescent_LnMixBwdIdeal_pre_finite_mix (hLnMixBwdIdeal := hLnMixBwdIdeal) (hPre_finite_mix := hPre_finite_mix)
    ∧ quiescent_LnMixBwdRefIdeal (hLnMixBwdRefIdeal := hLnMixBwdRefIdeal)
    ∧ quiescent_LnMixBwdRefIdeal_pre_finite_mix (hLnMixBwdRefIdeal := hLnMixBwdRefIdeal) (hPre_finite_mix := hPre_finite_mix)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Latent_LatentIdeal
    ∧ algebraic_LatentIdeal_LatentRefIdeal_pre_finite_latent (hLatentIdeal := hLatentIdeal) (hLatentRefIdeal := hLatentRefIdeal) (hPre_finite_latent := hPre_finite_latent)
    ∧ preserves_DwUp_DwUpIdeal
    ∧ algebraic_DwUpIdeal_DwUpRefIdeal (hDwUpIdeal := hDwUpIdeal) (hDwUpRefIdeal := hDwUpRefIdeal)
    ∧ preserves_DH1_DH1Ideal
    ∧ algebraic_DH1Ideal_DH1RefIdeal (hDH1Ideal := hDH1Ideal) (hDH1RefIdeal := hDH1RefIdeal)
    ∧ preserves_DwDown_DwDownIdeal
    ∧ algebraic_DwDownIdeal_DwDownRefIdeal (hDwDownIdeal := hDwDownIdeal) (hDwDownRefIdeal := hDwDownRefIdeal)
    ∧ preserves_DAct_DActIdeal
    ∧ algebraic_DActIdeal_DActRefIdeal (hDActIdeal := hDActIdeal) (hDActRefIdeal := hDActRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_DwIn_DwInIdeal
    ∧ algebraic_DwInIdeal_DwInRefIdeal (hDwInIdeal := hDwInIdeal) (hDwInRefIdeal := hDwInRefIdeal)
    ∧ preserves_DH_DHIdeal
    ∧ algebraic_DHIdeal_DHRefIdeal (hDHIdeal := hDHIdeal) (hDHRefIdeal := hDHRefIdeal)
    ∧ preserves_DwOut_DwOutIdeal
    ∧ algebraic_DwOutIdeal_DwOutRefIdeal (hDwOutIdeal := hDwOutIdeal) (hDwOutRefIdeal := hDwOutRefIdeal)
    ∧ preserves_DMixcat_DMixcatIdeal
    ∧ algebraic_DMixcatIdeal_DMixcatRefIdeal (hDMixcatIdeal := hDMixcatIdeal) (hDMixcatRefIdeal := hDMixcatRefIdeal)
    ∧ preserves_Proj_ProjIdeal
    ∧ algebraic_ProjIdeal_ProjRefIdeal (hProjIdeal := hProjIdeal) (hProjRefIdeal := hProjRefIdeal)
    ∧ preserves_OutProj_OutProjIdeal
    ∧ algebraic_OutProjIdeal_OutProjRefIdeal (hOutProjIdeal := hOutProjIdeal) (hOutProjRefIdeal := hOutProjRefIdeal)
    ∧ preserves_LnIn_LnInIdeal
    ∧ algebraic_LnInIdeal_LnInRefIdeal (hLnInIdeal := hLnInIdeal) (hLnInRefIdeal := hLnInRefIdeal)
    ∧ preserves_LnMix_LnMixIdeal
    ∧ algebraic_LnMixIdeal_LnMixRefIdeal (hLnMixIdeal := hLnMixIdeal) (hLnMixRefIdeal := hLnMixRefIdeal)
    ∧ preserves_LnInBwd_LnInBwdIdeal
    ∧ algebraic_LnInBwdIdeal_LnInBwdRefIdeal_pre_finite_in (hLnInBwdIdeal := hLnInBwdIdeal) (hLnInBwdRefIdeal := hLnInBwdRefIdeal) (hPre_finite_in := hPre_finite_in)
    ∧ preserves_LnFfnBwd_LnFfnBwdIdeal
    ∧ algebraic_LnFfnBwdIdeal_LnFfnBwdRefIdeal_pre_finite_ffn (hLnFfnBwdIdeal := hLnFfnBwdIdeal) (hLnFfnBwdRefIdeal := hLnFfnBwdRefIdeal) (hPre_finite_ffn := hPre_finite_ffn)
    ∧ preserves_LnMixBwd_LnMixBwdIdeal
    ∧ algebraic_LnMixBwdIdeal_LnMixBwdRefIdeal_pre_finite_mix (hLnMixBwdIdeal := hLnMixBwdIdeal) (hLnMixBwdRefIdeal := hLnMixBwdRefIdeal) (hPre_finite_mix := hPre_finite_mix)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
-- ==== Pre_finite.lean ====
abbrev S1x4096x2x2x64 : Shape := ⟨5, ![1, 4096, 2, 2, 64]⟩
abbrev S1x4096x2x64 : Shape := ⟨4, ![1, 4096, 2, 64]⟩
abbrev S4096x1024 : Shape := ⟨2, ![4096, 1024]⟩
abbrev S_ : Shape := ⟨0, ![]⟩

class Facts : Prop where
  bcast_S_S1x4096x2x2x64 : S_.BroadcastsInDim S1x4096x2x2x64 (![] : Fin 0 → Fin S1x4096x2x2x64.rank)
  reducesTo_S1x4096x2x2x64_S_d0_1_2_3_4 : S1x4096x2x2x64.ReducesTo [0, 1, 2, 3, 4] S_
  h_S_ : 0 < S_.numel
  bcast_S_S1x4096x2x64 : S_.BroadcastsInDim S1x4096x2x64 (![] : Fin 0 → Fin S1x4096x2x64.rank)
  reducesTo_S1x4096x2x64_S_d0_1_2_3 : S1x4096x2x64.ReducesTo [0, 1, 2, 3] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S1x4096x2x2x64 .f32) (main_arg1 : FVec F S1x4096x2x64 .f32) (main_arg2 : FVec F S1x4096x2x64 .f32) (main_arg3 : FVec F S4096x1024 .f32) : IVec S_ 1 :=
  let main_v0 : FVec F S1x4096x2x2x64 .f32 := Host.absf main_arg0
  let main_cst : FVec F S_ .f32 := constant S_ .f32 0x7F800000#32
  let main_v1 : FVec F S1x4096x2x2x64 .f32 := broadcastInDim S1x4096x2x2x64 ![] bcast_S_S1x4096x2x2x64 main_cst
  let main_v2 : IVec S1x4096x2x2x64 1 := cmpf .olt main_v0 main_v1
  let main_c : IVec S_ 1 := constantI S_ 1 1#1
  let main_v3 : IVec S_ 1 := (fun x v => Host.reduce IntOp.andi x v reducesTo_S1x4096x2x2x64_S_d0_1_2_3_4 h_S_) main_v2 main_c
  let main_v4 : FVec F S1x4096x2x64 .f32 := Host.absf main_arg1
  let main_cst_0 : FVec F S_ .f32 := constant S_ .f32 0x7F800000#32
  let main_v5 : FVec F S1x4096x2x64 .f32 := broadcastInDim S1x4096x2x64 ![] bcast_S_S1x4096x2x64 main_cst_0
  let main_v6 : IVec S1x4096x2x64 1 := cmpf .olt main_v4 main_v5
  let main_c_1 : IVec S_ 1 := constantI S_ 1 1#1
  let main_v7 : IVec S_ 1 := (fun x v => Host.reduce IntOp.andi x v reducesTo_S1x4096x2x64_S_d0_1_2_3 h_S_) main_v6 main_c_1
  let main_v8 : IVec S_ 1 := andi main_v3 main_v7
  let main_v9 : FVec F S1x4096x2x64 .f32 := Host.absf main_arg2
  let main_cst_2 : FVec F S_ .f32 := constant S_ .f32 0x7F800000#32
  let main_v10 : FVec F S1x4096x2x64 .f32 := broadcastInDim S1x4096x2x64 ![] bcast_S_S1x4096x2x64 main_cst_2
  let main_v11 : IVec S1x4096x2x64 1 := cmpf .olt main_v9 main_v10
  let main_c_3 : IVec S_ 1 := constantI S_ 1 1#1
  let main_v12 : IVec S_ 1 := (fun x v => Host.reduce IntOp.andi x v reducesTo_S1x4096x2x64_S_d0_1_2_3 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_ffn.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg2
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_in.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S4096x1024 .f32) (main_arg2 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_finite_latent.lean ====
abbrev S1x4096x4x1x128 : Shape := ⟨5, ![1, 4096, 4, 1, 128]⟩
abbrev S1x4096x4x128 : Shape := ⟨4, ![1, 4096, 4, 128]⟩
abbrev S1x4096x4x64 : Shape := ⟨4, ![1, 4096, 4, 64]⟩
abbrev S4096x1024 : Shape := ⟨2, ![4096, 1024]⟩
abbrev S_ : Shape := ⟨0, ![]⟩

class Facts : Prop where
  bcast_S_S1x4096x4x1x128 : S_.BroadcastsInDim S1x4096x4x1x128 (![] : Fin 0 → Fin S1x4096x4x1x128.rank)
  reducesTo_S1x4096x4x1x128_S_d0_1_2_3_4 : S1x4096x4x1x128.ReducesTo [0, 1, 2, 3, 4] S_
  h_S_ : 0 < S_.numel
  bcast_S_S1x4096x4x128 : S_.BroadcastsInDim S1x4096x4x128 (![] : Fin 0 → Fin S1x4096x4x128.rank)
  reducesTo_S1x4096x4x128_S_d0_1_2_3 : S1x4096x4x128.ReducesTo [0, 1, 2, 3] S_
  bcast_S_S1x4096x4x64 : S_.BroadcastsInDim S1x4096x4x64 (![] : Fin 0 → Fin S1x4096x4x64.rank)
  reducesTo_S1x4096x4x64_S_d0_1_2_3 : S1x4096x4x64.ReducesTo [0, 1, 2, 3] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S1x4096x4x1x128 .f32) (main_arg1 : FVec F S1x4096x4x128 .f32) (main_arg2 : FVec F S1x4096x4x64 .f32) (main_arg3 : FVec F S4096x1024 .f32) : IVec S_ 1 :=
  let main_v0 : FVec F S1x4096x4x1x128 .f32 := Host.absf main_arg0
  let main_cst : FVec F S_ .f32 := constant S_ .f32 0x7F800000#32
  let main_v1 : FVec F S1x4096x4x1x128 .f32 := broadcastInDim S1x4096x4x1x128 ![] bcast_S_S1x4096x4x1x128 main_cst
  let main_v2 : IVec S1x4096x4x1x128 1 := cmpf .olt main_v0 main_v1
  let main_c : IVec S_ 1 := constantI S_ 1 1#1
  let main_v3 : IVec S_ 1 := (fun x v => Host.reduce IntOp.andi x v reducesTo_S1x4096x4x1x128_S_d0_1_2_3_4 h_S_) main_v2 main_c
  let main_v4 : FVec F S1x4096x4x128 .f32 := Host.absf main_arg1
  let main_cst_0 : FVec F S_ .f32 := constant S_ .f32 0x7F800000#32
  let main_v5 : FVec F S1x4096x4x128 .f32 := broadcastInDim S1x4096x4x128 ![] bcast_S_S1x4096x4x128 main_cst_0
  let main_v6 : IVec S1x4096x4x128 1 := cmpf .olt main_v4 main_v5
  let main_c_1 : IVec S_ 1 := constantI S_ 1 1#1
  let main_v7 : IVec S_ 1 := (fun x v => Host.reduce IntOp.andi x v reducesTo_S1x4096x4x128_S_d0_1_2_3 h_S_) main_v6 main_c_1
  let main_v8 : IVec S_ 1 := andi main_v3 main_v7
  let main_v9 : FVec F S1x4096x4x64 .f32 := Host.absf main_arg2
  let main_cst_2 : FVec F S_ .f32 := constant S_ .f32 0x7F800000#32
  let main_v10 : FVec F S1x4096x4x64 .f32 := broadcastInDim S1x4096x4x64 ![] bcast_S_S1x4096x4x64 main_cst_2
  let main_v11 : IVec S1x4096x4x64 1 := cmpf .olt main_v9 main_v10
  let main_c_3 : IVec S_ 1 := constantI S_ 1 1#1
  let main_v12 : IVec S_ 1 := (fun x v => Host.reduce IntOp.andi x v reducesTo_S1x4096x4x64_S_d0_1_2_3 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S1024 .f32) (main_arg4 : FVec F S1024 .f32) : IVec S_ 1 :=
  let main_v0 : FVec F S4096x1024 .f32 := Host.absf main_arg2
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg0
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg1
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite_mix.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg1
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg1 main_v13 main_v16
-- ==== Kernel.lean ====
abbrev S1x4096x2x2x64 : Shape := ⟨5, ![1, 4096, 2, 2, 64]⟩
abbrev S1x4096x2x64 : Shape := ⟨4, ![1, 4096, 2, 64]⟩
abbrev S4096x1024 : Shape := ⟨2, ![4096, 1024]⟩
abbrev S_ : Shape := ⟨0, ![]⟩
abbrev S4096x4x64 : Shape := ⟨3, ![4096, 4, 64]⟩
abbrev S4x4096x64 : Shape := ⟨3, ![4, 4096, 64]⟩
abbrev S4096x2x64 : Shape := ⟨3, ![4096, 2, 64]⟩
abbrev S2x4096x64 : Shape := ⟨3, ![2, 4096, 64]⟩
abbrev S4096x256 : Shape := ⟨2, ![4096, 256]⟩
abbrev S4x4096x1 : Shape := ⟨3, ![4, 4096, 1]⟩
abbrev S4x256x64 : Shape := ⟨3, ![4, 256, 64]⟩
abbrev S256x256 : Shape := ⟨2, ![256, 256]⟩
abbrev S4x256x1 : Shape := ⟨3, ![4, 256, 1]⟩
abbrev S1x256x64 : Shape := ⟨3, ![1, 256, 64]⟩
abbrev S256x64 : Shape := ⟨2, ![256, 64]⟩
abbrev S1x4096x64 : Shape := ⟨3, ![1, 4096, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S2x512x64 : Shape := ⟨3, ![2, 512, 64]⟩
abbrev S512x128 : Shape := ⟨2, ![512, 128]⟩
abbrev S2x512x1 : Shape := ⟨3, ![2, 512, 1]⟩
abbrev S512x64 : Shape := ⟨2, ![512, 64]⟩
abbrev S1x512x64 : Shape := ⟨3, ![1, 512, 64]⟩
abbrev S512x4096 : Shape := ⟨2, ![512, 4096]⟩
abbrev S1x512x1 : Shape := ⟨3, ![1, 512, 1]⟩
abbrev S512x1 : Shape := ⟨2, ![512, 1]⟩
abbrev S512 : Shape := ⟨1, ![512]⟩

abbrev nBuf : Space → Nat
  | .hbm => 28
  | .vmem => 26
  | .smem => 0
  | _ => 0

abbrev bufTy : (tb : Table) → Fin (tcTables nBuf tb) → BufTy
  | .hbm, ⟨0, _⟩ => ⟨S1x4096x2x2x64, .f32⟩
  | .hbm, ⟨1, _⟩ => ⟨S1x4096x2x64, .f32⟩
  | .hbm, ⟨2, _⟩ => ⟨S1x4096x2x64, .f32⟩
  | .hbm, ⟨3, _⟩ => ⟨S4096x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4x64, .f32⟩
  | .hbm, ⟨9, _⟩ => ⟨S_, .f32⟩
  | .hbm, ⟨10, _⟩ => ⟨S4096x4x64, .f32⟩
  | .hbm, ⟨11, _⟩ => ⟨S4096x4x64, .f32⟩
  | .hbm, ⟨12, _⟩ => ⟨S4x4096x64, .f32⟩
  | .hbm, ⟨13, _⟩ => ⟨S4x4096x64, .bf16⟩
  | .hbm, ⟨14, _⟩ => ⟨S4096x2x64, .f32⟩
  | .hbm, ⟨15, _⟩ => ⟨S2x4096x64, .f32⟩
  | .hbm, ⟨16, _⟩ => ⟨S2x4096x64, .bf16⟩
  | .hbm, ⟨17, _⟩ => ⟨S4096x2x64, .f32⟩
  | .hbm, ⟨18, _⟩ => ⟨S2x4096x64, .f32⟩
  | .hbm, ⟨19, _⟩ => ⟨S2x4096x64, .bf16⟩
  | .hbm, ⟨20, _⟩ => ⟨S4096x256, .f32⟩
  | .hbm, ⟨21, _⟩ => ⟨S4x4096x1, .f32⟩
  | .hbm, ⟨22, _⟩ => ⟨S4x4096x64, .f32⟩
  | .hbm, ⟨23, _⟩ => ⟨S2x4096x64, .f32⟩
  | .hbm, ⟨24, _⟩ => ⟨S2x4096x64, .f32⟩
  | .hbm, ⟨25, _⟩ => ⟨S_, .f32⟩
  | .hbm, ⟨26, _⟩ => ⟨S4x4096x64, .f32⟩
  | .hbm, ⟨27, _⟩ => ⟨S4x4096x64, .f32⟩
  | .local _ .vmem, ⟨0, _⟩ => ⟨S4x256x64, .bf16⟩
  | .local _ .vmem, ⟨1, _⟩ => ⟨S4x256x64, .bf16⟩
  | .local _ .vmem, ⟨2, _⟩ => ⟨S2x4096x64, .bf16⟩
  | .local _ .vmem, ⟨3, _⟩ => ⟨S2x4096x64, .bf16⟩
  | .local _ .vmem, ⟨4, _⟩ => ⟨S256x256, .f32⟩
  | .local _ .vmem, ⟨5, _⟩ => ⟨S256x256, .f32⟩
  | .local _ .vmem, ⟨6, _⟩ => ⟨S4x256x1, .f32⟩
  | .local _ .vmem, ⟨7, _⟩ => ⟨S4x256x1, .f32⟩
  | .local _ .vmem, ⟨8, _⟩ => ⟨S2x512x64, .bf16⟩
  | .local _ .vmem, ⟨9, _⟩ => ⟨S2x512x64, .bf16⟩
  | .local _ .vmem, ⟨10, _⟩ => ⟨S1x4096x64, .bf16⟩
  | .local _ .vmem, ⟨11, _⟩ => ⟨S1x4096x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S512x128, .f32⟩
  | .local _ .vmem, ⟨15, _⟩ => ⟨S512x128, .f32⟩
  | .local _ .vmem, ⟨16, _⟩ => ⟨S2x512x1, .f32⟩
  | .local _ .vmem, ⟨17, _⟩ => ⟨S2x512x1, .f32⟩
  | .local _ .vmem, ⟨18, _⟩ => ⟨S512x128, .f32⟩
  | .local _ .vmem, ⟨19, _⟩ => ⟨S512x128, .f32⟩
  | .local _ .vmem, ⟨20, _⟩ => ⟨S2x512x64, .f32⟩
  | .local _ .vmem, ⟨21, _⟩ => ⟨S2x512x64, .f32⟩
  | .local _ .vmem, ⟨22, _⟩ => ⟨S1x4096x64, .f32⟩
  | .local _ .vmem, ⟨23, _⟩ => ⟨S1x4096x64, .f32⟩
  | .local _ .vmem, ⟨24, _⟩ => ⟨S1x4096x64, .f32⟩
  | .local _ .vmem, ⟨25, _⟩ => ⟨S1x4096x64, .f32⟩
  | _, _ => ⟨S1x4096x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x4096x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x4096x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S1x4096x2x2x64 : Shape := ⟨5, ![1, 4096, 2, 2, 64]⟩
abbrev S1x4096x2x64 : Shape := ⟨4, ![1, 4096, 2, 64]⟩
abbrev S4096x1024 : Shape := ⟨2, ![4096, 1024]⟩
abbrev S1x2x4096x4096x2 : Shape := ⟨5, ![1, 2, 4096, 4096, 2]⟩
abbrev S1x2x2x4096x4096 : Shape := ⟨5, ![1, 2, 2, 4096, 4096]⟩
abbrev S_ : Shape := ⟨0, ![]⟩
abbrev S1x2x2x4096 : Shape := ⟨4, ![1, 2, 2, 4096]⟩
abbrev S1x2x2x4096x1 : Shape := ⟨5, ![1, 2, 2, 4096, 1]⟩
abbrev S1x2x64x2x4096 : Shape := ⟨5, ![1, 2, 64, 2, 4096]⟩
abbrev S4096x256 : Shape := ⟨2, ![4096, 256]⟩
abbrev S1x2x64x4096 : Shape := ⟨4, ![1, 2, 64, 4096]⟩
abbrev S2x2x4096 : Shape := ⟨3, ![2, 2, 4096]⟩
abbrev S1x2x4096x2x64 : Shape := ⟨5, ![1, 2, 4096, 2, 64]⟩
abbrev S1x2x4096x64 : Shape := ⟨4, ![1, 2, 4096, 64]⟩
abbrev S4096x4x64 : Shape := ⟨3, ![4096, 4, 64]⟩
abbrev S4x4096x64 : Shape := ⟨3, ![4, 4096, 64]⟩
abbrev S4096x2x64 : Shape := ⟨3, ![4096, 2, 64]⟩
abbrev S2x4096x64 : Shape := ⟨3, ![2, 4096, 64]⟩

abbrev nBuf : Space → Nat
  | .hbm => 85
  | .vmem => 0
  | .smem => 0
  | _ => 0

abbrev bufTy : (tb : Table) → Fin (tcTables nBuf tb) → BufTy
  | .hbm, ⟨0, _⟩ => ⟨S1x4096x2x2x64, .f32⟩
  | .hbm, ⟨1, _⟩ => ⟨S1x4096x2x64, .f32⟩
  | .hbm, ⟨2, _⟩ => ⟨S1x4096x2x64, .f32⟩
  | .hbm, ⟨3, _⟩ => ⟨S4096x1024, .f32⟩
  | .hbm, ⟨4, _⟩ => ⟨S1x2x4096x4096x2, .f32⟩
  | .hbm, ⟨5, _⟩ => ⟨S1x2x2x4096x4096, .f32⟩
  | .hbm, ⟨6, _⟩ => ⟨S_, .f32⟩
  | .hbm, ⟨7, _⟩ => ⟨S1x2x2x4096x4096, .f32⟩
  | .hbm, ⟨8, _⟩ => ⟨S1x2x2x4096x4096, .f32⟩
  | .hbm, ⟨9, _⟩ => ⟨S_, .f32⟩
  | .hbm, ⟨10, _⟩ => ⟨S1x2x2x4096, .f32⟩
  | .hbm, ⟨11, _⟩ => ⟨S1x2x2x4096x1, .f32⟩
  | .hbm, ⟨12, _⟩ => ⟨S1x2x2x4096x4096, .f32⟩
  | .hbm, ⟨13, _⟩ => ⟨S1x2x2x4096x4096, .i1⟩
  | .hbm, ⟨14, _⟩ => ⟨S1x2x2x4096x4096, .f32⟩
  | .hbm, ⟨15, _⟩ => ⟨S_, .f32⟩
  | .hbm, ⟨16, _⟩ => ⟨S1x2x2x4096, .f32⟩
  | .hbm, ⟨17, _⟩ => ⟨S_, .f32⟩
  | .hbm, ⟨18, _⟩ => ⟨S1x2x2x4096, .f32⟩
  | .hbm, ⟨19, _⟩ => ⟨S1x2x2x4096, .f32⟩
  | .hbm, ⟨20, _⟩ => ⟨S_, .f32⟩
  | .hbm, ⟨21, _⟩ => ⟨S1x2x2x4096, .f32⟩
  | .hbm, ⟨22, _⟩ => ⟨S1x2x2x4096, .i1⟩
  | .hbm, ⟨23, _⟩ => ⟨S_, .f32⟩
  | .hbm, ⟨24, _⟩ => ⟨S1x2x2x4096, .f32⟩
  | .hbm, ⟨25, _⟩ => ⟨S1x2x2x4096, .i1⟩
  | .hbm, ⟨26, _⟩ => ⟨S_, .f32⟩
  | .hbm, ⟨27, _⟩ => ⟨S1x2x2x4096, .f32⟩
  | .hbm, ⟨28, _⟩ => ⟨S_, .f32⟩
  | .hbm, ⟨29, _⟩ => ⟨S1x2x2x4096, .f32⟩
  | .hbm, ⟨30, _⟩ => ⟨S_, .f32⟩
  | .hbm, ⟨31, _⟩ => ⟨S1x2x2x4096, .f32⟩
  | .hbm, ⟨32, _⟩ => ⟨S1x2x2x4096, .f32⟩
  | .hbm, ⟨33, _⟩ => ⟨S1x2x2x4096, .f32⟩
  | .hbm, ⟨34, _⟩ => ⟨S1x2x2x4096x1, .f32⟩
  | .hbm, ⟨35, _⟩ => ⟨S1x2x2x4096x4096, .f32⟩
  | .hbm, ⟨36, _⟩ => ⟨S1x2x2x4096x4096, .f32⟩
  | .hbm, ⟨37, _⟩ => ⟨S1x2x2x4096x4096, .f32⟩
  | .hbm, ⟨38, _⟩ => ⟨S_, .f32⟩
  | .hbm, ⟨39, _⟩ => ⟨S1x2x2x4096, .f32⟩
  | .hbm, ⟨40, _⟩ => ⟨S1x2x2x4096x1, .f32⟩
  | .hbm, ⟨41, _⟩ => ⟨S1x2x2x4096x4096, .f32⟩
  | .hbm, ⟨42, _⟩ => ⟨S1x2x2x4096x4096, .f32⟩
  | .hbm, ⟨43, _⟩ => ⟨S1x2x2x4096x1, .f32⟩
  | .hbm, ⟨44, _⟩ => ⟨S_, .f32⟩
  | .hbm, ⟨45, _⟩ => ⟨S1x2x2x4096x1, .f32⟩
  | .hbm, ⟨46, _⟩ => ⟨S1x2x2x4096x1, .f32⟩
  | .hbm, ⟨47, _⟩ => ⟨S1x2x64x2x4096, .f32⟩
  | .hbm, ⟨48, _⟩ => ⟨S1x4096x2x2x64, .f32⟩
  | .hbm, ⟨49, _⟩ => ⟨S4096x256, .f32⟩
  | .hbm, ⟨50, _⟩ => ⟨S1x4096x2x2x64, .f32⟩
  | .hbm, ⟨51, _⟩ => ⟨S1x2x64x2x4096, .f32⟩
  | .hbm, ⟨52, _⟩ => ⟨S1x2x2x4096x4096, .f32⟩
  | .hbm, ⟨53, _⟩ => ⟨S1x2x64x4096, .f32⟩
  | .hbm, ⟨54, _⟩ => ⟨S1x4096x2x64, .f32⟩
  | .hbm, ⟨55, _⟩ => ⟨S1x2x2x4096x4096, .f32⟩
  | .hbm, ⟨56, _⟩ => ⟨S1x2x2x4096x4096, .f32⟩
  | .hbm, ⟨57, _⟩ => ⟨S1x2x2x4096x4096, .f32⟩
  | .hbm, ⟨58, _⟩ => ⟨S_, .f32⟩
  | .hbm, ⟨59, _⟩ => ⟨S1x2x2x4096, .f32⟩
  | .hbm, ⟨60, _⟩ => ⟨S1x2x2x4096x1, .f32⟩
  | .hbm, ⟨61, _⟩ => ⟨S1x2x2x4096x1, .f32⟩
  | .hbm, ⟨62, _⟩ => ⟨S1x2x2x4096x4096, .f32⟩
  | .hbm, ⟨63, _⟩ => ⟨S1x2x2x4096x4096, .f32⟩
  | .hbm, ⟨64, _⟩ => ⟨S_, .f32⟩
  | .hbm, ⟨65, _⟩ => ⟨S2x2x4096, .f32⟩
  | .hbm, ⟨66, _⟩ => ⟨S1x2x2x4096, .f32⟩
  | .hbm, ⟨67, _⟩ => ⟨S1x2x2x4096x4096, .f32⟩
  | .hbm, ⟨68, _⟩ => ⟨S1x2x2x4096x4096, .f32⟩
  | .hbm, ⟨69, _⟩ => ⟨S1x2x2x4096x4096, .f32⟩
  | .hbm, ⟨70, _⟩ => ⟨S_, .f32⟩
  | .hbm, ⟨71, _⟩ => ⟨S1x2x2x4096x4096, .f32⟩
  | .hbm, ⟨72, _⟩ => ⟨S1x2x2x4096x4096, .f32⟩
  | .hbm, ⟨73, _⟩ => ⟨S1x2x4096x4096x2, .f32⟩
  | .hbm, ⟨74, _⟩ => ⟨S1x2x4096x2x64, .f32⟩
  | .hbm, ⟨75, _⟩ => ⟨S1x4096x2x2x64, .f32⟩
  | .hbm, ⟨76, _⟩ => ⟨S1x2x4096x64, .f32⟩
  | .hbm, ⟨77, _⟩ => ⟨S1x4096x2x64, .f32⟩
  | .hbm, ⟨78, _⟩ => ⟨S4096x256, .f32⟩
  | .hbm, ⟨79, _⟩ => ⟨S4096x4x64, .f32⟩
  | .hbm, ⟨80, _⟩ => ⟨S4x4096x64, .f32⟩
  | .hbm, ⟨81, _⟩ => ⟨S4096x2x64, .f32⟩
  | .hbm, ⟨82, _⟩ => ⟨S2x4096x64, .f32⟩
  | .hbm, ⟨83, _⟩ => ⟨S4096x2x64, .f32⟩
  | .hbm, ⟨84, _⟩ => ⟨S2x4096x64, .f32⟩
  | _, _ => ⟨S1x4096x2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Latent.lean ====
abbrev S1x4096x4x1x128 : Shape := ⟨5, ![1, 4096, 4, 1, 128]⟩
abbrev S1x4096x4x128 : Shape := ⟨4, ![1, 4096, 4, 128]⟩
abbrev S1x4096x4x64 : Shape := ⟨4, ![1, 4096, 4, 64]⟩
abbrev S4096x1024 : Shape := ⟨2, ![4096, 1024]⟩
abbrev S_ : Shape := ⟨0, ![]⟩
abbrev S4096x4x128 : Shape := ⟨3, ![4096, 4, 128]⟩
abbrev S4x4096x128 : Shape := ⟨3, ![4, 4096, 128]⟩
abbrev S4096x4x64 : Shape := ⟨3, ![4096, 4, 64]⟩
abbrev S4x4096x64 : Shape := ⟨3, ![4, 4096, 64]⟩
abbrev S4096x256 : Shape := ⟨2, ![4096, 256]⟩
abbrev S4x4096x1 : Shape := ⟨3, ![4, 4096, 1]⟩
abbrev S4x256x128 : Shape := ⟨3, ![4, 256, 128]⟩
abbrev S256x256 : Shape := ⟨2, ![256, 256]⟩
abbrev S4x256x1 : Shape := ⟨3, ![4, 256, 1]⟩
abbrev S1x256x128 : Shape := ⟨3, ![1, 256, 128]⟩
abbrev S256x128 : Shape := ⟨2, ![256, 128]⟩
abbrev S1x4096x128 : Shape := ⟨3, ![1, 4096, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S1x4096x64 : Shape := ⟨3, ![1, 4096, 64]⟩
abbrev S4096x64 : Shape := ⟨2, ![4096, 64]⟩
abbrev S256x64 : Shape := ⟨2, ![256, 64]⟩
abbrev S1x256x1 : Shape := ⟨3, ![1, 256, 1]⟩
abbrev S2x512x128 : Shape := ⟨3, ![2, 512, 128]⟩
abbrev S2x4096x128 : Shape := ⟨3, ![2, 4096, 128]⟩
abbrev S2x4096x64 : Shape := ⟨3, ![2, 4096, 64]⟩
abbrev S512x128 : Shape := ⟨2, ![512, 128]⟩
abbrev S2x512x1 : Shape := ⟨3, ![2, 512, 1]⟩
abbrev S512x64 : Shape := ⟨2, ![512, 64]⟩
abbrev S1x512x128 : Shape := ⟨3, ![1, 512, 128]⟩
abbrev S512x4096 : Shape := ⟨2, ![512, 4096]⟩
abbrev S1x512x1 : Shape := ⟨3, ![1, 512, 1]⟩
abbrev S512x1 : Shape := ⟨2, ![512, 1]⟩
abbrev S512 : Shape := ⟨1, ![512]⟩

abbrev nBuf : Space → Nat
  | .hbm => 28
  | .vmem => 26
  | .smem => 0
  | _ => 0

abbrev bufTy : (tb : Table) → Fin (tcTables nBuf tb) → BufTy
  | .hbm, ⟨0, _⟩ => ⟨S1x4096x4x1x128, .f32⟩
  | .hbm, ⟨1, _⟩ => ⟨S1x4096x4x128, .f32⟩
  | .hbm, ⟨2, _⟩ => ⟨S1x4096x4x64, .f32⟩
  | .hbm, ⟨3, _⟩ => ⟨S4096x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4x128, .f32⟩
  | .hbm, ⟨9, _⟩ => ⟨S_, .f32⟩
  | .hbm, ⟨10, _⟩ => ⟨S4096x4x128, .f32⟩
  | .hbm, ⟨11, _⟩ => ⟨S4096x4x128, .f32⟩
  | .hbm, ⟨12, _⟩ => ⟨S4x4096x128, .f32⟩
  | .hbm, ⟨13, _⟩ => ⟨S4x4096x128, .bf16⟩
  | .hbm, ⟨14, _⟩ => ⟨S4096x4x128, .f32⟩
  | .hbm, ⟨15, _⟩ => ⟨S4x4096x128, .f32⟩
  | .hbm, ⟨16, _⟩ => ⟨S4x4096x128, .bf16⟩
  | .hbm, ⟨17, _⟩ => ⟨S4096x4x64, .f32⟩
  | .hbm, ⟨18, _⟩ => ⟨S4x4096x64, .f32⟩
  | .hbm, ⟨19, _⟩ => ⟨S4x4096x64, .bf16⟩
  | .hbm, ⟨20, _⟩ => ⟨S4096x256, .f32⟩
  | .hbm, ⟨21, _⟩ => ⟨S4x4096x1, .f32⟩
  | .hbm, ⟨22, _⟩ => ⟨S4x4096x128, .f32⟩
  | .hbm, ⟨23, _⟩ => ⟨S4x4096x128, .f32⟩
  | .hbm, ⟨24, _⟩ => ⟨S4x4096x64, .f32⟩
  | .hbm, ⟨25, _⟩ => ⟨S_, .f32⟩
  | .hbm, ⟨26, _⟩ => ⟨S4x4096x128, .f32⟩
  | .hbm, ⟨27, _⟩ => ⟨S4x4096x128, .f32⟩
  | .local _ .vmem, ⟨0, _⟩ => ⟨S4x256x128, .bf16⟩
  | .local _ .vmem, ⟨1, _⟩ => ⟨S4x256x128, .bf16⟩
  | .local _ .vmem, ⟨2, _⟩ => ⟨S4x4096x128, .bf16⟩
  | .local _ .vmem, ⟨3, _⟩ => ⟨S4x4096x64, .bf16⟩
  | .local _ .vmem, ⟨4, _⟩ => ⟨S256x256, .f32⟩
  | .local _ .vmem, ⟨5, _⟩ => ⟨S256x256, .f32⟩
  | .local _ .vmem, ⟨6, _⟩ => ⟨S4x256x1, .f32⟩
  | .local _ .vmem, ⟨7, _⟩ => ⟨S4x256x1, .f32⟩
  | .local _ .vmem, ⟨8, _⟩ => ⟨S2x512x128, .bf16⟩
  | .local _ .vmem, ⟨9, _⟩ => ⟨S2x512x128, .bf16⟩
  | .local _ .vmem, ⟨10, _⟩ => ⟨S2x4096x128, .bf16⟩
  | .local _ .vmem, ⟨11, _⟩ => ⟨S2x4096x128, .bf16⟩
  | .local _ .vmem, ⟨12, _⟩ => ⟨S2x4096x64, .bf16⟩
  | .local _ .vmem, ⟨13, _⟩ => ⟨S2x4096x64, .bf16⟩
  | .local _ .vmem, ⟨14, _⟩ => ⟨S512x128, .f32⟩
  | .local _ .vmem, ⟨15, _⟩ => ⟨S512x128, .f32⟩
  | .local _ .vmem, ⟨16, _⟩ => ⟨S2x512x1, .f32⟩
  | .local _ .vmem, ⟨17, _⟩ => ⟨S2x512x1, .f32⟩
  | .local _ .vmem, ⟨18, _⟩ => ⟨S512x128, .f32⟩
  | .local _ .vmem, ⟨19, _⟩ => ⟨S512x128, .f32⟩
  | .local _ .vmem, ⟨20, _⟩ => ⟨S2x512x128, .f32⟩
  | .local _ .vmem, ⟨21, _⟩ => ⟨S2x512x128, .f32⟩
  | .local _ .vmem, ⟨22, _⟩ => ⟨S2x4096x128, .f32⟩
  | .local _ .vmem, ⟨23, _⟩ => ⟨S2x4096x128, .f32⟩
  | .local _ .vmem, ⟨24, _⟩ => ⟨S2x4096x64, .f32⟩
  | .local _ .vmem, ⟨25, _⟩ => ⟨S2x4096x64, .f32⟩
  | _, _ => ⟨S1x4096x4x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2x4096x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== LatentIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== LatentRefIdeal.lean ====
abbrev S1x4096x4x1x128 : Shape := ⟨5, ![1, 4096, 4, 1, 128]⟩
abbrev S1x4096x4x128 : Shape := ⟨4, ![1, 4096, 4, 128]⟩
abbrev S1x4096x4x64 : Shape := ⟨4, ![1, 4096, 4, 64]⟩
abbrev S4096x1024 : Shape := ⟨2, ![4096, 1024]⟩
abbrev S1x4x4096x4096x1 : Shape := ⟨5, ![1, 4, 4096, 4096, 1]⟩
abbrev S1x4x1x4096x4096 : Shape := ⟨5, ![1, 4, 1, 4096, 4096]⟩
abbrev S_ : Shape := ⟨0, ![]⟩
abbrev S1x4x1x4096 : Shape := ⟨4, ![1, 4, 1, 4096]⟩
abbrev S1x4x1x4096x1 : Shape := ⟨5, ![1, 4, 1, 4096, 1]⟩
abbrev S1x4x64x1x4096 : Shape := ⟨5, ![1, 4, 64, 1, 4096]⟩
abbrev S1x4096x4x1x64 : Shape := ⟨5, ![1, 4096, 4, 1, 64]⟩
abbrev S4096x256 : Shape := ⟨2, ![4096, 256]⟩
abbrev S1x4x64x4096 : Shape := ⟨4, ![1, 4, 64, 4096]⟩
abbrev S4x4096 : Shape := ⟨2, ![4, 4096]⟩
abbrev S1x4x4096x1x128 : Shape := ⟨5, ![1, 4, 4096, 1, 128]⟩
abbrev S1x4x4096x128 : Shape := ⟨4, ![1, 4, 4096, 128]⟩
abbrev S4096x4x128 : Shape := ⟨3, ![4096, 4, 128]⟩
abbrev S4x4096x128 : Shape := ⟨3, ![4, 4096, 128]⟩
abbrev S4096x4x64 : Shape := ⟨3, ![4096, 4, 64]⟩
abbrev S4x4096x64 : Shape := ⟨3, ![4, 4096, 64]⟩

abbrev nBuf : Space → Nat
  | .hbm => 85
  | .vmem => 0
  | .smem => 0
  | _ => 0

abbrev bufTy : (tb : Table) → Fin (tcTables nBuf tb) → BufTy
  | .hbm, ⟨0, _⟩ => ⟨S1x4096x4x1x128, .f32⟩
  | .hbm, ⟨1, _⟩ => ⟨S1x4096x4x128, .f32⟩
  | .hbm, ⟨2, _⟩ => ⟨S1x4096x4x64, .f32⟩
  | .hbm, ⟨3, _⟩ => ⟨S4096x1024, .f32⟩
  | .hbm, ⟨4, _⟩ => ⟨S1x4x4096x4096x1, .f32⟩
  | .hbm, ⟨5, _⟩ => ⟨S1x4x1x4096x4096, .f32⟩
  | .hbm, ⟨6, _⟩ => ⟨S_, .f32⟩
  | .hbm, ⟨7, _⟩ => ⟨S1x4x1x4096x4096, .f32⟩
  | .hbm, ⟨8, _⟩ => ⟨S1x4x1x4096x4096, .f32⟩
  | .hbm, ⟨9, _⟩ => ⟨S_, .f32⟩
  | .hbm, ⟨10, _⟩ => ⟨S1x4x1x4096, .f32⟩
  | .hbm, ⟨11, _⟩ => ⟨S1x4x1x4096x1, .f32⟩
  | .hbm, ⟨12, _⟩ => ⟨S1x4x1x4096x4096, .f32⟩
  | .hbm, ⟨13, _⟩ => ⟨S1x4x1x4096x4096, .i1⟩
  | .hbm, ⟨14, _⟩ => ⟨S1x4x1x4096x4096, .f32⟩
  | .hbm, ⟨15, _⟩ => ⟨S_, .f32⟩
  | .hbm, ⟨16, _⟩ => ⟨S1x4x1x4096, .f32⟩
  | .hbm, ⟨17, _⟩ => ⟨S_, .f32⟩
  | .hbm, ⟨18, _⟩ => ⟨S1x4x1x4096, .f32⟩
  | .hbm, ⟨19, _⟩ => ⟨S1x4x1x4096, .f32⟩
  | .hbm, ⟨20, _⟩ => ⟨S_, .f32⟩
  | .hbm, ⟨21, _⟩ => ⟨S1x4x1x4096, .f32⟩
  | .hbm, ⟨22, _⟩ => ⟨S1x4x1x4096, .i1⟩
  | .hbm, ⟨23, _⟩ => ⟨S_, .f32⟩
  | .hbm, ⟨24, _⟩ => ⟨S1x4x1x4096, .f32⟩
  | .hbm, ⟨25, _⟩ => ⟨S1x4x1x4096, .i1⟩
  | .hbm, ⟨26, _⟩ => ⟨S_, .f32⟩
  | .hbm, ⟨27, _⟩ => ⟨S1x4x1x4096, .f32⟩
  | .hbm, ⟨28, _⟩ => ⟨S_, .f32⟩
  | .hbm, ⟨29, _⟩ => ⟨S1x4x1x4096, .f32⟩
  | .hbm, ⟨30, _⟩ => ⟨S_, .f32⟩
  | .hbm, ⟨31, _⟩ => ⟨S1x4x1x4096, .f32⟩
  | .hbm, ⟨32, _⟩ => ⟨S1x4x1x4096, .f32⟩
  | .hbm, ⟨33, _⟩ => ⟨S1x4x1x4096, .f32⟩
  | .hbm, ⟨34, _⟩ => ⟨S1x4x1x4096x1, .f32⟩
  | .hbm, ⟨35, _⟩ => ⟨S1x4x1x4096x4096, .f32⟩
  | .hbm, ⟨36, _⟩ => ⟨S1x4x1x4096x4096, .f32⟩
  | .hbm, ⟨37, _⟩ => ⟨S1x4x1x4096x4096, .f32⟩
  | .hbm, ⟨38, _⟩ => ⟨S_, .f32⟩
  | .hbm, ⟨39, _⟩ => ⟨S1x4x1x4096, .f32⟩
  | .hbm, ⟨40, _⟩ => ⟨S1x4x1x4096x1, .f32⟩
  | .hbm, ⟨41, _⟩ => ⟨S1x4x1x4096x4096, .f32⟩
  | .hbm, ⟨42, _⟩ => ⟨S1x4x1x4096x4096, .f32⟩
  | .hbm, ⟨43, _⟩ => ⟨S1x4x1x4096x1, .f32⟩
  | .hbm, ⟨44, _⟩ => ⟨S_, .f32⟩
  | .hbm, ⟨45, _⟩ => ⟨S1x4x1x4096x1, .f32⟩
  | .hbm, ⟨46, _⟩ => ⟨S1x4x1x4096x1, .f32⟩
  | .hbm, ⟨47, _⟩ => ⟨S1x4x64x1x4096, .f32⟩
  | .hbm, ⟨48, _⟩ => ⟨S1x4096x4x1x64, .f32⟩
  | .hbm, ⟨49, _⟩ => ⟨S4096x256, .f32⟩
  | .hbm, ⟨50, _⟩ => ⟨S1x4096x4x1x64, .f32⟩
  | .hbm, ⟨51, _⟩ => ⟨S1x4x64x1x4096, .f32⟩
  | .hbm, ⟨52, _⟩ => ⟨S1x4x1x4096x4096, .f32⟩
  | .hbm, ⟨53, _⟩ => ⟨S1x4x64x4096, .f32⟩
  | .hbm, ⟨54, _⟩ => ⟨S1x4096x4x64, .f32⟩
  | .hbm, ⟨55, _⟩ => ⟨S1x4x1x4096x4096, .f32⟩
  | .hbm, ⟨56, _⟩ => ⟨S1x4x1x4096x4096, .f32⟩
  | .hbm, ⟨57, _⟩ => ⟨S1x4x1x4096x4096, .f32⟩
  | .hbm, ⟨58, _⟩ => ⟨S_, .f32⟩
  | .hbm, ⟨59, _⟩ => ⟨S1x4x1x4096, .f32⟩
  | .hbm, ⟨60, _⟩ => ⟨S1x4x1x4096x1, .f32⟩
  | .hbm, ⟨61, _⟩ => ⟨S1x4x1x4096x1, .f32⟩
  | .hbm, ⟨62, _⟩ => ⟨S1x4x1x4096x4096, .f32⟩
  | .hbm, ⟨63, _⟩ => ⟨S1x4x1x4096x4096, .f32⟩
  | .hbm, ⟨64, _⟩ => ⟨S_, .f32⟩
  | .hbm, ⟨65, _⟩ => ⟨S4x4096, .f32⟩
  | .hbm, ⟨66, _⟩ => ⟨S1x4x1x4096, .f32⟩
  | .hbm, ⟨67, _⟩ => ⟨S1x4x1x4096x4096, .f32⟩
  | .hbm, ⟨68, _⟩ => ⟨S1x4x1x4096x4096, .f32⟩
  | .hbm, ⟨69, _⟩ => ⟨S1x4x1x4096x4096, .f32⟩
  | .hbm, ⟨70, _⟩ => ⟨S_, .f32⟩
  | .hbm, ⟨71, _⟩ => ⟨S1x4x1x4096x4096, .f32⟩
  | .hbm, ⟨72, _⟩ => ⟨S1x4x1x4096x4096, .f32⟩
  | .hbm, ⟨73, _⟩ => ⟨S1x4x4096x4096x1, .f32⟩
  | .hbm, ⟨74, _⟩ => ⟨S1x4x4096x1x128, .f32⟩
  | .hbm, ⟨75, _⟩ => ⟨S1x4096x4x1x128, .f32⟩
  | .hbm, ⟨76, _⟩ => ⟨S1x4x4096x128, .f32⟩
  | .hbm, ⟨77, _⟩ => ⟨S1x4096x4x128, .f32⟩
  | .hbm, ⟨78, _⟩ => ⟨S4096x256, .f32⟩
  | .hbm, ⟨79, _⟩ => ⟨S4096x4x128, .f32⟩
  | .hbm, ⟨80, _⟩ => ⟨S4x4096x128, .f32⟩
  | .hbm, ⟨81, _⟩ => ⟨S4096x4x128, .f32⟩
  | .hbm, ⟨82, _⟩ => ⟨S4x4096x128, .f32⟩
  | .hbm, ⟨83, _⟩ => ⟨S4096x4x64, .f32⟩
  | .hbm, ⟨84, _⟩ => ⟨S4x4096x64, .f32⟩
  | _, _ => ⟨S1x4096x4x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== DwUp.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .bf16⟩
  | .hbm, ⟨2, _⟩ => ⟨S4x1024x1408, .f32⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .bf16⟩
  | .hbm, ⟨2, _⟩ => ⟨S_, .f32⟩
  | .hbm, ⟨3, _⟩ => ⟨S1024x5632, .f32⟩
  | .hbm, ⟨4, _⟩ => ⟨S1x4096x2816, .bf16⟩
  | .hbm, ⟨5, _⟩ => ⟨S4096x2816, .bf16⟩
  | .hbm, ⟨6, _⟩ => ⟨S1x4096x2816, .bf16⟩
  | .hbm, ⟨7, _⟩ => ⟨S4096x2816, .bf16⟩
  | .hbm, ⟨8, _⟩ => ⟨S4096x5632, .bf16⟩
  | .hbm, ⟨9, _⟩ => ⟨S4096x5632, .f32⟩
  | .hbm, ⟨10, _⟩ => ⟨S4096x5632, .f32⟩
  | .hbm, ⟨11, _⟩ => ⟨S5632x1024, .f32⟩
  | .hbm, ⟨12, _⟩ => ⟨S1024x5632, .f32⟩
  | .hbm, ⟨13, _⟩ => ⟨S4096x1024, .f32⟩
  | .hbm, ⟨14, _⟩ => ⟨S1024x4x1408, .f32⟩
  | .hbm, ⟨15, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== DH1.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S1024x5632, .bf16⟩
  | .hbm, ⟨3, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH1RefIdeal.lean ====
abbrev S2x4096x2816 : Shape := ⟨3, ![2, 4096, 2816]⟩
abbrev S1024x5632 : Shape := ⟨2, ![1024, 5632]⟩
abbrev S_ : Shape := ⟨0, ![]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S_, .f32⟩
  | .hbm, ⟨3, _⟩ => ⟨S4096x1024, .f32⟩
  | .hbm, ⟨4, _⟩ => ⟨S1x4096x2816, .bf16⟩
  | .hbm, ⟨5, _⟩ => ⟨S4096x2816, .bf16⟩
  | .hbm, ⟨6, _⟩ => ⟨S1x4096x2816, .bf16⟩
  | .hbm, ⟨7, _⟩ => ⟨S4096x2816, .bf16⟩
  | .hbm, ⟨8, _⟩ => ⟨S4096x5632, .bf16⟩
  | .hbm, ⟨9, _⟩ => ⟨S4096x5632, .f32⟩
  | .hbm, ⟨10, _⟩ => ⟨S4096x5632, .f32⟩
  | .hbm, ⟨11, _⟩ => ⟨S5632x1024, .f32⟩
  | .hbm, ⟨12, _⟩ => ⟨S1024x5632, .f32⟩
  | .hbm, ⟨13, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4096x2816, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .bf16⟩
  | .hbm, ⟨3, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUp.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x5632, .bf16⟩
  | .hbm, ⟨3, _⟩ => ⟨S4096x5632, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S2816x1024, .bf16⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x2816, .f32⟩
  | .hbm, ⟨3, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwIn.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S1024x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DH.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S1024x2048, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DHRefIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== DwOut.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMixcat.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixcatRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1024x2048, .bf16⟩
  | .hbm, ⟨3, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LnIn.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== LnInRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== LnMix.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== LnMixRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== LnInBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== LnInBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_cst_12 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== LnFfnBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LnFfnBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S1x1024, .f32⟩
  | .hbm, ⟨84, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_cst_13 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== LnMixBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== LnMixBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S1x1024, .f32⟩
  | .hbm, ⟨92, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S1x1024, .f32⟩
  | .hbm, ⟨105, _⟩ => ⟨S1x1024, .f32⟩
  | .hbm, ⟨106, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_cst_11 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_cst_15 : Ref sig .tc := ⟨.hbm, 66, rfl⟩
abbrev main_v45 : Ref sig .tc := ⟨.hbm, 67, rfl⟩
abbrev main_v46 : Ref sig .tc := ⟨.hbm, 68, rfl⟩
abbrev main_cst_16 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_cst_18 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_19 : Ref sig .tc := ⟨.hbm, 83, rfl⟩
abbrev main_v58 : Ref sig .tc := ⟨.hbm, 84, rfl⟩
abbrev main_v59 : Ref sig .tc := ⟨.hbm, 85, rfl⟩
abbrev main_cst_20 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_21 : Ref sig .tc := ⟨.hbm, 94, rfl⟩
abbrev main_v67 : Ref sig .tc := ⟨.hbm, 95, rfl⟩
abbrev main_v68 : Ref sig .tc := ⟨.hbm, 96, rfl⟩
abbrev main_cst_22 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== AdamIn.lean ====
abbrev S1x1024x472 : Shape := ⟨3, ![1, 1024, 472]⟩
abbrev S2x1024x472 : Shape := ⟨3, ![2, 1024, 472]⟩
abbrev S1024x472 : Shape := ⟨2, ![1024, 472]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x472, .f32⟩
  | .hbm, ⟨1, _⟩ => ⟨S1x1024x472, .f32⟩
  | .hbm, ⟨2, _⟩ => ⟨S2x1024x472, .f32⟩
  | .hbm, ⟨3, _⟩ => ⟨S2x1024x472, .f32⟩
  | .hbm, ⟨4, _⟩ => ⟨S2x1024x472, .f32⟩
  | .hbm, ⟨5, _⟩ => ⟨S2x1024x472, .f32⟩
  | .hbm, ⟨6, _⟩ => ⟨S2x1024x472, .f32⟩
  | .hbm, ⟨7, _⟩ => ⟨S2x1024x472, .f32⟩
  | .hbm, ⟨8, _⟩ => ⟨S2x1024x472, .f32⟩
  | .local _ .vmem, ⟨0, _⟩ => ⟨S1x1024x472, .f32⟩
  | .local _ .vmem, ⟨1, _⟩ => ⟨S1x1024x472, .f32⟩
  | .local _ .vmem, ⟨2, _⟩ => ⟨S1x1024x472, .f32⟩
  | .local _ .vmem, ⟨3, _⟩ => ⟨S1x1024x472, .f32⟩
  | .local _ .vmem, ⟨4, _⟩ => ⟨S1x1024x472, .f32⟩
  | .local _ .vmem, ⟨5, _⟩ => ⟨S1x1024x472, .f32⟩
  | .local _ .vmem, ⟨6, _⟩ => ⟨S1x1024x472, .f32⟩
  | .local _ .vmem, ⟨7, _⟩ => ⟨S1x1024x472, .f32⟩
  | .local _ .vmem, ⟨8, _⟩ => ⟨S1x1024x472, .f32⟩
  | .local _ .vmem, ⟨9, _⟩ => ⟨S1x1024x472, .f32⟩
  | .local _ .vmem, ⟨10, _⟩ => ⟨S1x1024x472, .f32⟩
  | .local _ .vmem, ⟨11, _⟩ => ⟨S1x1024x472, .f32⟩
  | .local _ .vmem, ⟨12, _⟩ => ⟨S1x1024x472, .f32⟩
  | .local _ .vmem, ⟨13, _⟩ => ⟨S1x1024x472, .f32⟩
  | .local _ .vmem, ⟨14, _⟩ => ⟨S1x1024x472, .f32⟩
  | .local _ .vmem, ⟨15, _⟩ => ⟨S1x1024x472, .f32⟩
  | .local _ .vmem, ⟨16, _⟩ => ⟨S1x1024x472, .f32⟩
  | .local _ .vmem, ⟨17, _⟩ => ⟨S1x1024x472, .f32⟩
  | _, _ => ⟨S1x1024x472, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x472 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x472 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x472 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x472 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x472 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x472 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x472 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x472 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x472 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S1x1024x472 : Shape := ⟨3, ![1, 1024, 472]⟩
abbrev S2x1024x472 : Shape := ⟨3, ![2, 1024, 472]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x472, .f32⟩
  | .hbm, ⟨1, _⟩ => ⟨S1x1024x472, .f32⟩
  | .hbm, ⟨2, _⟩ => ⟨S2x1024x472, .f32⟩
  | .hbm, ⟨3, _⟩ => ⟨S2x1024x472, .f32⟩
  | .hbm, ⟨4, _⟩ => ⟨S2x1024x472, .f32⟩
  | .hbm, ⟨5, _⟩ => ⟨S2x1024x472, .f32⟩
  | .hbm, ⟨6, _⟩ => ⟨S_, .f32⟩
  | .hbm, ⟨7, _⟩ => ⟨S2x1024x472, .f32⟩
  | .hbm, ⟨8, _⟩ => ⟨S2x1024x472, .f32⟩
  | .hbm, ⟨9, _⟩ => ⟨S_, .f32⟩
  | .hbm, ⟨10, _⟩ => ⟨S2x1024x472, .f32⟩
  | .hbm, ⟨11, _⟩ => ⟨S2x1024x472, .f32⟩
  | .hbm, ⟨12, _⟩ => ⟨S2x1024x472, .f32⟩
  | .hbm, ⟨13, _⟩ => ⟨S_, .f32⟩
  | .hbm, ⟨14, _⟩ => ⟨S2x1024x472, .f32⟩
  | .hbm, ⟨15, _⟩ => ⟨S2x1024x472, .f32⟩
  | .hbm, ⟨16, _⟩ => ⟨S2x1024x472, .f32⟩
  | .hbm, ⟨17, _⟩ => ⟨S_, .f32⟩
  | .hbm, ⟨18, _⟩ => ⟨S2x1024x472, .f32⟩
  | .hbm, ⟨19, _⟩ => ⟨S2x1024x472, .f32⟩
  | .hbm, ⟨20, _⟩ => ⟨S2x1024x472, .f32⟩
  | .hbm, ⟨21, _⟩ => ⟨S_, .f32⟩
  | .hbm, ⟨22, _⟩ => ⟨S2x1024x472, .f32⟩
  | .hbm, ⟨23, _⟩ => ⟨S2x1024x472, .f32⟩
  | .hbm, ⟨24, _⟩ => ⟨S_, .f32⟩
  | .hbm, ⟨25, _⟩ => ⟨S2x1024x472, .f32⟩
  | .hbm, ⟨26, _⟩ => ⟨S2x1024x472, .f32⟩
  | .hbm, ⟨27, _⟩ => ⟨S2x1024x472, .f32⟩
  | .hbm, ⟨28, _⟩ => ⟨S_, .f32⟩
  | .hbm, ⟨29, _⟩ => ⟨S2x1024x472, .f32⟩
  | .hbm, ⟨30, _⟩ => ⟨S2x1024x472, .f32⟩
  | .hbm, ⟨31, _⟩ => ⟨S2x1024x472, .f32⟩
  | .hbm, ⟨32, _⟩ => ⟨S_, .f32⟩
  | .hbm, ⟨33, _⟩ => ⟨S2x1024x472, .f32⟩
  | .hbm, ⟨34, _⟩ => ⟨S2x1024x472, .f32⟩
  | .hbm, ⟨35, _⟩ => ⟨S2x1024x472, .f32⟩
  | .hbm, ⟨36, _⟩ => ⟨S_, .f32⟩
  | .hbm, ⟨37, _⟩ => ⟨S2x1024x472, .f32⟩
  | .hbm, ⟨38, _⟩ => ⟨S2x1024x472, .f32⟩
  | _, _ => ⟨S1x1024x472, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S1x256x1024 : Shape := ⟨3, ![1, 256, 1024]⟩
abbrev S2x256x1024 : Shape := ⟨3, ![2, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S1x256x1024 : Shape := ⟨3, ![1, 256, 1024]⟩
abbrev S2x256x1024 : Shape := ⟨3, ![2, 256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S1x1024x1408 : Shape := ⟨3, ![1, 1024, 1408]⟩
abbrev S2x1024x1408 : Shape := ⟨3, ![2, 1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S1x1024x1408 : Shape := ⟨3, ![1, 1024, 1408]⟩
abbrev S2x1024x1408 : Shape := ⟨3, ![2, 1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S_, .f32⟩
  | .hbm, ⟨7, _⟩ => ⟨S2x1024x1408, .f32⟩
  | .hbm, ⟨8, _⟩ => ⟨S2x1024x1408, .f32⟩
  | .hbm, ⟨9, _⟩ => ⟨S_, .f32⟩
  | .hbm, ⟨10, _⟩ => ⟨S2x1024x1408, .f32⟩
  | .hbm, ⟨11, _⟩ => ⟨S2x1024x1408, .f32⟩
  | .hbm, ⟨12, _⟩ => ⟨S2x1024x1408, .f32⟩
  | .hbm, ⟨13, _⟩ => ⟨S_, .f32⟩
  | .hbm, ⟨14, _⟩ => ⟨S2x1024x1408, .f32⟩
  | .hbm, ⟨15, _⟩ => ⟨S2x1024x1408, .f32⟩
  | .hbm, ⟨16, _⟩ => ⟨S2x1024x1408, .f32⟩
  | .hbm, ⟨17, _⟩ => ⟨S_, .f32⟩
  | .hbm, ⟨18, _⟩ => ⟨S2x1024x1408, .f32⟩
  | .hbm, ⟨19, _⟩ => ⟨S2x1024x1408, .f32⟩
  | .hbm, ⟨20, _⟩ => ⟨S2x1024x1408, .f32⟩
  | .hbm, ⟨21, _⟩ => ⟨S_, .f32⟩
  | .hbm, ⟨22, _⟩ => ⟨S2x1024x1408, .f32⟩
  | .hbm, ⟨23, _⟩ => ⟨S2x1024x1408, .f32⟩
  | .hbm, ⟨24, _⟩ => ⟨S_, .f32⟩
  | .hbm, ⟨25, _⟩ => ⟨S2x1024x1408, .f32⟩
  | .hbm, ⟨26, _⟩ => ⟨S2x1024x1408, .f32⟩
  | .hbm, ⟨27, _⟩ => ⟨S2x1024x1408, .f32⟩
  | .hbm, ⟨28, _⟩ => ⟨S_, .f32⟩
  | .hbm, ⟨29, _⟩ => ⟨S2x1024x1408, .f32⟩
  | .hbm, ⟨30, _⟩ => ⟨S2x1024x1408, .f32⟩
  | .hbm, ⟨31, _⟩ => ⟨S2x1024x1408, .f32⟩
  | .hbm, ⟨32, _⟩ => ⟨S_, .f32⟩
  | .hbm, ⟨33, _⟩ => ⟨S2x1024x1408, .f32⟩
  | .hbm, ⟨34, _⟩ => ⟨S2x1024x1408, .f32⟩
  | .hbm, ⟨35, _⟩ => ⟨S2x1024x1408, .f32⟩
  | .hbm, ⟨36, _⟩ => ⟨S_, .f32⟩
  | .hbm, ⟨37, _⟩ => ⟨S2x1024x1408, .f32⟩
  | .hbm, ⟨38, _⟩ => ⟨S2x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S1x704x1024 : Shape := ⟨3, ![1, 704, 1024]⟩
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S1x704x1024 : Shape := ⟨3, ![1, 704, 1024]⟩
abbrev S2x704x1024 : Shape := ⟨3, ![2, 704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S_, .f32⟩
  | .hbm, ⟨7, _⟩ => ⟨S2x704x1024, .f32⟩
  | .hbm, ⟨8, _⟩ => ⟨S2x704x1024, .f32⟩
  | .hbm, ⟨9, _⟩ => ⟨S_, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S_, .f32⟩
  | .hbm, ⟨14, _⟩ => ⟨S2x704x1024, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S_, .f32⟩
  | .hbm, ⟨25, _⟩ => ⟨S2x704x1024, .f32⟩
  | .hbm, ⟨26, _⟩ => ⟨S2x704x1024, .f32⟩
  | .hbm, ⟨27, _⟩ => ⟨S2x704x1024, .f32⟩
  | .hbm, ⟨28, _⟩ => ⟨S_, .f32⟩
  | .hbm, ⟨29, _⟩ => ⟨S2x704x1024, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.GqaRun.lean ====
/- The run of the whole program: every buffer ends at the contents of the last boundary, and what those contents are,
   traced from the results back to the launch through the two calls and the host operations around them. -/
module
public import proofs.«01_k».proof.Proof.Gen.KernelIdeal.Frame
public import Idealize.ShloMosaic.Lib.StableHlo.Run
@[expose] public section
set_option maxRecDepth 16384
noncomputable section
namespace Cert.KernelIdeal.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
variable (m : (ℓ : Loc nD τ sig) → Buf (Elt F) ℓ) (ρ : Dev nD → PrngReg) (c : Dev nD)

local notation "𝕄" => MT nD τ sig Unit (Elt F) ℕ (UR sig nD τ) ℕ

/-- The constant by which the host scales the queries, and in the end their gradients. -/
def qscale : FVec F S_ .f32 := Host.divf (constant S_ .f32 0x3E000000#32) (Host.log (constant S_ .f32 0x40000000#32))

theorem W1_scale : W1 m ρ c (Proc.devRef .tc main_v1) = qscale (F := F) := by
  show StableHlo.after hostOps0 (W0 m ρ c) (Proc.devRef .tc main_v1) = _
  after_results
  rfl

theorem W1_q : W1 m ρ c (Proc.devRef .tc main_v7)
    = truncf .bf16 (transpose S4x4096x64 [1, 0, 2] (mulf (shapeCast S4096x4x64 (m ((c : Thread nD τ).loc main_arg0) : FVec F S1x4096x2x2x64 .f32) shapeCasts_S1x4096x2x2x64_S4096x4x64)
        (broadcastInDim S4096x4x64 ![] bcast_S_S4096x4x64 (qscale (F := F)))) transposes_S4096x4x64_S4x4096x64_1_0_2) bitsLt_bf16_f32 := by
  show StableHlo.after hostOps0 (W0 m ρ c) (Proc.devRef .tc main_v7) = _
  after_results
  rfl

theorem W1_k : W1 m ρ c (Proc.devRef .tc main_v10)
    = truncf .bf16 (transpose S2x4096x64 [1, 0, 2] (shapeCast S4096x2x64 (m ((c : Thread nD τ).loc main_arg1) : FVec F S1x4096x2x64 .f32) shapeCasts_S1x4096x2x64_S4096x2x64)
        transposes_S4096x2x64_S2x4096x64_1_0_2) bitsLt_bf16_f32 := by
  show StableHlo.after hostOps0 (W0 m ρ c) (Proc.devRef .tc main_v10) = _
  after_results
  rfl

theorem W1_v : W1 m ρ c (Proc.devRef .tc main_v13)
    = truncf .bf16 (transpose S2x4096x64 [1, 0, 2] (shapeCast S4096x2x64 (m ((c : Thread nD τ).loc main_arg2) : FVec F S1x4096x2x64 .f32) shapeCasts_S1x4096x2x64_S4096x2x64)
        transposes_S4096x2x64_S2x4096x64_1_0_2) bitsLt_bf16_f32 := by
  show StableHlo.after hostOps0 (W0 m ρ c) (Proc.devRef .tc main_v13) = _
  after_results
  rfl

/-- The second call's inputs: the three prepared arrays, the first call's two results, and the output gradient. -/
theorem W2_q : W2 m ρ c (Proc.devRef .tc main_v7) = W1 m ρ c (Proc.devRef .tc main_v7) := W2_of m ρ c main_v7 (by decide)
theorem W2_k : W2 m ρ c (Proc.devRef .tc main_v10) = W1 m ρ c (Proc.devRef .tc main_v10) := W2_of m ρ c main_v10 (by decide)
theorem W2_v : W2 m ρ c (Proc.devRef .tc main_v13) = W1 m ρ c (Proc.devRef .tc main_v13) := W2_of m ρ c main_v13 (by decide)
theorem W2_o : W2 m ρ c (Proc.devRef .tc main_v14_0) = (dat0 (V1 m ρ) c).arrAt 3 cfg0.N := W2_arr m ρ c 3
theorem W2_l : W2 m ρ c (Proc.devRef .tc main_v14_1) = (dat0 (V1 m ρ) c).arrAt 4 cfg0.N := W2_arr m ρ c 4
theorem W2_g : W2 m ρ c (Proc.devRef .tc main_arg3) = m ((c : Thread nD τ).loc main_arg3) := W2_args m ρ c main_arg3 (by decide)

/-- The four results at the end. -/
theorem W4_o : W4 m ρ c (Proc.devRef .tc main_v14_0) = (dat0 (V1 m ρ) c).arrAt 3 cfg0.N :=
  (W4_of m ρ c main_v14_0 (by decide)).trans ((W3_of m ρ c main_v14_0 (by decide)).trans (W2_o m ρ c))
theorem W4_dk : W4 m ρ c (Proc.devRef .tc main_v15_1) = (dat1 (V2 m ρ) c).arrAt 7 cfg1.N :=
  (W4_of m ρ c main_v15_1 (by decide)).trans (W3_arr m ρ c 7)
theorem W4_dv : W4 m ρ c (Proc.devRef .tc main_v15_2) = (dat1 (V2 m ρ) c).arrAt 8 cfg1.N :=
  (W4_of m ρ c main_v15_2 (by decide)).trans (W3_arr m ρ c 8)
theorem W3_scale : W3 m ρ c (Proc.devRef .tc main_v1) = qscale (F := F) :=
  (W3_of m ρ c main_v1 (by decide)).trans ((W2_of m ρ c main_v1 (by decide)).trans (W1_scale m ρ c))
theorem W4_dq : W4 m ρ c (Proc.devRef .tc main_v18)
    = mulf ((dat1 (V2 m ρ) c).arrAt 6 cfg1.N : FVec F S4x4096x64 .f32) (broadcastInDim S4x4096x64 ![] bcast_S_S4x4096x64 (qscale (F := F))) := by
  show StableHlo.after hostOps2 (W3 m ρ c) (Proc.devRef .tc main_v18) = _
  after_results
  rw [W3_scale, show W3 m ρ c (Proc.devRef .tc main_v15_0) = (dat1 (V2 m ρ) c).arrAt 6 cfg1.N from W3_arr m ρ c 6]
  rfl

theorem run : θ_run defs (onTc (τ := τ) (main (F := F))) ⟨m, fun _ => 0, ρ⟩ (fun r => ∀ c : Dev nD,
      (∀ b ∈ Pipeline.ucRefs τ sig, r.2.mem (((c : Thread nD τ)).1, b) = W4 m ρ c b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.KernelIdeal.Val
end
-- ==== Proof.Softmax.lean ====
/-
  One row of softmax attention over the reals, and the extended-real expressions that compute it.

  A row has real scores `s j`. Its weights are `exp (s j) / ∑ exp (s l)`. The kernel works in base two on scores
  `t j` with `s j = t j * log 2`, shifted by some real `M` (the row's maximum, but any shift does); it keeps
  `lse t = log₂ ∑ 2 ^ t l` and recovers the weights as `2 ^ (t j - lse t)`. The reference works in base `e`, also
  shifted. Each lemma says that one such expression, with real inputs, is the plain real one.
-/
module

public import Idealize.ShloMosaic.Lib.IdealHost

@[expose] public section

noncomputable section

namespace Cert.Attn

open Idealize.ShloMosaic
open scoped BigOperators

/-- The bit pattern a maximum starts from is `⊥`. -/
theorem neg_inf : Ideal.ofBits .f32 0xFF800000#32 = ⊥ := by simp [Ideal.ofBits, Ideal.ieee]

theorem exp2_def (x : Ideal .f32) : FloatOps.exp2 x = Ideal.exp2 x := rfl

/-- A finite sum of reals read as extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, taken from `⊥`, is a real. -/
theorem fold_max_real {n : ℕ} (f : Fin (n + 1) → ℝ) :
    ∃ M : ℝ, Finset.univ.fold max (⊥ : EReal) (fun i => (f i : EReal)) = M := by
  classical
  have key : ∀ s : Finset (Fin (n + 1)), s.Nonempty →
      ∃ M : ℝ, s.fold max (⊥ : EReal) (fun i => (f i : EReal)) = M := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact key _ Finset.univ_nonempty

/-- The query head at place `g` of the pair `p`: the heads `2p` and `2p + 1` read the key/value head `p`. -/
def pair (p g : Fin 2) : Fin 4 := ⟨2 * p.val + g.val, by omega⟩

theorem col_lt (h : Fin 4) (d : Fin 64) : 64 * h.val + d.val < 256 := by omega
theorem gcol_lt (h : Fin 4) (d : Fin 64) : 256 + (64 * h.val + d.val) < 1024 := by omega
theorem lcol_lt (h : Fin 4) (d : Fin 64) : 768 + (64 * h.val + d.val) < 1024 := by omega

/-- The softmax weights of a row. -/
def weight {n : ℕ} (s : Fin n → ℝ) (j : Fin n) : ℝ := Real.exp (s j) / ∑ l, Real.exp (s l)

/-- The base-two logarithm of the sum of the powers of two. -/
def lse {n : ℕ} (t : Fin n → ℝ) : ℝ := Real.log (∑ l, Real.exp (t l * Real.log 2)) * (Real.log 2)⁻¹

section
variable {n : ℕ}

theorem sum_exp_pos (s : Fin (n + 1) → ℝ) : 0 < ∑ l, Real.exp (s l) :=
  Finset.sum_pos (fun _ _ => Real.exp_pos _) Finset.univ_nonempty

theorem log_two_ne : Real.log 2 ≠ 0 := (Real.log_pos one_lt_two).ne'

/-- Weights do not see a shift of the scores. -/
theorem weight_shift (s : Fin n → ℝ) (M : ℝ) (j : Fin n) :
    Real.exp (s j - M) / ∑ l, Real.exp (s l - M) = weight s j := by
  unfold weight
  simp only [Real.exp_sub, ← Finset.sum_div]
  exact div_div_div_cancel_right₀ (Real.exp_pos M).ne' _ _

theorem rpow_two (x : ℝ) : Real.rpow 2 x = Real.exp (x * Real.log 2) := by
  rw [mul_comm]; exact Real.rpow_def_of_pos two_pos x

theorem div_real {x y : ℝ} (h : y ≠ 0) : Ideal.div (x : EReal) (y : EReal) = ((x / y : ℝ) : EReal) := by
  rw [Ideal.div_coe h, ← EReal.coe_mul]; congr 1; ring

/-- The kernel's forward row: powers of two of the shifted scores against the values, over their sum. -/
theorem row_out (t s : Fin (n + 1) → ℝ) (hs : ∀ j, s j = t j * Real.log 2) (M : ℝ) (v : Fin (n + 1) → ℝ) :
    Ideal.div (∑ j, Ideal.exp2 ((t j : EReal) - (M : EReal)) * (v j : EReal)) (∑ j, Ideal.exp2 ((t j : EReal) - (M : EReal)))
      = ((∑ j, weight s j * v j : ℝ) : EReal) := by
  simp only [← EReal.coe_sub, Ideal.exp2_coe, ← EReal.coe_mul, ← coe_sum, rpow_two, sub_mul, ← hs]
  rw [div_real (sum_exp_pos fun j => s j - M * Real.log 2).ne', Finset.sum_div]
  congr 1
  refine Finset.sum_congr rfl fun j _ => ?_
  rw [← weight_shift s (M * Real.log 2) j]; ring

/-- The kernel's saved row statistic. -/
theorem row_lse (t : Fin (n + 1) → ℝ) (M : ℝ) :
    (M : EReal) + Ideal.log (∑ j, Ideal.exp2 ((t j : EReal) - (M : EReal))) * (((Real.log 2)⁻¹ : ℝ) : EReal)
      = ((lse t : ℝ) : EReal) := by
  simp only [← EReal.coe_sub, Ideal.exp2_coe, ← coe_sum, rpow_two]
  rw [Ideal.log_coe, if_neg (sum_exp_pos fun j => (t j - M) * Real.log 2).not_ge, ← EReal.coe_mul, ← EReal.coe_add]
  congr 1
  have h := sum_exp_pos fun j => t j * Real.log 2
  simp only [sub_mul, Real.exp_sub, ← Finset.sum_div]
  rw [Real.log_div h.ne' (Real.exp_pos _).ne', Real.log_exp]
  unfold lse
  have h2 := log_two_ne
  field_simp
  ring_nf

/-- The kernel's backward weights, from the saved statistic. -/
theorem row_weight (t s : Fin (n + 1) → ℝ) (hs : ∀ j, s j = t j * Real.log 2) (j : Fin (n + 1)) :
    Ideal.exp2 ((t j : EReal) - ((lse t : ℝ) : EReal)) = ((weight s j : ℝ) : EReal) := by
  rw [← EReal.coe_sub, Ideal.exp2_coe, rpow_two]
  congr 1
  have h := sum_exp_pos fun j => t j * Real.log 2
  rw [sub_mul, lse, inv_mul_cancel_right₀ log_two_ne, Real.exp_sub, Real.exp_log h]
  unfold weight
  simp only [hs]

/-- The reference's weights. -/
theorem ref_weight (s : Fin (n + 1) → ℝ) (M : ℝ) (j : Fin (n + 1)) :
    Ideal.div (Ideal.exp ((s j : EReal) - (M : EReal))) (∑ l, Ideal.exp ((s l : EReal) - (M : EReal)))
      = ((weight s j : ℝ) : EReal) := by
  simp only [← EReal.coe_sub, Ideal.exp_coe, ← coe_sum]
  rw [div_real (sum_exp_pos fun j => s j - M).ne', weight_shift]

/-- The reference's gradient of the scores of one row from the gradient `g` of its weights. -/
theorem ref_grad (s : Fin (n + 1) → ℝ) (M : ℝ) (g : Fin (n + 1) → ℝ) (j : Fin (n + 1)) :
    (Ideal.div (g j : EReal) (∑ l, Ideal.exp ((s l : EReal) - (M : EReal)))
        + -(∑ k, (g k : EReal) * Ideal.div 1 ((∑ l, Ideal.exp ((s l : EReal) - (M : EReal))) * (∑ l, Ideal.exp ((s l : EReal) - (M : EReal))))
              * Ideal.exp ((s k : EReal) - (M : EReal))))
      * Ideal.exp ((s j : EReal) - (M : EReal))
      = ((weight s j * (g j - ∑ k, weight s k * g k) : ℝ) : EReal) := by
  simp only [← EReal.coe_sub, Ideal.exp_coe, ← coe_sum, ← EReal.coe_mul]
  have h := (sum_exp_pos fun j => s j - M).ne'
  rw [div_real h, show (1 : EReal) = ((1 : ℝ) : EReal) from rfl, div_real (mul_ne_zero h h)]
  simp only [← EReal.coe_mul, ← coe_sum, ← EReal.coe_neg, ← EReal.coe_add]
  congr 1
  simp only [← weight_shift s M]
  generalize (∑ l, Real.exp (s l - M)) = Z at h ⊢
  have e : ∑ k, g k * (1 / (Z * Z)) * Real.exp (s k - M) = (∑ k, Real.exp (s k - M) / Z * g k) / Z := by
    rw [Finset.sum_div]
    exact Finset.sum_congr rfl fun k _ => by field_simp
  rw [e]
  field_simp
  ring

end

/-- The scores of a row of queries against the keys, in natural base. -/
def score {n m : ℕ} (q : Fin m → ℝ) (K : Fin n → Fin m → ℝ) (j : Fin n) : ℝ := (∑ e, q e * K j e) * Real.log 2

/-- The gradient of a row's scores: weight times (output gradient against the value, less output gradient against the output). -/
def dscore {n m l : ℕ} (q : Fin m → ℝ) (K : Fin n → Fin m → ℝ) (V : Fin n → Fin l → ℝ) (g o : Fin l → ℝ) (j : Fin n) : ℝ :=
  weight (score q K) j * (∑ d, g d * V j d - ∑ d, g d * o d) * Real.log 2

end Cert.Attn

end
-- ==== Proof.GqaForward.lean ====
/- What one point of the forward call leaves in its two blocks, for finite queries, keys and values: every row of the output
   block is the softmax-weighted mean of the values, and every row statistic is the base-two log-sum-exp of the scores. -/
module
public import proofs.«01_k».proof.Proof.Gen.KernelIdeal.Frame
public import proofs.«01_k».proof.Proof.Softmax
public import Idealize.ShloMosaic.Lib.Pipeline.ValueKit
@[expose] public section
set_option maxRecDepth 16384
noncomputable section
open Idealize.ShloMosaic Idealize.ShloMosaic.TcCoe Idealize.SL.Sem Cert.Attn
namespace Cert.KernelIdeal.Val
open Cert.KernelIdeal Cert.KernelIdeal.Gen

/-- The named constants of the program are the reals they stand for. -/
theorem named_log2e : (Named.named (F := Ideal) κ "log2e" 0x3FB8AA3B#32 : Ideal .f32) = (((Real.log 2)⁻¹ : ℝ) : EReal) := by
  show (match κ "log2e" with | some v => v | none => Ideal.ofBits .f32 0x3FB8AA3B#32) = _
  simp only [κ]

theorem named_ln2 : (Named.named (F := Ideal) κ "ln2" 0x3F317218#32 : Ideal .f32) = ((Real.log 2 : ℝ) : EReal) := by
  show (match κ "ln2" with | some v => v | none => Ideal.ofBits .f32 0x3F317218#32) = _
  simp only [κ]

/-- One head of one block: the output row. -/
theorem head_out (q : Vec Ideal S1x256x64 .bf16) (k v : Vec Ideal S1x4096x64 .bf16)
    (Q : Fin 256 → Fin 64 → ℝ) (K V : Fin 4096 → Fin 64 → ℝ) (hq : ∀ r e, q (ix3 0 r e) = (Q r e : EReal))
    (hk : ∀ j e, k (ix3 0 j e) = (K j e : EReal)) (hv : ∀ j e, v (ix3 0 j e) = (V j e : EReal)) (r : Fin 256) (d : Fin 64) :
    k0_pay5 (F := Ideal) q k v (ix2 r d)
      = ((∑ j, weight (fun j => (∑ e, Q r e * K j e) * Real.log 2) j * V j d : ℝ) : EReal) := by
  pointwise [k0_pay5, k0_pay4, k0_pay3, k0_pay2, k0_pay1]
  simp only [hq, hk, hv, ← EReal.coe_mul, ← coe_sum]
  obtain ⟨M, hM⟩ := fold_max_real (fun j => ∑ e, Q r e * K j e)
  simp only [neg_inf, hM, exp2_def]
  exact row_out _ _ (fun _ => rfl) M _

theorem stat_at (a b : FVec Ideal S256x1 .f32) (c : Ideal .f32) (r : Fin 256) :
    k0_pay20 (F := Ideal) a b c (ix3 0 r 0) = ((a (ix2 r 0) : EReal) + (b (ix2 r 0) : EReal) * (c : EReal) : EReal) := by
  pointwise [k0_pay20]

section
variable (q : Vec Ideal S1x256x64 .bf16) (k : Vec Ideal S1x4096x64 .bf16)
  (Q : Fin 256 → Fin 64 → ℝ) (K : Fin 4096 → Fin 64 → ℝ) (hq : ∀ r e, q (ix3 0 r e) = (Q r e : EReal))
  (hk : ∀ j e, k (ix3 0 j e) = (K j e : EReal)) (r : Fin 256) (M : ℝ)
  (hM : Finset.univ.fold max (⊥ : EReal) (fun j : Fin 4096 => ((∑ e, Q r e * K j e : ℝ) : EReal)) = M)
include hq hk hM

theorem max_at : k0_pay15 (F := Ideal) q k (ix2 r 0) = (M : EReal) := by
  pointwise [k0_pay15, k0_pay14]
  simp only [hq, hk, ← EReal.coe_mul, ← coe_sum]
  simp only [neg_inf, hM]

theorem logsum_at : k0_pay19 (F := Ideal) q k (ix2 r 0)
    = Ideal.log (∑ j : Fin 4096, Ideal.exp2 (((∑ e, Q r e * K j e : ℝ) : EReal) - (M : EReal))) := by
  pointwise [k0_pay19, k0_pay17, k0_pay16, k0_pay14]
  simp only [hq, hk, ← EReal.coe_mul, ← coe_sum]
  simp only [exp2_def, max_at q k Q K hq hk r M hM]
end

/-- One head of one block: the row statistic. -/
theorem head_lse (q : Vec Ideal S1x256x64 .bf16) (k : Vec Ideal S1x4096x64 .bf16)
    (Q : Fin 256 → Fin 64 → ℝ) (K : Fin 4096 → Fin 64 → ℝ) (hq : ∀ r e, q (ix3 0 r e) = (Q r e : EReal))
    (hk : ∀ j e, k (ix3 0 j e) = (K j e : EReal)) (r : Fin 256) :
    k0_pay6 (F := Ideal) q k (ix3 0 r 0) = ((lse (fun j => ∑ e, Q r e * K j e) : ℝ) : EReal) := by
  obtain ⟨M, hM⟩ := fold_max_real (fun j => ∑ e, Q r e * K j e)
  refine (stat_at (k0_pay15 q k) (k0_pay19 q k) (Named.named κ "log2e" 0x3FB8AA3B#32) r).trans ?_
  rw [max_at q k Q K hq hk r M hM, logsum_at q k Q K hq hk r M hM, named_log2e]
  exact row_lse _ M

/-- The key/value head that a query head reads. -/
def kvOf (h : Fin 4) : Fin 2 := ⟨h.val / 2, by omega⟩

/-- The four heads side by side. -/
theorem cat_at (A : Fin 4 → FVec Ideal S256x64 .f32) (q : Vec Ideal S1x256x64 .bf16) (k v : Vec Ideal S1x4096x64 .bf16)
    (h3 : A 3 = k0_pay5 q k v) (h : Fin 4) (r : Fin 256) (d : Fin 64) :
    k0_pay26 (F := Ideal) (A 0) (A 1) (A 2) q k v (ix2 r ⟨64 * h.val + d.val, by omega⟩) = A h (ix2 r d) := by
  have e : k0_pay26 (F := Ideal) (A 0) (A 1) (A 2) q k v
      = concatenate S256x256 1 [⟨S256x64, A 0⟩, ⟨S256x64, A 1⟩, ⟨S256x64, A 2⟩, ⟨S256x64, A 3⟩]
          concatenates_S256x64_S256x64_S256x64_S256x64_S256x256_d1 := by rw [h3]; rfl
  rw [e]
  obtain rfl | rfl | rfl | rfl : h = 0 ∨ h = 1 ∨ h = 2 ∨ h = 3 := by omega
  all_goals
    pointwise
    all_goals split_ifs <;> first
      | (exfalso; omega)
      | contradiction
      | exact congrArg _ (congrArg _ (Fin.ext (by dsimp only; omega)))
      | rfl

section
variable (x0 : Vec Ideal S4x256x64 .bf16) (x1 x2 : Vec Ideal S2x4096x64 .bf16)
  (Q : Fin 4 → Fin 256 → Fin 64 → ℝ) (K V : Fin 2 → Fin 4096 → Fin 64 → ℝ)
  (hq : ∀ h r e, x0 (ix3 h r e) = (Q h r e : EReal)) (hk : ∀ h j e, x1 (ix3 h j e) = (K h j e : EReal))
  (hv : ∀ h j e, x2 (ix3 h j e) = (V h j e : EReal))

include hq hk hv in
theorem out_at (h : Fin 4) (r : Fin 256) (d : Fin 64) :
    out0_3 x0 x1 x2 (ix2 r ⟨64 * h.val + d.val, by omega⟩)
      = ((∑ j, weight (fun j => (∑ e, Q h r e * K (kvOf h) j e) * Real.log 2) j * V (kvOf h) j d : ℝ) : EReal) := by
  unfold_out out0_3
  frame_out
  refine (cat_at (fun h => match h with
    | 0 => k0_pay5 (View.ld x0 r0_0) (View.ld x1 r0_1) (View.ld x2 r0_1)
    | 1 => k0_pay5 (View.ld x0 r0_3) (View.ld x1 r0_1) (View.ld x2 r0_1)
    | 2 => k0_pay5 (View.ld x0 r0_5) (View.ld x1 r0_6) (View.ld x2 r0_6)
    | 3 => k0_pay5 (View.ld x0 r0_8) (View.ld x1 r0_6) (View.ld x2 r0_6)) _ _ _ rfl h r d).trans ?_
  have q0 : ∀ a b, View.ld x0 r0_0 (ix3 0 a b) = x0 (ix3 0 a b) := fun a b => by pointwise
  have q1 : ∀ a b, View.ld x0 r0_3 (ix3 0 a b) = x0 (ix3 1 a b) := fun a b => by pointwise
  have q2 : ∀ a b, View.ld x0 r0_5 (ix3 0 a b) = x0 (ix3 2 a b) := fun a b => by pointwise
  have q3 : ∀ a b, View.ld x0 r0_8 (ix3 0 a b) = x0 (ix3 3 a b) := fun a b => by pointwise
  have k0 : ∀ (x : Vec Ideal S2x4096x64 .bf16) a b, View.ld x r0_1 (ix3 0 a b) = x (ix3 0 a b) := fun x a b => by pointwise
  have k1 : ∀ (x : Vec Ideal S2x4096x64 .bf16) a b, View.ld x r0_6 (ix3 0 a b) = x (ix3 1 a b) := fun x a b => by pointwise
  exact match h with
    | 0 => head_out _ _ _ _ _ _ (fun a b => (q0 a b).trans (hq 0 a b)) (fun a b => (k0 x1 a b).trans (hk 0 a b)) (fun a b => (k0 x2 a b).trans (hv 0 a b)) r d
    | 1 => head_out _ _ _ _ _ _ (fun a b => (q1 a b).trans (hq 1 a b)) (fun a b => (k0 x1 a b).trans (hk 0 a b)) (fun a b => (k0 x2 a b).trans (hv 0 a b)) r d
    | 2 => head_out _ _ _ _ _ _ (fun a b => (q2 a b).trans (hq 2 a b)) (fun a b => (k1 x1 a b).trans (hk 1 a b)) (fun a b => (k1 x2 a b).trans (hv 1 a b)) r d
    | 3 => head_out _ _ _ _ _ _ (fun a b => (q3 a b).trans (hq 3 a b)) (fun a b => (k1 x1 a b).trans (hk 1 a b)) (fun a b => (k1 x2 a b).trans (hv 1 a b)) r d

include hq hk in
theorem lse_at (h : Fin 4) (r : Fin 256) :
    out0_4 x0 x1 x2 (ix3 h r 0) = ((lse (fun j => ∑ e, Q h r e * K (kvOf h) j e) : ℝ) : EReal) := by
  unfold_out out0_4
  have q0 : ∀ a b, View.ld x0 r0_0 (ix3 0 a b) = x0 (ix3 0 a b) := fun a b => by pointwise
  have q1 : ∀ a b, View.ld x0 r0_3 (ix3 0 a b) = x0 (ix3 1 a b) := fun a b => by pointwise
  have q2 : ∀ a b, View.ld x0 r0_5 (ix3 0 a b) = x0 (ix3 2 a b) := fun a b => by pointwise
  have q3 : ∀ a b, View.ld x0 r0_8 (ix3 0 a b) = x0 (ix3 3 a b) := fun a b => by pointwise
  have k0 : ∀ (x : Vec Ideal S2x4096x64 .bf16) a b, View.ld x r0_1 (ix3 0 a b) = x (ix3 0 a b) := fun x a b => by pointwise
  have k1 : ∀ (x : Vec Ideal S2x4096x64 .bf16) a b, View.ld x r0_6 (ix3 0 a b) = x (ix3 1 a b) := fun x a b => by pointwise
  canon_tiles x hx
  all_goals
    have hr : x = ix3 0 r 0 := by
      obtain ⟨a, b, d, rfl⟩ : ∃ a b d, x = ix3 a b d := ⟨x 0, x 1, x 2, by funext i; fin_cases i <;> rfl⟩
      congr 1 <;> apply Fin.ext <;> simp at * <;> omega
    subst hr
  · obtain rfl : h = 3 := by apply Fin.ext; simp at *; omega
    exact head_lse _ _ _ _ (fun a b => (q3 a b).trans (hq 3 a b)) (fun a b => (k1 x1 a b).trans (hk 1 a b)) r
  · obtain rfl : h = 2 := by apply Fin.ext; simp at *; omega
    exact head_lse _ _ _ _ (fun a b => (q2 a b).trans (hq 2 a b)) (fun a b => (k1 x1 a b).trans (hk 1 a b)) r
  · obtain rfl : h = 1 := by apply Fin.ext; simp at *; omega
    exact head_lse _ _ _ _ (fun a b => (q1 a b).trans (hq 1 a b)) (fun a b => (k0 x1 a b).trans (hk 0 a b)) r
  · obtain rfl : h = 0 := by apply Fin.ext; simp at *; omega
    exact head_lse _ _ _ _ (fun a b => (q0 a b).trans (hq 0 a b)) (fun a b => (k0 x1 a b).trans (hk 0 a b)) r
end

end Cert.KernelIdeal.Val
end
-- ==== Proof.GqaForwardArrays.lean ====
/- The two arrays that the forward call leaves, entry by entry, for finite queries, keys and values. -/
module
public import proofs.«01_k».proof.Proof.GqaForward
@[expose] public section
set_option maxRecDepth 16384
noncomputable section
open Idealize.ShloMosaic Idealize.ShloMosaic.TcCoe Idealize.SL.Sem Cert.Attn
namespace Cert.KernelIdeal.Val
open Cert.KernelIdeal Cert.KernelIdeal.Gen

/-- Attention of four query heads over two key/value heads on base-two scores: the output of head `h` at row `i`. -/
def outR (Q : Fin 4 → Fin 4096 → Fin 64 → ℝ) (K V : Fin 2 → Fin 4096 → Fin 64 → ℝ) (h : Fin 4) (i : Fin 4096) (d : Fin 64) : ℝ :=
  ∑ j, weight (fun j => (∑ e, Q h i e * K (kvOf h) j e) * Real.log 2) j * V (kvOf h) j d

/-- The statistic of head `h` at row `i`. -/
def lseR (Q : Fin 4 → Fin 4096 → Fin 64 → ℝ) (K : Fin 2 → Fin 4096 → Fin 64 → ℝ) (h : Fin 4) (i : Fin 4096) : ℝ :=
  lse (fun j => ∑ e, Q h i e * K (kvOf h) j e)

/-- The head and the lane of a column of the output. -/
def hd (c : Fin 256) : Fin 4 := ⟨c.val / 64, by omega⟩
def ln (c : Fin 256) : Fin 64 := ⟨c.val % 64, by omega⟩

theorem idx0 : ∀ t : Fin cfg0.N, win0_0.index t = ![0, t.val, 0] ∧ win0_1.index t = ![0, 0, 0] ∧ win0_2.index t = ![0, 0, 0]
    ∧ win0_3.index t = ![t.val, 0] ∧ win0_4.index t = ![0, t.val, 0] :=
  (by decide +kernel : ∀ t : Fin grid0.N, _)

section
variable (V : (c : Dev nD) → (b : Ref sig .tc) → Buf (Elt Ideal) ((c : Thread nD τ).loc b)) (c : Dev nD)
  (Q : Fin 4 → Fin 4096 → Fin 64 → ℝ) (K W : Fin 2 → Fin 4096 → Fin 64 → ℝ)
  (hq : ∀ h r e, (V c (Pipeline.arrRef spec0 0) : Vec Ideal S4x4096x64 .bf16) (ix3 h r e) = (Q h r e : EReal))
  (hk : ∀ h j e, (V c (Pipeline.arrRef spec0 1) : Vec Ideal S2x4096x64 .bf16) (ix3 h j e) = (K h j e : EReal))
  (hv : ∀ h j e, (V c (Pipeline.arrRef spec0 2) : Vec Ideal S2x4096x64 .bf16) (ix3 h j e) = (W h j e : EReal))

include hq in
theorem blk0_0 (t : Fin cfg0.N) (ht : t.val < 16) (h : Fin 4) (r : Fin 256) (e : Fin 64) :
    (iblk0 V c 0 t : Vec Ideal S4x256x64 .bf16) (ix3 h r e) = (Q h ⟨256 * t.val + r.val, by omega⟩ e : EReal) := by
  rw [← hq]
  blk_point [iblk0, idx0 t]

include hk in
theorem blk0_1 (t : Fin cfg0.N) (h : Fin 2) (j : Fin 4096) (e : Fin 64) :
    (iblk0 V c 1 t : Vec Ideal S2x4096x64 .bf16) (ix3 h j e) = (K h j e : EReal) := by
  rw [← hk]
  blk_point [iblk0, idx0 t]

include hv in
theorem blk0_2 (t : Fin cfg0.N) (h : Fin 2) (j : Fin 4096) (e : Fin 64) :
    (iblk0 V c 2 t : Vec Ideal S2x4096x64 .bf16) (ix3 h j e) = (W h j e : EReal) := by
  rw [← hv]
  blk_point [iblk0, idx0 t]

include hq hk hv in
theorem final_out : (dat0 V c).arrAt 3 cfg0.N
    = fun i : S4096x256.Idx => ((outR Q K W (hd (i 1)) (i 0) (ln (i 1)) : ℝ) : EReal) := by
  refine (dat0 V c).arrAt_eq_of_covers 3 _ (by decide +kernel) fun t hf y => ?_
  have ht : t.val < 16 := lt_of_lt_of_eq t.isLt (by decide)
  blk_simp
  rw [after0_3]
  idx_vars y
  suffices H : ∀ (a : Fin 4096) (b : Fin 256), a.val = 256 * t.val + y0.val → b.val = y1.val →
      out0_3 (iblk0 V c 0 t) (iblk0 V c 1 t) (iblk0 V c 2 t) (ix2 y0 y1) = ((outR Q K W (hd b) a (ln b) : ℝ) : EReal) from
    H _ _ (by blk_simp [idx0 t] <;> try omega) (by blk_simp [idx0 t] <;> try omega)
  intro a b ha hb
  obtain rfl : b = y1 := Fin.ext hb
  have ea : a = ⟨256 * t.val + y0.val, by omega⟩ := Fin.ext ha
  rw [ea]
  have hy : b = ⟨64 * (hd b).val + (ln b).val, by simp only [hd, ln]; omega⟩ := Fin.ext (by simp only [hd, ln]; omega)
  refine (congrArg (fun z => out0_3 (iblk0 V c 0 t) (iblk0 V c 1 t) (iblk0 V c 2 t) (ix2 y0 z)) hy).trans ?_
  exact out_at _ _ _ _ K W (blk0_0 V c Q hq t ht) (blk0_1 V c K hk t) (blk0_2 V c W hv t) (hd b) y0 (ln b)

include hq hk in
theorem final_lse : (dat0 V c).arrAt 4 cfg0.N
    = fun i : S4x4096x1.Idx => ((lseR Q K (i 0) (i 1) : ℝ) : EReal) := by
  refine (dat0 V c).arrAt_eq_of_covers 4 _ (by decide +kernel) fun t hf y => ?_
  have ht : t.val < 16 := lt_of_lt_of_eq t.isLt (by decide)
  blk_simp
  rw [after0_4]
  idx_vars y
  suffices H : ∀ (h : Fin 4) (a : Fin 4096), h.val = y0.val → a.val = 256 * t.val + y1.val →
      out0_4 (iblk0 V c 0 t) (iblk0 V c 1 t) (iblk0 V c 2 t) (ix3 y0 y1 y2) = ((lseR Q K h a : ℝ) : EReal) from
    H _ _ (by blk_simp [idx0 t] <;> try omega) (by blk_simp [idx0 t] <;> try omega)
  intro h a hh ha
  obtain rfl : h = y0 := Fin.ext hh
  have ea : a = ⟨256 * t.val + y1.val, by omega⟩ := Fin.ext ha
  rw [ea]
  obtain rfl : y2 = 0 := Subsingleton.elim _ _
  exact lse_at _ _ _ _ K (blk0_0 V c Q hq t ht) (blk0_1 V c K hk t) h y1
end

end Cert.KernelIdeal.Val

end
-- ==== Proof.GqaBackward.lean ====
/- What one point of the backward call adds, head by head, for finite blocks: the gradient rows of the queries, and the
   contributions of the point's rows to the gradients of the keys and of the values. -/
module
public import proofs.«01_k».proof.Proof.GqaForward
@[expose] public section
set_option maxRecDepth 16384
noncomputable section
open Idealize.ShloMosaic Idealize.ShloMosaic.TcCoe Idealize.SL.Sem Cert.Attn
namespace Cert.KernelIdeal.Val
open Cert.KernelIdeal Cert.KernelIdeal.Gen

section
variable (q : Vec Ideal S1x512x64 .bf16) (k v : Vec Ideal S1x4096x64 .bf16) (l : Vec Ideal S1x512x1 .f32) (g o : FVec Ideal S512x64 .f32)
  (Q G O : Fin 512 → Fin 64 → ℝ) (K V : Fin 4096 → Fin 64 → ℝ)
  (hq : ∀ r e, q (ix3 0 r e) = (Q r e : EReal)) (hk : ∀ j e, k (ix3 0 j e) = (K j e : EReal))
  (hv : ∀ j e, v (ix3 0 j e) = (V j e : EReal)) (hg : ∀ r e, g (ix2 r e) = (G r e : EReal))
  (ho : ∀ r e, o (ix2 r e) = (O r e : EReal))
  (hl : ∀ r, l (ix3 0 r 0) = ((lse (fun j => ∑ e, Q r e * K j e) : ℝ) : EReal))

include hq hk hl in
theorem weight_at (r : Fin 512) (j : Fin 4096) :
    k1_pay19 (F := Ideal) (k1_pay18 q k) l (ix2 r j) = ((weight (score (Q r) K) j : ℝ) : EReal) := by
  pointwise [k1_pay19, k1_pay18, k1_pay15, k1_pay16]
  simp only [hq, hk, hl, ← EReal.coe_mul, ← coe_sum, exp2_def]
  exact row_weight (fun j => ∑ e, Q r e * K j e) (score (Q r) K) (fun _ => rfl) j

include hq hk hl hg hv ho in
theorem dscore_at (r : Fin 512) (j : Fin 4096) :
    k1_pay20 (F := Ideal) g o (k1_pay17 v) (k1_pay18 q k) l (ix2 r j) = ((dscore (Q r) K V (G r) (O r) j : ℝ) : EReal) := by
  pointwise [k1_pay20, k1_pay17]
  rw [weight_at q k l Q K hq hk hl r j, named_ln2]
  simp only [hv, hg, ho, ← EReal.coe_mul, ← coe_sum, ← EReal.coe_sub]
  rfl

include hq hk hl hg hv ho in
theorem dq_head (r : Fin 512) (e : Fin 64) :
    k1_pay21 (F := Ideal) g o (k1_pay16 k) (k1_pay17 v) (k1_pay18 q k) l (ix3 0 r e)
      = ((∑ j, dscore (Q r) K V (G r) (O r) j * K j e : ℝ) : EReal) := by
  pointwise [k1_pay21, k1_pay16]
  simp only [hk, dscore_at q k v l g o Q G O K V hq hk hv hg ho hl, ← EReal.coe_mul, ← coe_sum]

include hq hk hl hg hv ho in
theorem dk_head (a : Vec Ideal S1x4096x64 .f32) (j : Fin 4096) (e : Fin 64) :
    k1_pay22 (F := Ideal) g o (k1_pay15 q) (k1_pay17 v) (k1_pay18 q k) l a (ix3 0 j e)
      = (a (ix3 0 j e) : EReal) + ((∑ r, dscore (Q r) K V (G r) (O r) j * Q r e : ℝ) : EReal) := by
  pointwise [k1_pay22, k1_pay15]
  simp only [hq, dscore_at q k v l g o Q G O K V hq hk hv hg ho hl, ← EReal.coe_mul, ← coe_sum]

include hq hk hl hg in
theorem dv_head (a : Vec Ideal S1x4096x64 .f32) (j : Fin 4096) (d : Fin 64) :
    k1_pay23 (F := Ideal) g (k1_pay18 q k) l a (ix3 0 j d)
      = (a (ix3 0 j d) : EReal) + ((∑ r, weight (score (Q r) K) j * G r d : ℝ) : EReal) := by
  pointwise [k1_pay23]
  simp only [hg, weight_at q k l Q K hq hk hl, ← EReal.coe_mul, ← coe_sum]
end

end Cert.KernelIdeal.Val

end
-- ==== Proof.GqaBackwardArrays.lean ====
/- The three arrays that the backward call leaves, entry by entry, for finite queries, keys, values, outputs and output
   gradients: the gradient of every query row, and the gradients of the keys and values summed over the rows of both query
   heads that share them. -/
module
public import proofs.«01_k».proof.Proof.GqaForwardArrays
public import proofs.«01_k».proof.Proof.GqaBackward
@[expose] public section
set_option maxRecDepth 16384
noncomputable section
open Idealize.ShloMosaic Idealize.ShloMosaic.TcCoe Idealize.SL.Sem Cert.Attn
namespace Cert.KernelIdeal.Val
open Cert.KernelIdeal Cert.KernelIdeal.Gen

theorem kvOf_pair (p g : Fin 2) : kvOf (pair p g) = p := Fin.ext (by simp only [kvOf, pair]; omega)

section
variable (Q : Fin 4 → Fin 4096 → Fin 64 → ℝ) (K W : Fin 2 → Fin 4096 → Fin 64 → ℝ) (G O : Fin 4 → Fin 4096 → Fin 64 → ℝ)

/-- The gradient of the scores of head `h`, row `i`, key `j`. -/
def dsR (h : Fin 4) (i j : Fin 4096) : ℝ := dscore (Q h i) (K (kvOf h)) (W (kvOf h)) (G h i) (O h i) j
/-- The gradients of the queries, keys and values. -/
def dqR (h : Fin 4) (i : Fin 4096) (e : Fin 64) : ℝ := ∑ j, dsR Q K W G O h i j * K (kvOf h) j e
def dkR (p : Fin 2) (j : Fin 4096) (e : Fin 64) : ℝ :=
  ∑ i, (dsR Q K W G O (pair p 0) i j * Q (pair p 0) i e + dsR Q K W G O (pair p 1) i j * Q (pair p 1) i e)
def dvR (p : Fin 2) (j : Fin 4096) (d : Fin 64) : ℝ :=
  ∑ i, (weight (score (Q (pair p 0) i) (K (kvOf (pair p 0)))) j * G (pair p 0) i d
    + weight (score (Q (pair p 1) i) (K (kvOf (pair p 1)))) j * G (pair p 1) i d)
end

/-- The two query heads, and the two column halves, of a point's blocks. -/
def qB (g : Fin 2) (x : Vec Ideal S2x512x64 .bf16) : Vec Ideal S1x512x64 .bf16 := match g with
  | 0 => View.ld x (Rect.unit ![0, 0, 0] ![1, 512, 64] inb_S2x512x64_S1x512x64_0_0_0)
  | 1 => View.ld x (Rect.unit ![1, 0, 0] ![1, 512, 64] inb_S2x512x64_S1x512x64_1_0_0)
def lB (g : Fin 2) (x : Vec Ideal S2x512x1 .f32) : Vec Ideal S1x512x1 .f32 := match g with
  | 0 => View.ld x (Rect.unit ![0, 0, 0] ![1, 512, 1] inb_S2x512x1_S1x512x1_0_0_0)
  | 1 => View.ld x (Rect.unit ![1, 0, 0] ![1, 512, 1] inb_S2x512x1_S1x512x1_1_0_0)
def gB (g : Fin 2) (x : Vec Ideal S512x128 .f32) : FVec Ideal S512x64 .f32 := match g with
  | 0 => k1_pay4 x
  | 1 => k1_pay13 x
def oB (g : Fin 2) (x : Vec Ideal S512x128 .f32) : FVec Ideal S512x64 .f32 := match g with
  | 0 => extractStridedSlice S512x64 ![0, 0] (k1_pay3 x) slices_S512x128_o0_0_S512x64
  | 1 => k1_pay14 (k1_pay3 x)

theorem qB_at (g : Fin 2) (x : Vec Ideal S2x512x64 .bf16) (r : Fin 512) (e : Fin 64) :
    qB g x (ix3 0 r e) = x (ix3 g r e) := by
  obtain rfl | rfl : g = 0 ∨ g = 1 := by omega
  · dsimp only [qB]; pointwise
  · dsimp only [qB]; pointwise
theorem lB_at (g : Fin 2) (x : Vec Ideal S2x512x1 .f32) (r : Fin 512) : lB g x (ix3 0 r 0) = x (ix3 g r 0) := by
  obtain rfl | rfl : g = 0 ∨ g = 1 := by omega
  · dsimp only [lB]; pointwise
  · dsimp only [lB]; pointwise
theorem gB_at (g : Fin 2) (x : Vec Ideal S512x128 .f32) (r : Fin 512) (e : Fin 64) :
    gB g x (ix2 r e) = x (ix2 r ⟨64 * g.val + e.val, by omega⟩) := by
  obtain rfl | rfl : g = 0 ∨ g = 1 := by omega
  · dsimp only [gB]; pointwise [k1_pay4]
  · dsimp only [gB]; pointwise [k1_pay13]
theorem oB_at (g : Fin 2) (x : Vec Ideal S512x128 .f32) (r : Fin 512) (e : Fin 64) :
    oB g x (ix2 r e) = x (ix2 r ⟨64 * g.val + e.val, by omega⟩) := by
  obtain rfl | rfl : g = 0 ∨ g = 1 := by omega
  · dsimp only [oB]; pointwise [k1_pay3]
  · dsimp only [oB]; pointwise [k1_pay14, k1_pay3]

theorem zero_dk (y) : k1_pay1 (F := Ideal) y = 0 := by pointwise [k1_pay1]
theorem zero_dv (y) : k1_pay2 (F := Ideal) y = 0 := by pointwise [k1_pay2]

theorem idx1 : ∀ t : Fin cfg1.N, win1_0.index t = ![t.val / 8, t.val % 8, 0] ∧ win1_1.index t = ![t.val / 8, 0, 0]
    ∧ win1_2.index t = ![t.val / 8, 0, 0] ∧ win1_3.index t = ![t.val % 8, t.val / 8] ∧ win1_4.index t = ![t.val / 8, t.val % 8, 0]
    ∧ win1_5.index t = ![t.val % 8, 2 + t.val / 8] ∧ win1_6.index t = ![t.val / 8, t.val % 8, 0]
    ∧ win1_7.index t = ![t.val / 8, 0, 0] ∧ win1_8.index t = ![t.val / 8, 0, 0] :=
  (by decide +kernel : ∀ t : Fin grid1.N, _)

/-- The key/value head of a point and the row of the array at row `r` of its blocks. -/
def hp (t : Fin cfg1.N) : Fin 2 := ⟨t.val / 8, by have h : t.val < 16 := lt_of_lt_of_eq t.isLt (by decide); omega⟩
def row (t : Fin cfg1.N) (r : Fin 512) : Fin 4096 := ⟨t.val % 8 * 512 + r.val, by omega⟩

section
variable (V : (c : Dev nD) → (b : Ref sig .tc) → Buf (Elt Ideal) ((c : Thread nD τ).loc b)) (c : Dev nD)
  (Q : Fin 4 → Fin 4096 → Fin 64 → ℝ) (K W : Fin 2 → Fin 4096 → Fin 64 → ℝ) (G O : Fin 4 → Fin 4096 → Fin 64 → ℝ)
  (hq : ∀ h r e, (V c (Pipeline.arrRef spec1 0) : Vec Ideal S4x4096x64 .bf16) (ix3 h r e) = (Q h r e : EReal))
  (hk : ∀ h j e, (V c (Pipeline.arrRef spec1 1) : Vec Ideal S2x4096x64 .bf16) (ix3 h j e) = (K h j e : EReal))
  (hv : ∀ h j e, (V c (Pipeline.arrRef spec1 2) : Vec Ideal S2x4096x64 .bf16) (ix3 h j e) = (W h j e : EReal))
  (ho : ∀ h r d, (V c (Pipeline.arrRef spec1 3) : Vec Ideal S4096x256 .f32) (ix2 r ⟨64 * h.val + d.val, col_lt h d⟩) = (O h r d : EReal))
  (hl : ∀ h r, (V c (Pipeline.arrRef spec1 4) : Vec Ideal S4x4096x1 .f32) (ix3 h r 0) = (lseR Q K h r : EReal))
  (hg : ∀ h r d, (V c (Pipeline.arrRef spec1 5) : Vec Ideal S4096x1024 .f32) (ix2 r ⟨256 + (64 * h.val + d.val), gcol_lt h d⟩) = (G h r d : EReal))

include hq in
theorem q_at (t : Fin cfg1.N) (g : Fin 2) (r : Fin 512) (e : Fin 64) :
    qB g (iblk1 V c 0 t) (ix3 0 r e) = (Q (pair (hp t) g) (row t r) e : EReal) := by
  rw [← hq]; refine (qB_at g _ r e).trans ?_
  dsimp only [pair, hp, row]
  blk_point [iblk1, idx1 t]
include hk in
theorem k_at (t : Fin cfg1.N) (j : Fin 4096) (e : Fin 64) :
    (iblk1 V c 1 t : Vec Ideal S1x4096x64 .bf16) (ix3 0 j e) = (K (hp t) j e : EReal) := by
  rw [← hk]
  dsimp only [hp]
  blk_point [iblk1, idx1 t]
include hv in
theorem v_at (t : Fin cfg1.N) (j : Fin 4096) (e : Fin 64) :
    (iblk1 V c 2 t : Vec Ideal S1x4096x64 .bf16) (ix3 0 j e) = (W (hp t) j e : EReal) := by
  rw [← hv]
  dsimp only [hp]
  blk_point [iblk1, idx1 t]
include ho in
theorem o_at (t : Fin cfg1.N) (g : Fin 2) (r : Fin 512) (e : Fin 64) :
    oB g (iblk1 V c 3 t) (ix2 r e) = (O (pair (hp t) g) (row t r) e : EReal) := by
  rw [← ho]; refine (oB_at g _ r e).trans ?_
  dsimp only [pair, hp, row]
  blk_point [iblk1, idx1 t]
include hl in
theorem l_at (t : Fin cfg1.N) (g : Fin 2) (r : Fin 512) :
    lB g (iblk1 V c 4 t) (ix3 0 r 0) = ((lse fun j => ∑ e, Q (pair (hp t) g) (row t r) e * K (hp t) j e : ℝ) : EReal) := by
  have h := hl (pair (hp t) g) (row t r)
  rw [lseR, kvOf_pair] at h
  rw [← h]; refine (lB_at g _ r).trans ?_
  dsimp only [pair, hp, row]
  blk_point [iblk1, idx1 t]
include hg in
theorem g_at (t : Fin cfg1.N) (g : Fin 2) (r : Fin 512) (e : Fin 64) :
    gB g (iblk1 V c 5 t) (ix2 r e) = (G (pair (hp t) g) (row t r) e : EReal) := by
  rw [← hg]; refine (gB_at g _ r e).trans ?_
  dsimp only [pair, hp, row]
  blk_point [iblk1, idx1 t]

/-- What a point adds to the gradient of the keys, and to that of the values. -/
def dkPart (t : Fin cfg1.N) (y : S1x4096x64.Idx) : EReal :=
  ((∑ r, (dsR Q K W G O (pair (hp t) 0) (row t r) (y 1) * Q (pair (hp t) 0) (row t r) (y 2)
    + dsR Q K W G O (pair (hp t) 1) (row t r) (y 1) * Q (pair (hp t) 1) (row t r) (y 2)) : ℝ) : EReal)
def dvPart (t : Fin cfg1.N) (y : S1x4096x64.Idx) : EReal :=
  ((∑ r, (weight (score (Q (pair (hp t) 0) (row t r)) (K (kvOf (pair (hp t) 0)))) (y 1) * G (pair (hp t) 0) (row t r) (y 2)
    + weight (score (Q (pair (hp t) 1) (row t r)) (K (kvOf (pair (hp t) 1)))) (y 1) * G (pair (hp t) 1) (row t r) (y 2)) : ℝ) : EReal)

section
include hq hk hv ho hl hg
theorem dk_pay (t : Fin cfg1.N) (a : Vec Ideal S1x4096x64 .f32) (y : S1x4096x64.Idx) :
    k1_pay22 (F := Ideal) (gB 1 (iblk1 V c 5 t)) (oB 1 (iblk1 V c 3 t)) (k1_pay15 (qB 1 (iblk1 V c 0 t))) (k1_pay17 (iblk1 V c 2 t))
      (k1_pay18 (qB 1 (iblk1 V c 0 t)) (iblk1 V c 1 t)) (lB 1 (iblk1 V c 4 t))
      (k1_pay22 (F := Ideal) (gB 0 (iblk1 V c 5 t)) (oB 0 (iblk1 V c 3 t)) (k1_pay15 (qB 0 (iblk1 V c 0 t))) (k1_pay17 (iblk1 V c 2 t))
        (k1_pay18 (qB 0 (iblk1 V c 0 t)) (iblk1 V c 1 t)) (lB 0 (iblk1 V c 4 t)) a) y
      = (a y : EReal) + dkPart Q K W G O t y := by
  idx_vars y
  obtain rfl : y0 = 0 := Subsingleton.elim _ _
  rw [dk_head _ _ _ _ _ _ (fun r => Q (pair (hp t) 1) (row t r)) (fun r => G (pair (hp t) 1) (row t r)) (fun r => O (pair (hp t) 1) (row t r))
      (K (hp t)) (W (hp t)) (q_at V c Q hq t 1) (k_at V c K hk t) (v_at V c W hv t) (g_at V c G hg t 1) (o_at V c O ho t 1) (l_at V c Q K hl t 1),
    dk_head _ _ _ _ _ _ (fun r => Q (pair (hp t) 0) (row t r)) (fun r => G (pair (hp t) 0) (row t r)) (fun r => O (pair (hp t) 0) (row t r))
      (K (hp t)) (W (hp t)) (q_at V c Q hq t 0) (k_at V c K hk t) (v_at V c W hv t) (g_at V c G hg t 0) (o_at V c O ho t 0) (l_at V c Q K hl t 0),
    add_assoc, ← EReal.coe_add, ← Finset.sum_add_distrib]
  simp only [dkPart, dsR, kvOf_pair, ix3_0, ix3_1, ix3_2]
theorem dv_pay (t : Fin cfg1.N) (a : Vec Ideal S1x4096x64 .f32) (y : S1x4096x64.Idx) :
    k1_pay23 (F := Ideal) (gB 1 (iblk1 V c 5 t)) (k1_pay18 (qB 1 (iblk1 V c 0 t)) (iblk1 V c 1 t)) (lB 1 (iblk1 V c 4 t))
      (k1_pay23 (F := Ideal) (gB 0 (iblk1 V c 5 t)) (k1_pay18 (qB 0 (iblk1 V c 0 t)) (iblk1 V c 1 t)) (lB 0 (iblk1 V c 4 t)) a) y
      = (a y : EReal) + dvPart Q K G t y := by
  idx_vars y
  obtain rfl : y0 = 0 := Subsingleton.elim _ _
  rw [dv_head _ _ _ _ (fun r => Q (pair (hp t) 1) (row t r)) (fun r => G (pair (hp t) 1) (row t r))
      (K (hp t)) (q_at V c Q hq t 1) (k_at V c K hk t) (g_at V c G hg t 1) (l_at V c Q K hl t 1),
    dv_head _ _ _ _ (fun r => Q (pair (hp t) 0) (row t r)) (fun r => G (pair (hp t) 0) (row t r))
      (K (hp t)) (q_at V c Q hq t 0) (k_at V c K hk t) (g_at V c G hg t 0) (l_at V c Q K hl t 0),
    add_assoc, ← EReal.coe_add, ← Finset.sum_add_distrib]
  simp only [dvPart, kvOf_pair, ix3_0, ix3_1, ix3_2]

theorem final_dk : (dat1 V c).arrAt 7 cfg1.N = fun i : S2x4096x64.Idx => ((dkR Q K W G O (i 0) (i 1) (i 2) : ℝ) : EReal) := by
  refine (dat1 V c).arrAt_eq_of_covers 7 _ (by decide +kernel) fun t hf y => ?_
  have h7 := (flush1_7 t).mp hf
  blk_simp
  rw [after1_7, Pipeline.eq_sum_fin_of_reset_step_apply_of_flush (fun n h => (outsAt1 V c n h).2.1) 8 (fun _ => (0 : EReal)) (dkPart Q K W G O)
    (fun t h j => by
      rw [outsAt1_A V c t h]; frame_out
      exact (dk_pay V c Q K W G O hq hk hv ho hl hg t (k1_pay1 (F := Ideal)) j).trans (by rw [zero_dk]))
    (fun t h j => by
      rw [outsAt1_B V c t h]; frame_out
      exact dk_pay V c Q K W G O hq hk hv ho hl hg t _ j)
    t h7 _, zero_add]
  idx_vars y
  suffices H : ∀ (a : Fin 2) (b : Fin 4096) (d : Fin 64), a.val = t.val / 8 → b.val = y1.val → d.val = y2.val →
      (∑ s : Fin 8, dkPart Q K W G O ⟨8 * (t.val / 8) + s.val, Pipeline.run_point_lt_of_flush t h7 s⟩ (ix3 y0 y1 y2))
        = ((dkR Q K W G O a b d : ℝ) : EReal) from
    H _ _ _ (by blk_simp [idx1 t] <;> try omega) (by blk_simp [idx1 t] <;> try omega) (by blk_simp [idx1 t] <;> try omega)
  intro a b d ha hb hd
  obtain rfl : b = y1 := Fin.ext hb
  obtain rfl : d = y2 := Fin.ext hd
  simp only [dkPart, ← coe_sum, ix3_0, ix3_1, ix3_2, dkR]
  refine congrArg (fun x : ℝ => (x : EReal)) ?_
  refine Fin.sum_mul_add_congr fun s r hlt => ?_
  have hh : hp ⟨8 * (t.val / 8) + s.val, Pipeline.run_point_lt_of_flush t h7 s⟩ = a := Fin.ext (by simp only [hp]; omega)
  have hr : row ⟨8 * (t.val / 8) + s.val, Pipeline.run_point_lt_of_flush t h7 s⟩ r = ⟨s.val * 512 + r.val, hlt⟩ :=
    Fin.ext (by simp only [row]; omega)
  rw [hh, hr]

theorem final_dv : (dat1 V c).arrAt 8 cfg1.N = fun i : S2x4096x64.Idx => ((dvR Q K G (i 0) (i 1) (i 2) : ℝ) : EReal) := by
  refine (dat1 V c).arrAt_eq_of_covers 8 _ (by decide +kernel) fun t hf y => ?_
  have h7 := (flush1_8 t).mp hf
  blk_simp
  rw [after1_8, Pipeline.eq_sum_fin_of_reset_step_apply_of_flush (fun n h => (outsAt1 V c n h).2.2) 8 (fun _ => (0 : EReal)) (dvPart Q K G)
    (fun t h j => by
      rw [outsAt1_A V c t h]; frame_out
      exact (dv_pay V c Q K W G O hq hk hv ho hl hg t (k1_pay2 (F := Ideal)) j).trans (by rw [zero_dv]))
    (fun t h j => by
      rw [outsAt1_B V c t h]; frame_out
      exact dv_pay V c Q K W G O hq hk hv ho hl hg t _ j)
    t h7 _, zero_add]
  idx_vars y
  suffices H : ∀ (a : Fin 2) (b : Fin 4096) (d : Fin 64), a.val = t.val / 8 → b.val = y1.val → d.val = y2.val →
      (∑ s : Fin 8, dvPart Q K G ⟨8 * (t.val / 8) + s.val, Pipeline.run_point_lt_of_flush t h7 s⟩ (ix3 y0 y1 y2))
        = ((dvR Q K G a b d : ℝ) : EReal) from
    H _ _ _ (by blk_simp [idx1 t] <;> try omega) (by blk_simp [idx1 t] <;> try omega) (by blk_simp [idx1 t] <;> try omega)
  intro a b d ha hb hd
  obtain rfl : b = y1 := Fin.ext hb
  obtain rfl : d = y2 := Fin.ext hd
  simp only [dvPart, ← coe_sum, ix3_0, ix3_1, ix3_2, dvR]
  refine congrArg (fun x : ℝ => (x : EReal)) ?_
  refine Fin.sum_mul_add_congr fun s r hlt => ?_
  have hh : hp ⟨8 * (t.val / 8) + s.val, Pipeline.run_point_lt_of_flush t h7 s⟩ = a := Fin.ext (by simp only [hp]; omega)
  have hr : row ⟨8 * (t.val / 8) + s.val, Pipeline.run_point_lt_of_flush t h7 s⟩ r = ⟨s.val * 512 + r.val, hlt⟩ :=
    Fin.ext (by simp only [row]; omega)
  rw [hh, hr]

/-- The gradient rows that a point writes: one store per query head. -/
theorem dq_pt (t : Fin cfg1.N) (g : Fin 2) (r : Fin 512) (e : Fin 64) :
    (outsAt1 V c t.val t.isLt).1 (ix3 g r e) = ((dqR Q K W G O (pair (hp t) g) (row t r) e : ℝ) : EReal) := by
  have key : ∀ g : Fin 2, k1_pay21 (F := Ideal) (gB g (iblk1 V c 5 t)) (oB g (iblk1 V c 3 t)) (k1_pay16 (iblk1 V c 1 t)) (k1_pay17 (iblk1 V c 2 t))
      (k1_pay18 (qB g (iblk1 V c 0 t)) (iblk1 V c 1 t)) (lB g (iblk1 V c 4 t)) (ix3 0 r e)
      = ((dqR Q K W G O (pair (hp t) g) (row t r) e : ℝ) : EReal) := by
    intro g
    rw [dq_head _ _ _ _ _ _ (fun r => Q (pair (hp t) g) (row t r)) (fun r => G (pair (hp t) g) (row t r)) (fun r => O (pair (hp t) g) (row t r))
      (K (hp t)) (W (hp t)) (q_at V c Q hq t g) (k_at V c K hk t) (v_at V c W hv t) (g_at V c G hg t g) (o_at V c O ho t g) (l_at V c Q K hl t g)]
    simp only [dqR, dsR, kvOf_pair]
  by_cases h : t.val % 8 = 0
  · rw [outsAt1_A V c t h]; frame_out
    clear h
    canon_tiles x hx
    all_goals
      have hr : x = ix3 0 r e := by
        obtain ⟨a, b, d, rfl⟩ : ∃ a b d, x = ix3 a b d := ⟨x 0, x 1, x 2, by funext i; fin_cases i <;> rfl⟩
        obtain rfl : a = 0 := Subsingleton.elim _ _
        obtain rfl : r = b := Fin.ext (show r.val = b.val from hx1)
        obtain rfl : e = d := Fin.ext (show e.val = d.val from hx2)
        rfl
      subst hr
    · obtain rfl : g = 1 := Fin.ext (show g.val = 1 + 0 from hx0)
      exact key 1
    · obtain rfl : g = 0 := Fin.ext (show g.val = 0 from hx0)
      exact key 0
  · rw [outsAt1_B V c t h]; frame_out
    clear h
    canon_tiles x hx
    all_goals
      have hr : x = ix3 0 r e := by
        obtain ⟨a, b, d, rfl⟩ : ∃ a b d, x = ix3 a b d := ⟨x 0, x 1, x 2, by funext i; fin_cases i <;> rfl⟩
        obtain rfl : a = 0 := Subsingleton.elim _ _
        obtain rfl : r = b := Fin.ext (show r.val = b.val from hx1)
        obtain rfl : e = d := Fin.ext (show e.val = d.val from hx2)
        rfl
      subst hr
    · obtain rfl : g = 1 := Fin.ext (show g.val = 1 + 0 from hx0)
      exact key 1
    · obtain rfl : g = 0 := Fin.ext (show g.val = 0 from hx0)
      exact key 0

theorem final_dq : (dat1 V c).arrAt 6 cfg1.N = fun i : S4x4096x64.Idx => ((dqR Q K W G O (i 0) (i 1) (i 2) : ℝ) : EReal) := by
  refine (dat1 V c).arrAt_eq_of_covers 6 _ (by decide +kernel) fun t hf y => ?_
  blk_simp
  rw [after1_6]
  idx_vars y
  suffices H : ∀ (a : Fin 4) (b : Fin 4096) (d : Fin 64), a.val = 2 * (t.val / 8) + y0.val → b.val = 512 * (t.val % 8) + y1.val → d.val = y2.val →
      (outsAt1 V c t.val t.isLt).1 (ix3 y0 y1 y2) = ((dqR Q K W G O a b d : ℝ) : EReal) from
    H _ _ _ (by blk_simp [idx1 t] <;> try omega) (by blk_simp [idx1 t] <;> try omega) (by blk_simp [idx1 t] <;> try omega)
  intro a b d ha hb hd
  have ea : a = pair (hp t) y0 := Fin.ext (by simp only [pair, hp]; omega)
  have eb : b = row t y1 := Fin.ext (by simp only [row]; omega)
  obtain rfl : d = y2 := Fin.ext hd
  rw [ea, eb]
  exact dq_pt V c Q K W G O hq hk hv ho hl hg t y0 y1 d
end
end

end Cert.KernelIdeal.Val

end
-- ==== Proof.GqaReference.lean ====
/- The reference's stages, entry by entry, for finite arguments: scores, their exponentials and row sums, the weights, the
   gradient of the weights, the gradient of the scores, and the four results. -/
module
public import proofs.«01_k».proof.Proof.Gen.ReferenceIdeal.Run
public import proofs.«01_k».proof.Proof.Softmax
public import Idealize.ShloMosaic.Lib.Pipeline.ValueKit
@[expose] public section
set_option maxRecDepth 16384
noncomputable section
open Idealize.ShloMosaic Idealize.ShloMosaic.TcCoe Idealize.SL.Sem Cert.Attn
namespace Cert.ReferenceIdeal.Val
open Cert.ReferenceIdeal Cert.ReferenceIdeal.Gen

section
variable (q : FVec Ideal S1x4096x2x2x64 .f32) (k v : FVec Ideal S1x4096x2x64 .f32) (g : FVec Ideal S4096x1024 .f32)

def rS : FVec Ideal S1x2x2x4096x4096 .f32 :=
  mulf (transpose S1x2x2x4096x4096 [0, 1, 4, 3, 2] (Host.dotGeneral dot_S1x4096x2x64_S1x4096x2x2x64_S1x2x4096x4096x2_3_4_1_13_02_02 none k q)
    transposes_S1x2x4096x4096x2_S1x2x2x4096x4096_0_1_4_3_2)
    (broadcastInDim S1x2x2x4096x4096 ![] bcast_S_S1x2x2x4096x4096 (constant S_ .f32 0x3E000000#32))
def rM : FVec Ideal S1x2x2x4096 .f32 :=
  maximumf (broadcastInDim S1x2x2x4096 ![] bcast_S_S1x2x2x4096 (constant S_ .f32 0xFF800000#32))
    (Host.reduce FloatOps.maximumf (rS q k) (constant S_ .f32 0xFF800000#32) reducesTo_S1x2x2x4096x4096_S1x2x2x4096_d4 h_S_)
def rE : FVec Ideal S1x2x2x4096x4096 .f32 :=
  Host.exp (subf (rS q k) (broadcastInDim S1x2x2x4096x4096 ![0, 1, 2, 3, 4] bcast_S1x2x2x4096x1_S1x2x2x4096x4096_0_1_2_3_4
    (broadcastInDim S1x2x2x4096x1 ![0, 1, 2, 3] bcast_S1x2x2x4096_S1x2x2x4096x1_0_1_2_3 (rM q k))))
def rZ : FVec Ideal S1x2x2x4096x1 .f32 :=
  broadcastInDim S1x2x2x4096x1 ![0, 1, 2, 3] bcast_S1x2x2x4096_S1x2x2x4096x1_0_1_2_3
    (Host.reduceAdd (rE q k) (constant S_ .f32 0x00000000#32) reducesTo_S1x2x2x4096x4096_S1x2x2x4096_d4 h_S_)
def rP : FVec Ideal S1x2x2x4096x4096 .f32 :=
  Host.divf (rE q k) (broadcastInDim S1x2x2x4096x4096 ![0, 1, 2, 3, 4] bcast_S1x2x2x4096x1_S1x2x2x4096x4096_0_1_2_3_4 (rZ q k))
/-- The gradient of the output, by heads. -/
def rG : FVec Ideal S1x2x64x2x4096 .f32 :=
  transpose S1x2x64x2x4096 [0, 2, 4, 3, 1] (shapeCast S1x4096x2x2x64 (extractStridedSlice S4096x256 ![0, 256] g slices_S4096x1024_S4096x256_0_256)
    shapeCasts_S4096x256_S1x4096x2x2x64) transposes_S1x4096x2x2x64_S1x2x64x2x4096_0_2_4_3_1
/-- The gradient of the weights. -/
def rD : FVec Ideal S1x2x2x4096x4096 .f32 :=
  Host.dotGeneral dot_S1x2x64x2x4096_S1x4096x2x64_S1x2x2x4096x4096_2_3_34_1_01_02 none (rG g) v
/-- A row's sum of the weights' gradient against the exponentials over the square of the row sum. -/
def rR : FVec Ideal S1x2x2x4096 .f32 :=
  Host.reduceAdd (mulf (mulf (rD v g) (broadcastInDim S1x2x2x4096x4096 ![0, 1, 2, 3, 4] bcast_S1x2x2x4096x1_S1x2x2x4096x4096_0_1_2_3_4
      (Host.divf (broadcastInDim S1x2x2x4096x1 ![] bcast_S_S1x2x2x4096x1 (constant S_ .f32 0x3F800000#32)) (mulf (rZ q k) (rZ q k))))) (rE q k))
    (constant S_ .f32 0x00000000#32) reducesTo_S1x2x2x4096x4096_S1x2x2x4096_d4 h_S_
def rN : FVec Ideal S2x2x4096 .f32 :=
  Host.reduceAdd (Host.negf (shapeCast S1x2x2x4096x1 (rR q k v g) shapeCasts_S1x2x2x4096_S1x2x2x4096x1)) (constant S_ .f32 0x00000000#32)
    reducesTo_S1x2x2x4096x1_S2x2x4096_d0_4 h_S_
/-- The gradient of the scores. -/
def rDS : FVec Ideal S1x2x2x4096x4096 .f32 :=
  mulf (mulf (addf (Host.divf (rD v g) (broadcastInDim S1x2x2x4096x4096 ![0, 1, 2, 3, 4] bcast_S1x2x2x4096x1_S1x2x2x4096x4096_0_1_2_3_4 (rZ q k)))
      (broadcastInDim S1x2x2x4096x4096 ![0, 1, 2, 3] bcast_S1x2x2x4096_S1x2x2x4096x4096_0_1_2_3
        (broadcastInDim S1x2x2x4096 ![1, 2, 3] bcast_S2x2x4096_S1x2x2x4096_1_2_3 (rN q k v g))))
      (rE q k)) (broadcastInDim S1x2x2x4096x4096 ![] bcast_S_S1x2x2x4096x4096 (constant S_ .f32 0x3E000000#32))

def outA : FVec Ideal S4096x256 .f32 :=
  shapeCast S4096x256 (transpose S1x4096x2x2x64 [0, 4, 1, 3, 2] (Host.dotGeneral dot_S1x4096x2x64_S1x2x2x4096x4096_S1x2x64x2x4096_1_4_3_23_02_01 none v (rP q k))
    transposes_S1x2x64x2x4096_S1x4096x2x2x64_0_4_1_3_2) shapeCasts_S1x4096x2x2x64_S4096x256
def dqA : FVec Ideal S4x4096x64 .f32 :=
  transpose S4x4096x64 [1, 0, 2] (shapeCast S4096x4x64 (transpose S1x4096x2x2x64 [0, 2, 1, 3, 4]
    (Host.dotGeneral dot_S1x2x4096x4096x2_S1x4096x2x64_S1x2x4096x2x64_2_1_34_3_01_02 none
      (transpose S1x2x4096x4096x2 [0, 1, 4, 3, 2] (rDS q k v g) transposes_S1x2x2x4096x4096_S1x2x4096x4096x2_0_1_4_3_2) k)
    transposes_S1x2x4096x2x64_S1x4096x2x2x64_0_2_1_3_4) shapeCasts_S1x4096x2x2x64_S4096x4x64) transposes_S4096x4x64_S4x4096x64_1_0_2
def dkA : FVec Ideal S2x4096x64 .f32 :=
  transpose S2x4096x64 [1, 0, 2] (shapeCast S4096x2x64 (transpose S1x4096x2x64 [0, 2, 1, 3]
    (Host.dotGeneral dot_S1x2x4096x4096x2_S1x4096x2x2x64_S1x2x4096x64_34_13_2_4_01_02 none
      (transpose S1x2x4096x4096x2 [0, 1, 4, 3, 2] (rDS q k v g) transposes_S1x2x2x4096x4096_S1x2x4096x4096x2_0_1_4_3_2) q)
    transposes_S1x2x4096x64_S1x4096x2x64_0_2_1_3) shapeCasts_S1x4096x2x64_S4096x2x64) transposes_S4096x2x64_S2x4096x64_1_0_2
def dvA : FVec Ideal S2x4096x64 .f32 :=
  transpose S2x4096x64 [1, 0, 2] (shapeCast S4096x2x64 (transpose S1x4096x2x64 [0, 3, 1, 2]
    (Host.dotGeneral dot_S1x2x64x2x4096_S1x2x2x4096x4096_S1x2x64x4096_34_23_2_4_01_01 none (rG g) (rP q k))
    transposes_S1x2x64x4096_S1x4096x2x64_0_3_1_2) shapeCasts_S1x4096x2x64_S4096x2x64) transposes_S4096x2x64_S2x4096x64_1_0_2
end

section
variable (m : (ℓ : Loc nD τ sig) → Buf (Elt Ideal) ℓ) (ρ : Dev nD → PrngReg)

/-- The reference's run, with its results by the stages above. -/
theorem run : θ_run defs (onTc (τ := τ) (main (F := Ideal))) ⟨m, fun _ => 0, ρ⟩ fun r => ∀ c : Dev nD,
      r.2.mem ((c.tc : Thread nD τ).loc main_v60) = outA (m ((c.tc : Thread nD τ).loc main_arg0)) (m ((c.tc : Thread nD τ).loc main_arg1)) (m ((c.tc : Thread nD τ).loc main_arg2))
      ∧ r.2.mem ((c.tc : Thread nD τ).loc main_v62) = dqA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v64) = dkA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v66) = dvA (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2.1, (h c).2.2.1, (h c).2.2.2.1, (h c).2.2.2.2⟩) (Value.run m ρ)
end

section
variable (q : FVec Ideal S1x4096x2x2x64 .f32) (k v : FVec Ideal S1x4096x2x64 .f32) (g : FVec Ideal S4096x1024 .f32)
  (Q G : Fin 4 → Fin 4096 → Fin 64 → ℝ) (K W : Fin 2 → Fin 4096 → Fin 64 → ℝ)
  (hq : ∀ i p b e, q (ix5 0 i p b e) = (Q (pair p b) i e : EReal)) (hk : ∀ j p e, k (ix4 0 j p e) = (K p j e : EReal))
  (hv : ∀ j p e, v (ix4 0 j p e) = (W p j e : EReal))
  (hg : ∀ h i d, g (ix2 i ⟨256 + (64 * h.val + d.val), gcol_lt h d⟩) = (G h i d : EReal))

/-- The scores. -/
def sc (p b : Fin 2) (i j : Fin 4096) : ℝ := (∑ e, K p j e * Q (pair p b) i e) * 8⁻¹

theorem eighth : Ideal.ofBits .f32 0x3E000000#32 = ((8⁻¹ : ℝ) : EReal) := by
  simp [Ideal.ofBits, Ideal.ieee]
  rw [← EReal.coe_mul]
  norm_num

include hq hk in
theorem rS_at (p b : Fin 2) (i j : Fin 4096) : rS q k (ix5 0 p b i j) = ((sc Q K p b i j : ℝ) : EReal) := by
  pointwise [rS]
  simp only [hq, hk, eighth, ← EReal.coe_mul, ← coe_sum]
  rfl

/-- The rows' greatest scores, before the comparison with `-∞`. -/
def rX : FVec Ideal S1x2x2x4096 .f32 :=
  Host.reduce FloatOps.maximumf (rS q k) (constant S_ .f32 0xFF800000#32) reducesTo_S1x2x2x4096x4096_S1x2x2x4096_d4 h_S_
theorem rX_at (p b : Fin 2) (i : Fin 4096) : rX q k (ix4 0 p b i)
    = (Finset.univ : Finset (Fin 4096)).fold max (Ideal.ofBits .f32 0xFF800000#32) (fun j => (rS q k (ix5 0 p b i j) : EReal)) := by
  pointwise [rX]
theorem maximumf_eq (x y : FVec Ideal S1x2x2x4096 .f32) (z : S1x2x2x4096.Idx) : maximumf x y z = max (x z : EReal) (y z) := rfl
theorem bot_row (z : S1x2x2x4096.Idx) : broadcastInDim S1x2x2x4096 ![] bcast_S_S1x2x2x4096 (constant S_ .f32 0xFF800000#32 : FVec Ideal S_ .f32) z
    = (⊥ : EReal) := neg_inf
include hq hk in
theorem rX_real (p b : Fin 2) (i : Fin 4096) : ∃ M : ℝ, rX q k (ix4 0 p b i) = (M : EReal) := by
  obtain ⟨M, hM⟩ := fold_max_real (sc Q K p b i)
  refine ⟨M, ?_⟩
  refine (rX_at q k p b i).trans ?_
  simp only [rS_at q k Q K hq hk, neg_inf]
  exact hM
include hq hk in
theorem rM_at (p b : Fin 2) (i : Fin 4096) : ∃ M : ℝ, rM q k (ix4 0 p b i) = (M : EReal) := by
  obtain ⟨M, hM⟩ := rX_real q k Q K hq hk p b i
  refine ⟨M, ?_⟩
  have h : rM q k = maximumf (broadcastInDim S1x2x2x4096 ![] bcast_S_S1x2x2x4096 (constant S_ .f32 0xFF800000#32)) (rX q k) := rfl
  rw [h, maximumf_eq, bot_row, hM]
  exact max_eq_right bot_le

theorem rE_at (p b : Fin 2) (i j : Fin 4096) : rE q k (ix5 0 p b i j) = Ideal.exp ((rS q k (ix5 0 p b i j) : EReal) - (rM q k (ix4 0 p b i) : EReal)) := by
  pointwise [rE]
theorem rZ_at (p b : Fin 2) (i : Fin 4096) : rZ q k (ix5 0 p b i 0) = ∑ j, (rE q k (ix5 0 p b i j) : EReal) := by
  pointwise [rZ]
theorem rP_at (p b : Fin 2) (i j : Fin 4096) : rP q k (ix5 0 p b i j) = Ideal.div (rE q k (ix5 0 p b i j)) (rZ q k (ix5 0 p b i 0)) := by
  pointwise [rP]
include hg in
theorem rG_at (p b : Fin 2) (i : Fin 4096) (d : Fin 64) : rG g (ix5 0 p d b i) = (G (pair p b) i d : EReal) := by
  rw [← hg]
  pointwise [rG, pair]
  exact congrArg g (congrArg (ix2 i) (Fin.ext (by dsimp only; omega)))
include hg hv in
theorem rD_at (p b : Fin 2) (i j : Fin 4096) : rD v g (ix5 0 p b i j) = ((∑ d, G (pair p b) i d * W p j d : ℝ) : EReal) := by
  pointwise [rD]
  simp only [rG_at g G hg, hv, ← EReal.coe_mul, ← coe_sum]
theorem rR_at (p b : Fin 2) (i : Fin 4096) : rR q k v g (ix4 0 p b i)
    = ∑ j, (rD v g (ix5 0 p b i j) : EReal) * Ideal.div 1 ((rZ q k (ix5 0 p b i 0) : EReal) * (rZ q k (ix5 0 p b i 0) : EReal)) * (rE q k (ix5 0 p b i j) : EReal) := by
  pointwise [rR]
/-- A sum over two axes of one place each is the one entry. -/
theorem hostReduceAdd_units (x : S1x2x2x4096x1.Idx → EReal) (p b : Fin 2) (i : Fin 4096) :
    Ideal.hostReduceAdd reducesTo_S1x2x2x4096x1_S2x2x4096_d0_4 x 0 (ix3 p b i) = x (ix5 0 p b i 0) := by
  unfold Ideal.hostReduceAdd
  rw [zero_add, Finset.sum_eq_single (ix5 0 p b i 0)]
  · intro y hy hne
    have h := (Finset.mem_filter.1 hy).2
    have h1 : (y 1).val = p.val := congrArg Fin.val (congrFun h 0)
    have h2 : (y 2).val = b.val := congrArg Fin.val (congrFun h 1)
    have h3 : (y 3).val = i.val := congrArg Fin.val (congrFun h 2)
    refine absurd (funext fun a => ?_) hne
    fin_cases a
    · exact Subsingleton.elim (α := Fin 1) _ _
    · exact Fin.ext h1
    · exact Fin.ext h2
    · exact Fin.ext h3
    · exact Subsingleton.elim (α := Fin 1) _ _
  · intro hn
    refine absurd (Finset.mem_filter.2 ⟨Finset.mem_univ _, ?_⟩) hn
    funext a
    fin_cases a <;> rfl
theorem rN_at (p b : Fin 2) (i : Fin 4096) : rN q k v g (ix3 p b i) = -(rR q k v g (ix4 0 p b i) : EReal) := by
  pointwise [rN]
  rw [hostReduceAdd_units]
  pointwise
theorem rDS_at (p b : Fin 2) (i j : Fin 4096) : rDS q k v g (ix5 0 p b i j)
    = (Ideal.div (rD v g (ix5 0 p b i j)) (rZ q k (ix5 0 p b i 0)) + (rN q k v g (ix3 p b i) : EReal)) * (rE q k (ix5 0 p b i j) : EReal) * Ideal.ofBits .f32 0x3E000000#32 := by
  pointwise [rDS]
theorem outA_at (p b : Fin 2) (i : Fin 4096) (d : Fin 64) : outA q k v (ix2 i ⟨64 * (pair p b).val + d.val, col_lt (pair p b) d⟩)
    = ∑ j, (v (ix4 0 j p d) : EReal) * (rP q k (ix5 0 p b i j) : EReal) := by
  pointwise [outA, pair]
theorem dqA_at (p b : Fin 2) (i : Fin 4096) (e : Fin 64) : dqA q k v g (ix3 (pair p b) i e)
    = ∑ j, (rDS q k v g (ix5 0 p b i j) : EReal) * (k (ix4 0 j p e) : EReal) := by
  pointwise [dqA, pair]
theorem dkA_at (p : Fin 2) (j : Fin 4096) (e : Fin 64) : dkA q k v g (ix3 p j e)
    = ∑ i, ∑ b, (rDS q k v g (ix5 0 p b i j) : EReal) * (q (ix5 0 i p b e) : EReal) := by
  pointwise [dkA]
theorem dvA_at (p : Fin 2) (j : Fin 4096) (d : Fin 64) : dvA q k g (ix3 p j d)
    = ∑ b, ∑ i, (rG g (ix5 0 p d b i) : EReal) * (rP q k (ix5 0 p b i j) : EReal) := by
  pointwise [dvA]

/-- A row's gradient of its weights, and of its scores. -/
def gw (p b : Fin 2) (i j : Fin 4096) : ℝ := ∑ d, G (pair p b) i d * W p j d
def gs (p b : Fin 2) (i j : Fin 4096) : ℝ :=
  weight (sc Q K p b i) j * (gw G W p b i j - ∑ l, weight (sc Q K p b i) l * gw G W p b i l) * 8⁻¹

include hq hk in
theorem rP_real (p b : Fin 2) (i j : Fin 4096) : rP q k (ix5 0 p b i j) = ((weight (sc Q K p b i) j : ℝ) : EReal) := by
  obtain ⟨M, hM⟩ := rM_at q k Q K hq hk p b i
  refine (rP_at q k p b i j).trans ?_
  simp only [rZ_at, rE_at, rS_at q k Q K hq hk, hM]
  exact ref_weight (sc Q K p b i) M j
include hq hk hv hg in
theorem rDS_real (p b : Fin 2) (i j : Fin 4096) : rDS q k v g (ix5 0 p b i j) = ((gs Q G K W p b i j : ℝ) : EReal) := by
  obtain ⟨M, hM⟩ := rM_at q k Q K hq hk p b i
  refine (rDS_at q k v g p b i j).trans ?_
  simp only [rN_at, rR_at, rZ_at, rE_at, rS_at q k Q K hq hk, hM, rD_at v g G W hv hg, eighth]
  unfold gs
  rw [EReal.coe_mul]
  exact congrArg (· * ((8⁻¹ : ℝ) : EReal)) (ref_grad (sc Q K p b i) M (gw G W p b i) j)

include hq hk hv in
theorem outA_real (p b : Fin 2) (i : Fin 4096) (d : Fin 64) : outA q k v (ix2 i ⟨64 * (pair p b).val + d.val, col_lt (pair p b) d⟩)
    = ((∑ j, weight (sc Q K p b i) j * W p j d : ℝ) : EReal) := by
  refine (outA_at q k v p b i d).trans ?_
  simp only [rP_real q k Q K hq hk, hv, ← EReal.coe_mul, ← coe_sum]
  exact congrArg (fun x : ℝ => (x : EReal)) (Finset.sum_congr rfl fun j _ => mul_comm _ _)
include hq hk hv hg in
theorem dqA_real (p b : Fin 2) (i : Fin 4096) (e : Fin 64) : dqA q k v g (ix3 (pair p b) i e)
    = ((∑ j, gs Q G K W p b i j * K p j e : ℝ) : EReal) := by
  refine (dqA_at q k v g p b i e).trans ?_
  simp only [rDS_real q k v g Q G K W hq hk hv hg, hk, ← EReal.coe_mul, ← coe_sum]
include hq hk hv hg in
theorem dkA_real (p : Fin 2) (j : Fin 4096) (e : Fin 64) : dkA q k v g (ix3 p j e)
    = ((∑ i, (gs Q G K W p 0 i j * Q (pair p 0) i e + gs Q G K W p 1 i j * Q (pair p 1) i e) : ℝ) : EReal) := by
  refine (dkA_at q k v g p j e).trans ?_
  simp only [rDS_real q k v g Q G K W hq hk hv hg, hq, ← EReal.coe_mul, ← coe_sum]
  exact congrArg (fun x : ℝ => (x : EReal)) (Finset.sum_congr rfl fun i _ => Fin.sum_univ_two _)
include hq hk hg in
theorem dvA_real (p : Fin 2) (j : Fin 4096) (d : Fin 64) : dvA q k g (ix3 p j d)
    = ((∑ i, (weight (sc Q K p 0 i) j * G (pair p 0) i d + weight (sc Q K p 1 i) j * G (pair p 1) i d) : ℝ) : EReal) := by
  refine (dvA_at q k g p j d).trans ?_
  simp only [rP_real q k Q K hq hk, rG_at g G hg, ← EReal.coe_mul, ← coe_sum]
  rw [Fin.sum_univ_two, ← Finset.sum_add_distrib]
  exact congrArg (fun x : ℝ => (x : EReal)) (Finset.sum_congr rfl fun i _ => by rw [mul_comm (G _ _ _), mul_comm (G (pair p 1) _ _)])
end

end Cert.ReferenceIdeal.Val
end
-- ==== Proof.GqaEquation.lean ====
/- The program's four results are the reference's, for arguments that are real numbers.

   The host hands the calls the queries times `8⁻¹ / log 2`, so that the base-two scores of the calls, times `log 2`, are the
   reference's scores, and scales the queries' gradient by the same number at the end. -/
module
public import proofs.«01_k».proof.Proof.GqaRun
public import proofs.«01_k».proof.Proof.GqaBackwardArrays
public import proofs.«01_k».proof.Proof.GqaForwardArrays
public import proofs.«01_k».proof.Proof.GqaReference
@[expose] public section
set_option maxRecDepth 16384
noncomputable section
open Idealize.ShloMosaic Idealize.ShloMosaic.TcCoe Idealize.SL.Sem Cert.Attn
namespace Cert.KernelIdeal.Val
open Cert.KernelIdeal Cert.KernelIdeal.Gen
open Cert.ReferenceIdeal.Val (sc gw gs)

/-! ### Over the reals -/

/-- The host's scale. -/
def cs : ℝ := 8⁻¹ / Real.log 2
theorem cs_log : cs * Real.log 2 = 8⁻¹ := div_mul_cancel₀ _ log_two_ne

section
variable (Q G : Fin 4 → Fin 4096 → Fin 64 → ℝ) (K W : Fin 2 → Fin 4096 → Fin 64 → ℝ)

/-- The scaled queries. -/
def Qs (h : Fin 4) (i : Fin 4096) (e : Fin 64) : ℝ := Q h i e * cs

theorem score_eq (p b : Fin 2) (i : Fin 4096) : score (Qs Q (pair p b) i) (K p) = sc Q K p b i := by
  funext j
  unfold score sc Qs
  rw [← cs_log, Finset.sum_mul, Finset.sum_mul]
  exact Finset.sum_congr rfl fun e _ => by ring

theorem out_eq (p b : Fin 2) (i : Fin 4096) (d : Fin 64) :
    outR (Qs Q) K W (pair p b) i d = ∑ j, weight (sc Q K p b i) j * W p j d := by
  have h : (fun j => (∑ e, Qs Q (pair p b) i e * K p j e) * Real.log 2) = sc Q K p b i := score_eq Q K p b i
  unfold outR
  rw [kvOf_pair, h]

theorem ds_eq (p b : Fin 2) (i j : Fin 4096) :
    dsR (Qs Q) K W G (outR (Qs Q) K W) (pair p b) i j * cs = gs Q G K W p b i j := by
  unfold dsR dscore gs
  rw [kvOf_pair, score_eq, ← cs_log]
  have h : ∑ d, G (pair p b) i d * outR (Qs Q) K W (pair p b) i d = ∑ l, weight (sc Q K p b i) l * gw G W p b i l := by
    simp only [out_eq, gw, Finset.mul_sum]
    rw [Finset.sum_comm]
    exact Finset.sum_congr rfl fun l _ => Finset.sum_congr rfl fun d _ => by ring
  rw [h]
  unfold gw
  ring

theorem dq_eq (p b : Fin 2) (i : Fin 4096) (e : Fin 64) :
    dqR (Qs Q) K W G (outR (Qs Q) K W) (pair p b) i e * cs = ∑ j, gs Q G K W p b i j * K p j e := by
  unfold dqR
  rw [kvOf_pair, Finset.sum_mul]
  exact Finset.sum_congr rfl fun j _ => by rw [← ds_eq]; ring

theorem dk_eq (p : Fin 2) (j : Fin 4096) (e : Fin 64) : dkR (Qs Q) K W G (outR (Qs Q) K W) p j e
    = ∑ i, (gs Q G K W p 0 i j * Q (pair p 0) i e + gs Q G K W p 1 i j * Q (pair p 1) i e) := by
  unfold dkR
  exact Finset.sum_congr rfl fun i _ => by rw [← ds_eq, ← ds_eq]; unfold Qs; ring

theorem dv_eq (p : Fin 2) (j : Fin 4096) (d : Fin 64) : dvR (Qs Q) K G p j d
    = ∑ i, (weight (sc Q K p 0 i) j * G (pair p 0) i d + weight (sc Q K p 1 i) j * G (pair p 1) i d) := by
  unfold dvR
  simp only [kvOf_pair, score_eq]
end

theorem pair_split (h : Fin 4) : ∃ p b : Fin 2, h = pair p b :=
  ⟨⟨h.val / 2, by omega⟩, ⟨h.val % 2, by omega⟩, Fin.ext (by simp only [pair]; omega)⟩

/-! ### The host's preparation -/

theorem two : Ideal.ofBits .f32 0x40000000#32 = ((2 : ℝ) : EReal) := by
  simp [Ideal.ofBits, Ideal.ieee]
  try rw [← EReal.coe_mul]
  try norm_num

theorem qscale_at (z : S_.Idx) : qscale (F := Ideal) z = ((cs : ℝ) : EReal) := by
  show Ideal.div (Ideal.ofBits .f32 0x3E000000#32) (Ideal.log (Ideal.ofBits .f32 0x40000000#32)) = _
  rw [Cert.ReferenceIdeal.Val.eighth, two, Ideal.log_coe, if_neg (by norm_num), div_real log_two_ne]
  rfl

section
variable (m : (ℓ : Loc nD τ sig) → Buf (Elt Ideal) ℓ) (ρ : Dev nD → PrngReg) (c : Dev nD)
  (Q G : Fin 4 → Fin 4096 → Fin 64 → ℝ) (K W : Fin 2 → Fin 4096 → Fin 64 → ℝ)
  (hq : ∀ i p b e, (m ((c : Thread nD τ).loc main_arg0) : FVec Ideal S1x4096x2x2x64 .f32) (ix5 0 i p b e) = (Q (pair p b) i e : EReal))
  (hk : ∀ j p e, (m ((c : Thread nD τ).loc main_arg1) : FVec Ideal S1x4096x2x64 .f32) (ix4 0 j p e) = (K p j e : EReal))
  (hv : ∀ j p e, (m ((c : Thread nD τ).loc main_arg2) : FVec Ideal S1x4096x2x64 .f32) (ix4 0 j p e) = (W p j e : EReal))
  (hg : ∀ h i d, (m ((c : Thread nD τ).loc main_arg3) : FVec Ideal S4096x1024 .f32) (ix2 i ⟨256 + (64 * h.val + d.val), gcol_lt h d⟩) = (G h i d : EReal))

/-- A prepared array, entry by entry, from any argument array. -/
theorem prep_q (x : FVec Ideal S1x4096x2x2x64 .f32) (p b : Fin 2) (r : Fin 4096) (e : Fin 64) :
    truncf (F := Ideal) .bf16 (transpose S4x4096x64 [1, 0, 2] (mulf (shapeCast S4096x4x64 x shapeCasts_S1x4096x2x2x64_S4096x4x64)
        (broadcastInDim S4096x4x64 ![] bcast_S_S4096x4x64 (qscale (F := Ideal)))) transposes_S4096x4x64_S4x4096x64_1_0_2) bitsLt_bf16_f32 (ix3 (pair p b) r e)
      = (x (ix5 0 r p b e) : EReal) * ((cs : ℝ) : EReal) := by
  pointwise [pair]
  rw [qscale_at]
theorem prep_k (x : FVec Ideal S1x4096x2x64 .f32) (p : Fin 2) (r : Fin 4096) (e : Fin 64) :
    truncf (F := Ideal) .bf16 (transpose S2x4096x64 [1, 0, 2] (shapeCast S4096x2x64 x shapeCasts_S1x4096x2x64_S4096x2x64)
        transposes_S4096x2x64_S2x4096x64_1_0_2) bitsLt_bf16_f32 (ix3 p r e) = (x (ix4 0 r p e) : EReal) := by
  pointwise
theorem post_dq (x : FVec Ideal S4x4096x64 .f32) (z : S4x4096x64.Idx) :
    mulf x (broadcastInDim S4x4096x64 ![] bcast_S_S4x4096x64 (qscale (F := Ideal))) z = (x z : EReal) * ((cs : ℝ) : EReal) := by
  rw [← qscale_at ix0]
  pointwise

include hq in
theorem in_q (h : Fin 4) (r : Fin 4096) (e : Fin 64) :
    (W1 m ρ c (Proc.devRef .tc main_v7) : Vec Ideal S4x4096x64 .bf16) (ix3 h r e) = ((Qs Q h r e : ℝ) : EReal) := by
  obtain ⟨p, b, rfl⟩ := pair_split h
  rw [W1_q]
  refine (prep_q _ p b r e).trans ?_
  rw [hq, ← EReal.coe_mul]
  rfl
include hk in
theorem in_k (p : Fin 2) (r : Fin 4096) (e : Fin 64) :
    (W1 m ρ c (Proc.devRef .tc main_v10) : Vec Ideal S2x4096x64 .bf16) (ix3 p r e) = ((K p r e : ℝ) : EReal) := by
  rw [W1_k]
  exact (prep_k _ p r e).trans (hk r p e)
include hv in
theorem in_v (p : Fin 2) (r : Fin 4096) (e : Fin 64) :
    (W1 m ρ c (Proc.devRef .tc main_v13) : Vec Ideal S2x4096x64 .bf16) (ix3 p r e) = ((W p r e : ℝ) : EReal) := by
  rw [W1_v]
  exact (prep_k _ p r e).trans (hv r p e)

/-! ### The results -/

include hq hk hv in
theorem end_o : (dat0 (V1 m ρ) c).arrAt 3 cfg0.N = fun i : S4096x256.Idx => ((outR (Qs Q) K W (hd (i 1)) (i 0) (ln (i 1)) : ℝ) : EReal) :=
  final_out (V1 m ρ) c (Qs Q) K W (in_q m ρ c Q hq) (in_k m ρ c K hk) (in_v m ρ c W hv)
include hq hk in
theorem end_l : (dat0 (V1 m ρ) c).arrAt 4 cfg0.N = fun i : S4x4096x1.Idx => ((lseR (Qs Q) K (i 0) (i 1) : ℝ) : EReal) :=
  final_lse (V1 m ρ) c (Qs Q) K (in_q m ρ c Q hq) (in_k m ρ c K hk)

section
include hq in
theorem in2_q (h : Fin 4) (r : Fin 4096) (e : Fin 64) :
    (V2 m ρ c (Pipeline.arrRef spec1 0) : Vec Ideal S4x4096x64 .bf16) (ix3 h r e) = ((Qs Q h r e : ℝ) : EReal) :=
  (congrFun (W2_q m ρ c) _).trans (in_q m ρ c Q hq h r e)
include hk in
theorem in2_k (p : Fin 2) (r : Fin 4096) (e : Fin 64) :
    (V2 m ρ c (Pipeline.arrRef spec1 1) : Vec Ideal S2x4096x64 .bf16) (ix3 p r e) = ((K p r e : ℝ) : EReal) :=
  (congrFun (W2_k m ρ c) _).trans (in_k m ρ c K hk p r e)
include hv in
theorem in2_v (p : Fin 2) (r : Fin 4096) (e : Fin 64) :
    (V2 m ρ c (Pipeline.arrRef spec1 2) : Vec Ideal S2x4096x64 .bf16) (ix3 p r e) = ((W p r e : ℝ) : EReal) :=
  (congrFun (W2_v m ρ c) _).trans (in_v m ρ c W hv p r e)
include hq hk hv in
theorem in2_o (h : Fin 4) (r : Fin 4096) (d : Fin 64) :
    (V2 m ρ c (Pipeline.arrRef spec1 3) : Vec Ideal S4096x256 .f32) (ix2 r ⟨64 * h.val + d.val, col_lt h d⟩) = ((outR (Qs Q) K W h r d : ℝ) : EReal) := by
  refine (congrFun ((W2_o m ρ c).trans (end_o m ρ c Q K W hq hk hv)) _).trans ?_
  have e1 : hd (⟨64 * h.val + d.val, by omega⟩ : Fin 256) = h := Fin.ext (by simp only [hd]; omega)
  have e2 : ln (⟨64 * h.val + d.val, by omega⟩ : Fin 256) = d := Fin.ext (by simp only [ln]; omega)
  show ((outR (Qs Q) K W (hd (⟨64 * h.val + d.val, by omega⟩ : Fin 256)) r (ln (⟨64 * h.val + d.val, by omega⟩ : Fin 256)) : ℝ) : EReal) = _
  rw [e1, e2]
include hq hk in
theorem in2_l (h : Fin 4) (r : Fin 4096) :
    (V2 m ρ c (Pipeline.arrRef spec1 4) : Vec Ideal S4x4096x1 .f32) (ix3 h r 0) = ((lseR (Qs Q) K h r : ℝ) : EReal) :=
  congrFun ((W2_l m ρ c).trans (end_l m ρ c Q K hq hk)) _
include hg in
theorem in2_g (h : Fin 4) (r : Fin 4096) (d : Fin 64) :
    (V2 m ρ c (Pipeline.arrRef spec1 5) : Vec Ideal S4096x1024 .f32) (ix2 r ⟨256 + (64 * h.val + d.val), gcol_lt h d⟩) = ((G h r d : ℝ) : EReal) :=
  (congrFun (W2_g m ρ c) _).trans (hg h r d)
end

include hq hk hv in
theorem result_o : (W4 m ρ c (Proc.devRef .tc main_v14_0) : FVec Ideal S4096x256 .f32)
    = Cert.ReferenceIdeal.Val.outA (m ((c : Thread nD τ).loc main_arg0)) (m ((c : Thread nD τ).loc main_arg1)) (m ((c : Thread nD τ).loc main_arg2)) := by
  rw [W4_o]
  refine (end_o m ρ c Q K W hq hk hv).trans (funext fun z => ?_)
  idx_vars z
  obtain ⟨p, b, hpb⟩ := pair_split (hd z1)
  have e : z1 = ⟨64 * (pair p b).val + (ln z1).val, col_lt (pair p b) (ln z1)⟩ := Fin.ext (by have h := congrArg Fin.val hpb; simp only [hd] at h; simp only [ln]; omega)
  show ((outR (Qs Q) K W (hd z1) z0 (ln z1) : ℝ) : EReal) = _
  rw [hpb, out_eq]
  refine (Cert.ReferenceIdeal.Val.outA_real _ _ _ Q K W hq hk hv p b z0 (ln z1)).symm.trans ?_
  exact congrArg _ (congrArg (ix2 z0) e.symm)

include hq hk hv hg in
theorem result_dq : (W4 m ρ c (Proc.devRef .tc main_v18) : FVec Ideal S4x4096x64 .f32)
    = Cert.ReferenceIdeal.Val.dqA (m ((c : Thread nD τ).loc main_arg0)) (m ((c : Thread nD τ).loc main_arg1)) (m ((c : Thread nD τ).loc main_arg2)) (m ((c : Thread nD τ).loc main_arg3)) := by
  rw [W4_dq, final_dq (V2 m ρ) c (Qs Q) K W G (outR (Qs Q) K W) (in2_q m ρ c Q hq) (in2_k m ρ c K hk) (in2_v m ρ c W hv)
    (in2_o m ρ c Q K W hq hk hv) (in2_l m ρ c Q K hq hk) (in2_g m ρ c G hg)]
  funext z
  idx_vars z
  obtain ⟨p, b, rfl⟩ := pair_split z0
  refine (post_dq _ _).trans ?_
  refine Eq.trans ?_ (Cert.ReferenceIdeal.Val.dqA_real _ _ _ _ Q G K W hq hk hv hg p b z1 z2).symm
  rw [← dq_eq, EReal.coe_mul]
  rfl

include hq hk hv hg in
theorem result_dk : (W4 m ρ c (Proc.devRef .tc main_v15_1) : FVec Ideal S2x4096x64 .f32)
    = Cert.ReferenceIdeal.Val.dkA (m ((c : Thread nD τ).loc main_arg0)) (m ((c : Thread nD τ).loc main_arg1)) (m ((c : Thread nD τ).loc main_arg2)) (m ((c : Thread nD τ).loc main_arg3)) := by
  rw [W4_dk]
  refine (final_dk (V2 m ρ) c (Qs Q) K W G (outR (Qs Q) K W) (in2_q m ρ c Q hq) (in2_k m ρ c K hk) (in2_v m ρ c W hv)
    (in2_o m ρ c Q K W hq hk hv) (in2_l m ρ c Q K hq hk) (in2_g m ρ c G hg)).trans (funext fun z => ?_)
  idx_vars z
  refine Eq.trans ?_ (Cert.ReferenceIdeal.Val.dkA_real _ _ _ _ Q G K W hq hk hv hg z0 z1 z2).symm
  exact congrArg (fun x : ℝ => (x : EReal)) (dk_eq Q G K W z0 z1 z2)

include hq hk hv hg in
theorem result_dv : (W4 m ρ c (Proc.devRef .tc main_v15_2) : FVec Ideal S2x4096x64 .f32)
    = Cert.ReferenceIdeal.Val.dvA (m ((c : Thread nD τ).loc main_arg0)) (m ((c : Thread nD τ).loc main_arg1)) (m ((c : Thread nD τ).loc main_arg3)) := by
  rw [W4_dv]
  refine (final_dv (V2 m ρ) c (Qs Q) K W G (outR (Qs Q) K W) (in2_q m ρ c Q hq) (in2_k m ρ c K hk) (in2_v m ρ c W hv)
    (in2_o m ρ c Q K W hq hk hv) (in2_l m ρ c Q K hq hk) (in2_g m ρ c G hg)).trans (funext fun z => ?_)
  idx_vars z
  refine Eq.trans ?_ (Cert.ReferenceIdeal.Val.dvA_real _ _ _ Q G K hq hk hg z0 z1 z2).symm
  exact congrArg (fun x : ℝ => (x : EReal)) (dv_eq Q G K z0 z1 z2)
end

end Cert.KernelIdeal.Val
end
-- ==== Proof.GqaFinite.lean ====
/- Arguments of finite absolute value are real numbers. -/
module
public import proofs.«01_k».proof.Proof.Gen.Pre_finite
public import Idealize.ShloMosaic.Lib.ReduceAll
public import Idealize.ShloMosaic.Lib.IdealHost
@[expose] public section
noncomputable section
open Idealize.ShloMosaic
namespace Cert.Attn
open Cert.Pre_finite

theorem pos_inf : Ideal.ofBits .f32 0x7F800000#32 = ⊤ := by simp [Ideal.ofBits, Ideal.ieee]

theorem real_of_abs_lt (x : EReal) (h : Ideal.cmp .olt (max x (-x)) (Ideal.ofBits .f32 0x7F800000#32) = 1#1) : x = ((x.toReal : ℝ) : EReal) := by
  rw [pos_inf] at h
  have hlt : max x (-x) < ⊤ := by
    by_contra hn
    simp [Ideal.cmp, hn] at h
  rw [max_lt_iff] at hlt
  refine (EReal.coe_toReal hlt.1.ne ?_).symm
  rintro rfl
  simp at hlt

instance : Subsingleton S_.Idx := ⟨fun a b => funext fun x => x.elim0⟩

theorem reals (q : FVec Ideal S1x4096x2x2x64 .f32) (k v : FVec Ideal S1x4096x2x64 .f32) (g : FVec Ideal S4096x1024 .f32)
    (h : fn q k v g = fun _ => 1#1) :
    (∀ i, q i = (((q i : EReal).toReal : ℝ) : EReal)) ∧ (∀ i, k i = (((k i : EReal).toReal : ℝ) : EReal))
      ∧ (∀ i, v i = (((v i : EReal).toReal : ℝ) : EReal)) ∧ (∀ i, g i = (((g i : EReal).toReal : ℝ) : EReal)) := by
  have h0 := congrFun h (fun a => a.elim0)
  unfold fn fn_part1 at h0
  obtain ⟨h1, hg⟩ := IntOp.andi_eq_one.1 h0
  obtain ⟨h2, hv⟩ := IntOp.andi_eq_one.1 h1
  obtain ⟨hq, hk⟩ := IntOp.andi_eq_one.1 h2
  exact ⟨fun i => real_of_abs_lt _ (Host.reduce_andi_all _ _ _ _ _ hq i), fun i => real_of_abs_lt _ (Host.reduce_andi_all _ _ _ _ _ hk i),
    fun i => real_of_abs_lt _ (Host.reduce_andi_all _ _ _ _ _ hv i), fun i => real_of_abs_lt _ (Host.reduce_andi_all _ _ _ _ _ hg i)⟩

end Cert.Attn
end
-- ==== Proof.GqaClaims.lean ====
/- The claims about the attention calls of the GQA mixer. -/
module
public import proofs.«01_k».proof.Defs
public import proofs.«01_k».proof.Proof.Gen.Kernel.Frame
public import proofs.«01_k».proof.Proof.GqaEquation
public import proofs.«01_k».proof.Proof.GqaFinite
@[expose] public section
noncomputable section
open Idealize.ShloMosaic Idealize.ShloMosaic.TcCoe Idealize.SL.Sem Cert.Attn
namespace Cert.Proof.GqaClaims

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Val.run m ρ)
theorem frame_ri_finite : Cert.quiescent_ReferenceIdeal_pre_finite := fun m ρ _ => frame_ri m ρ trivial

/-- The two named constants' values are the table's. -/
theorem preserves : Cert.preserves_Kernel_KernelIdeal :=
  ⟨IdealRules.named_const.statement Cert.KernelIdeal.κ "log2e" .f32 0x3FB8AA3B#32 (((Real.log 2)⁻¹ : ℝ) : EReal) (by simp [Cert.KernelIdeal.κ]),
    IdealRules.named_const.statement Cert.KernelIdeal.κ "ln2" .f32 0x3F317218#32 ((Real.log 2 : ℝ) : EReal) (by simp [Cert.KernelIdeal.κ])⟩

section
open Cert.KernelIdeal Cert.KernelIdeal.Gen
variable (m : (ℓ : Loc nD τ sig) → Buf (Elt Ideal) ℓ) (ρ : Dev nD → PrngReg)

/-- The program's run, with its results by the reference's stages. -/
theorem kernel_run (hpre : Cert.Pre_KernelIdeal_finite m) : θ_run defs (onTc (τ := τ) (main (F := Ideal))) ⟨m, fun _ => 0, ρ⟩ (fun r => ∀ c : Dev nD,
      r.2.mem ((c.tc : Thread nD τ).loc main_v14_0) = Cert.ReferenceIdeal.Val.outA (m ((c.tc : Thread nD τ).loc main_arg0)) (m ((c.tc : Thread nD τ).loc main_arg1)) (m ((c.tc : Thread nD τ).loc main_arg2))
      ∧ r.2.mem ((c.tc : Thread nD τ).loc main_v18) = Cert.ReferenceIdeal.Val.dqA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v15_1) = Cert.ReferenceIdeal.Val.dkA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v15_2) = Cert.ReferenceIdeal.Val.dvA (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.KernelIdeal.Val.run m ρ)
  obtain ⟨fq, fk, fv, fg⟩ := reals _ _ _ _ (hpre c)
  let q : FVec Ideal S1x4096x2x2x64 .f32 := m ((c.tc : Thread nD τ).loc main_arg0)
  let k : FVec Ideal S1x4096x2x64 .f32 := m ((c.tc : Thread nD τ).loc main_arg1)
  let v : FVec Ideal S1x4096x2x64 .f32 := m ((c.tc : Thread nD τ).loc main_arg2)
  let g : FVec Ideal S4096x1024 .f32 := m ((c.tc : Thread nD τ).loc main_arg3)
  let Q : Fin 4 → Fin 4096 → Fin 64 → ℝ := fun h i e => (q (ix5 0 i ⟨h.val / 2, by omega⟩ ⟨h.val % 2, by omega⟩ e) : EReal).toReal
  let K : Fin 2 → Fin 4096 → Fin 64 → ℝ := fun p j e => (k (ix4 0 j p e) : EReal).toReal
  let W : Fin 2 → Fin 4096 → Fin 64 → ℝ := fun p j e => (v (ix4 0 j p e) : EReal).toReal
  let G : Fin 4 → Fin 4096 → Fin 64 → ℝ := fun h i d => (g (ix2 i ⟨256 + (64 * h.val + d.val), gcol_lt h d⟩) : EReal).toReal
  have hq : ∀ i p b e, q (ix5 0 i p b e) = (Q (pair p b) i e : EReal) := fun i p b e => by
    refine (fq _).trans ?_
    have e1 : (⟨(pair p b).val / 2, by omega⟩ : Fin 2) = p := Fin.ext (by simp only [pair]; omega)
    have e2 : (⟨(pair p b).val % 2, by omega⟩ : Fin 2) = b := Fin.ext (by simp only [pair]; omega)
    show _ = ((q (ix5 0 i ⟨(pair p b).val / 2, by omega⟩ ⟨(pair p b).val % 2, by omega⟩ e) : EReal).toReal : EReal)
    rw [e1, e2]
  have hk : ∀ j p e, k (ix4 0 j p e) = (K p j e : EReal) := fun j p e => fk _
  have hv : ∀ j p e, v (ix4 0 j p e) = (W p j e : EReal) := fun j p e => fv _
  have hg : ∀ (h : Fin 4) i (d : Fin 64), g (ix2 i ⟨256 + (64 * h.val + d.val), gcol_lt h d⟩) = (G h i d : EReal) := fun h i d => fg _
  exact ⟨(h c _ (mem_uc main_v14_0 (by decide))).trans (Cert.KernelIdeal.Val.result_o m ρ c Q K W hq hk hv),
    (h c _ (mem_uc main_v18 (by decide))).trans (Cert.KernelIdeal.Val.result_dq m ρ c Q G K W hq hk hv hg),
    (h c _ (mem_uc main_v15_1 (by decide))).trans (Cert.KernelIdeal.Val.result_dk m ρ c Q G K W hq hk hv hg),
    (h c _ (mem_uc main_v15_2 (by decide))).trans (Cert.KernelIdeal.Val.result_dv m ρ c Q G K W hq hk hv hg),
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩
end

theorem algebraic : Cert.algebraic_KernelIdeal_ReferenceIdeal_pre_finite := by
  intro m ρ m' ρ' hpre hagree
  refine ⟨_, _, _, _, kernel_run m ρ hpre, ?_⟩
  refine (θ_run Cert.ReferenceIdeal.defs _ _).mono (fun r h c => ?_) (Cert.ReferenceIdeal.Val.run m' ρ')
  obtain ⟨a0, a1, a2, a3⟩ := hagree c
  obtain ⟨h0, h1, h2, h3, hr⟩ := h c
  rw [a0, a1, a2] at h0
  rw [a0, a1, a2, a3] at h1 h2
  rw [a0, a1, a3] at h3
  exact ⟨h0, h1, h2, h3, hr⟩

end Cert.Proof.GqaClaims
end
-- ==== Proof.LatentRun.lean ====
/- The run of the whole program: every buffer ends at the contents of the last boundary, and what those contents are,
   traced from the results back to the launch through the two calls and the host operations around them. -/
module
public import proofs.«01_k».proof.Proof.Gen.LatentIdeal.Frame
public import Idealize.ShloMosaic.Lib.StableHlo.Run
@[expose] public section
set_option maxRecDepth 16384
noncomputable section
namespace Cert.LatentIdeal.Val
open Cert.LatentIdeal Cert.LatentIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
variable (m : (ℓ : Loc nD τ sig) → Buf (Elt F) ℓ) (ρ : Dev nD → PrngReg) (c : Dev nD)

local notation "𝕄" => MT nD τ sig Unit (Elt F) ℕ (UR sig nD τ) ℕ

/-- The constant by which the host scales the queries, and in the end their gradients. -/
def qscale : FVec F S_ .f32 := Host.divf (constant S_ .f32 0x3DD105EC#32) (Host.log (constant S_ .f32 0x40000000#32))

theorem W1_scale : W1 m ρ c (Proc.devRef .tc main_v1) = qscale (F := F) := by
  show StableHlo.after hostOps0 (W0 m ρ c) (Proc.devRef .tc main_v1) = _
  after_results
  rfl

theorem W1_q : W1 m ρ c (Proc.devRef .tc main_v7)
    = truncf .bf16 (transpose S4x4096x128 [1, 0, 2] (mulf (shapeCast S4096x4x128 (m ((c : Thread nD τ).loc main_arg0) : FVec F S1x4096x4x1x128 .f32) shapeCasts_S1x4096x4x1x128_S4096x4x128)
        (broadcastInDim S4096x4x128 ![] bcast_S_S4096x4x128 (qscale (F := F)))) transposes_S4096x4x128_S4x4096x128_1_0_2) bitsLt_bf16_f32 := by
  show StableHlo.after hostOps0 (W0 m ρ c) (Proc.devRef .tc main_v7) = _
  after_results
  rfl

theorem W1_k : W1 m ρ c (Proc.devRef .tc main_v10)
    = truncf .bf16 (transpose S4x4096x128 [1, 0, 2] (shapeCast S4096x4x128 (m ((c : Thread nD τ).loc main_arg1) : FVec F S1x4096x4x128 .f32) shapeCasts_S1x4096x4x128_S4096x4x128)
        transposes_S4096x4x128_S4x4096x128_1_0_2) bitsLt_bf16_f32 := by
  show StableHlo.after hostOps0 (W0 m ρ c) (Proc.devRef .tc main_v10) = _
  after_results
  rfl

theorem W1_v : W1 m ρ c (Proc.devRef .tc main_v13)
    = truncf .bf16 (transpose S4x4096x64 [1, 0, 2] (shapeCast S4096x4x64 (m ((c : Thread nD τ).loc main_arg2) : FVec F S1x4096x4x64 .f32) shapeCasts_S1x4096x4x64_S4096x4x64)
        transposes_S4096x4x64_S4x4096x64_1_0_2) bitsLt_bf16_f32 := by
  show StableHlo.after hostOps0 (W0 m ρ c) (Proc.devRef .tc main_v13) = _
  after_results
  rfl

/-- The second call's inputs: the three prepared arrays, the first call's two results, and the output gradient. -/
theorem W2_q : W2 m ρ c (Proc.devRef .tc main_v7) = W1 m ρ c (Proc.devRef .tc main_v7) := W2_of m ρ c main_v7 (by decide)
theorem W2_k : W2 m ρ c (Proc.devRef .tc main_v10) = W1 m ρ c (Proc.devRef .tc main_v10) := W2_of m ρ c main_v10 (by decide)
theorem W2_v : W2 m ρ c (Proc.devRef .tc main_v13) = W1 m ρ c (Proc.devRef .tc main_v13) := W2_of m ρ c main_v13 (by decide)
theorem W2_o : W2 m ρ c (Proc.devRef .tc main_v14_0) = (dat0 (V1 m ρ) c).arrAt 3 cfg0.N := W2_arr m ρ c 3
theorem W2_l : W2 m ρ c (Proc.devRef .tc main_v14_1) = (dat0 (V1 m ρ) c).arrAt 4 cfg0.N := W2_arr m ρ c 4
theorem W2_g : W2 m ρ c (Proc.devRef .tc main_arg3) = m ((c : Thread nD τ).loc main_arg3) := W2_args m ρ c main_arg3 (by decide)

/-- The four results at the end. -/
theorem W4_o : W4 m ρ c (Proc.devRef .tc main_v14_0) = (dat0 (V1 m ρ) c).arrAt 3 cfg0.N :=
  (W4_of m ρ c main_v14_0 (by decide)).trans ((W3_of m ρ c main_v14_0 (by decide)).trans (W2_o m ρ c))
theorem W4_dk : W4 m ρ c (Proc.devRef .tc main_v15_1) = (dat1 (V2 m ρ) c).arrAt 7 cfg1.N :=
  (W4_of m ρ c main_v15_1 (by decide)).trans (W3_arr m ρ c 7)
theorem W4_dv : W4 m ρ c (Proc.devRef .tc main_v15_2) = (dat1 (V2 m ρ) c).arrAt 8 cfg1.N :=
  (W4_of m ρ c main_v15_2 (by decide)).trans (W3_arr m ρ c 8)
theorem W3_scale : W3 m ρ c (Proc.devRef .tc main_v1) = qscale (F := F) :=
  (W3_of m ρ c main_v1 (by decide)).trans ((W2_of m ρ c main_v1 (by decide)).trans (W1_scale m ρ c))
theorem W4_dq : W4 m ρ c (Proc.devRef .tc main_v18)
    = mulf ((dat1 (V2 m ρ) c).arrAt 6 cfg1.N : FVec F S4x4096x128 .f32) (broadcastInDim S4x4096x128 ![] bcast_S_S4x4096x128 (qscale (F := F))) := by
  show StableHlo.after hostOps2 (W3 m ρ c) (Proc.devRef .tc main_v18) = _
  after_results
  rw [W3_scale, show W3 m ρ c (Proc.devRef .tc main_v15_0) = (dat1 (V2 m ρ) c).arrAt 6 cfg1.N from W3_arr m ρ c 6]
  rfl

theorem run : θ_run defs (onTc (τ := τ) (main (F := F))) ⟨m, fun _ => 0, ρ⟩ (fun r => ∀ c : Dev nD,
      (∀ b ∈ Pipeline.ucRefs τ sig, r.2.mem (((c : Thread nD τ)).1, b) = W4 m ρ c b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.LatentIdeal.Val
end
-- ==== Proof.LatentForward.lean ====
/- What one point of the forward call leaves in its two blocks, for finite queries, keys and values: every row of the output
   block is the softmax-weighted mean of the values, and every row statistic is the base-two log-sum-exp of the scores. -/
module
public import proofs.«01_k».proof.Proof.Gen.LatentIdeal.Frame
public import proofs.«01_k».proof.Proof.Softmax
public import Idealize.ShloMosaic.Lib.Pipeline.ValueKit
@[expose] public section
set_option maxRecDepth 16384
noncomputable section
open Idealize.ShloMosaic Idealize.ShloMosaic.TcCoe Idealize.SL.Sem Cert.Attn
namespace Cert.LatentIdeal.Val
open Cert.LatentIdeal Cert.LatentIdeal.Gen

/-- The named constants of the program are the reals they stand for. -/
theorem named_log2e : (Named.named (F := Ideal) κ "log2e" 0x3FB8AA3B#32 : Ideal .f32) = (((Real.log 2)⁻¹ : ℝ) : EReal) := by
  show (match κ "log2e" with | some v => v | none => Ideal.ofBits .f32 0x3FB8AA3B#32) = _
  simp only [κ]

theorem named_ln2 : (Named.named (F := Ideal) κ "ln2" 0x3F317218#32 : Ideal .f32) = ((Real.log 2 : ℝ) : EReal) := by
  show (match κ "ln2" with | some v => v | none => Ideal.ofBits .f32 0x3F317218#32) = _
  simp only [κ]

/-- One head of one block: the output row. -/
theorem head_out (q : Vec Ideal S1x256x128 .bf16) (k : Vec Ideal S1x4096x128 .bf16) (v : Vec Ideal S1x4096x64 .bf16)
    (Q : Fin 256 → Fin 128 → ℝ) (K : Fin 4096 → Fin 128 → ℝ) (V : Fin 4096 → Fin 64 → ℝ) (hq : ∀ r e, q (ix3 0 r e) = (Q r e : EReal))
    (hk : ∀ j e, k (ix3 0 j e) = (K j e : EReal)) (hv : ∀ j e, v (ix3 0 j e) = (V j e : EReal)) (r : Fin 256) (d : Fin 64) :
    k0_pay5 (F := Ideal) q k v (ix2 r d)
      = ((∑ j, weight (fun j => (∑ e, Q r e * K j e) * Real.log 2) j * V j d : ℝ) : EReal) := by
  pointwise [k0_pay5, k0_pay4, k0_pay3, k0_pay2, k0_pay1]
  simp only [hq, hk, hv, ← EReal.coe_mul, ← coe_sum]
  obtain ⟨M, hM⟩ := fold_max_real (fun j => ∑ e, Q r e * K j e)
  simp only [neg_inf, hM, exp2_def]
  exact row_out _ _ (fun _ => rfl) M _

theorem stat_at (a b : FVec Ideal S256x1 .f32) (c : Ideal .f32) (r : Fin 256) :
    k0_pay20 (F := Ideal) a b c (ix3 0 r 0) = ((a (ix2 r 0) : EReal) + (b (ix2 r 0) : EReal) * (c : EReal) : EReal) := by
  pointwise [k0_pay20]

section
variable (q : Vec Ideal S1x256x128 .bf16) (k : Vec Ideal S1x4096x128 .bf16)
  (Q : Fin 256 → Fin 128 → ℝ) (K : Fin 4096 → Fin 128 → ℝ) (hq : ∀ r e, q (ix3 0 r e) = (Q r e : EReal))
  (hk : ∀ j e, k (ix3 0 j e) = (K j e : EReal)) (r : Fin 256) (M : ℝ)
  (hM : Finset.univ.fold max (⊥ : EReal) (fun j : Fin 4096 => ((∑ e, Q r e * K j e : ℝ) : EReal)) = M)
include hq hk hM

theorem max_at : k0_pay15 (F := Ideal) q k (ix2 r 0) = (M : EReal) := by
  pointwise [k0_pay15, k0_pay14]
  simp only [hq, hk, ← EReal.coe_mul, ← coe_sum]
  simp only [neg_inf, hM]

theorem logsum_at : k0_pay19 (F := Ideal) q k (ix2 r 0)
    = Ideal.log (∑ j : Fin 4096, Ideal.exp2 (((∑ e, Q r e * K j e : ℝ) : EReal) - (M : EReal))) := by
  pointwise [k0_pay19, k0_pay17, k0_pay16, k0_pay14]
  simp only [hq, hk, ← EReal.coe_mul, ← coe_sum]
  simp only [exp2_def, max_at q k Q K hq hk r M hM]
end

/-- One head of one block: the row statistic. -/
theorem head_lse (q : Vec Ideal S1x256x128 .bf16) (k : Vec Ideal S1x4096x128 .bf16)
    (Q : Fin 256 → Fin 128 → ℝ) (K : Fin 4096 → Fin 128 → ℝ) (hq : ∀ r e, q (ix3 0 r e) = (Q r e : EReal))
    (hk : ∀ j e, k (ix3 0 j e) = (K j e : EReal)) (r : Fin 256) :
    k0_pay6 (F := Ideal) q k (ix3 0 r 0) = ((lse (fun j => ∑ e, Q r e * K j e) : ℝ) : EReal) := by
  obtain ⟨M, hM⟩ := fold_max_real (fun j => ∑ e, Q r e * K j e)
  refine (stat_at (k0_pay15 q k) (k0_pay19 q k) (Named.named κ "log2e" 0x3FB8AA3B#32) r).trans ?_
  rw [max_at q k Q K hq hk r M hM, logsum_at q k Q K hq hk r M hM, named_log2e]
  exact row_lse _ M

/-- The four heads side by side. -/
theorem cat_at (A : Fin 4 → FVec Ideal S256x64 .f32) (q : Vec Ideal S1x256x128 .bf16) (k : Vec Ideal S1x4096x128 .bf16) (v : Vec Ideal S1x4096x64 .bf16)
    (h3 : A 3 = k0_pay5 q k v) (h : Fin 4) (r : Fin 256) (d : Fin 64) :
    k0_pay26 (F := Ideal) (A 0) (A 1) (A 2) q k v (ix2 r ⟨64 * h.val + d.val, by omega⟩) = A h (ix2 r d) := by
  have e : k0_pay26 (F := Ideal) (A 0) (A 1) (A 2) q k v
      = concatenate S256x256 1 [⟨S256x64, A 0⟩, ⟨S256x64, A 1⟩, ⟨S256x64, A 2⟩, ⟨S256x64, A 3⟩]
          concatenates_S256x64_S256x64_S256x64_S256x64_S256x256_d1 := by rw [h3]; rfl
  rw [e]
  obtain rfl | rfl | rfl | rfl : h = 0 ∨ h = 1 ∨ h = 2 ∨ h = 3 := by omega
  all_goals
    pointwise
    all_goals split_ifs <;> first
      | (exfalso; omega)
      | contradiction
      | exact congrArg _ (congrArg _ (Fin.ext (by dsimp only; omega)))
      | rfl

section
variable (x0 : Vec Ideal S4x256x128 .bf16) (x1 : Vec Ideal S4x4096x128 .bf16) (x2 : Vec Ideal S4x4096x64 .bf16)
  (Q : Fin 4 → Fin 256 → Fin 128 → ℝ) (K : Fin 4 → Fin 4096 → Fin 128 → ℝ) (V : Fin 4 → Fin 4096 → Fin 64 → ℝ)
  (hq : ∀ h r e, x0 (ix3 h r e) = (Q h r e : EReal)) (hk : ∀ h j e, x1 (ix3 h j e) = (K h j e : EReal))
  (hv : ∀ h j e, x2 (ix3 h j e) = (V h j e : EReal))

theorem ld_q0 (x : Vec Ideal S4x256x128 .bf16) (a b) : View.ld x r0_0 (ix3 0 a b) = x (ix3 0 a b) := by pointwise
theorem ld_q1 (x : Vec Ideal S4x256x128 .bf16) (a b) : View.ld x r0_4 (ix3 0 a b) = x (ix3 1 a b) := by pointwise
theorem ld_q2 (x : Vec Ideal S4x256x128 .bf16) (a b) : View.ld x r0_8 (ix3 0 a b) = x (ix3 2 a b) := by pointwise
theorem ld_q3 (x : Vec Ideal S4x256x128 .bf16) (a b) : View.ld x r0_12 (ix3 0 a b) = x (ix3 3 a b) := by pointwise
theorem ld_k0 (x : Vec Ideal S4x4096x128 .bf16) (a b) : View.ld x r0_1 (ix3 0 a b) = x (ix3 0 a b) := by pointwise
theorem ld_k1 (x : Vec Ideal S4x4096x128 .bf16) (a b) : View.ld x r0_5 (ix3 0 a b) = x (ix3 1 a b) := by pointwise
theorem ld_k2 (x : Vec Ideal S4x4096x128 .bf16) (a b) : View.ld x r0_9 (ix3 0 a b) = x (ix3 2 a b) := by pointwise
theorem ld_k3 (x : Vec Ideal S4x4096x128 .bf16) (a b) : View.ld x r0_13 (ix3 0 a b) = x (ix3 3 a b) := by pointwise
theorem ld_v0 (x : Vec Ideal S4x4096x64 .bf16) (a b) : View.ld x r0_2 (ix3 0 a b) = x (ix3 0 a b) := by pointwise
theorem ld_v1 (x : Vec Ideal S4x4096x64 .bf16) (a b) : View.ld x r0_6 (ix3 0 a b) = x (ix3 1 a b) := by pointwise
theorem ld_v2 (x : Vec Ideal S4x4096x64 .bf16) (a b) : View.ld x r0_10 (ix3 0 a b) = x (ix3 2 a b) := by pointwise
theorem ld_v3 (x : Vec Ideal S4x4096x64 .bf16) (a b) : View.ld x r0_14 (ix3 0 a b) = x (ix3 3 a b) := by pointwise

include hq hk hv in
theorem out_at (h : Fin 4) (r : Fin 256) (d : Fin 64) :
    out0_3 x0 x1 x2 (ix2 r ⟨64 * h.val + d.val, by omega⟩)
      = ((∑ j, weight (fun j => (∑ e, Q h r e * K h j e) * Real.log 2) j * V h j d : ℝ) : EReal) := by
  unfold_out out0_3
  frame_out
  refine (cat_at (fun h => match h with
    | 0 => k0_pay5 (View.ld x0 r0_0) (View.ld x1 r0_1) (View.ld x2 r0_2)
    | 1 => k0_pay5 (View.ld x0 r0_4) (View.ld x1 r0_5) (View.ld x2 r0_6)
    | 2 => k0_pay5 (View.ld x0 r0_8) (View.ld x1 r0_9) (View.ld x2 r0_10)
    | 3 => k0_pay5 (View.ld x0 r0_12) (View.ld x1 r0_13) (View.ld x2 r0_14)) _ _ _ rfl h r d).trans ?_
  exact match h with
    | 0 => head_out _ _ _ _ _ _ (fun a b => (ld_q0 x0 a b).trans (hq 0 a b)) (fun a b => (ld_k0 x1 a b).trans (hk 0 a b)) (fun a b => (ld_v0 x2 a b).trans (hv 0 a b)) r d
    | 1 => head_out _ _ _ _ _ _ (fun a b => (ld_q1 x0 a b).trans (hq 1 a b)) (fun a b => (ld_k1 x1 a b).trans (hk 1 a b)) (fun a b => (ld_v1 x2 a b).trans (hv 1 a b)) r d
    | 2 => head_out _ _ _ _ _ _ (fun a b => (ld_q2 x0 a b).trans (hq 2 a b)) (fun a b => (ld_k2 x1 a b).trans (hk 2 a b)) (fun a b => (ld_v2 x2 a b).trans (hv 2 a b)) r d
    | 3 => head_out _ _ _ _ _ _ (fun a b => (ld_q3 x0 a b).trans (hq 3 a b)) (fun a b => (ld_k3 x1 a b).trans (hk 3 a b)) (fun a b => (ld_v3 x2 a b).trans (hv 3 a b)) r d

include hq hk in
theorem lse_at (h : Fin 4) (r : Fin 256) :
    out0_4 x0 x1 x2 (ix3 h r 0) = ((lse (fun j => ∑ e, Q h r e * K h j e) : ℝ) : EReal) := by
  unfold_out out0_4
  canon_tiles x hx
  all_goals
    have hr : x = ix3 0 r 0 := by
      obtain ⟨a, b, d, rfl⟩ : ∃ a b d, x = ix3 a b d := ⟨x 0, x 1, x 2, by funext i; fin_cases i <;> rfl⟩
      congr 1 <;> apply Fin.ext <;> simp at * <;> omega
    subst hr
  · obtain rfl : h = 3 := by apply Fin.ext; simp at *; omega
    exact head_lse _ _ _ _ (fun a b => (ld_q3 x0 a b).trans (hq 3 a b)) (fun a b => (ld_k3 x1 a b).trans (hk 3 a b)) r
  · obtain rfl : h = 2 := by apply Fin.ext; simp at *; omega
    exact head_lse _ _ _ _ (fun a b => (ld_q2 x0 a b).trans (hq 2 a b)) (fun a b => (ld_k2 x1 a b).trans (hk 2 a b)) r
  · obtain rfl : h = 1 := by apply Fin.ext; simp at *; omega
    exact head_lse _ _ _ _ (fun a b => (ld_q1 x0 a b).trans (hq 1 a b)) (fun a b => (ld_k1 x1 a b).trans (hk 1 a b)) r
  · obtain rfl : h = 0 := by apply Fin.ext; simp at *; omega
    exact head_lse _ _ _ _ (fun a b => (ld_q0 x0 a b).trans (hq 0 a b)) (fun a b => (ld_k0 x1 a b).trans (hk 0 a b)) r
end

end Cert.LatentIdeal.Val
end
-- ==== Proof.LatentForwardArrays.lean ====
/- The two arrays that the forward call leaves, entry by entry, for finite queries, keys and values. -/
module
public import proofs.«01_k».proof.Proof.LatentForward
@[expose] public section
set_option maxRecDepth 16384
noncomputable section
open Idealize.ShloMosaic Idealize.ShloMosaic.TcCoe Idealize.SL.Sem Cert.Attn
namespace Cert.LatentIdeal.Val
open Cert.LatentIdeal Cert.LatentIdeal.Gen

/-- Attention of four heads on base-two scores: the output of head `h` at row `i`. -/
def outR (Q K : Fin 4 → Fin 4096 → Fin 128 → ℝ) (V : Fin 4 → Fin 4096 → Fin 64 → ℝ) (h : Fin 4) (i : Fin 4096) (d : Fin 64) : ℝ :=
  ∑ j, weight (fun j => (∑ e, Q h i e * K h j e) * Real.log 2) j * V h j d

/-- The statistic of head `h` at row `i`. -/
def lseR (Q K : Fin 4 → Fin 4096 → Fin 128 → ℝ) (h : Fin 4) (i : Fin 4096) : ℝ :=
  lse (fun j => ∑ e, Q h i e * K h j e)

/-- The head and the lane of a column of the output. -/
def hd (c : Fin 256) : Fin 4 := ⟨c.val / 64, by omega⟩
def ln (c : Fin 256) : Fin 64 := ⟨c.val % 64, by omega⟩

theorem idx0 : ∀ t : Fin cfg0.N, win0_0.index t = ![0, t.val, 0] ∧ win0_1.index t = ![0, 0, 0] ∧ win0_2.index t = ![0, 0, 0]
    ∧ win0_3.index t = ![t.val, 0] ∧ win0_4.index t = ![0, t.val, 0] :=
  (by decide +kernel : ∀ t : Fin grid0.N, _)

section
variable (V : (c : Dev nD) → (b : Ref sig .tc) → Buf (Elt Ideal) ((c : Thread nD τ).loc b)) (c : Dev nD)
  (Q K : Fin 4 → Fin 4096 → Fin 128 → ℝ) (W : Fin 4 → Fin 4096 → Fin 64 → ℝ)
  (hq : ∀ h r e, (V c (Pipeline.arrRef spec0 0) : Vec Ideal S4x4096x128 .bf16) (ix3 h r e) = (Q h r e : EReal))
  (hk : ∀ h j e, (V c (Pipeline.arrRef spec0 1) : Vec Ideal S4x4096x128 .bf16) (ix3 h j e) = (K h j e : EReal))
  (hv : ∀ h j e, (V c (Pipeline.arrRef spec0 2) : Vec Ideal S4x4096x64 .bf16) (ix3 h j e) = (W h j e : EReal))

include hq in
theorem blk0_0 (t : Fin cfg0.N) (ht : t.val < 16) (h : Fin 4) (r : Fin 256) (e : Fin 128) :
    (iblk0 V c 0 t : Vec Ideal S4x256x128 .bf16) (ix3 h r e) = (Q h ⟨256 * t.val + r.val, by omega⟩ e : EReal) := by
  rw [← hq]
  blk_point [iblk0, idx0 t]

include hk in
theorem blk0_1 (t : Fin cfg0.N) (h : Fin 4) (j : Fin 4096) (e : Fin 128) :
    (iblk0 V c 1 t : Vec Ideal S4x4096x128 .bf16) (ix3 h j e) = (K h j e : EReal) := by
  rw [← hk]
  blk_point [iblk0, idx0 t]

include hv in
theorem blk0_2 (t : Fin cfg0.N) (h : Fin 4) (j : Fin 4096) (e : Fin 64) :
    (iblk0 V c 2 t : Vec Ideal S4x4096x64 .bf16) (ix3 h j e) = (W h j e : EReal) := by
  rw [← hv]
  blk_point [iblk0, idx0 t]

include hq hk hv in
theorem final_out : (dat0 V c).arrAt 3 cfg0.N
    = fun i : S4096x256.Idx => ((outR Q K W (hd (i 1)) (i 0) (ln (i 1)) : ℝ) : EReal) := by
  refine (dat0 V c).arrAt_eq_of_covers 3 _ (by decide +kernel) fun t hf y => ?_
  have ht : t.val < 16 := lt_of_lt_of_eq t.isLt (by decide)
  blk_simp
  rw [after0_3]
  idx_vars y
  suffices H : ∀ (a : Fin 4096) (b : Fin 256), a.val = 256 * t.val + y0.val → b.val = y1.val →
      out0_3 (iblk0 V c 0 t) (iblk0 V c 1 t) (iblk0 V c 2 t) (ix2 y0 y1) = ((outR Q K W (hd b) a (ln b) : ℝ) : EReal) from
    H _ _ (by blk_simp [idx0 t] <;> try omega) (by blk_simp [idx0 t] <;> try omega)
  intro a b ha hb
  obtain rfl : b = y1 := Fin.ext hb
  have ea : a = ⟨256 * t.val + y0.val, by omega⟩ := Fin.ext ha
  rw [ea]
  have hy : b = ⟨64 * (hd b).val + (ln b).val, by simp only [hd, ln]; omega⟩ := Fin.ext (by simp only [hd, ln]; omega)
  refine (congrArg (fun z => out0_3 (iblk0 V c 0 t) (iblk0 V c 1 t) (iblk0 V c 2 t) (ix2 y0 z)) hy).trans ?_
  exact out_at _ _ _ _ K W (blk0_0 V c Q hq t ht) (blk0_1 V c K hk t) (blk0_2 V c W hv t) (hd b) y0 (ln b)

include hq hk in
theorem final_lse : (dat0 V c).arrAt 4 cfg0.N
    = fun i : S4x4096x1.Idx => ((lseR Q K (i 0) (i 1) : ℝ) : EReal) := by
  refine (dat0 V c).arrAt_eq_of_covers 4 _ (by decide +kernel) fun t hf y => ?_
  have ht : t.val < 16 := lt_of_lt_of_eq t.isLt (by decide)
  blk_simp
  rw [after0_4]
  idx_vars y
  suffices H : ∀ (h : Fin 4) (a : Fin 4096), h.val = y0.val → a.val = 256 * t.val + y1.val →
      out0_4 (iblk0 V c 0 t) (iblk0 V c 1 t) (iblk0 V c 2 t) (ix3 y0 y1 y2) = ((lseR Q K h a : ℝ) : EReal) from
    H _ _ (by blk_simp [idx0 t] <;> try omega) (by blk_simp [idx0 t] <;> try omega)
  intro h a hh ha
  obtain rfl : h = y0 := Fin.ext hh
  have ea : a = ⟨256 * t.val + y1.val, by omega⟩ := Fin.ext ha
  rw [ea]
  obtain rfl : y2 = 0 := Subsingleton.elim _ _
  exact lse_at _ _ _ _ K (blk0_0 V c Q hq t ht) (blk0_1 V c K hk t) h y1
end

end Cert.LatentIdeal.Val

end
-- ==== Proof.LatentBackward.lean ====
/- What one point of the backward call adds, head by head, for finite blocks: the gradient rows of the queries, and the
   contributions of the point's rows to the gradients of the keys and of the values. -/
module
public import proofs.«01_k».proof.Proof.LatentForward
@[expose] public section
set_option maxRecDepth 16384
noncomputable section
open Idealize.ShloMosaic Idealize.ShloMosaic.TcCoe Idealize.SL.Sem Cert.Attn
namespace Cert.LatentIdeal.Val
open Cert.LatentIdeal Cert.LatentIdeal.Gen

section
variable (q : Vec Ideal S1x512x128 .bf16) (k : Vec Ideal S1x4096x128 .bf16) (v : Vec Ideal S1x4096x64 .bf16) (l : Vec Ideal S1x512x1 .f32) (g o : FVec Ideal S512x64 .f32)
  (Q : Fin 512 → Fin 128 → ℝ) (G O : Fin 512 → Fin 64 → ℝ) (K : Fin 4096 → Fin 128 → ℝ) (V : Fin 4096 → Fin 64 → ℝ)
  (hq : ∀ r e, q (ix3 0 r e) = (Q r e : EReal)) (hk : ∀ j e, k (ix3 0 j e) = (K j e : EReal))
  (hv : ∀ j e, v (ix3 0 j e) = (V j e : EReal)) (hg : ∀ r e, g (ix2 r e) = (G r e : EReal))
  (ho : ∀ r e, o (ix2 r e) = (O r e : EReal))
  (hl : ∀ r, l (ix3 0 r 0) = ((lse (fun j => ∑ e, Q r e * K j e) : ℝ) : EReal))

include hq hk hl in
theorem weight_at (r : Fin 512) (j : Fin 4096) :
    k1_pay19 (F := Ideal) (k1_pay18 q k) l (ix2 r j) = ((weight (score (Q r) K) j : ℝ) : EReal) := by
  pointwise [k1_pay19, k1_pay18, k1_pay15, k1_pay16]
  simp only [hq, hk, hl, ← EReal.coe_mul, ← coe_sum, exp2_def]
  exact row_weight (fun j => ∑ e, Q r e * K j e) (score (Q r) K) (fun _ => rfl) j

include hq hk hl hg hv ho in
theorem dscore_at (r : Fin 512) (j : Fin 4096) :
    k1_pay20 (F := Ideal) g o (k1_pay17 v) (k1_pay18 q k) l (ix2 r j) = ((dscore (Q r) K V (G r) (O r) j : ℝ) : EReal) := by
  pointwise [k1_pay20, k1_pay17]
  rw [weight_at q k l Q K hq hk hl r j, named_ln2]
  simp only [hv, hg, ho, ← EReal.coe_mul, ← coe_sum, ← EReal.coe_sub]
  rfl

include hq hk hl hg hv ho in
theorem dq_head (r : Fin 512) (e : Fin 128) :
    k1_pay21 (F := Ideal) g o (k1_pay16 k) (k1_pay17 v) (k1_pay18 q k) l (ix3 0 r e)
      = ((∑ j, dscore (Q r) K V (G r) (O r) j * K j e : ℝ) : EReal) := by
  pointwise [k1_pay21, k1_pay16]
  simp only [hk, dscore_at q k v l g o Q G O K V hq hk hv hg ho hl, ← EReal.coe_mul, ← coe_sum]

include hq hk hl hg hv ho in
theorem dk_head (a : Vec Ideal S1x4096x128 .f32) (j : Fin 4096) (e : Fin 128) :
    k1_pay22 (F := Ideal) g o (k1_pay15 q) (k1_pay17 v) (k1_pay18 q k) l a (ix3 0 j e)
      = (a (ix3 0 j e) : EReal) + ((∑ r, dscore (Q r) K V (G r) (O r) j * Q r e : ℝ) : EReal) := by
  pointwise [k1_pay22, k1_pay15]
  simp only [hq, dscore_at q k v l g o Q G O K V hq hk hv hg ho hl, ← EReal.coe_mul, ← coe_sum]

include hq hk hl hg in
theorem dv_head (a : Vec Ideal S1x4096x64 .f32) (j : Fin 4096) (d : Fin 64) :
    k1_pay23 (F := Ideal) g (k1_pay18 q k) l a (ix3 0 j d)
      = (a (ix3 0 j d) : EReal) + ((∑ r, weight (score (Q r) K) j * G r d : ℝ) : EReal) := by
  pointwise [k1_pay23]
  simp only [hg, weight_at q k l Q K hq hk hl, ← EReal.coe_mul, ← coe_sum]
end

end Cert.LatentIdeal.Val

end
-- ==== Proof.LatentBlocks.lean ====
/- The blocks of a point of the backward call, entry by entry, for finite queries, keys, values, outputs and output gradients,
   and what the point adds to the gradients of the keys and values of each of its two heads. -/
module
public import proofs.«01_k».proof.Proof.LatentForwardArrays
public import proofs.«01_k».proof.Proof.LatentBackward
@[expose] public section
set_option maxRecDepth 16384
noncomputable section
open Idealize.ShloMosaic Idealize.ShloMosaic.TcCoe Idealize.SL.Sem Cert.Attn
namespace Cert.LatentIdeal.Val
open Cert.LatentIdeal Cert.LatentIdeal.Gen

section
variable (Q K : Fin 4 → Fin 4096 → Fin 128 → ℝ) (W G O : Fin 4 → Fin 4096 → Fin 64 → ℝ)

/-- The gradient of the scores of head `h`, row `i`, key `j`. -/
def dsR (h : Fin 4) (i j : Fin 4096) : ℝ := dscore (Q h i) (K h) (W h) (G h i) (O h i) j
/-- The gradients of the queries, keys and values. -/
def dqR (h : Fin 4) (i : Fin 4096) (e : Fin 128) : ℝ := ∑ j, dsR Q K W G O h i j * K h j e
def dkR (h : Fin 4) (j : Fin 4096) (e : Fin 128) : ℝ := ∑ i, dsR Q K W G O h i j * Q h i e
def dvR (h : Fin 4) (j : Fin 4096) (d : Fin 64) : ℝ := ∑ i, weight (score (Q h i) (K h)) j * G h i d
end

/-- The two heads, and the two column halves, of a point's blocks. -/
def qB (g : Fin 2) (x : Vec Ideal S2x512x128 .bf16) : Vec Ideal S1x512x128 .bf16 := match g with
  | 0 => View.ld x (Rect.unit ![0, 0, 0] ![1, 512, 128] inb_S2x512x128_S1x512x128_0_0_0)
  | 1 => View.ld x (Rect.unit ![1, 0, 0] ![1, 512, 128] inb_S2x512x128_S1x512x128_1_0_0)
def kB (g : Fin 2) (x : Vec Ideal S2x4096x128 .bf16) : Vec Ideal S1x4096x128 .bf16 := match g with
  | 0 => View.ld x (Rect.unit ![0, 0, 0] ![1, 4096, 128] inb_S2x4096x128_S1x4096x128_0_0_0)
  | 1 => View.ld x (Rect.unit ![1, 0, 0] ![1, 4096, 128] inb_S2x4096x128_S1x4096x128_1_0_0)
def vB (g : Fin 2) (x : Vec Ideal S2x4096x64 .bf16) : Vec Ideal S1x4096x64 .bf16 := match g with
  | 0 => View.ld x (Rect.unit ![0, 0, 0] ![1, 4096, 64] inb_S2x4096x64_S1x4096x64_0_0_0)
  | 1 => View.ld x (Rect.unit ![1, 0, 0] ![1, 4096, 64] inb_S2x4096x64_S1x4096x64_1_0_0)
def lB (g : Fin 2) (x : Vec Ideal S2x512x1 .f32) : Vec Ideal S1x512x1 .f32 := match g with
  | 0 => View.ld x (Rect.unit ![0, 0, 0] ![1, 512, 1] inb_S2x512x1_S1x512x1_0_0_0)
  | 1 => View.ld x (Rect.unit ![1, 0, 0] ![1, 512, 1] inb_S2x512x1_S1x512x1_1_0_0)
def gB (g : Fin 2) (x : Vec Ideal S512x128 .f32) : FVec Ideal S512x64 .f32 := match g with
  | 0 => k1_pay4 x
  | 1 => k1_pay13 x
def oB (g : Fin 2) (x : Vec Ideal S512x128 .f32) : FVec Ideal S512x64 .f32 := match g with
  | 0 => extractStridedSlice S512x64 ![0, 0] (k1_pay3 x) slices_S512x128_o0_0_S512x64
  | 1 => k1_pay14 (k1_pay3 x)

theorem qB_at (g : Fin 2) (x : Vec Ideal S2x512x128 .bf16) (r : Fin 512) (e : Fin 128) :
    qB g x (ix3 0 r e) = x (ix3 g r e) := by
  obtain rfl | rfl : g = 0 ∨ g = 1 := by omega
  · dsimp only [qB]; pointwise
  · dsimp only [qB]; pointwise
theorem kB_at (g : Fin 2) (x : Vec Ideal S2x4096x128 .bf16) (j : Fin 4096) (e : Fin 128) :
    kB g x (ix3 0 j e) = x (ix3 g j e) := by
  obtain rfl | rfl : g = 0 ∨ g = 1 := by omega
  · dsimp only [kB]; pointwise
  · dsimp only [kB]; pointwise
theorem vB_at (g : Fin 2) (x : Vec Ideal S2x4096x64 .bf16) (j : Fin 4096) (e : Fin 64) :
    vB g x (ix3 0 j e) = x (ix3 g j e) := by
  obtain rfl | rfl : g = 0 ∨ g = 1 := by omega
  · dsimp only [vB]; pointwise
  · dsimp only [vB]; pointwise
theorem lB_at (g : Fin 2) (x : Vec Ideal S2x512x1 .f32) (r : Fin 512) : lB g x (ix3 0 r 0) = x (ix3 g r 0) := by
  obtain rfl | rfl : g = 0 ∨ g = 1 := by omega
  · dsimp only [lB]; pointwise
  · dsimp only [lB]; pointwise
theorem gB_at (g : Fin 2) (x : Vec Ideal S512x128 .f32) (r : Fin 512) (e : Fin 64) :
    gB g x (ix2 r e) = x (ix2 r ⟨64 * g.val + e.val, by omega⟩) := by
  obtain rfl | rfl : g = 0 ∨ g = 1 := by omega
  · dsimp only [gB]; pointwise [k1_pay4]
  · dsimp only [gB]; pointwise [k1_pay13]
theorem oB_at (g : Fin 2) (x : Vec Ideal S512x128 .f32) (r : Fin 512) (e : Fin 64) :
    oB g x (ix2 r e) = x (ix2 r ⟨64 * g.val + e.val, by omega⟩) := by
  obtain rfl | rfl : g = 0 ∨ g = 1 := by omega
  · dsimp only [oB]; pointwise [k1_pay3]
  · dsimp only [oB]; pointwise [k1_pay14, k1_pay3]

theorem zero_dk (y) : k1_pay1 (F := Ideal) y = 0 := by pointwise [k1_pay1]
theorem zero_dv (y) : k1_pay2 (F := Ideal) y = 0 := by pointwise [k1_pay2]

theorem idx1 : ∀ t : Fin cfg1.N, win1_0.index t = ![t.val / 8, t.val % 8, 0] ∧ win1_1.index t = ![t.val / 8, 0, 0]
    ∧ win1_2.index t = ![t.val / 8, 0, 0] ∧ win1_3.index t = ![t.val % 8, t.val / 8] ∧ win1_4.index t = ![t.val / 8, t.val % 8, 0]
    ∧ win1_5.index t = ![t.val % 8, 6 + t.val / 8] ∧ win1_6.index t = ![t.val / 8, t.val % 8, 0]
    ∧ win1_7.index t = ![t.val / 8, 0, 0] ∧ win1_8.index t = ![t.val / 8, 0, 0] :=
  (by decide +kernel : ∀ t : Fin grid1.N, _)

/-- The pair of heads of a point and the row of the array at row `r` of its blocks. -/
def hp (t : Fin cfg1.N) : Fin 2 := ⟨t.val / 8, by have h : t.val < 16 := lt_of_lt_of_eq t.isLt (by decide); omega⟩
def row (t : Fin cfg1.N) (r : Fin 512) : Fin 4096 := ⟨t.val % 8 * 512 + r.val, by omega⟩

section
variable (V : (c : Dev nD) → (b : Ref sig .tc) → Buf (Elt Ideal) ((c : Thread nD τ).loc b)) (c : Dev nD)
  (Q K : Fin 4 → Fin 4096 → Fin 128 → ℝ) (W G O : Fin 4 → Fin 4096 → Fin 64 → ℝ)
  (hq : ∀ h r e, (V c (Pipeline.arrRef spec1 0) : Vec Ideal S4x4096x128 .bf16) (ix3 h r e) = (Q h r e : EReal))
  (hk : ∀ h j e, (V c (Pipeline.arrRef spec1 1) : Vec Ideal S4x4096x128 .bf16) (ix3 h j e) = (K h j e : EReal))
  (hv : ∀ h j e, (V c (Pipeline.arrRef spec1 2) : Vec Ideal S4x4096x64 .bf16) (ix3 h j e) = (W h j e : EReal))
  (ho : ∀ h r d, (V c (Pipeline.arrRef spec1 3) : Vec Ideal S4096x256 .f32) (ix2 r ⟨64 * h.val + d.val, col_lt h d⟩) = (O h r d : EReal))
  (hl : ∀ h r, (V c (Pipeline.arrRef spec1 4) : Vec Ideal S4x4096x1 .f32) (ix3 h r 0) = (lseR Q K h r : EReal))
  (hg : ∀ h r d, (V c (Pipeline.arrRef spec1 5) : Vec Ideal S4096x1024 .f32) (ix2 r ⟨768 + (64 * h.val + d.val), lcol_lt h d⟩) = (G h r d : EReal))

include hq in
theorem q_at (t : Fin cfg1.N) (g : Fin 2) (r : Fin 512) (e : Fin 128) :
    qB g (iblk1 V c 0 t) (ix3 0 r e) = (Q (pair (hp t) g) (row t r) e : EReal) := by
  rw [← hq]; refine (qB_at g _ r e).trans ?_
  dsimp only [pair, hp, row]
  blk_point [iblk1, idx1 t]
include hk in
theorem k_at (t : Fin cfg1.N) (g : Fin 2) (j : Fin 4096) (e : Fin 128) :
    kB g (iblk1 V c 1 t) (ix3 0 j e) = (K (pair (hp t) g) j e : EReal) := by
  rw [← hk]; refine (kB_at g _ j e).trans ?_
  dsimp only [pair, hp]
  blk_point [iblk1, idx1 t]
include hv in
theorem v_at (t : Fin cfg1.N) (g : Fin 2) (j : Fin 4096) (e : Fin 64) :
    vB g (iblk1 V c 2 t) (ix3 0 j e) = (W (pair (hp t) g) j e : EReal) := by
  rw [← hv]; refine (vB_at g _ j e).trans ?_
  dsimp only [pair, hp]
  blk_point [iblk1, idx1 t]
include ho in
theorem o_at (t : Fin cfg1.N) (g : Fin 2) (r : Fin 512) (e : Fin 64) :
    oB g (iblk1 V c 3 t) (ix2 r e) = (O (pair (hp t) g) (row t r) e : EReal) := by
  rw [← ho]; refine (oB_at g _ r e).trans ?_
  dsimp only [pair, hp, row]
  blk_point [iblk1, idx1 t]
include hl in
theorem l_at (t : Fin cfg1.N) (g : Fin 2) (r : Fin 512) :
    lB g (iblk1 V c 4 t) (ix3 0 r 0) = ((lse fun j => ∑ e, Q (pair (hp t) g) (row t r) e * K (pair (hp t) g) j e : ℝ) : EReal) := by
  have h := hl (pair (hp t) g) (row t r)
  rw [lseR] at h
  rw [← h]; refine (lB_at g _ r).trans ?_
  dsimp only [pair, hp, row]
  blk_point [iblk1, idx1 t]
include hg in
theorem g_at (t : Fin cfg1.N) (g : Fin 2) (r : Fin 512) (e : Fin 64) :
    gB g (iblk1 V c 5 t) (ix2 r e) = (G (pair (hp t) g) (row t r) e : EReal) := by
  rw [← hg]; refine (gB_at g _ r e).trans ?_
  dsimp only [pair, hp, row]
  blk_point [iblk1, idx1 t]

/-- What a point adds to the gradient of the keys, and to that of the values, of each of its heads. -/
def dkPart (t : Fin cfg1.N) (y : S2x4096x128.Idx) : EReal :=
  ((∑ r, dsR Q K W G O (pair (hp t) (y 0)) (row t r) (y 1) * Q (pair (hp t) (y 0)) (row t r) (y 2) : ℝ) : EReal)
def dvPart (t : Fin cfg1.N) (y : S2x4096x64.Idx) : EReal :=
  ((∑ r, weight (score (Q (pair (hp t) (y 0)) (row t r)) (K (pair (hp t) (y 0)))) (y 1) * G (pair (hp t) (y 0)) (row t r) (y 2) : ℝ) : EReal)

section
include hq hk hv ho hl hg
theorem dk_pay (t : Fin cfg1.N) (g : Fin 2) (a : Vec Ideal S1x4096x128 .f32) (j : Fin 4096) (e : Fin 128) :
    k1_pay22 (F := Ideal) (gB g (iblk1 V c 5 t)) (oB g (iblk1 V c 3 t)) (k1_pay15 (qB g (iblk1 V c 0 t))) (k1_pay17 (vB g (iblk1 V c 2 t)))
      (k1_pay18 (qB g (iblk1 V c 0 t)) (kB g (iblk1 V c 1 t))) (lB g (iblk1 V c 4 t)) a (ix3 0 j e)
      = (a (ix3 0 j e) : EReal) + dkPart Q K W G O t (ix3 g j e) :=
  dk_head _ _ _ _ _ _ (fun r => Q (pair (hp t) g) (row t r)) (fun r => G (pair (hp t) g) (row t r)) (fun r => O (pair (hp t) g) (row t r))
    (K (pair (hp t) g)) (W (pair (hp t) g)) (q_at V c Q hq t g) (k_at V c K hk t g) (v_at V c W hv t g) (g_at V c G hg t g) (o_at V c O ho t g) (l_at V c Q K hl t g) a j e
theorem dv_pay (t : Fin cfg1.N) (g : Fin 2) (a : Vec Ideal S1x4096x64 .f32) (j : Fin 4096) (d : Fin 64) :
    k1_pay23 (F := Ideal) (gB g (iblk1 V c 5 t)) (k1_pay18 (qB g (iblk1 V c 0 t)) (kB g (iblk1 V c 1 t))) (lB g (iblk1 V c 4 t)) a (ix3 0 j d)
      = (a (ix3 0 j d) : EReal) + dvPart Q K G t (ix3 g j d) :=
  dv_head _ _ _ _ (fun r => Q (pair (hp t) g) (row t r)) (fun r => G (pair (hp t) g) (row t r))
    (K (pair (hp t) g)) (q_at V c Q hq t g) (k_at V c K hk t g) (g_at V c G hg t g) (l_at V c Q K hl t g) a j d
end
end

end Cert.LatentIdeal.Val

end
-- ==== Proof.LatentBackwardArrays.lean ====
/- The three arrays that the backward call leaves, entry by entry, for finite queries, keys, values, outputs and output
   gradients: the gradient of every query row, and the gradients of the keys and values of every head, summed over its rows. -/
module
public import proofs.«01_k».proof.Proof.LatentBlocks
public import Idealize.ShloMosaic.Lib.Pipeline.ReadBack
@[expose] public section
set_option maxRecDepth 16384
noncomputable section
open Idealize.ShloMosaic Idealize.ShloMosaic.TcCoe Idealize.SL.Sem Cert.Attn
namespace Cert.LatentIdeal.Val
open Cert.LatentIdeal Cert.LatentIdeal.Gen

/-- Two stores that hold an index, over a third: the third's payload is not read there. -/
theorem canon_over {S : Shape} {e : EltTy} (p q r : View.Piece (Elt Ideal) S e) (y : S.Idx) (h : ∃ pc ∈ [p, q], y ∈ pc.1.set) :
    View.canon [p, q, r] y = View.canon [p, q] y := by
  by_cases hp : y ∈ p.1.set
  · obtain ⟨x, rfl⟩ := p.1.exists_idx_of_mem hp
    exact (View.canon_cons_emb p.1 p.2 [q, r] x).trans (View.canon_cons_emb p.1 p.2 [q] x).symm
  · rw [View.canon_cons_of_not_mem p _ hp, View.canon_cons_of_not_mem p _ hp]
    have hq : y ∈ q.1.set := by
      obtain ⟨w, hw, hy⟩ := h
      rcases List.mem_cons.mp hw with rfl | hw
      · exact absurd hy hp
      · rwa [← List.mem_singleton.mp hw]
    obtain ⟨x, rfl⟩ := q.1.exists_idx_of_mem hq
    exact (View.canon_cons_emb q.1 q.2 [r] x).trans (View.canon_cons_emb q.1 q.2 [] x).symm

theorem over_dk (a b : Vec Ideal S1x4096x128 .f32) (z : Vec Ideal S2x4096x128 .f32) (y : S2x4096x128.Idx) :
    View.canon [(⟨Rect.unit ![1, 0, 0] ![1, 4096, 128] inb_S2x4096x128_S1x4096x128_1_0_0, a⟩ : View.Piece (Elt Ideal) S2x4096x128 .f32), ⟨Rect.unit ![0, 0, 0] ![1, 4096, 128] inb_S2x4096x128_S1x4096x128_0_0_0, b⟩,
        ⟨Rect.unit ![0, 0, 0] ![2, 4096, 128] inb_S2x4096x128_S2x4096x128_0_0_0, z⟩] y
      = View.canon [(⟨Rect.unit ![1, 0, 0] ![1, 4096, 128] inb_S2x4096x128_S1x4096x128_1_0_0, a⟩ : View.Piece (Elt Ideal) S2x4096x128 .f32), ⟨Rect.unit ![0, 0, 0] ![1, 4096, 128] inb_S2x4096x128_S1x4096x128_0_0_0, b⟩] y :=
  canon_over _ _ _ _ (View.cover_of_tiledL [(⟨Rect.unit ![1, 0, 0] ![1, 4096, 128] inb_S2x4096x128_S1x4096x128_1_0_0, a⟩ : View.Piece (Elt Ideal) S2x4096x128 .f32), ⟨Rect.unit ![0, 0, 0] ![1, 4096, 128] inb_S2x4096x128_S1x4096x128_0_0_0, b⟩]
    S1x4096x128.size (by sl_kernel_rfl) y)
theorem over_dv (a b : Vec Ideal S1x4096x64 .f32) (z : Vec Ideal S2x4096x64 .f32) (y : S2x4096x64.Idx) :
    View.canon [(⟨Rect.unit ![1, 0, 0] ![1, 4096, 64] inb_S2x4096x64_S1x4096x64_1_0_0, a⟩ : View.Piece (Elt Ideal) S2x4096x64 .f32), ⟨Rect.unit ![0, 0, 0] ![1, 4096, 64] inb_S2x4096x64_S1x4096x64_0_0_0, b⟩,
        ⟨Rect.unit ![0, 0, 0] ![2, 4096, 64] inb_S2x4096x64_S2x4096x64_0_0_0, z⟩] y
      = View.canon [(⟨Rect.unit ![1, 0, 0] ![1, 4096, 64] inb_S2x4096x64_S1x4096x64_1_0_0, a⟩ : View.Piece (Elt Ideal) S2x4096x64 .f32), ⟨Rect.unit ![0, 0, 0] ![1, 4096, 64] inb_S2x4096x64_S1x4096x64_0_0_0, b⟩] y :=
  canon_over _ _ _ _ (View.cover_of_tiledL [(⟨Rect.unit ![1, 0, 0] ![1, 4096, 64] inb_S2x4096x64_S1x4096x64_1_0_0, a⟩ : View.Piece (Elt Ideal) S2x4096x64 .f32), ⟨Rect.unit ![0, 0, 0] ![1, 4096, 64] inb_S2x4096x64_S1x4096x64_0_0_0, b⟩]
    S1x4096x64.size (by sl_kernel_rfl) y)
theorem ld_dk0 (a : Vec Ideal S2x4096x128 .f32) (j : Fin 4096) (e : Fin 128) :
    View.ld a (Rect.unit ![0, 0, 0] ![1, 4096, 128] inb_S2x4096x128_S1x4096x128_0_0_0) (ix3 0 j e) = a (ix3 0 j e) := by
  pointwise
theorem ld_dk1 (a : Vec Ideal S2x4096x128 .f32) (j : Fin 4096) (e : Fin 128) :
    View.ld a (Rect.unit ![1, 0, 0] ![1, 4096, 128] inb_S2x4096x128_S1x4096x128_1_0_0) (ix3 0 j e) = a (ix3 1 j e) := by
  pointwise
theorem ld_dv0 (a : Vec Ideal S2x4096x64 .f32) (j : Fin 4096) (e : Fin 64) :
    View.ld a (Rect.unit ![0, 0, 0] ![1, 4096, 64] inb_S2x4096x64_S1x4096x64_0_0_0) (ix3 0 j e) = a (ix3 0 j e) := by
  pointwise
theorem ld_dv1 (a : Vec Ideal S2x4096x64 .f32) (j : Fin 4096) (e : Fin 64) :
    View.ld a (Rect.unit ![1, 0, 0] ![1, 4096, 64] inb_S2x4096x64_S1x4096x64_1_0_0) (ix3 0 j e) = a (ix3 1 j e) := by
  pointwise

section
variable (V : (c : Dev nD) → (b : Ref sig .tc) → Buf (Elt Ideal) ((c : Thread nD τ).loc b)) (c : Dev nD)
  (Q K : Fin 4 → Fin 4096 → Fin 128 → ℝ) (W G O : Fin 4 → Fin 4096 → Fin 64 → ℝ)
  (hq : ∀ h r e, (V c (Pipeline.arrRef spec1 0) : Vec Ideal S4x4096x128 .bf16) (ix3 h r e) = (Q h r e : EReal))
  (hk : ∀ h j e, (V c (Pipeline.arrRef spec1 1) : Vec Ideal S4x4096x128 .bf16) (ix3 h j e) = (K h j e : EReal))
  (hv : ∀ h j e, (V c (Pipeline.arrRef spec1 2) : Vec Ideal S4x4096x64 .bf16) (ix3 h j e) = (W h j e : EReal))
  (ho : ∀ h r d, (V c (Pipeline.arrRef spec1 3) : Vec Ideal S4096x256 .f32) (ix2 r ⟨64 * h.val + d.val, col_lt h d⟩) = (O h r d : EReal))
  (hl : ∀ h r, (V c (Pipeline.arrRef spec1 4) : Vec Ideal S4x4096x1 .f32) (ix3 h r 0) = (lseR Q K h r : EReal))
  (hg : ∀ h r d, (V c (Pipeline.arrRef spec1 5) : Vec Ideal S4096x1024 .f32) (ix2 r ⟨768 + (64 * h.val + d.val), lcol_lt h d⟩) = (G h r d : EReal))

section
include hq hk hv ho hl hg
theorem dk_reset (t : Fin cfg1.N) (h : t.val % 8 = 0) (y : S2x4096x128.Idx) :
    (outsAt1 V c t.val t.isLt).2.1 y = (0 : EReal) + dkPart Q K W G O t y := by
  idx_vars y
  rw [outsAt1_A V c t h]; frame_out
  clear h
  simp (disch := decide) only [↓ View.readCov_skip, ↓ View.readCov_fill]
  rw [over_dk]
  canon_tiles x hx
  all_goals
    have hr : x = ix3 0 y1 y2 := by
      obtain ⟨a, b, d, rfl⟩ : ∃ a b d, x = ix3 a b d := ⟨x 0, x 1, x 2, by funext i; fin_cases i <;> rfl⟩
      obtain rfl : a = 0 := Subsingleton.elim _ _
      obtain rfl : y1 = b := Fin.ext (show y1.val = b.val from hx1)
      obtain rfl : y2 = d := Fin.ext (show y2.val = d.val from hx2)
      rfl
    subst hr
  · obtain rfl : y0 = 1 := Fin.ext (show y0.val = 1 + 0 from hx0)
    exact (dk_pay V c Q K W G O hq hk hv ho hl hg t 1 _ y1 y2).trans
      (congrArg (fun z : EReal => z + dkPart Q K W G O t (ix3 1 y1 y2)) (zero_dk _))
  · obtain rfl : y0 = 0 := Fin.ext (show y0.val = 0 from hx0)
    exact (dk_pay V c Q K W G O hq hk hv ho hl hg t 0 _ y1 y2).trans
      (congrArg (fun z : EReal => z + dkPart Q K W G O t (ix3 0 y1 y2)) (zero_dk _))
theorem dk_step (t : Fin cfg1.N) (h : ¬t.val % 8 = 0) (y : S2x4096x128.Idx) :
    (outsAt1 V c t.val t.isLt).2.1 y
      = ((outsAt1 V c (t.val - 1) (Nat.lt_of_le_of_lt (Nat.sub_le _ _) t.isLt)).2.1 y : EReal) + dkPart Q K W G O t y := by
  idx_vars y
  rw [outsAt1_B V c t h]; frame_out
  clear h
  canon_tiles x hx
  all_goals
    have hr : x = ix3 0 y1 y2 := by
      obtain ⟨a, b, d, rfl⟩ : ∃ a b d, x = ix3 a b d := ⟨x 0, x 1, x 2, by funext i; fin_cases i <;> rfl⟩
      obtain rfl : a = 0 := Subsingleton.elim _ _
      obtain rfl : y1 = b := Fin.ext (show y1.val = b.val from hx1)
      obtain rfl : y2 = d := Fin.ext (show y2.val = d.val from hx2)
      rfl
    subst hr
  · obtain rfl : y0 = 1 := Fin.ext (show y0.val = 1 + 0 from hx0)
    exact (dk_pay V c Q K W G O hq hk hv ho hl hg t 1 _ y1 y2).trans
      (congrArg (fun z : EReal => z + dkPart Q K W G O t (ix3 1 y1 y2)) (ld_dk1 _ y1 y2))
  · obtain rfl : y0 = 0 := Fin.ext (show y0.val = 0 from hx0)
    exact (dk_pay V c Q K W G O hq hk hv ho hl hg t 0 _ y1 y2).trans
      (congrArg (fun z : EReal => z + dkPart Q K W G O t (ix3 0 y1 y2)) (ld_dk0 _ y1 y2))
theorem dv_reset (t : Fin cfg1.N) (h : t.val % 8 = 0) (y : S2x4096x64.Idx) :
    (outsAt1 V c t.val t.isLt).2.2 y = (0 : EReal) + dvPart Q K G t y := by
  idx_vars y
  rw [outsAt1_A V c t h]; frame_out
  clear h
  simp (disch := decide) only [↓ View.readCov_skip, ↓ View.readCov_fill]
  rw [over_dv]
  canon_tiles x hx
  all_goals
    have hr : x = ix3 0 y1 y2 := by
      obtain ⟨a, b, d, rfl⟩ : ∃ a b d, x = ix3 a b d := ⟨x 0, x 1, x 2, by funext i; fin_cases i <;> rfl⟩
      obtain rfl : a = 0 := Subsingleton.elim _ _
      obtain rfl : y1 = b := Fin.ext (show y1.val = b.val from hx1)
      obtain rfl : y2 = d := Fin.ext (show y2.val = d.val from hx2)
      rfl
    subst hr
  · obtain rfl : y0 = 1 := Fin.ext (show y0.val = 1 + 0 from hx0)
    exact (dv_pay V c Q K W G O hq hk hv ho hl hg t 1 _ y1 y2).trans
      (congrArg (fun z : EReal => z + dvPart Q K G t (ix3 1 y1 y2)) (zero_dv _))
  · obtain rfl : y0 = 0 := Fin.ext (show y0.val = 0 from hx0)
    exact (dv_pay V c Q K W G O hq hk hv ho hl hg t 0 _ y1 y2).trans
      (congrArg (fun z : EReal => z + dvPart Q K G t (ix3 0 y1 y2)) (zero_dv _))
theorem dv_step (t : Fin cfg1.N) (h : ¬t.val % 8 = 0) (y : S2x4096x64.Idx) :
    (outsAt1 V c t.val t.isLt).2.2 y
      = ((outsAt1 V c (t.val - 1) (Nat.lt_of_le_of_lt (Nat.sub_le _ _) t.isLt)).2.2 y : EReal) + dvPart Q K G t y := by
  idx_vars y
  rw [outsAt1_B V c t h]; frame_out
  clear h
  canon_tiles x hx
  all_goals
    have hr : x = ix3 0 y1 y2 := by
      obtain ⟨a, b, d, rfl⟩ : ∃ a b d, x = ix3 a b d := ⟨x 0, x 1, x 2, by funext i; fin_cases i <;> rfl⟩
      obtain rfl : a = 0 := Subsingleton.elim _ _
      obtain rfl : y1 = b := Fin.ext (show y1.val = b.val from hx1)
      obtain rfl : y2 = d := Fin.ext (show y2.val = d.val from hx2)
      rfl
    subst hr
  · obtain rfl : y0 = 1 := Fin.ext (show y0.val = 1 + 0 from hx0)
    exact (dv_pay V c Q K W G O hq hk hv ho hl hg t 1 _ y1 y2).trans
      (congrArg (fun z : EReal => z + dvPart Q K G t (ix3 1 y1 y2)) (ld_dv1 _ y1 y2))
  · obtain rfl : y0 = 0 := Fin.ext (show y0.val = 0 from hx0)
    exact (dv_pay V c Q K W G O hq hk hv ho hl hg t 0 _ y1 y2).trans
      (congrArg (fun z : EReal => z + dvPart Q K G t (ix3 0 y1 y2)) (ld_dv0 _ y1 y2))

theorem final_dk : (dat1 V c).arrAt 7 cfg1.N = fun i : S4x4096x128.Idx => ((dkR Q K W G O (i 0) (i 1) (i 2) : ℝ) : EReal) := by
  refine (dat1 V c).arrAt_eq_of_covers 7 _ (by decide +kernel) fun t hf y => ?_
  have h7 := (flush1_7 t).mp hf
  blk_simp
  rw [after1_7, Pipeline.eq_sum_fin_of_reset_step_apply_of_flush (fun n h => (outsAt1 V c n h).2.1) 8 (fun _ => (0 : EReal)) (dkPart Q K W G O)
    (dk_reset V c Q K W G O hq hk hv ho hl hg) (dk_step V c Q K W G O hq hk hv ho hl hg) t h7 _, zero_add]
  idx_vars y
  suffices H : ∀ (a : Fin 4) (b : Fin 4096) (d : Fin 128), a.val = 2 * (t.val / 8) + y0.val → b.val = y1.val → d.val = y2.val →
      (∑ s : Fin 8, dkPart Q K W G O ⟨8 * (t.val / 8) + s.val, Pipeline.run_point_lt_of_flush t h7 s⟩ (ix3 y0 y1 y2))
        = ((dkR Q K W G O a b d : ℝ) : EReal) from
    H _ _ _ (by blk_simp [idx1 t] <;> try omega) (by blk_simp [idx1 t] <;> try omega) (by blk_simp [idx1 t] <;> try omega)
  intro a b d ha hb hd
  obtain rfl : b = y1 := Fin.ext hb
  obtain rfl : d = y2 := Fin.ext hd
  simp only [dkPart, ← coe_sum, ix3_0, ix3_1, ix3_2, dkR]
  refine congrArg (fun x : ℝ => (x : EReal)) ?_
  refine Fin.sum_mul_add_congr fun s r hlt => ?_
  have hh : pair (hp ⟨8 * (t.val / 8) + s.val, Pipeline.run_point_lt_of_flush t h7 s⟩) y0 = a := Fin.ext (by simp only [pair, hp]; omega)
  have hr : row ⟨8 * (t.val / 8) + s.val, Pipeline.run_point_lt_of_flush t h7 s⟩ r = ⟨s.val * 512 + r.val, hlt⟩ :=
    Fin.ext (by simp only [row]; omega)
  rw [hh, hr]

theorem final_dv : (dat1 V c).arrAt 8 cfg1.N = fun i : S4x4096x64.Idx => ((dvR Q K G (i 0) (i 1) (i 2) : ℝ) : EReal) := by
  refine (dat1 V c).arrAt_eq_of_covers 8 _ (by decide +kernel) fun t hf y => ?_
  have h7 := (flush1_8 t).mp hf
  blk_simp
  rw [after1_8, Pipeline.eq_sum_fin_of_reset_step_apply_of_flush (fun n h => (outsAt1 V c n h).2.2) 8 (fun _ => (0 : EReal)) (dvPart Q K G)
    (dv_reset V c Q K W G O hq hk hv ho hl hg) (dv_step V c Q K W G O hq hk hv ho hl hg) t h7 _, zero_add]
  idx_vars y
  suffices H : ∀ (a : Fin 4) (b : Fin 4096) (d : Fin 64), a.val = 2 * (t.val / 8) + y0.val → b.val = y1.val → d.val = y2.val →
      (∑ s : Fin 8, dvPart Q K G ⟨8 * (t.val / 8) + s.val, Pipeline.run_point_lt_of_flush t h7 s⟩ (ix3 y0 y1 y2))
        = ((dvR Q K G a b d : ℝ) : EReal) from
    H _ _ _ (by blk_simp [idx1 t] <;> try omega) (by blk_simp [idx1 t] <;> try omega) (by blk_simp [idx1 t] <;> try omega)
  intro a b d ha hb hd
  obtain rfl : b = y1 := Fin.ext hb
  obtain rfl : d = y2 := Fin.ext hd
  simp only [dvPart, ← coe_sum, ix3_0, ix3_1, ix3_2, dvR]
  refine congrArg (fun x : ℝ => (x : EReal)) ?_
  refine Fin.sum_mul_add_congr fun s r hlt => ?_
  have hh : pair (hp ⟨8 * (t.val / 8) + s.val, Pipeline.run_point_lt_of_flush t h7 s⟩) y0 = a := Fin.ext (by simp only [pair, hp]; omega)
  have hr : row ⟨8 * (t.val / 8) + s.val, Pipeline.run_point_lt_of_flush t h7 s⟩ r = ⟨s.val * 512 + r.val, hlt⟩ :=
    Fin.ext (by simp only [row]; omega)
  rw [hh, hr]

/-- The gradient rows that a point writes: one store per query head. -/
theorem dq_pt (t : Fin cfg1.N) (g : Fin 2) (r : Fin 512) (e : Fin 128) :
    (outsAt1 V c t.val t.isLt).1 (ix3 g r e) = ((dqR Q K W G O (pair (hp t) g) (row t r) e : ℝ) : EReal) := by
  have key : ∀ g : Fin 2, k1_pay21 (F := Ideal) (gB g (iblk1 V c 5 t)) (oB g (iblk1 V c 3 t)) (k1_pay16 (kB g (iblk1 V c 1 t))) (k1_pay17 (vB g (iblk1 V c 2 t)))
      (k1_pay18 (qB g (iblk1 V c 0 t)) (kB g (iblk1 V c 1 t))) (lB g (iblk1 V c 4 t)) (ix3 0 r e)
      = ((dqR Q K W G O (pair (hp t) g) (row t r) e : ℝ) : EReal) := by
    intro g
    rw [dq_head _ _ _ _ _ _ (fun r => Q (pair (hp t) g) (row t r)) (fun r => G (pair (hp t) g) (row t r)) (fun r => O (pair (hp t) g) (row t r))
      (K (pair (hp t) g)) (W (pair (hp t) g)) (q_at V c Q hq t g) (k_at V c K hk t g) (v_at V c W hv t g) (g_at V c G hg t g) (o_at V c O ho t g) (l_at V c Q K hl t g)]
    simp only [dqR, dsR]
  by_cases h : t.val % 8 = 0
  · rw [outsAt1_A V c t h]; frame_out
    clear h
    canon_tiles x hx
    all_goals
      have hr : x = ix3 0 r e := by
        obtain ⟨a, b, d, rfl⟩ : ∃ a b d, x = ix3 a b d := ⟨x 0, x 1, x 2, by funext i; fin_cases i <;> rfl⟩
        obtain rfl : a = 0 := Subsingleton.elim _ _
        obtain rfl : r = b := Fin.ext (show r.val = b.val from hx1)
        obtain rfl : e = d := Fin.ext (show e.val = d.val from hx2)
        rfl
      subst hr
    · obtain rfl : g = 1 := Fin.ext (show g.val = 1 + 0 from hx0)
      exact key 1
    · obtain rfl : g = 0 := Fin.ext (show g.val = 0 from hx0)
      exact key 0
  · rw [outsAt1_B V c t h]; frame_out
    clear h
    canon_tiles x hx
    all_goals
      have hr : x = ix3 0 r e := by
        obtain ⟨a, b, d, rfl⟩ : ∃ a b d, x = ix3 a b d := ⟨x 0, x 1, x 2, by funext i; fin_cases i <;> rfl⟩
        obtain rfl : a = 0 := Subsingleton.elim _ _
        obtain rfl : r = b := Fin.ext (show r.val = b.val from hx1)
        obtain rfl : e = d := Fin.ext (show e.val = d.val from hx2)
        rfl
      subst hr
    · obtain rfl : g = 1 := Fin.ext (show g.val = 1 + 0 from hx0)
      exact key 1
    · obtain rfl : g = 0 := Fin.ext (show g.val = 0 from hx0)
      exact key 0

theorem final_dq : (dat1 V c).arrAt 6 cfg1.N = fun i : S4x4096x128.Idx => ((dqR Q K W G O (i 0) (i 1) (i 2) : ℝ) : EReal) := by
  refine (dat1 V c).arrAt_eq_of_covers 6 _ (by decide +kernel) fun t hf y => ?_
  blk_simp
  rw [after1_6]
  idx_vars y
  suffices H : ∀ (a : Fin 4) (b : Fin 4096) (d : Fin 128), a.val = 2 * (t.val / 8) + y0.val → b.val = 512 * (t.val % 8) + y1.val → d.val = y2.val →
      (outsAt1 V c t.val t.isLt).1 (ix3 y0 y1 y2) = ((dqR Q K W G O a b d : ℝ) : EReal) from
    H _ _ _ (by blk_simp [idx1 t] <;> try omega) (by blk_simp [idx1 t] <;> try omega) (by blk_simp [idx1 t] <;> try omega)
  intro a b d ha hb hd
  have ea : a = pair (hp t) y0 := Fin.ext (by simp only [pair, hp]; omega)
  have eb : b = row t y1 := Fin.ext (by simp only [row]; omega)
  obtain rfl : d = y2 := Fin.ext hd
  rw [ea, eb]
  exact dq_pt V c Q K W G O hq hk hv ho hl hg t y0 y1 d
end
end

end Cert.LatentIdeal.Val

end
-- ==== Proof.LatentReference.lean ====
/- The reference's stages, entry by entry, for finite arguments: scores, their exponentials and row sums, the weights, the
   gradient of the weights, the gradient of the scores, and the four results. -/
module
public import proofs.«01_k».proof.Proof.Gen.LatentRefIdeal.Run
public import proofs.«01_k».proof.Proof.Softmax
public import Idealize.ShloMosaic.Lib.Pipeline.ValueKit
@[expose] public section
set_option maxRecDepth 16384
noncomputable section
open Idealize.ShloMosaic Idealize.ShloMosaic.TcCoe Idealize.SL.Sem Cert.Attn
namespace Cert.LatentRefIdeal.Val
open Cert.LatentRefIdeal Cert.LatentRefIdeal.Gen

section
variable (q : FVec Ideal S1x4096x4x1x128 .f32) (k : FVec Ideal S1x4096x4x128 .f32) (v : FVec Ideal S1x4096x4x64 .f32) (g : FVec Ideal S4096x1024 .f32)

def rS : FVec Ideal S1x4x1x4096x4096 .f32 :=
  mulf (transpose S1x4x1x4096x4096 [0, 1, 4, 3, 2] (Host.dotGeneral dot_S1x4096x4x128_S1x4096x4x1x128_S1x4x4096x4096x1_3_4_1_13_02_02 none k q)
    transposes_S1x4x4096x4096x1_S1x4x1x4096x4096_0_1_4_3_2)
    (broadcastInDim S1x4x1x4096x4096 ![] bcast_S_S1x4x1x4096x4096 (constant S_ .f32 0x3DD105EC#32))
def rM : FVec Ideal S1x4x1x4096 .f32 :=
  maximumf (broadcastInDim S1x4x1x4096 ![] bcast_S_S1x4x1x4096 (constant S_ .f32 0xFF800000#32))
    (Host.reduce FloatOps.maximumf (rS q k) (constant S_ .f32 0xFF800000#32) reducesTo_S1x4x1x4096x4096_S1x4x1x4096_d4 h_S_)
def rE : FVec Ideal S1x4x1x4096x4096 .f32 :=
  Host.exp (subf (rS q k) (broadcastInDim S1x4x1x4096x4096 ![0, 1, 2, 3, 4] bcast_S1x4x1x4096x1_S1x4x1x4096x4096_0_1_2_3_4
    (broadcastInDim S1x4x1x4096x1 ![0, 1, 2, 3] bcast_S1x4x1x4096_S1x4x1x4096x1_0_1_2_3 (rM q k))))
def rZ : FVec Ideal S1x4x1x4096x1 .f32 :=
  broadcastInDim S1x4x1x4096x1 ![0, 1, 2, 3] bcast_S1x4x1x4096_S1x4x1x4096x1_0_1_2_3
    (Host.reduceAdd (rE q k) (constant S_ .f32 0x00000000#32) reducesTo_S1x4x1x4096x4096_S1x4x1x4096_d4 h_S_)
def rP : FVec Ideal S1x4x1x4096x4096 .f32 :=
  Host.divf (rE q k) (broadcastInDim S1x4x1x4096x4096 ![0, 1, 2, 3, 4] bcast_S1x4x1x4096x1_S1x4x1x4096x4096_0_1_2_3_4 (rZ q k))
/-- The gradient of the output, by heads. -/
def rG : FVec Ideal S1x4x64x1x4096 .f32 :=
  transpose S1x4x64x1x4096 [0, 2, 4, 3, 1] (shapeCast S1x4096x4x1x64 (extractStridedSlice S4096x256 ![0, 768] g slices_S4096x1024_S4096x256_0_768)
    shapeCasts_S4096x256_S1x4096x4x1x64) transposes_S1x4096x4x1x64_S1x4x64x1x4096_0_2_4_3_1
/-- The gradient of the weights. -/
def rD : FVec Ideal S1x4x1x4096x4096 .f32 :=
  Host.dotGeneral dot_S1x4x64x1x4096_S1x4096x4x64_S1x4x1x4096x4096_2_3_34_1_01_02 none (rG g) v
/-- A row's sum of the weights' gradient against the exponentials over the square of the row sum. -/
def rR : FVec Ideal S1x4x1x4096 .f32 :=
  Host.reduceAdd (mulf (mulf (rD v g) (broadcastInDim S1x4x1x4096x4096 ![0, 1, 2, 3, 4] bcast_S1x4x1x4096x1_S1x4x1x4096x4096_0_1_2_3_4
      (Host.divf (broadcastInDim S1x4x1x4096x1 ![] bcast_S_S1x4x1x4096x1 (constant S_ .f32 0x3F800000#32)) (mulf (rZ q k) (rZ q k))))) (rE q k))
    (constant S_ .f32 0x00000000#32) reducesTo_S1x4x1x4096x4096_S1x4x1x4096_d4 h_S_
def rN : FVec Ideal S4x4096 .f32 :=
  Host.reduceAdd (Host.negf (shapeCast S1x4x1x4096x1 (rR q k v g) shapeCasts_S1x4x1x4096_S1x4x1x4096x1)) (constant S_ .f32 0x00000000#32)
    reducesTo_S1x4x1x4096x1_S4x4096_d0_2_4 h_S_
/-- The gradient of the scores. -/
def rDS : FVec Ideal S1x4x1x4096x4096 .f32 :=
  mulf (mulf (addf (Host.divf (rD v g) (broadcastInDim S1x4x1x4096x4096 ![0, 1, 2, 3, 4] bcast_S1x4x1x4096x1_S1x4x1x4096x4096_0_1_2_3_4 (rZ q k)))
      (broadcastInDim S1x4x1x4096x4096 ![0, 1, 2, 3] bcast_S1x4x1x4096_S1x4x1x4096x4096_0_1_2_3
        (broadcastInDim S1x4x1x4096 ![1, 3] bcast_S4x4096_S1x4x1x4096_1_3 (rN q k v g))))
      (rE q k)) (broadcastInDim S1x4x1x4096x4096 ![] bcast_S_S1x4x1x4096x4096 (constant S_ .f32 0x3DD105EC#32))

def outA : FVec Ideal S4096x256 .f32 :=
  shapeCast S4096x256 (transpose S1x4096x4x1x64 [0, 4, 1, 3, 2] (Host.dotGeneral dot_S1x4096x4x64_S1x4x1x4096x4096_S1x4x64x1x4096_1_4_3_23_02_01 none v (rP q k))
    transposes_S1x4x64x1x4096_S1x4096x4x1x64_0_4_1_3_2) shapeCasts_S1x4096x4x1x64_S4096x256
def dqA : FVec Ideal S4x4096x128 .f32 :=
  transpose S4x4096x128 [1, 0, 2] (shapeCast S4096x4x128 (transpose S1x4096x4x1x128 [0, 2, 1, 3, 4]
    (Host.dotGeneral dot_S1x4x4096x4096x1_S1x4096x4x128_S1x4x4096x1x128_2_1_34_3_01_02 none
      (transpose S1x4x4096x4096x1 [0, 1, 4, 3, 2] (rDS q k v g) transposes_S1x4x1x4096x4096_S1x4x4096x4096x1_0_1_4_3_2) k)
    transposes_S1x4x4096x1x128_S1x4096x4x1x128_0_2_1_3_4) shapeCasts_S1x4096x4x1x128_S4096x4x128) transposes_S4096x4x128_S4x4096x128_1_0_2
def dkA : FVec Ideal S4x4096x128 .f32 :=
  transpose S4x4096x128 [1, 0, 2] (shapeCast S4096x4x128 (transpose S1x4096x4x128 [0, 2, 1, 3]
    (Host.dotGeneral dot_S1x4x4096x4096x1_S1x4096x4x1x128_S1x4x4096x128_34_13_2_4_01_02 none
      (transpose S1x4x4096x4096x1 [0, 1, 4, 3, 2] (rDS q k v g) transposes_S1x4x1x4096x4096_S1x4x4096x4096x1_0_1_4_3_2) q)
    transposes_S1x4x4096x128_S1x4096x4x128_0_2_1_3) shapeCasts_S1x4096x4x128_S4096x4x128) transposes_S4096x4x128_S4x4096x128_1_0_2
def dvA : FVec Ideal S4x4096x64 .f32 :=
  transpose S4x4096x64 [1, 0, 2] (shapeCast S4096x4x64 (transpose S1x4096x4x64 [0, 3, 1, 2]
    (Host.dotGeneral dot_S1x4x64x1x4096_S1x4x1x4096x4096_S1x4x64x4096_34_23_2_4_01_01 none (rG g) (rP q k))
    transposes_S1x4x64x4096_S1x4096x4x64_0_3_1_2) shapeCasts_S1x4096x4x64_S4096x4x64) transposes_S4096x4x64_S4x4096x64_1_0_2
end

section
variable (m : (ℓ : Loc nD τ sig) → Buf (Elt Ideal) ℓ) (ρ : Dev nD → PrngReg)

/-- The reference's run, with its results by the stages above. -/
theorem run : θ_run defs (onTc (τ := τ) (main (F := Ideal))) ⟨m, fun _ => 0, ρ⟩ fun r => ∀ c : Dev nD,
      r.2.mem ((c.tc : Thread nD τ).loc main_v60) = outA (m ((c.tc : Thread nD τ).loc main_arg0)) (m ((c.tc : Thread nD τ).loc main_arg1)) (m ((c.tc : Thread nD τ).loc main_arg2))
      ∧ r.2.mem ((c.tc : Thread nD τ).loc main_v62) = dqA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v64) = dkA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v66) = dvA (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2.1, (h c).2.2.1, (h c).2.2.2.1, (h c).2.2.2.2⟩) (Value.run m ρ)
end

section
variable (q : FVec Ideal S1x4096x4x1x128 .f32) (k : FVec Ideal S1x4096x4x128 .f32) (v : FVec Ideal S1x4096x4x64 .f32) (g : FVec Ideal S4096x1024 .f32)
  (Q K : Fin 4 → Fin 4096 → Fin 128 → ℝ) (G W : Fin 4 → Fin 4096 → Fin 64 → ℝ)
  (hq : ∀ i h e, q (ix5 0 i h 0 e) = (Q h i e : EReal)) (hk : ∀ j p e, k (ix4 0 j p e) = (K p j e : EReal))
  (hv : ∀ j p e, v (ix4 0 j p e) = (W p j e : EReal))
  (hg : ∀ h i d, g (ix2 i ⟨768 + (64 * h.val + d.val), lcol_lt h d⟩) = (G h i d : EReal))

/-- The reference's scale: `96 ^ (-1/2)` as a number of its format. -/
def sm : ℝ := 13698540 / 134217728

/-- The scores. -/
def sc (p : Fin 4) (i j : Fin 4096) : ℝ := (∑ e, K p j e * Q p i e) * sm

theorem scale : Ideal.ofBits .f32 0x3DD105EC#32 = ((sm : ℝ) : EReal) := by
  simp [Ideal.ofBits, Ideal.ieee, sm]
  rw [← EReal.coe_mul]
  norm_num

include hq hk in
theorem rS_at (p : Fin 4) (i j : Fin 4096) : rS q k (ix5 0 p 0 i j) = ((sc Q K p i j : ℝ) : EReal) := by
  pointwise [rS]
  simp only [hq, hk, scale, ← EReal.coe_mul, ← coe_sum]
  rfl

/-- The rows' greatest scores, before the comparison with `-∞`. -/
def rX : FVec Ideal S1x4x1x4096 .f32 :=
  Host.reduce FloatOps.maximumf (rS q k) (constant S_ .f32 0xFF800000#32) reducesTo_S1x4x1x4096x4096_S1x4x1x4096_d4 h_S_
theorem rX_at (p : Fin 4) (i : Fin 4096) : rX q k (ix4 0 p 0 i)
    = (Finset.univ : Finset (Fin 4096)).fold max (Ideal.ofBits .f32 0xFF800000#32) (fun j => (rS q k (ix5 0 p 0 i j) : EReal)) := by
  pointwise [rX]
theorem maximumf_eq (x y : FVec Ideal S1x4x1x4096 .f32) (z : S1x4x1x4096.Idx) : maximumf x y z = max (x z : EReal) (y z) := rfl
theorem bot_row (z : S1x4x1x4096.Idx) : broadcastInDim S1x4x1x4096 ![] bcast_S_S1x4x1x4096 (constant S_ .f32 0xFF800000#32 : FVec Ideal S_ .f32) z
    = (⊥ : EReal) := neg_inf
include hq hk in
theorem rX_real (p : Fin 4) (i : Fin 4096) : ∃ M : ℝ, rX q k (ix4 0 p 0 i) = (M : EReal) := by
  obtain ⟨M, hM⟩ := fold_max_real (sc Q K p i)
  refine ⟨M, ?_⟩
  refine (rX_at q k p i).trans ?_
  simp only [rS_at q k Q K hq hk, neg_inf]
  exact hM
include hq hk in
theorem rM_at (p : Fin 4) (i : Fin 4096) : ∃ M : ℝ, rM q k (ix4 0 p 0 i) = (M : EReal) := by
  obtain ⟨M, hM⟩ := rX_real q k Q K hq hk p i
  refine ⟨M, ?_⟩
  have h : rM q k = maximumf (broadcastInDim S1x4x1x4096 ![] bcast_S_S1x4x1x4096 (constant S_ .f32 0xFF800000#32)) (rX q k) := rfl
  rw [h, maximumf_eq, bot_row, hM]
  exact max_eq_right bot_le

theorem rE_at (p : Fin 4) (i j : Fin 4096) : rE q k (ix5 0 p 0 i j) = Ideal.exp ((rS q k (ix5 0 p 0 i j) : EReal) - (rM q k (ix4 0 p 0 i) : EReal)) := by
  pointwise [rE]
theorem rZ_at (p : Fin 4) (i : Fin 4096) : rZ q k (ix5 0 p 0 i 0) = ∑ j, (rE q k (ix5 0 p 0 i j) : EReal) := by
  pointwise [rZ]
theorem rP_at (p : Fin 4) (i j : Fin 4096) : rP q k (ix5 0 p 0 i j) = Ideal.div (rE q k (ix5 0 p 0 i j)) (rZ q k (ix5 0 p 0 i 0)) := by
  pointwise [rP]
include hg in
theorem rG_at (p : Fin 4) (i : Fin 4096) (d : Fin 64) : rG g (ix5 0 p d 0 i) = (G p i d : EReal) := by
  rw [← hg]
  pointwise [rG]
  exact congrArg g (congrArg (ix2 i) (Fin.ext (by dsimp only; omega)))
include hg hv in
theorem rD_at (p : Fin 4) (i j : Fin 4096) : rD v g (ix5 0 p 0 i j) = ((∑ d, G p i d * W p j d : ℝ) : EReal) := by
  pointwise [rD]
  simp only [rG_at g G hg, hv, ← EReal.coe_mul, ← coe_sum]
theorem rR_at (p : Fin 4) (i : Fin 4096) : rR q k v g (ix4 0 p 0 i)
    = ∑ j, (rD v g (ix5 0 p 0 i j) : EReal) * Ideal.div 1 ((rZ q k (ix5 0 p 0 i 0) : EReal) * (rZ q k (ix5 0 p 0 i 0) : EReal)) * (rE q k (ix5 0 p 0 i j) : EReal) := by
  pointwise [rR]
/-- A sum over three axes of one place each is the one entry. -/
theorem hostReduceAdd_units (x : S1x4x1x4096x1.Idx → EReal) (p : Fin 4) (i : Fin 4096) :
    Ideal.hostReduceAdd reducesTo_S1x4x1x4096x1_S4x4096_d0_2_4 x 0 (ix2 p i) = x (ix5 0 p 0 i 0) := by
  unfold Ideal.hostReduceAdd
  rw [zero_add, Finset.sum_eq_single (ix5 0 p 0 i 0)]
  · intro y hy hne
    have h := (Finset.mem_filter.1 hy).2
    have h1 : (y 1).val = p.val := congrArg Fin.val (congrFun h 0)
    have h3 : (y 3).val = i.val := congrArg Fin.val (congrFun h 1)
    refine absurd (funext fun a => ?_) hne
    fin_cases a
    · exact Subsingleton.elim (α := Fin 1) _ _
    · exact Fin.ext h1
    · exact Subsingleton.elim (α := Fin 1) _ _
    · exact Fin.ext h3
    · exact Subsingleton.elim (α := Fin 1) _ _
  · intro hn
    refine absurd (Finset.mem_filter.2 ⟨Finset.mem_univ _, ?_⟩) hn
    funext a
    fin_cases a <;> rfl
theorem rN_at (p : Fin 4) (i : Fin 4096) : rN q k v g (ix2 p i) = -(rR q k v g (ix4 0 p 0 i) : EReal) := by
  pointwise [rN]
  rw [hostReduceAdd_units]
  pointwise
theorem rDS_at (p : Fin 4) (i j : Fin 4096) : rDS q k v g (ix5 0 p 0 i j)
    = (Ideal.div (rD v g (ix5 0 p 0 i j)) (rZ q k (ix5 0 p 0 i 0)) + (rN q k v g (ix2 p i) : EReal)) * (rE q k (ix5 0 p 0 i j) : EReal) * Ideal.ofBits .f32 0x3DD105EC#32 := by
  pointwise [rDS]
theorem outA_at (p : Fin 4) (i : Fin 4096) (d : Fin 64) : outA q k v (ix2 i ⟨64 * p.val + d.val, col_lt p d⟩)
    = ∑ j, (v (ix4 0 j p d) : EReal) * (rP q k (ix5 0 p 0 i j) : EReal) := by
  pointwise [outA]
theorem dqA_at (p : Fin 4) (i : Fin 4096) (e : Fin 128) : dqA q k v g (ix3 p i e)
    = ∑ j, (rDS q k v g (ix5 0 p 0 i j) : EReal) * (k (ix4 0 j p e) : EReal) := by
  pointwise [dqA]
theorem dkA_at (p : Fin 4) (j : Fin 4096) (e : Fin 128) : dkA q k v g (ix3 p j e)
    = ∑ i, (rDS q k v g (ix5 0 p 0 i j) : EReal) * (q (ix5 0 i p 0 e) : EReal) := by
  pointwise [dkA]
  exact Finset.sum_congr rfl fun i _ => Fin.sum_univ_one _
theorem dvA_at (p : Fin 4) (j : Fin 4096) (d : Fin 64) : dvA q k g (ix3 p j d)
    = ∑ i, (rG g (ix5 0 p d 0 i) : EReal) * (rP q k (ix5 0 p 0 i j) : EReal) := by
  pointwise [dvA]
  exact Fin.sum_univ_one _

/-- A row's gradient of its weights, and of its scores. -/
def gw (p : Fin 4) (i j : Fin 4096) : ℝ := ∑ d, G p i d * W p j d
def gs (p : Fin 4) (i j : Fin 4096) : ℝ :=
  weight (sc Q K p i) j * (gw G W p i j - ∑ l, weight (sc Q K p i) l * gw G W p i l) * sm

include hq hk in
theorem rP_real (p : Fin 4) (i j : Fin 4096) : rP q k (ix5 0 p 0 i j) = ((weight (sc Q K p i) j : ℝ) : EReal) := by
  obtain ⟨M, hM⟩ := rM_at q k Q K hq hk p i
  refine (rP_at q k p i j).trans ?_
  simp only [rZ_at, rE_at, rS_at q k Q K hq hk, hM]
  exact ref_weight (sc Q K p i) M j
include hq hk hv hg in
theorem rDS_real (p : Fin 4) (i j : Fin 4096) : rDS q k v g (ix5 0 p 0 i j) = ((gs Q K G W p i j : ℝ) : EReal) := by
  obtain ⟨M, hM⟩ := rM_at q k Q K hq hk p i
  refine (rDS_at q k v g p i j).trans ?_
  simp only [rN_at, rR_at, rZ_at, rE_at, rS_at q k Q K hq hk, hM, rD_at v g G W hv hg, scale]
  unfold gs
  rw [EReal.coe_mul]
  exact congrArg (· * ((sm : ℝ) : EReal)) (ref_grad (sc Q K p i) M (gw G W p i) j)

include hq hk hv in
theorem outA_real (p : Fin 4) (i : Fin 4096) (d : Fin 64) : outA q k v (ix2 i ⟨64 * p.val + d.val, col_lt p d⟩)
    = ((∑ j, weight (sc Q K p i) j * W p j d : ℝ) : EReal) := by
  refine (outA_at q k v p i d).trans ?_
  simp only [rP_real q k Q K hq hk, hv, ← EReal.coe_mul, ← coe_sum]
  exact congrArg (fun x : ℝ => (x : EReal)) (Finset.sum_congr rfl fun j _ => mul_comm _ _)
include hq hk hv hg in
theorem dqA_real (p : Fin 4) (i : Fin 4096) (e : Fin 128) : dqA q k v g (ix3 p i e)
    = ((∑ j, gs Q K G W p i j * K p j e : ℝ) : EReal) := by
  refine (dqA_at q k v g p i e).trans ?_
  simp only [rDS_real q k v g Q K G W hq hk hv hg, hk, ← EReal.coe_mul, ← coe_sum]
include hq hk hv hg in
theorem dkA_real (p : Fin 4) (j : Fin 4096) (e : Fin 128) : dkA q k v g (ix3 p j e)
    = ((∑ i, gs Q K G W p i j * Q p i e : ℝ) : EReal) := by
  refine (dkA_at q k v g p j e).trans ?_
  simp only [rDS_real q k v g Q K G W hq hk hv hg, hq, ← EReal.coe_mul, ← coe_sum]
include hq hk hg in
theorem dvA_real (p : Fin 4) (j : Fin 4096) (d : Fin 64) : dvA q k g (ix3 p j d)
    = ((∑ i, weight (sc Q K p i) j * G p i d : ℝ) : EReal) := by
  refine (dvA_at q k g p j d).trans ?_
  simp only [rP_real q k Q K hq hk, rG_at g G hg, ← EReal.coe_mul, ← coe_sum]
  exact congrArg (fun x : ℝ => (x : EReal)) (Finset.sum_congr rfl fun i _ => mul_comm _ _)
end

end Cert.LatentRefIdeal.Val
end
-- ==== Proof.LatentEquation.lean ====
/- The program's four results are the reference's, for arguments that are real numbers.

   The host hands the calls the queries times the reference's scale over `log 2`, so that the base-two scores of the calls, times `log 2`, are the
   reference's scores, and scales the queries' gradient by the same number at the end. -/
module
public import proofs.«01_k».proof.Proof.LatentRun
public import proofs.«01_k».proof.Proof.LatentBackwardArrays
public import proofs.«01_k».proof.Proof.LatentForwardArrays
public import proofs.«01_k».proof.Proof.LatentReference
@[expose] public section
set_option maxRecDepth 16384
noncomputable section
open Idealize.ShloMosaic Idealize.ShloMosaic.TcCoe Idealize.SL.Sem Cert.Attn
namespace Cert.LatentIdeal.Val
open Cert.LatentIdeal Cert.LatentIdeal.Gen
open Cert.LatentRefIdeal.Val (sc gw gs sm)

/-! ### Over the reals -/

/-- The host's scale. -/
def cs : ℝ := sm / Real.log 2
theorem cs_log : cs * Real.log 2 = sm := div_mul_cancel₀ _ log_two_ne

section
variable (Q K : Fin 4 → Fin 4096 → Fin 128 → ℝ) (G W : Fin 4 → Fin 4096 → Fin 64 → ℝ)

/-- The scaled queries. -/
def Qs (h : Fin 4) (i : Fin 4096) (e : Fin 128) : ℝ := Q h i e * cs

theorem score_eq (p : Fin 4) (i : Fin 4096) : score (Qs Q p i) (K p) = sc Q K p i := by
  funext j
  unfold score sc Qs
  rw [← cs_log, Finset.sum_mul, Finset.sum_mul]
  exact Finset.sum_congr rfl fun e _ => by ring

theorem out_eq (p : Fin 4) (i : Fin 4096) (d : Fin 64) :
    outR (Qs Q) K W p i d = ∑ j, weight (sc Q K p i) j * W p j d := by
  have h : (fun j => (∑ e, Qs Q p i e * K p j e) * Real.log 2) = sc Q K p i := score_eq Q K p i
  unfold outR
  rw [h]

theorem ds_eq (p : Fin 4) (i j : Fin 4096) :
    dsR (Qs Q) K W G (outR (Qs Q) K W) p i j * cs = gs Q K G W p i j := by
  unfold dsR dscore gs
  rw [score_eq, ← cs_log]
  have h : ∑ d, G p i d * outR (Qs Q) K W p i d = ∑ l, weight (sc Q K p i) l * gw G W p i l := by
    simp only [out_eq, gw, Finset.mul_sum]
    rw [Finset.sum_comm]
    exact Finset.sum_congr rfl fun l _ => Finset.sum_congr rfl fun d _ => by ring
  rw [h]
  unfold gw
  ring

theorem dq_eq (p : Fin 4) (i : Fin 4096) (e : Fin 128) :
    dqR (Qs Q) K W G (outR (Qs Q) K W) p i e * cs = ∑ j, gs Q K G W p i j * K p j e := by
  unfold dqR
  rw [Finset.sum_mul]
  exact Finset.sum_congr rfl fun j _ => by rw [← ds_eq]; ring

theorem dk_eq (p : Fin 4) (j : Fin 4096) (e : Fin 128) : dkR (Qs Q) K W G (outR (Qs Q) K W) p j e = ∑ i, gs Q K G W p i j * Q p i e := by
  unfold dkR
  exact Finset.sum_congr rfl fun i _ => by rw [← ds_eq]; unfold Qs; ring

theorem dv_eq (p : Fin 4) (j : Fin 4096) (d : Fin 64) : dvR (Qs Q) K G p j d = ∑ i, weight (sc Q K p i) j * G p i d := by
  unfold dvR
  simp only [score_eq]
end

/-! ### The host's preparation -/

theorem two : Ideal.ofBits .f32 0x40000000#32 = ((2 : ℝ) : EReal) := by
  simp [Ideal.ofBits, Ideal.ieee]
  try rw [← EReal.coe_mul]
  try norm_num

theorem qscale_at (z : S_.Idx) : qscale (F := Ideal) z = ((cs : ℝ) : EReal) := by
  show Ideal.div (Ideal.ofBits .f32 0x3DD105EC#32) (Ideal.log (Ideal.ofBits .f32 0x40000000#32)) = _
  rw [Cert.LatentRefIdeal.Val.scale, two, Ideal.log_coe, if_neg (by norm_num), div_real log_two_ne]
  rfl

section
variable (m : (ℓ : Loc nD τ sig) → Buf (Elt Ideal) ℓ) (ρ : Dev nD → PrngReg) (c : Dev nD)
  (Q K : Fin 4 → Fin 4096 → Fin 128 → ℝ) (G W : Fin 4 → Fin 4096 → Fin 64 → ℝ)
  (hq : ∀ i h e, (m ((c : Thread nD τ).loc main_arg0) : FVec Ideal S1x4096x4x1x128 .f32) (ix5 0 i h 0 e) = (Q h i e : EReal))
  (hk : ∀ j p e, (m ((c : Thread nD τ).loc main_arg1) : FVec Ideal S1x4096x4x128 .f32) (ix4 0 j p e) = (K p j e : EReal))
  (hv : ∀ j p e, (m ((c : Thread nD τ).loc main_arg2) : FVec Ideal S1x4096x4x64 .f32) (ix4 0 j p e) = (W p j e : EReal))
  (hg : ∀ h i d, (m ((c : Thread nD τ).loc main_arg3) : FVec Ideal S4096x1024 .f32) (ix2 i ⟨768 + (64 * h.val + d.val), lcol_lt h d⟩) = (G h i d : EReal))

/-- A prepared array, entry by entry, from any argument array. -/
theorem prep_q (x : FVec Ideal S1x4096x4x1x128 .f32) (h : Fin 4) (r : Fin 4096) (e : Fin 128) :
    truncf (F := Ideal) .bf16 (transpose S4x4096x128 [1, 0, 2] (mulf (shapeCast S4096x4x128 x shapeCasts_S1x4096x4x1x128_S4096x4x128)
        (broadcastInDim S4096x4x128 ![] bcast_S_S4096x4x128 (qscale (F := Ideal)))) transposes_S4096x4x128_S4x4096x128_1_0_2) bitsLt_bf16_f32 (ix3 h r e)
      = (x (ix5 0 r h 0 e) : EReal) * ((cs : ℝ) : EReal) := by
  pointwise
  rw [qscale_at]
theorem prep_k (x : FVec Ideal S1x4096x4x128 .f32) (p : Fin 4) (r : Fin 4096) (e : Fin 128) :
    truncf (F := Ideal) .bf16 (transpose S4x4096x128 [1, 0, 2] (shapeCast S4096x4x128 x shapeCasts_S1x4096x4x128_S4096x4x128)
        transposes_S4096x4x128_S4x4096x128_1_0_2) bitsLt_bf16_f32 (ix3 p r e) = (x (ix4 0 r p e) : EReal) := by
  pointwise
theorem prep_v (x : FVec Ideal S1x4096x4x64 .f32) (p : Fin 4) (r : Fin 4096) (e : Fin 64) :
    truncf (F := Ideal) .bf16 (transpose S4x4096x64 [1, 0, 2] (shapeCast S4096x4x64 x shapeCasts_S1x4096x4x64_S4096x4x64)
        transposes_S4096x4x64_S4x4096x64_1_0_2) bitsLt_bf16_f32 (ix3 p r e) = (x (ix4 0 r p e) : EReal) := by
  pointwise
theorem post_dq (x : FVec Ideal S4x4096x128 .f32) (z : S4x4096x128.Idx) :
    mulf x (broadcastInDim S4x4096x128 ![] bcast_S_S4x4096x128 (qscale (F := Ideal))) z = (x z : EReal) * ((cs : ℝ) : EReal) := by
  rw [← qscale_at ix0]
  pointwise

include hq in
theorem in_q (h : Fin 4) (r : Fin 4096) (e : Fin 128) :
    (W1 m ρ c (Proc.devRef .tc main_v7) : Vec Ideal S4x4096x128 .bf16) (ix3 h r e) = ((Qs Q h r e : ℝ) : EReal) := by
  rw [W1_q]
  refine (prep_q _ h r e).trans ?_
  rw [hq, ← EReal.coe_mul]
  rfl
include hk in
theorem in_k (p : Fin 4) (r : Fin 4096) (e : Fin 128) :
    (W1 m ρ c (Proc.devRef .tc main_v10) : Vec Ideal S4x4096x128 .bf16) (ix3 p r e) = ((K p r e : ℝ) : EReal) := by
  rw [W1_k]
  exact (prep_k _ p r e).trans (hk r p e)
include hv in
theorem in_v (p : Fin 4) (r : Fin 4096) (e : Fin 64) :
    (W1 m ρ c (Proc.devRef .tc main_v13) : Vec Ideal S4x4096x64 .bf16) (ix3 p r e) = ((W p r e : ℝ) : EReal) := by
  rw [W1_v]
  exact (prep_v _ p r e).trans (hv r p e)

/-! ### The results -/

include hq hk hv in
theorem end_o : (dat0 (V1 m ρ) c).arrAt 3 cfg0.N = fun i : S4096x256.Idx => ((outR (Qs Q) K W (hd (i 1)) (i 0) (ln (i 1)) : ℝ) : EReal) :=
  final_out (V1 m ρ) c (Qs Q) K W (in_q m ρ c Q hq) (in_k m ρ c K hk) (in_v m ρ c W hv)
include hq hk in
theorem end_l : (dat0 (V1 m ρ) c).arrAt 4 cfg0.N = fun i : S4x4096x1.Idx => ((lseR (Qs Q) K (i 0) (i 1) : ℝ) : EReal) :=
  final_lse (V1 m ρ) c (Qs Q) K (in_q m ρ c Q hq) (in_k m ρ c K hk)

section
include hq in
theorem in2_q (h : Fin 4) (r : Fin 4096) (e : Fin 128) :
    (V2 m ρ c (Pipeline.arrRef spec1 0) : Vec Ideal S4x4096x128 .bf16) (ix3 h r e) = ((Qs Q h r e : ℝ) : EReal) :=
  (congrFun (W2_q m ρ c) _).trans (in_q m ρ c Q hq h r e)
include hk in
theorem in2_k (p : Fin 4) (r : Fin 4096) (e : Fin 128) :
    (V2 m ρ c (Pipeline.arrRef spec1 1) : Vec Ideal S4x4096x128 .bf16) (ix3 p r e) = ((K p r e : ℝ) : EReal) :=
  (congrFun (W2_k m ρ c) _).trans (in_k m ρ c K hk p r e)
include hv in
theorem in2_v (p : Fin 4) (r : Fin 4096) (e : Fin 64) :
    (V2 m ρ c (Pipeline.arrRef spec1 2) : Vec Ideal S4x4096x64 .bf16) (ix3 p r e) = ((W p r e : ℝ) : EReal) :=
  (congrFun (W2_v m ρ c) _).trans (in_v m ρ c W hv p r e)
include hq hk hv in
theorem in2_o (h : Fin 4) (r : Fin 4096) (d : Fin 64) :
    (V2 m ρ c (Pipeline.arrRef spec1 3) : Vec Ideal S4096x256 .f32) (ix2 r ⟨64 * h.val + d.val, col_lt h d⟩) = ((outR (Qs Q) K W h r d : ℝ) : EReal) := by
  refine (congrFun ((W2_o m ρ c).trans (end_o m ρ c Q K W hq hk hv)) _).trans ?_
  have e1 : hd (⟨64 * h.val + d.val, by omega⟩ : Fin 256) = h := Fin.ext (by simp only [hd]; omega)
  have e2 : ln (⟨64 * h.val + d.val, by omega⟩ : Fin 256) = d := Fin.ext (by simp only [ln]; omega)
  show ((outR (Qs Q) K W (hd (⟨64 * h.val + d.val, by omega⟩ : Fin 256)) r (ln (⟨64 * h.val + d.val, by omega⟩ : Fin 256)) : ℝ) : EReal) = _
  rw [e1, e2]
include hq hk in
theorem in2_l (h : Fin 4) (r : Fin 4096) :
    (V2 m ρ c (Pipeline.arrRef spec1 4) : Vec Ideal S4x4096x1 .f32) (ix3 h r 0) = ((lseR (Qs Q) K h r : ℝ) : EReal) :=
  congrFun ((W2_l m ρ c).trans (end_l m ρ c Q K hq hk)) _
include hg in
theorem in2_g (h : Fin 4) (r : Fin 4096) (d : Fin 64) :
    (V2 m ρ c (Pipeline.arrRef spec1 5) : Vec Ideal S4096x1024 .f32) (ix2 r ⟨768 + (64 * h.val + d.val), lcol_lt h d⟩) = ((G h r d : ℝ) : EReal) :=
  (congrFun (W2_g m ρ c) _).trans (hg h r d)
end

include hq hk hv in
theorem result_o : (W4 m ρ c (Proc.devRef .tc main_v14_0) : FVec Ideal S4096x256 .f32)
    = Cert.LatentRefIdeal.Val.outA (m ((c : Thread nD τ).loc main_arg0)) (m ((c : Thread nD τ).loc main_arg1)) (m ((c : Thread nD τ).loc main_arg2)) := by
  rw [W4_o]
  refine (end_o m ρ c Q K W hq hk hv).trans (funext fun z => ?_)
  idx_vars z
  have e : z1 = ⟨64 * (hd z1).val + (ln z1).val, col_lt (hd z1) (ln z1)⟩ := Fin.ext (by simp only [hd, ln]; omega)
  show ((outR (Qs Q) K W (hd z1) z0 (ln z1) : ℝ) : EReal) = _
  rw [out_eq]
  refine (Cert.LatentRefIdeal.Val.outA_real _ _ _ Q K W hq hk hv (hd z1) z0 (ln z1)).symm.trans ?_
  exact congrArg _ (congrArg (ix2 z0) e.symm)

include hq hk hv hg in
theorem result_dq : (W4 m ρ c (Proc.devRef .tc main_v18) : FVec Ideal S4x4096x128 .f32)
    = Cert.LatentRefIdeal.Val.dqA (m ((c : Thread nD τ).loc main_arg0)) (m ((c : Thread nD τ).loc main_arg1)) (m ((c : Thread nD τ).loc main_arg2)) (m ((c : Thread nD τ).loc main_arg3)) := by
  rw [W4_dq, final_dq (V2 m ρ) c (Qs Q) K W G (outR (Qs Q) K W) (in2_q m ρ c Q hq) (in2_k m ρ c K hk) (in2_v m ρ c W hv)
    (in2_o m ρ c Q K W hq hk hv) (in2_l m ρ c Q K hq hk) (in2_g m ρ c G hg)]
  funext z
  idx_vars z
  refine (post_dq _ _).trans ?_
  refine Eq.trans ?_ (Cert.LatentRefIdeal.Val.dqA_real _ _ _ _ Q K G W hq hk hv hg z0 z1 z2).symm
  rw [← dq_eq, EReal.coe_mul]
  rfl

include hq hk hv hg in
theorem result_dk : (W4 m ρ c (Proc.devRef .tc main_v15_1) : FVec Ideal S4x4096x128 .f32)
    = Cert.LatentRefIdeal.Val.dkA (m ((c : Thread nD τ).loc main_arg0)) (m ((c : Thread nD τ).loc main_arg1)) (m ((c : Thread nD τ).loc main_arg2)) (m ((c : Thread nD τ).loc main_arg3)) := by
  rw [W4_dk]
  refine (final_dk (V2 m ρ) c (Qs Q) K W G (outR (Qs Q) K W) (in2_q m ρ c Q hq) (in2_k m ρ c K hk) (in2_v m ρ c W hv)
    (in2_o m ρ c Q K W hq hk hv) (in2_l m ρ c Q K hq hk) (in2_g m ρ c G hg)).trans (funext fun z => ?_)
  idx_vars z
  refine Eq.trans ?_ (Cert.LatentRefIdeal.Val.dkA_real _ _ _ _ Q K G W hq hk hv hg z0 z1 z2).symm
  exact congrArg (fun x : ℝ => (x : EReal)) (dk_eq Q K G W z0 z1 z2)

include hq hk hv hg in
theorem result_dv : (W4 m ρ c (Proc.devRef .tc main_v15_2) : FVec Ideal S4x4096x64 .f32)
    = Cert.LatentRefIdeal.Val.dvA (m ((c : Thread nD τ).loc main_arg0)) (m ((c : Thread nD τ).loc main_arg1)) (m ((c : Thread nD τ).loc main_arg3)) := by
  rw [W4_dv]
  refine (final_dv (V2 m ρ) c (Qs Q) K W G (outR (Qs Q) K W) (in2_q m ρ c Q hq) (in2_k m ρ c K hk) (in2_v m ρ c W hv)
    (in2_o m ρ c Q K W hq hk hv) (in2_l m ρ c Q K hq hk) (in2_g m ρ c G hg)).trans (funext fun z => ?_)
  idx_vars z
  refine Eq.trans ?_ (Cert.LatentRefIdeal.Val.dvA_real _ _ _ Q K G hq hk hg z0 z1 z2).symm
  exact congrArg (fun x : ℝ => (x : EReal)) (dv_eq Q K G z0 z1 z2)
end

end Cert.LatentIdeal.Val
end
-- ==== Proof.LatentFinite.lean ====
/- Latent attention's arguments of finite absolute value are real numbers. -/
module
public import proofs.«01_k».proof.Proof.Gen.Pre_finite_latent
public import proofs.«01_k».proof.Proof.GqaFinite
@[expose] public section
noncomputable section
open Idealize.ShloMosaic
namespace Cert.Attn
open Cert.Pre_finite_latent

theorem latent_reals (q : FVec Ideal S1x4096x4x1x128 .f32) (k : FVec Ideal S1x4096x4x128 .f32) (v : FVec Ideal S1x4096x4x64 .f32)
    (g : FVec Ideal S4096x1024 .f32) (h : fn q k v g = fun _ => 1#1) :
    (∀ i, q i = (((q i : EReal).toReal : ℝ) : EReal)) ∧ (∀ i, k i = (((k i : EReal).toReal : ℝ) : EReal))
      ∧ (∀ i, v i = (((v i : EReal).toReal : ℝ) : EReal)) ∧ (∀ i, g i = (((g i : EReal).toReal : ℝ) : EReal)) := by
  have h0 := congrFun h (fun a => a.elim0)
  unfold fn fn_part1 at h0
  obtain ⟨h1, hg⟩ := IntOp.andi_eq_one.1 h0
  obtain ⟨h2, hv⟩ := IntOp.andi_eq_one.1 h1
  obtain ⟨hq, hk⟩ := IntOp.andi_eq_one.1 h2
  exact ⟨fun i => real_of_abs_lt _ (Host.reduce_andi_all _ _ _ _ _ hq i), fun i => real_of_abs_lt _ (Host.reduce_andi_all _ _ _ _ _ hk i),
    fun i => real_of_abs_lt _ (Host.reduce_andi_all _ _ _ _ _ hv i), fun i => real_of_abs_lt _ (Host.reduce_andi_all _ _ _ _ _ hg i)⟩

end Cert.Attn
end
-- ==== Proof.LatentClaims.lean ====
/- The claims about the attention calls of the multi-head latent mixer. -/
module
public import proofs.«01_k».proof.Defs
public import proofs.«01_k».proof.Proof.Gen.Latent.Frame
public import proofs.«01_k».proof.Proof.LatentEquation
public import proofs.«01_k».proof.Proof.LatentFinite
@[expose] public section
noncomputable section
open Idealize.ShloMosaic Idealize.ShloMosaic.TcCoe Idealize.SL.Sem Cert.Attn
namespace Cert.Proof.LatentClaims

theorem frame_p : Cert.quiescent_Latent := fun m ρ _ => Cert.Latent.Gen.frame m ρ
theorem frame_pi : Cert.quiescent_LatentIdeal := fun m ρ _ => Cert.LatentIdeal.Gen.frame m ρ
theorem frame_pi_finite : Cert.quiescent_LatentIdeal_pre_finite_latent := fun m ρ _ => Cert.LatentIdeal.Gen.frame m ρ
theorem frame_ri : Cert.quiescent_LatentRefIdeal := fun m ρ _ =>
  (θ_run Cert.LatentRefIdeal.defs _ _).mono (fun r h => ⟨fun c => (h c).2.2.2.2, Idealize.ShloMosaic.sem_eq_zero_of_no_sems (by decide) r.2⟩)
    (Cert.LatentRefIdeal.Val.run m ρ)
theorem frame_ri_finite : Cert.quiescent_LatentRefIdeal_pre_finite_latent := fun m ρ _ => frame_ri m ρ trivial

/-- The two named constants' values are the table's. -/
theorem preserves : Cert.preserves_Latent_LatentIdeal :=
  ⟨IdealRules.named_const.statement Cert.LatentIdeal.κ "log2e" .f32 0x3FB8AA3B#32 (((Real.log 2)⁻¹ : ℝ) : EReal) (by simp [Cert.LatentIdeal.κ]),
    IdealRules.named_const.statement Cert.LatentIdeal.κ "ln2" .f32 0x3F317218#32 ((Real.log 2 : ℝ) : EReal) (by simp [Cert.LatentIdeal.κ])⟩

section
open Cert.LatentIdeal Cert.LatentIdeal.Gen
variable (m : (ℓ : Loc nD τ sig) → Buf (Elt Ideal) ℓ) (ρ : Dev nD → PrngReg)

/-- The program's run, with its results by the reference's stages. -/
theorem kernel_run (hpre : Cert.Pre_LatentIdeal_finite_latent m) : θ_run defs (onTc (τ := τ) (main (F := Ideal))) ⟨m, fun _ => 0, ρ⟩ (fun r => ∀ c : Dev nD,
      r.2.mem ((c.tc : Thread nD τ).loc main_v14_0) = Cert.LatentRefIdeal.Val.outA (m ((c.tc : Thread nD τ).loc main_arg0)) (m ((c.tc : Thread nD τ).loc main_arg1)) (m ((c.tc : Thread nD τ).loc main_arg2))
      ∧ r.2.mem ((c.tc : Thread nD τ).loc main_v18) = Cert.LatentRefIdeal.Val.dqA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v15_1) = Cert.LatentRefIdeal.Val.dkA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v15_2) = Cert.LatentRefIdeal.Val.dvA (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.LatentIdeal.Val.run m ρ)
  obtain ⟨fq, fk, fv, fg⟩ := latent_reals _ _ _ _ (hpre c)
  let q : FVec Ideal S1x4096x4x1x128 .f32 := m ((c.tc : Thread nD τ).loc main_arg0)
  let k : FVec Ideal S1x4096x4x128 .f32 := m ((c.tc : Thread nD τ).loc main_arg1)
  let v : FVec Ideal S1x4096x4x64 .f32 := m ((c.tc : Thread nD τ).loc main_arg2)
  let g : FVec Ideal S4096x1024 .f32 := m ((c.tc : Thread nD τ).loc main_arg3)
  let Q : Fin 4 → Fin 4096 → Fin 128 → ℝ := fun h i e => (q (ix5 0 i h 0 e) : EReal).toReal
  let K : Fin 4 → Fin 4096 → Fin 128 → ℝ := fun p j e => (k (ix4 0 j p e) : EReal).toReal
  let W : Fin 4 → Fin 4096 → Fin 64 → ℝ := fun p j e => (v (ix4 0 j p e) : EReal).toReal
  let G : Fin 4 → Fin 4096 → Fin 64 → ℝ := fun h i d => (g (ix2 i ⟨768 + (64 * h.val + d.val), lcol_lt h d⟩) : EReal).toReal
  have hq : ∀ i h e, q (ix5 0 i h 0 e) = (Q h i e : EReal) := fun i h e => fq _
  have hk : ∀ j p e, k (ix4 0 j p e) = (K p j e : EReal) := fun j p e => fk _
  have hv : ∀ j p e, v (ix4 0 j p e) = (W p j e : EReal) := fun j p e => fv _
  have hg : ∀ (h : Fin 4) i (d : Fin 64), g (ix2 i ⟨768 + (64 * h.val + d.val), lcol_lt h d⟩) = (G h i d : EReal) := fun h i d => fg _
  exact ⟨(h c _ (mem_uc main_v14_0 (by decide))).trans (Cert.LatentIdeal.Val.result_o m ρ c Q K W hq hk hv),
    (h c _ (mem_uc main_v18 (by decide))).trans (Cert.LatentIdeal.Val.result_dq m ρ c Q K G W hq hk hv hg),
    (h c _ (mem_uc main_v15_1 (by decide))).trans (Cert.LatentIdeal.Val.result_dk m ρ c Q K G W hq hk hv hg),
    (h c _ (mem_uc main_v15_2 (by decide))).trans (Cert.LatentIdeal.Val.result_dv m ρ c Q K G W hq hk hv hg),
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩
end

theorem algebraic : Cert.algebraic_LatentIdeal_LatentRefIdeal_pre_finite_latent := by
  intro m ρ m' ρ' hpre hagree
  refine ⟨_, _, _, _, kernel_run m ρ hpre, ?_⟩
  refine (θ_run Cert.LatentRefIdeal.defs _ _).mono (fun r h c => ?_) (Cert.LatentRefIdeal.Val.run m' ρ')
  obtain ⟨a0, a1, a2, a3⟩ := hagree c
  obtain ⟨h0, h1, h2, h3, hr⟩ := h c
  rw [a0, a1, a2] at h0
  rw [a0, a1, a2, a3] at h1 h2
  rw [a0, a1, a3] at h3
  exact ⟨h0, h1, h2, h3, hr⟩

end Cert.Proof.LatentClaims
end
-- ==== Proof.Index.lean ====
/- Indices of arrays with equal coordinates are equal. -/
module
public import Idealize.ShloMosaic.Lib.Pipeline.ValueKit
@[expose] public section
open Idealize.ShloMosaic
namespace Cert.Index

theorem ix2_eq {n m : ℕ} {a a' : Fin n} {b b' : Fin m} (ha : a.val = a'.val) (hb : b.val = b'.val) : ix2 a b = ix2 a' b' := by
  rw [Fin.ext ha, Fin.ext hb]
theorem ix3_eq {n m l : ℕ} {a a' : Fin n} {b b' : Fin m} {d d' : Fin l} (ha : a.val = a'.val) (hb : b.val = b'.val) (hd : d.val = d'.val) :
    ix3 a b d = ix3 a' b' d' := by
  rw [Fin.ext ha, Fin.ext hb, Fin.ext hd]

end Cert.Index
-- ==== Proof.DwUpClaims.lean ====
/- The gradient of the up-projection: the call's accumulated blocks are the products over all 4096 rows, and so is the reference's
   gradient. -/
module
public import proofs.«01_k».proof.Defs
public import proofs.«01_k».proof.Proof.Index
public import proofs.«01_k».proof.Proof.Gen.DwUp
public import proofs.«01_k».proof.Proof.Gen.DwUpIdeal
public import proofs.«01_k».proof.Proof.Gen.DwUpRefIdeal
public import proofs.«01_k».proof.Proof.Gen.DwUpIdeal.Value
public import proofs.«01_k».proof.Proof.Gen.DwUpRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.DwUpIdeal.Val
open Cert.DwUpIdeal Cert.DwUpIdeal.Gen

theorem idx0 : ∀ t : Fin cfg0.N, win0_0.index t = ![t.val % 4, 0] ∧ win0_1.index t = ![t.val / 4 / 2, t.val % 4, t.val / 4 % 2]
    ∧ win0_2.index t = ![t.val / 4, 0, 0] :=
  (by decide +kernel : ∀ t : Fin grid0.N, _)

theorem half_lt (a : Fin 4) : a.val / 2 < 2 := by omega
theorem col_lt (a : Fin 4) (b : Fin 1408) : a.val % 2 * 1408 + b.val < 2816 := by omega

/-- The call's result: chip `a`'s columns of the gradient, from the rows' activations and their gradients in two halves. -/
def dw (x : Vec Ideal S4096x1024 .f32) (d : Vec Ideal S2x4096x2816 .bf16) (i : S4x1024x1408.Idx) : EReal :=
  ∑ k : Fin 4096, (x (ix2 k (i 1)) : EReal)
    * (d (ix3 ⟨(i 0).val / 2, half_lt (i 0)⟩ k ⟨(i 0).val % 2 * 1408 + (i 2).val, col_lt (i 0) (i 2)⟩) : EReal)

section
variable (m : (ℓ : Loc nD τ sig) → Buf (Elt Ideal) ℓ) (c : Dev nD)

/-- The rows' activations and their gradients, as the arrays hold them. -/
abbrev h1 : Vec Ideal S4096x1024 .f32 := m ((c : Thread nD τ).loc main_arg0)
abbrev dup : Vec Ideal S2x4096x2816 .bf16 := m ((c : Thread nD τ).loc main_arg1)

/-- The blocks that a point reads. -/
def hB (t : Fin cfg0.N) : Vec Ideal S1024x1024 .f32 := iblk m c 0 t
def dB (t : Fin cfg0.N) : Vec Ideal S1x1024x1408 .bf16 := iblk m c 1 t

theorem hB_at (t : Fin cfg0.N) (r i : Fin 1024) (k : Fin 4096) (hk : k.val = t.val % 4 * 1024 + r.val) :
    hB m c t (ix2 r i) = h1 m c (ix2 k i) := by
  obtain ⟨k, _⟩ := k
  obtain rfl := hk
  dsimp only [hB, h1]
  blk_point [iblk, idx0 t]

theorem dB_at (t : Fin cfg0.N) (a : Fin 1) (r : Fin 1024) (j : Fin 1408) (p : Fin 2) (k : Fin 4096) (l : Fin 2816) (hp : p.val = t.val / 4 / 2)
    (hk : k.val = t.val % 4 * 1024 + r.val) (hl : l.val = t.val / 4 % 2 * 1408 + j.val) :
    dB m c t (ix3 a r j) = dup m c (ix3 p k l) := by
  obtain ⟨p, _⟩ := p
  obtain rfl := hp
  obtain ⟨k, _⟩ := k
  obtain rfl := hk
  obtain ⟨l, _⟩ := l
  obtain rfl := hl
  dsimp only [dB, dup]
  blk_point [iblk, idx0 t]

/-- What a point adds to the block it accumulates. -/
def part (t : Fin cfg0.N) (y : S1024x1408.Idx) : EReal :=
  ∑ r : Fin 1024, (hB m c t (ix2 r (y 0)) : EReal) * (dB m c t (ix3 0 r (y 1)) : EReal)

theorem first_at (t : Fin cfg0.N) (y : S1024x1408.Idx) :
    k0_pay2 (F := Ideal) (iblk m c 0 t) (iblk m c 1 t) y = (0 : EReal) + part m c t y := by
  idx_vars y
  pointwise [k0_pay2, k0_pay1]
  rfl

theorem next_at (t : Fin cfg0.N) (a : Vec Ideal S1024x1408 .f32) (y : S1024x1408.Idx) :
    k0_pay3 (F := Ideal) (iblk m c 0 t) (iblk m c 1 t) a y = (a y : EReal) + part m c t y := by
  idx_vars y
  pointwise [k0_pay3, k0_pay1]
  rfl

/-- The block that a point leaves in the accumulator. -/
theorem acc_at (t : Fin cfg0.N) (h : t.val % 4 = 3) (y : S1024x1408.Idx) :
    ((outsAt0 m c t.val t.isLt).2 y : EReal)
      = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by
      rw [outsAt0_A m c t h (by omega) (by omega)]; frame_out
      exact first_at m c t y)
    (fun t h y => by
      by_cases h2 : t.val % 4 = 3
      · rw [outsAt0_C m c t h (by omega) h2]; frame_out
        exact (next_at m c t _ y).trans (by rw [read_unread_whole])
      · rw [outsAt0_B m c t h (by omega) h2]; frame_out
        exact (next_at m c t _ y).trans (by rw [read_unread_whole]))
    t h y, zero_add]

/-- The last point of a block writes the accumulator out. -/
theorem out_at (t : Fin cfg0.N) (h : t.val % 4 = 3) (a : Fin 1) (i : Fin 1024) (j : Fin 1408) :
    (outsAt0 m c t.val t.isLt).1 (ix3 a i j) = (outsAt0 m c t.val t.isLt).2 (ix2 i j) := by
  rw [outsAt0_C m c t (by omega) (by omega) h]; frame_out
  pointwise [k0_pay4]

theorem final : (dats m 0 c).arrAt 2 cfg0.N = dw (h1 m c) (dup m c) := by
  refine (dats m 0 c).arrAt_eq_of_covers 2 _ (by decide +kernel) fun t hf y => ?_
  have h7 := (flush0_2 t).mp hf
  blk_simp
  rw [after0_2]
  idx_vars y
  suffices H : ∀ (a : Fin 4) (b : Fin 1024) (d : Fin 1408), a.val = t.val / 4 → b.val = y1.val → d.val = y2.val →
      (outsAt0 m c t.val t.isLt).1 (ix3 y0 y1 y2) = dw (h1 m c) (dup m c) (ix3 a b d) from
    H _ _ _ (by blk_simp [idx0 t] <;> try omega) (by blk_simp [idx0 t] <;> try omega) (by blk_simp [idx0 t] <;> try omega)
  intro a b d ha hb hd
  obtain rfl : b = y1 := Fin.ext hb
  obtain rfl : d = y2 := Fin.ext hd
  rw [out_at m c t h7, acc_at m c t h7]
  refine Fin.sum_mul_add_congr fun s r hlt => ?_
  exact congrArg₂ (fun x y : EReal => x * y)
    (hB_at m c _ r b _ (by show s.val * 1024 + r.val = (4 * (t.val / 4) + s.val) % 4 * 1024 + r.val; omega))
    (dB_at m c _ 0 r d _ _ _ (by show a.val / 2 = (4 * (t.val / 4) + s.val) / 4 / 2; omega)
      (by show s.val * 1024 + r.val = (4 * (t.val / 4) + s.val) % 4 * 1024 + r.val; omega)
      (by show a.val % 2 * 1408 + d.val = (4 * (t.val / 4) + s.val) / 4 % 2 * 1408 + d.val; omega))

end
end Cert.DwUpIdeal.Val

namespace Cert.DwUpRefIdeal.Val
open Cert.DwUpRefIdeal Cert.DwUpRefIdeal.Gen

/-- The reference's run: the same sums over the 4096 rows, the two halves of the gradient side by side. -/
theorem run (m : (ℓ : Loc nD τ sig) → Buf (Elt Ideal) ℓ) (ρ : Dev nD → PrngReg)
    (x : Dev nD → Vec Ideal S4096x1024 .f32) (d : Dev nD → Vec Ideal S2x4096x2816 .bf16)
    (hx : ∀ c : Dev nD, m ((c.tc : Thread nD τ).loc main_arg0) = x c) (hd : ∀ c : Dev nD, m ((c.tc : Thread nD τ).loc main_arg1) = d c) :
    θ_run defs (onTc (τ := τ) (main (F := Ideal))) ⟨m, fun _ => 0, ρ⟩ fun r => ∀ c : Dev nD,
      r.2.mem ((c.tc : Thread nD τ).loc main_v12) = (Cert.DwUpIdeal.Val.dw (x c) (d c) : FVec Ideal S4x1024x1408 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.DwUpRefIdeal.Value.run m ρ)
  rw [hx, hd]
  funext i
  idx_vars i
  pointwise
  dsimp only [Cert.DwUpIdeal.Val.dw]
  refine Finset.sum_congr rfl fun k _ => (mul_comm _ _).trans (congrArg (fun y : EReal => x c (ix2 k i1) * y) ?_)
  split
  · exact congrArg (d c) (Cert.Index.ix3_eq (by show 0 = i0.val / 2; omega) rfl (by show i0.val * 1408 + i2.val = i0.val % 2 * 1408 + i2.val; omega))
  · exact congrArg (d c) (Cert.Index.ix3_eq (by show 1 = i0.val / 2; omega) rfl (by show i0.val * 1408 + i2.val - 2816 = i0.val % 2 * 1408 + i2.val; omega))
end Cert.DwUpRefIdeal.Val

namespace Cert.Proof.DwUpClaims

/-- The two programs have one text, and so one table of bodies. -/
theorem bodies_eq : Cert.DwUp.defs₀ (F := Bits) = Cert.DwUpIdeal.defs₀ := by
  refine congrArg Defs.onTc (funext fun l => funext fun a => ?_)
  obtain ⟨_ | n, h⟩ := l
  · rfl
  · exact absurd h (by omega)
theorem defs_eq : Cert.DwUp.defs (F := Bits) = Cert.DwUpIdeal.defs :=
  congrArg (Pipeline.defs Cert.DwUpIdeal.pcfgs) bodies_eq

theorem frame_p : Cert.quiescent_DwUp := fun m ρ _ => by
  rw [defs_eq]
  exact Cert.DwUpIdeal.Gen.frame (F := Bits) m ρ
theorem frame_pi : Cert.quiescent_DwUpIdeal := fun m ρ _ => Cert.DwUpIdeal.Gen.frame m ρ
theorem frame_ri : Cert.quiescent_DwUpRefIdeal := fun m ρ _ =>
  (θ_run Cert.DwUpRefIdeal.defs _ _).mono (fun r h => ⟨fun c => (h c).2, sem_eq_zero_of_no_sems (by decide) r.2⟩) (Cert.DwUpRefIdeal.Value.run m ρ)
theorem preserves : Cert.preserves_DwUp_DwUpIdeal := trivial

theorem algebraic : Cert.algebraic_DwUpIdeal_DwUpRefIdeal := by
  intro m ρ m' ρ' _ hagree
  exact ⟨_, (θ_run Cert.DwUpIdeal.defs _ _).mono (fun r h c => ⟨(h c).1.trans (Cert.DwUpIdeal.Val.final m c), (h c).2⟩) (Cert.DwUpIdeal.Value.run_blocks m ρ),
    Cert.DwUpRefIdeal.Val.run m' ρ' _ _ (fun c => (hagree c).1) (fun c => (hagree c).2)⟩

end Cert.Proof.DwUpClaims
end
-- ==== Proof.DH1Claims.lean ====
/- The gradient of the up-projection's input: the call's accumulated blocks are the products over all 5632 columns, and so is the
   reference's gradient. -/
module
public import proofs.«01_k».proof.Defs
public import proofs.«01_k».proof.Proof.Index
public import proofs.«01_k».proof.Proof.Gen.DH1
public import proofs.«01_k».proof.Proof.Gen.DH1Ideal
public import proofs.«01_k».proof.Proof.Gen.DH1RefIdeal
public import proofs.«01_k».proof.Proof.Gen.DH1Ideal.Value
public import proofs.«01_k».proof.Proof.Gen.DH1RefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.DH1Ideal.Val
open Cert.DH1Ideal Cert.DH1Ideal.Gen

theorem idx0 : ∀ t : Fin cfg0.N, win0_0.index t = ![t.val % 4 / 2, t.val / 4, t.val % 4 % 2] ∧ win0_1.index t = ![0, t.val % 4]
    ∧ win0_2.index t = ![t.val / 4, 0] :=
  (by decide +kernel : ∀ t : Fin grid0.N, _)

theorem half_lt (k : Fin 5632) : k.val / 2816 < 2 := by omega
theorem col_lt (k : Fin 5632) : k.val % 2816 < 2816 := by omega

/-- The call's result, from the gradient in two halves of columns and the weight. -/
def dh (d : Vec Ideal S2x4096x2816 .bf16) (w : Vec Ideal S1024x5632 .f32) (i : S4096x1024.Idx) : EReal :=
  ∑ k : Fin 5632, (d (ix3 ⟨k.val / 2816, half_lt k⟩ (i 0) ⟨k.val % 2816, col_lt k⟩) : EReal) * (w (ix2 (i 1) k) : EReal)

section
variable (m : (ℓ : Loc nD τ sig) → Buf (Elt Ideal) ℓ) (c : Dev nD)

/-- The gradient and the weight, as the arrays hold them. -/
abbrev dup : Vec Ideal S2x4096x2816 .bf16 := m ((c : Thread nD τ).loc main_arg0)
abbrev wt : Vec Ideal S1024x5632 .f32 := m ((c : Thread nD τ).loc main_arg1)

/-- The call reads the weight after a change of format. -/
theorem cast_at : (V m c main_v0 : Vec Ideal S1024x5632 .bf16) = wt m c := by
  show StableHlo.after hostOps0 _ _ = _
  after_results
  rfl

/-- The blocks that a point reads. -/
def dB (t : Fin cfg0.N) : Vec Ideal S1x1024x1408 .bf16 := iblk m c 0 t
def wB (t : Fin cfg0.N) : Vec Ideal S1024x1408 .bf16 := iblk m c 1 t

theorem dB_at (t : Fin cfg0.N) (a : Fin 1) (i : Fin 1024) (r : Fin 1408) (p : Fin 2) (k : Fin 4096) (l : Fin 2816) (hp : p.val = t.val % 4 / 2)
    (hk : k.val = t.val / 4 * 1024 + i.val) (hl : l.val = t.val % 4 % 2 * 1408 + r.val) :
    dB m c t (ix3 a i r) = dup m c (ix3 p k l) := by
  obtain ⟨p, _⟩ := p
  obtain rfl := hp
  obtain ⟨k, _⟩ := k
  obtain rfl := hk
  obtain ⟨l, _⟩ := l
  obtain rfl := hl
  dsimp only [dB, dup]
  blk_point [iblk, idx0 t]

theorem wB_at (t : Fin cfg0.N) (j : Fin 1024) (r : Fin 1408) (k : Fin 5632) (hk : k.val = t.val % 4 * 1408 + r.val) :
    wB m c t (ix2 j r) = wt m c (ix2 j k) := by
  obtain ⟨k, _⟩ := k
  obtain rfl := hk
  rw [← cast_at]
  dsimp only [wB]
  blk_point [iblk, idx0 t]

/-- What a point adds to the block it accumulates. -/
def part (t : Fin cfg0.N) (y : S1024x1024.Idx) : EReal :=
  ∑ r : Fin 1408, (dB m c t (ix3 0 (y 0) r) : EReal) * (wB m c t (ix2 (y 1) r) : EReal)

theorem first_at (t : Fin cfg0.N) (y : S1024x1024.Idx) :
    k0_pay2 (F := Ideal) (iblk m c 0 t) (iblk m c 1 t) y = (0 : EReal) + part m c t y := by
  idx_vars y
  pointwise [k0_pay2, k0_pay1]
  rfl

theorem next_at (t : Fin cfg0.N) (a : Vec Ideal S1024x1024 .f32) (y : S1024x1024.Idx) :
    k0_pay3 (F := Ideal) (iblk m c 0 t) (iblk m c 1 t) a y = (a y : EReal) + part m c t y := by
  idx_vars y
  pointwise [k0_pay3, k0_pay1]
  rfl

/-- The block that a block's last point leaves in the accumulator, and writes out. -/
theorem acc_at (t : Fin cfg0.N) (h : t.val % 4 = 3) (y : S1024x1024.Idx) :
    ((outsAt0 m c t.val t.isLt).2 y : EReal)
      = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by
      rw [outsAt0_A m c t h (by omega) (by omega)]; frame_out
      exact first_at m c t y)
    (fun t h y => by
      by_cases h2 : t.val % 4 = 3
      · rw [outsAt0_C m c t h (by omega) h2]; frame_out
        exact (next_at m c t _ y).trans (by rw [read_unread_whole])
      · rw [outsAt0_B m c t h (by omega) h2]; frame_out
        exact (next_at m c t _ y).trans (by rw [read_unread_whole]))
    t h y, zero_add]

theorem out_at (t : Fin cfg0.N) (h : t.val % 4 = 3) : (outsAt0 m c t.val t.isLt).1 = (outsAt0 m c t.val t.isLt).2 := by
  rw [outsAt0_C m c t (by omega) (by omega) h]; frame_out

theorem final : (dats m 0 c).arrAt 2 cfg0.N = dh (dup m c) (wt m c) := by
  refine (dats m 0 c).arrAt_eq_of_covers 2 _ (by decide +kernel) fun t hf y => ?_
  have h7 := (flush0_2 t).mp hf
  blk_simp
  rw [after0_2]
  idx_vars y
  suffices H : ∀ (a : Fin 4096) (b : Fin 1024), a.val = t.val / 4 * 1024 + y0.val → b.val = y1.val →
      (outsAt0 m c t.val t.isLt).1 (ix2 y0 y1) = dh (dup m c) (wt m c) (ix2 a b) from
    H _ _ (by blk_simp [idx0 t] <;> try omega) (by blk_simp [idx0 t] <;> try omega)
  intro a b ha hb
  obtain rfl : b = y1 := Fin.ext hb
  rw [out_at m c t h7, acc_at m c t h7]
  refine Fin.sum_mul_add_congr fun s r hlt => ?_
  exact congrArg₂ (fun x y : EReal => x * y)
    (dB_at m c _ 0 y0 r _ _ _ (by show (s.val * 1408 + r.val) / 2816 = (4 * (t.val / 4) + s.val) % 4 / 2; omega)
      (by show a.val = (4 * (t.val / 4) + s.val) / 4 * 1024 + y0.val; omega)
      (by show (s.val * 1408 + r.val) % 2816 = (4 * (t.val / 4) + s.val) % 4 % 2 * 1408 + r.val; omega))
    (wB_at m c _ b r _ (by show s.val * 1408 + r.val = (4 * (t.val / 4) + s.val) % 4 * 1408 + r.val; omega))

end
end Cert.DH1Ideal.Val

namespace Cert.DH1RefIdeal.Val
open Cert.DH1RefIdeal Cert.DH1RefIdeal.Gen Cert.DH1Ideal.Val

/-- The reference's run: the same sums over the 5632 columns, the two halves of the gradient side by side. -/
theorem run (m : (ℓ : Loc nD τ sig) → Buf (Elt Ideal) ℓ) (ρ : Dev nD → PrngReg)
    (d : Dev nD → Vec Ideal S2x4096x2816 .bf16) (w : Dev nD → Vec Ideal S1024x5632 .f32)
    (hd : ∀ c : Dev nD, m ((c.tc : Thread nD τ).loc main_arg0) = d c) (hw : ∀ c : Dev nD, m ((c.tc : Thread nD τ).loc main_arg1) = w c) :
    θ_run defs (onTc (τ := τ) (main (F := Ideal))) ⟨m, fun _ => 0, ρ⟩ fun r => ∀ c : Dev nD,
      r.2.mem ((c.tc : Thread nD τ).loc main_v10) = (Cert.DH1Ideal.Val.dh (d c) (w c) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.DH1RefIdeal.Value.run m ρ)
  rw [hd, hw]
  funext i
  idx_vars i
  pointwise
  dsimp only [Cert.DH1Ideal.Val.dh]
  refine Eq.trans ?_ (Fin.sum_univ_add (fun k : Fin (2816 + 2816) =>
    (d c (ix3 ⟨k.val / 2816, half_lt k⟩ i0 ⟨k.val % 2816, col_lt k⟩) : EReal) * (w c (ix2 i1 k) : EReal))).symm
  refine congrArg₂ (fun x y : EReal => x + y) (Finset.sum_congr rfl fun k _ => ?_) (Finset.sum_congr rfl fun k _ => ?_)
  · exact congrArg₂ (fun x y : EReal => x * y)
      (congrArg (d c) (Cert.Index.ix3_eq (by show 0 = k.val / 2816; omega) rfl (by show k.val = k.val % 2816; omega))) rfl
  · exact congrArg₂ (fun x y : EReal => x * y)
      (congrArg (d c) (Cert.Index.ix3_eq (by show 1 = (2816 + k.val) / 2816; omega) rfl (by show k.val = (2816 + k.val) % 2816; omega))) rfl
end Cert.DH1RefIdeal.Val

namespace Cert.Proof.DH1Claims

/-- The two programs have one text, and so one table of bodies. -/
theorem bodies_eq : Cert.DH1.defs₀ (F := Bits) = Cert.DH1Ideal.defs₀ := by
  refine congrArg Defs.onTc (funext fun l => funext fun a => ?_)
  obtain ⟨_ | n, h⟩ := l
  · rfl
  · exact absurd h (by omega)
theorem defs_eq : Cert.DH1.defs (F := Bits) = Cert.DH1Ideal.defs :=
  congrArg (Pipeline.defs Cert.DH1Ideal.pcfgs) bodies_eq

theorem frame_p : Cert.quiescent_DH1 := fun m ρ _ => by
  rw [defs_eq]
  exact Cert.DH1Ideal.Gen.frame (F := Bits) m ρ
theorem frame_pi : Cert.quiescent_DH1Ideal := fun m ρ _ => Cert.DH1Ideal.Gen.frame m ρ
theorem frame_ri : Cert.quiescent_DH1RefIdeal := fun m ρ _ =>
  (θ_run Cert.DH1RefIdeal.defs _ _).mono (fun r h => ⟨fun c => (h c).2, sem_eq_zero_of_no_sems (by decide) r.2⟩) (Cert.DH1RefIdeal.Value.run m ρ)
theorem preserves : Cert.preserves_DH1_DH1Ideal := trivial

theorem algebraic : Cert.algebraic_DH1Ideal_DH1RefIdeal := by
  intro m ρ m' ρ' _ hagree
  exact ⟨_, (θ_run Cert.DH1Ideal.defs _ _).mono (fun r h c => ⟨(h c).1.trans (Cert.DH1Ideal.Val.final m c), (h c).2⟩) (Cert.DH1Ideal.Value.run_blocks m ρ),
    Cert.DH1RefIdeal.Val.run m' ρ' _ _ (fun c => (hagree c).1) (fun c => (hagree c).2)⟩

end Cert.Proof.DH1Claims
end
-- ==== Proof.DwDownClaims.lean ====
/- The gradient of the down-projection: the call's accumulated blocks are the products over all 4096 rows, and so is the reference's
   gradient. -/
module
public import proofs.«01_k».proof.Defs
public import proofs.«01_k».proof.Proof.Index
public import proofs.«01_k».proof.Proof.Gen.DwDown
public import proofs.«01_k».proof.Proof.Gen.DwDownIdeal
public import proofs.«01_k».proof.Proof.Gen.DwDownRefIdeal
public import proofs.«01_k».proof.Proof.Gen.DwDownIdeal.Value
public import proofs.«01_k».proof.Proof.Gen.DwDownRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.DwDownIdeal.Val
open Cert.DwDownIdeal Cert.DwDownIdeal.Gen

theorem idx0 : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The call's result, from the rows' activations and the gradient of the output. -/
def dw (a : Vec Ideal S4096x2816 .bf16) (b : Vec Ideal S4096x1024 .f32) (i : S2816x1024.Idx) : EReal :=
  ∑ k : Fin 4096, (a (ix2 k (i 0)) : EReal) * (b (ix2 k (i 1)) : EReal)

section
variable (m : (ℓ : Loc nD τ sig) → Buf (Elt Ideal) ℓ) (c : Dev nD)

/-- The two factors, as the arrays hold them. -/
abbrev lhs : Vec Ideal S4096x2816 .bf16 := m ((c : Thread nD τ).loc main_arg0)
abbrev rhs : Vec Ideal S4096x1024 .f32 := m ((c : Thread nD τ).loc main_arg1)

/-- The blocks that a point reads. -/
def lB (t : Fin cfg0.N) : Vec Ideal S1024x1408 .bf16 := iblk m c 0 t
def rB (t : Fin cfg0.N) : Vec Ideal S1024x1024 .f32 := iblk m c 1 t

theorem lB_at (t : Fin cfg0.N) (i : Fin 1408) (r : Fin 1024) (a : Fin 2816) (k : Fin 4096) (ha : a.val = t.val / 4 * 1408 + i.val) (hk : k.val = t.val % 4 * 1024 + r.val) :
    lB m c t (ix2 r i) = lhs m c (ix2 k a) := by
  obtain ⟨a, _⟩ := a
  obtain rfl := ha
  obtain ⟨k, _⟩ := k
  obtain rfl := hk
  dsimp only [lB, lhs]
  blk_point [iblk, idx0 t]

theorem rB_at (t : Fin cfg0.N) (i : Fin 1024) (r : Fin 1024) (k : Fin 4096) (hk : k.val = t.val % 4 * 1024 + r.val) :
    rB m c t (ix2 r i) = rhs m c (ix2 k i) := by
  obtain ⟨k, _⟩ := k
  obtain rfl := hk
  dsimp only [rB, rhs]
  blk_point [iblk, idx0 t]

/-- What a point adds to the block it accumulates. -/
def part (t : Fin cfg0.N) (y : S1408x1024.Idx) : EReal :=
  ∑ r : Fin 1024, (lB m c t (ix2 r (y 0)) : EReal) * (rB m c t (ix2 r (y 1)) : EReal)

theorem first_at (t : Fin cfg0.N) (y : S1408x1024.Idx) :
    k0_pay2 (F := Ideal) (iblk m c 0 t) (iblk m c 1 t) y = (0 : EReal) + part m c t y := by
  idx_vars y
  pointwise [k0_pay2, k0_pay1]
  rfl

theorem next_at (t : Fin cfg0.N) (a : Vec Ideal S1408x1024 .f32) (y : S1408x1024.Idx) :
    k0_pay3 (F := Ideal) (iblk m c 0 t) (iblk m c 1 t) a y = (a y : EReal) + part m c t y := by
  idx_vars y
  pointwise [k0_pay3, k0_pay1]
  rfl

/-- The block that a block's last point leaves in the accumulator, and writes out. -/
theorem acc_at (t : Fin cfg0.N) (h : t.val % 4 = 3) (y : S1408x1024.Idx) :
    ((outsAt0 m c t.val t.isLt).2 y : EReal)
      = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by
      rw [outsAt0_A m c t h (by omega) (by omega)]; frame_out
      exact first_at m c t y)
    (fun t h y => by
      by_cases h2 : t.val % 4 = 3
      · rw [outsAt0_C m c t h (by omega) h2]; frame_out
        exact (next_at m c t _ y).trans (by rw [read_unread_whole])
      · rw [outsAt0_B m c t h (by omega) h2]; frame_out
        exact (next_at m c t _ y).trans (by rw [read_unread_whole]))
    t h y, zero_add]

theorem out_at (t : Fin cfg0.N) (h : t.val % 4 = 3) : (outsAt0 m c t.val t.isLt).1 = (outsAt0 m c t.val t.isLt).2 := by
  rw [outsAt0_C m c t (by omega) (by omega) h]; frame_out

theorem final : (dats m 0 c).arrAt 2 cfg0.N = dw (lhs m c) (rhs m c) := by
  refine (dats m 0 c).arrAt_eq_of_covers 2 _ (by decide +kernel) fun t hf y => ?_
  have h7 := (flush0_2 t).mp hf
  blk_simp
  rw [after0_2]
  idx_vars y
  suffices H : ∀ (a : Fin 2816) (b : Fin 1024), a.val = t.val / 4 * 1408 + y0.val → b.val = y1.val →
      (outsAt0 m c t.val t.isLt).1 (ix2 y0 y1) = dw (lhs m c) (rhs m c) (ix2 a b) from
    H _ _ (by blk_simp [idx0 t] <;> try omega) (by blk_simp [idx0 t] <;> try omega)
  intro a b ha hb
  obtain rfl : b = y1 := Fin.ext hb
  rw [out_at m c t h7, acc_at m c t h7]
  refine Fin.sum_mul_add_congr fun s r hlt => ?_
  exact congrArg₂ (fun x y : EReal => x * y) (lB_at m c _ y0 r _ _ (by show a.val = (4 * (t.val / 4) + s.val) / 4 * 1408 + y0.val; omega) (by show s.val * 1024 + r.val = (4 * (t.val / 4) + s.val) % 4 * 1024 + r.val; omega))
    (rB_at m c _ b r _ (by show s.val * 1024 + r.val = (4 * (t.val / 4) + s.val) % 4 * 1024 + r.val; omega))

end
end Cert.DwDownIdeal.Val

namespace Cert.DwDownRefIdeal.Val
open Cert.DwDownRefIdeal Cert.DwDownRefIdeal.Gen

/-- The reference's run: the same sums over the 4096 rows. -/
theorem run (m : (ℓ : Loc nD τ sig) → Buf (Elt Ideal) ℓ) (ρ : Dev nD → PrngReg)
    (a : Dev nD → Vec Ideal S4096x2816 .bf16) (b : Dev nD → Vec Ideal S4096x1024 .f32)
    (ha : ∀ c : Dev nD, m ((c.tc : Thread nD τ).loc main_arg0) = a c) (hb : ∀ c : Dev nD, m ((c.tc : Thread nD τ).loc main_arg1) = b c) :
    θ_run defs (onTc (τ := τ) (main (F := Ideal))) ⟨m, fun _ => 0, ρ⟩ fun r => ∀ c : Dev nD,
      r.2.mem ((c.tc : Thread nD τ).loc main_v4) = (Cert.DwDownIdeal.Val.dw (a c) (b c) : FVec Ideal S2816x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.DwDownRefIdeal.Value.run m ρ)
  rw [ha, hb]
  funext i
  idx_vars i
  pointwise
  exact Finset.sum_congr rfl fun k _ => mul_comm _ _
end Cert.DwDownRefIdeal.Val

namespace Cert.Proof.DwDownClaims

/-- The two programs have one text, and so one table of bodies. -/
theorem bodies_eq : Cert.DwDown.defs₀ (F := Bits) = Cert.DwDownIdeal.defs₀ := by
  refine congrArg Defs.onTc (funext fun l => funext fun a => ?_)
  obtain ⟨_ | n, h⟩ := l
  · rfl
  · exact absurd h (by omega)
theorem defs_eq : Cert.DwDown.defs (F := Bits) = Cert.DwDownIdeal.defs :=
  congrArg (Pipeline.defs Cert.DwDownIdeal.pcfgs) bodies_eq

theorem frame_p : Cert.quiescent_DwDown := fun m ρ _ => by
  rw [defs_eq]
  exact Cert.DwDownIdeal.Gen.frame (F := Bits) m ρ
theorem frame_pi : Cert.quiescent_DwDownIdeal := fun m ρ _ => Cert.DwDownIdeal.Gen.frame m ρ
theorem frame_ri : Cert.quiescent_DwDownRefIdeal := fun m ρ _ =>
  (θ_run Cert.DwDownRefIdeal.defs _ _).mono (fun r h => ⟨fun c => (h c).2, sem_eq_zero_of_no_sems (by decide) r.2⟩) (Cert.DwDownRefIdeal.Value.run m ρ)
theorem preserves : Cert.preserves_DwDown_DwDownIdeal := trivial

theorem algebraic : Cert.algebraic_DwDownIdeal_DwDownRefIdeal := by
  intro m ρ m' ρ' _ hagree
  exact ⟨_, (θ_run Cert.DwDownIdeal.defs _ _).mono (fun r h c => ⟨(h c).1.trans (Cert.DwDownIdeal.Val.final m c), (h c).2⟩) (Cert.DwDownIdeal.Value.run_blocks m ρ),
    Cert.DwDownRefIdeal.Val.run m' ρ' _ _ (fun c => (hagree c).1) (fun c => (hagree c).2)⟩

end Cert.Proof.DwDownClaims
end
-- ==== Proof.DActClaims.lean ====
/- The gradient of the down-projection's input: every block is written once, with the products over all 1024 columns, as the reference's
   gradient has them. -/
module
public import proofs.«01_k».proof.Defs
public import proofs.«01_k».proof.Proof.Index
public import proofs.«01_k».proof.Proof.Gen.DAct
public import proofs.«01_k».proof.Proof.Gen.DActIdeal
public import proofs.«01_k».proof.Proof.Gen.DActRefIdeal
public import proofs.«01_k».proof.Proof.Gen.DActIdeal.Value
public import proofs.«01_k».proof.Proof.Gen.DActRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.DActIdeal.Val
open Cert.DActIdeal Cert.DActIdeal.Gen

theorem idx0 : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The call's result, from the gradient of the output and the weight. -/
def dx (a : Vec Ideal S4096x1024 .f32) (b : Vec Ideal S2816x1024 .f32) (i : S4096x2816.Idx) : EReal :=
  ∑ k : Fin 1024, (a (ix2 (i 0) k) : EReal) * (b (ix2 (i 1) k) : EReal)

section
variable (m : (ℓ : Loc nD τ sig) → Buf (Elt Ideal) ℓ) (c : Dev nD)

/-- The two factors, as the arrays hold them. -/
abbrev lhs : Vec Ideal S4096x1024 .f32 := m ((c : Thread nD τ).loc main_arg0)
abbrev rhs : Vec Ideal S2816x1024 .f32 := m ((c : Thread nD τ).loc main_arg1)

/-- The call reads the weight after a change of format. -/
theorem cast_at : (V m c main_v0 : Vec Ideal S2816x1024 .bf16) = rhs m c := by
  show StableHlo.after hostOps0 _ _ = _
  after_results
  rfl

/-- The blocks that a point reads. -/
def lB (t : Fin cfg0.N) : Vec Ideal S1024x1024 .f32 := iblk m c 0 t
def rB (t : Fin cfg0.N) : Vec Ideal S1408x1024 .bf16 := iblk m c 1 t

theorem lB_at (t : Fin cfg0.N) (i : Fin 1024) (r : Fin 1024) (a : Fin 4096) (ha : a.val = t.val / 2 * 1024 + i.val) :
    lB m c t (ix2 i r) = lhs m c (ix2 a r) := by
  obtain ⟨a, _⟩ := a
  obtain rfl := ha
  dsimp only [lB, lhs]
  blk_point [iblk, idx0 t]

theorem rB_at (t : Fin cfg0.N) (i : Fin 1408) (r : Fin 1024) (a : Fin 2816) (ha : a.val = t.val % 2 * 1408 + i.val) :
    rB m c t (ix2 i r) = rhs m c (ix2 a r) := by
  obtain ⟨a, _⟩ := a
  obtain rfl := ha
  rw [← cast_at]
  dsimp only [rB]
  blk_point [iblk, idx0 t]

/-- What a point adds to the block it accumulates. -/
def part (t : Fin cfg0.N) (y : S1024x1408.Idx) : EReal :=
  ∑ r : Fin 1024, (lB m c t (ix2 (y 0) r) : EReal) * (rB m c t (ix2 (y 1) r) : EReal)

theorem out_at (t : Fin cfg0.N) (y : S1024x1408.Idx) : outsAt0 m c t y = part m c t y := by
  unfold outsAt0
  frame_out
  idx_vars y
  pointwise [k0_pay2, k0_pay1]
  rfl

theorem final : (dats m 0 c).arrAt 2 cfg0.N = dx (lhs m c) (rhs m c) := by
  refine (dats m 0 c).arrAt_eq_of_covers 2 _ (by decide +kernel) fun t hf y => ?_
  blk_simp
  rw [after0_2]
  idx_vars y
  suffices H : ∀ (a : Fin 4096) (b : Fin 2816), a.val = t.val / 2 * 1024 + y0.val → b.val = t.val % 2 * 1408 + y1.val →
      outsAt0 m c t (ix2 y0 y1) = dx (lhs m c) (rhs m c) (ix2 a b) from
    H _ _ (by blk_simp [idx0 t] <;> try omega) (by blk_simp [idx0 t] <;> try omega)
  intro a b ha hb
  rw [out_at]
  refine Finset.sum_congr rfl fun r _ => ?_
  exact congrArg₂ (fun x y : EReal => x * y) (lB_at m c _ y0 r _ ha)
    (rB_at m c _ y1 r _ hb)

end
end Cert.DActIdeal.Val

namespace Cert.DActRefIdeal.Val
open Cert.DActRefIdeal Cert.DActRefIdeal.Gen

/-- The reference's run: the same sums over the 1024 columns. -/
theorem run (m : (ℓ : Loc nD τ sig) → Buf (Elt Ideal) ℓ) (ρ : Dev nD → PrngReg)
    (a : Dev nD → Vec Ideal S4096x1024 .f32) (b : Dev nD → Vec Ideal S2816x1024 .f32)
    (ha : ∀ c : Dev nD, m ((c.tc : Thread nD τ).loc main_arg0) = a c) (hb : ∀ c : Dev nD, m ((c.tc : Thread nD τ).loc main_arg1) = b c) :
    θ_run defs (onTc (τ := τ) (main (F := Ideal))) ⟨m, fun _ => 0, ρ⟩ fun r => ∀ c : Dev nD,
      r.2.mem ((c.tc : Thread nD τ).loc main_v4) = (Cert.DActIdeal.Val.dx (a c) (b c) : FVec Ideal S4096x2816 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.DActRefIdeal.Value.run m ρ)
  rw [ha, hb]
  funext i
  idx_vars i
  pointwise
  rfl
end Cert.DActRefIdeal.Val

namespace Cert.Proof.DActClaims

/-- The two programs have one text, and so one table of bodies. -/
theorem bodies_eq : Cert.DAct.defs₀ (F := Bits) = Cert.DActIdeal.defs₀ := by
  refine congrArg Defs.onTc (funext fun l => funext fun a => ?_)
  obtain ⟨_ | n, h⟩ := l
  · rfl
  · exact absurd h (by omega)
theorem defs_eq : Cert.DAct.defs (F := Bits) = Cert.DActIdeal.defs :=
  congrArg (Pipeline.defs Cert.DActIdeal.pcfgs) bodies_eq

theorem frame_p : Cert.quiescent_DAct := fun m ρ _ => by
  rw [defs_eq]
  exact Cert.DActIdeal.Gen.frame (F := Bits) m ρ
theorem frame_pi : Cert.quiescent_DActIdeal := fun m ρ _ => Cert.DActIdeal.Gen.frame m ρ
theorem frame_ri : Cert.quiescent_DActRefIdeal := fun m ρ _ =>
  (θ_run Cert.DActRefIdeal.defs _ _).mono (fun r h => ⟨fun c => (h c).2, sem_eq_zero_of_no_sems (by decide) r.2⟩) (Cert.DActRefIdeal.Value.run m ρ)
theorem preserves : Cert.preserves_DAct_DActIdeal := trivial

theorem algebraic : Cert.algebraic_DActIdeal_DActRefIdeal := by
  intro m ρ m' ρ' _ hagree
  exact ⟨_, (θ_run Cert.DActIdeal.defs _ _).mono (fun r h c => ⟨(h c).1.trans (Cert.DActIdeal.Val.final m c), (h c).2⟩) (Cert.DActIdeal.Value.run_blocks m ρ),
    Cert.DActRefIdeal.Val.run m' ρ' _ _ (fun c => (hagree c).1) (fun c => (hagree c).2)⟩

end Cert.Proof.DActClaims
end
-- ==== Proof.FfnUpClaims.lean ====
/- The up-projection: every block is written once, with the products over all 1024 columns, as the reference's product has them. -/
module
public import proofs.«01_k».proof.Defs
public import proofs.«01_k».proof.Proof.Index
public import proofs.«01_k».proof.Proof.Gen.FfnUp
public import proofs.«01_k».proof.Proof.Gen.FfnUpIdeal
public import proofs.«01_k».proof.Proof.Gen.FfnUpRefIdeal
public import proofs.«01_k».proof.Proof.Gen.FfnUpIdeal.Value
public import proofs.«01_k».proof.Proof.Gen.FfnUpRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.FfnUpIdeal.Val
open Cert.FfnUpIdeal Cert.FfnUpIdeal.Gen

theorem idx0 : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The call's result, from the rows and the weight. -/
def out (a : Vec Ideal S4096x1024 .f32) (b : Vec Ideal S1024x5632 .f32) (i : S4096x5632.Idx) : EReal :=
  ∑ k : Fin 1024, (a (ix2 (i 0) k) : EReal) * (b (ix2 k (i 1)) : EReal)

section
variable (m : (ℓ : Loc nD τ sig) → Buf (Elt Ideal) ℓ) (c : Dev nD)

/-- The two factors, as the arrays hold them. -/
abbrev lhs : Vec Ideal S4096x1024 .f32 := m ((c : Thread nD τ).loc main_arg0)
abbrev rhs : Vec Ideal S1024x5632 .f32 := m ((c : Thread nD τ).loc main_arg1)

/-- The call reads the weight after a change of format. -/
theorem cast_at : (V m c main_v0 : Vec Ideal S1024x5632 .bf16) = rhs m c := by
  show StableHlo.after hostOps0 _ _ = _
  after_results
  rfl

/-- The blocks that a point reads. -/
def lB (t : Fin cfg0.N) : Vec Ideal S1024x1024 .f32 := iblk m c 0 t
def rB (t : Fin cfg0.N) : Vec Ideal S1024x1408 .bf16 := iblk m c 1 t

theorem lB_at (t : Fin cfg0.N) (i : Fin 1024) (r : Fin 1024) (a : Fin 4096) (ha : a.val = t.val / 4 * 1024 + i.val) :
    lB m c t (ix2 i r) = lhs m c (ix2 a r) := by
  obtain ⟨a, _⟩ := a
  obtain rfl := ha
  dsimp only [lB, lhs]
  blk_point [iblk, idx0 t]

theorem rB_at (t : Fin cfg0.N) (i : Fin 1408) (r : Fin 1024) (a : Fin 5632) (ha : a.val = t.val % 4 * 1408 + i.val) :
    rB m c t (ix2 r i) = rhs m c (ix2 r a) := by
  obtain ⟨a, _⟩ := a
  obtain rfl := ha
  rw [← cast_at]
  dsimp only [rB]
  blk_point [iblk, idx0 t]

/-- What a point adds to the block it accumulates. -/
def part (t : Fin cfg0.N) (y : S1024x1408.Idx) : EReal :=
  ∑ r : Fin 1024, (lB m c t (ix2 (y 0) r) : EReal) * (rB m c t (ix2 r (y 1)) : EReal)

theorem out_at (t : Fin cfg0.N) (y : S1024x1408.Idx) : outsAt0 m c t y = part m c t y := by
  unfold outsAt0
  frame_out
  idx_vars y
  pointwise [k0_pay2, k0_pay1]
  rfl

theorem final : (dats m 0 c).arrAt 2 cfg0.N = out (lhs m c) (rhs m c) := by
  refine (dats m 0 c).arrAt_eq_of_covers 2 _ (by decide +kernel) fun t hf y => ?_
  blk_simp
  rw [after0_2]
  idx_vars y
  suffices H : ∀ (a : Fin 4096) (b : Fin 5632), a.val = t.val / 4 * 1024 + y0.val → b.val = t.val % 4 * 1408 + y1.val →
      outsAt0 m c t (ix2 y0 y1) = out (lhs m c) (rhs m c) (ix2 a b) from
    H _ _ (by blk_simp [idx0 t] <;> try omega) (by blk_simp [idx0 t] <;> try omega)
  intro a b ha hb
  rw [out_at]
  refine Finset.sum_congr rfl fun r _ => ?_
  exact congrArg₂ (fun x y : EReal => x * y) (lB_at m c _ y0 r _ ha)
    (rB_at m c _ y1 r _ hb)

end
end Cert.FfnUpIdeal.Val

namespace Cert.FfnUpRefIdeal.Val
open Cert.FfnUpRefIdeal Cert.FfnUpRefIdeal.Gen

/-- The reference's run: the same sums over the 1024 columns. -/
theorem run (m : (ℓ : Loc nD τ sig) → Buf (Elt Ideal) ℓ) (ρ : Dev nD → PrngReg)
    (a : Dev nD → Vec Ideal S4096x1024 .f32) (b : Dev nD → Vec Ideal S1024x5632 .f32)
    (ha : ∀ c : Dev nD, m ((c.tc : Thread nD τ).loc main_arg0) = a c) (hb : ∀ c : Dev nD, m ((c.tc : Thread nD τ).loc main_arg1) = b c) :
    θ_run defs (onTc (τ := τ) (main (F := Ideal))) ⟨m, fun _ => 0, ρ⟩ fun r => ∀ c : Dev nD,
      r.2.mem ((c.tc : Thread nD τ).loc main_v0) = (Cert.FfnUpIdeal.Val.out (a c) (b c) : FVec Ideal S4096x5632 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.FfnUpRefIdeal.Value.run m ρ)
  rw [ha, hb]
  funext i
  idx_vars i
  pointwise
  rfl
end Cert.FfnUpRefIdeal.Val

namespace Cert.Proof.FfnUpClaims

/-- The two programs have one text, and so one table of bodies. -/
theorem bodies_eq : Cert.FfnUp.defs₀ (F := Bits) = Cert.FfnUpIdeal.defs₀ := by
  refine congrArg Defs.onTc (funext fun l => funext fun a => ?_)
  obtain ⟨_ | n, h⟩ := l
  · rfl
  · exact absurd h (by omega)
theorem defs_eq : Cert.FfnUp.defs (F := Bits) = Cert.FfnUpIdeal.defs :=
  congrArg (Pipeline.defs Cert.FfnUpIdeal.pcfgs) bodies_eq

theorem frame_p : Cert.quiescent_FfnUp := fun m ρ _ => by
  rw [defs_eq]
  exact Cert.FfnUpIdeal.Gen.frame (F := Bits) m ρ
theorem frame_pi : Cert.quiescent_FfnUpIdeal := fun m ρ _ => Cert.FfnUpIdeal.Gen.frame m ρ
theorem frame_ri : Cert.quiescent_FfnUpRefIdeal := fun m ρ _ =>
  (θ_run Cert.FfnUpRefIdeal.defs _ _).mono (fun r h => ⟨fun c => (h c).2, sem_eq_zero_of_no_sems (by decide) r.2⟩) (Cert.FfnUpRefIdeal.Value.run m ρ)
theorem preserves : Cert.preserves_FfnUp_FfnUpIdeal := trivial

theorem algebraic : Cert.algebraic_FfnUpIdeal_FfnUpRefIdeal := by
  intro m ρ m' ρ' _ hagree
  exact ⟨_, (θ_run Cert.FfnUpIdeal.defs _ _).mono (fun r h c => ⟨(h c).1.trans (Cert.FfnUpIdeal.Val.final m c), (h c).2⟩) (Cert.FfnUpIdeal.Value.run_blocks m ρ),
    Cert.FfnUpRefIdeal.Val.run m' ρ' _ _ (fun c => (hagree c).1) (fun c => (hagree c).2)⟩

end Cert.Proof.FfnUpClaims
end
-- ==== Proof.FfnDownClaims.lean ====
/- The down-projection: the call's accumulated blocks are the products over all 2816 columns, as the reference's product has them. -/
module
public import proofs.«01_k».proof.Defs
public import proofs.«01_k».proof.Proof.Index
public import proofs.«01_k».proof.Proof.Gen.FfnDown
public import proofs.«01_k».proof.Proof.Gen.FfnDownIdeal
public import proofs.«01_k».proof.Proof.Gen.FfnDownRefIdeal
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.FfnDownIdeal.Val
open Cert.FfnDownIdeal Cert.FfnDownIdeal.Gen

theorem idx0 : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- The call's result, from the rows' activations and the weight. -/
def out (a : Vec Ideal S4096x2816 .bf16) (b : Vec Ideal S2816x1024 .f32) (i : S4096x1024.Idx) : EReal :=
  ∑ k : Fin 2816, (a (ix2 (i 0) k) : EReal) * (b (ix2 k (i 1)) : EReal)

section
variable (m : (ℓ : Loc nD τ sig) → Buf (Elt Ideal) ℓ) (c : Dev nD)

/-- The two factors, as the arrays hold them. -/
abbrev lhs : Vec Ideal S4096x2816 .bf16 := m ((c : Thread nD τ).loc main_arg0)
abbrev rhs : Vec Ideal S2816x1024 .f32 := m ((c : Thread nD τ).loc main_arg1)

/-- The call reads the weight after a change of format. -/
theorem cast_at : (V m c main_v0 : Vec Ideal S2816x1024 .bf16) = rhs m c := by
  show StableHlo.after hostOps0 _ _ = _
  after_results
  rfl

/-- The blocks that a point reads. -/
def lB (t : Fin cfg0.N) : Vec Ideal S1024x1408 .bf16 := iblk m c 0 t
def rB (t : Fin cfg0.N) : Vec Ideal S1408x1024 .bf16 := iblk m c 1 t

theorem lB_at (t : Fin cfg0.N) (i : Fin 1024) (r : Fin 1408) (a : Fin 4096) (k : Fin 2816) (ha : a.val = t.val / 2 * 1024 + i.val) (hk : k.val = t.val % 2 * 1408 + r.val) :
    lB m c t (ix2 i r) = lhs m c (ix2 a k) := by
  obtain ⟨a, _⟩ := a
  obtain rfl := ha
  obtain ⟨k, _⟩ := k
  obtain rfl := hk
  dsimp only [lB, lhs]
  blk_point [iblk, idx0 t]

theorem rB_at (t : Fin cfg0.N) (i : Fin 1024) (r : Fin 1408) (k : Fin 2816) (hk : k.val = t.val % 2 * 1408 + r.val) :
    rB m c t (ix2 r i) = rhs m c (ix2 k i) := by
  obtain ⟨k, _⟩ := k
  obtain rfl := hk
  rw [← cast_at]
  dsimp only [rB]
  blk_point [iblk, idx0 t]

/-- What a point adds to the block it accumulates. -/
def part (t : Fin cfg0.N) (y : S1024x1024.Idx) : EReal :=
  ∑ r : Fin 1408, (lB m c t (ix2 (y 0) r) : EReal) * (rB m c t (ix2 r (y 1)) : EReal)

theorem first_at (t : Fin cfg0.N) (y : S1024x1024.Idx) :
    k0_pay2 (F := Ideal) (iblk m c 0 t) (iblk m c 1 t) y = (0 : EReal) + part m c t y := by
  idx_vars y
  pointwise [k0_pay2, k0_pay1]
  rfl

theorem next_at (t : Fin cfg0.N) (a : Vec Ideal S1024x1024 .f32) (y : S1024x1024.Idx) :
    k0_pay3 (F := Ideal) (iblk m c 0 t) (iblk m c 1 t) a y = (a y : EReal) + part m c t y := by
  idx_vars y
  pointwise [k0_pay3, k0_pay1]
  rfl

/-- The block that a block's last point leaves in the accumulator, and writes out. -/
theorem acc_at (t : Fin cfg0.N) (h : t.val % 2 = 1) (y : S1024x1024.Idx) :
    ((outsAt0 m c t.val t.isLt).2 y : EReal)
      = ∑ s : Fin 2, part m c ⟨2 * (t.val / 2) + s.val, Pipeline.run_point_lt_of_flush t h s⟩ y := by
  rw [Pipeline.eq_sum_fin_of_reset_step_apply_of_flush (fun n h => (outsAt0 m c n h).2) 2 (fun _ => (0 : EReal)) (part m c)
    (fun t h y => by
      rw [outsAt0_A m c t h (by omega) (by omega)]; frame_out
      exact first_at m c t y)
    (fun t h y => by
      rw [outsAt0_B m c t h (by omega) (by omega)]; frame_out
      exact (next_at m c t _ y).trans (by rw [read_unread_whole]))
    t h y, zero_add]

theorem out_at (t : Fin cfg0.N) (h : t.val % 2 = 1) : (outsAt0 m c t.val t.isLt).1 = (outsAt0 m c t.val t.isLt).2 := by
  rw [outsAt0_B m c t (by omega) (by omega) h]; frame_out

theorem final : (dats m 0 c).arrAt 2 cfg0.N = out (lhs m c) (rhs m c) := by
  refine (dats m 0 c).arrAt_eq_of_covers 2 _ (by decide +kernel) fun t hf y => ?_
  have h7 := (flush0_2 t).mp hf
  blk_simp
  rw [after0_2]
  idx_vars y
  suffices H : ∀ (a : Fin 4096) (b : Fin 1024), a.val = t.val / 2 * 1024 + y0.val → b.val = y1.val →
      (outsAt0 m c t.val t.isLt).1 (ix2 y0 y1) = out (lhs m c) (rhs m c) (ix2 a b) from
    H _ _ (by blk_simp [idx0 t] <;> try omega) (by blk_simp [idx0 t] <;> try omega)
  intro a b ha hb
  obtain rfl : b = y1 := Fin.ext hb
  rw [out_at m c t h7, acc_at m c t h7]
  refine Fin.sum_mul_add_congr fun s r hlt => ?_
  exact congrArg₂ (fun x y : EReal => x * y) (lB_at m c _ y0 r _ _ (by show a.val = (2 * (t.val / 2) + s.val) / 2 * 1024 + y0.val; omega) (by show s.val * 1408 + r.val = (2 * (t.val / 2) + s.val) % 2 * 1408 + r.val; omega))
    (rB_at m c _ b r _ (by show s.val * 1408 + r.val = (2 * (t.val / 2) + s.val) % 2 * 1408 + r.val; omega))

end
end Cert.FfnDownIdeal.Val

namespace Cert.FfnDownRefIdeal.Val
open Cert.FfnDownRefIdeal Cert.FfnDownRefIdeal.Gen

/-- The reference's run: the same sums over the 2816 columns. -/
theorem run (m : (ℓ : Loc nD τ sig) → Buf (Elt Ideal) ℓ) (ρ : Dev nD → PrngReg)
    (a : Dev nD → Vec Ideal S4096x2816 .bf16) (b : Dev nD → Vec Ideal S2816x1024 .f32)
    (ha : ∀ c : Dev nD, m ((c.tc : Thread nD τ).loc main_arg0) = a c) (hb : ∀ c : Dev nD, m ((c.tc : Thread nD τ).loc main_arg1) = b c) :
    θ_run defs (onTc (τ := τ) (main (F := Ideal))) ⟨m, fun _ => 0, ρ⟩ fun r => ∀ c : Dev nD,
      r.2.mem ((c.tc : Thread nD τ).loc main_v1) = (Cert.FfnDownIdeal.Val.out (a c) (b c) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.FfnDownRefIdeal.Value.run m ρ)
  rw [ha, hb]
  funext i
  idx_vars i
  pointwise
  rfl
end Cert.FfnDownRefIdeal.Val

namespace Cert.Proof.FfnDownClaims

/-- The two programs have one text, and so one table of bodies. -/
theorem bodies_eq : Cert.FfnDown.defs₀ (F := Bits) = Cert.FfnDownIdeal.defs₀ := by
  refine congrArg Defs.onTc (funext fun l => funext fun a => ?_)
  obtain ⟨_ | n, h⟩ := l
  · rfl
  · exact absurd h (by omega)
theorem defs_eq : Cert.FfnDown.defs (F := Bits) = Cert.FfnDownIdeal.defs :=
  congrArg (Pipeline.defs Cert.FfnDownIdeal.pcfgs) bodies_eq

theorem frame_p : Cert.quiescent_FfnDown := fun m ρ _ => by
  rw [defs_eq]
  exact Cert.FfnDownIdeal.Gen.frame (F := Bits) m ρ
theorem frame_pi : Cert.quiescent_FfnDownIdeal := fun m ρ _ => Cert.FfnDownIdeal.Gen.frame m ρ
theorem frame_ri : Cert.quiescent_FfnDownRefIdeal := fun m ρ _ =>
  (θ_run Cert.FfnDownRefIdeal.defs _ _).mono (fun r h => ⟨fun c => (h c).2, sem_eq_zero_of_no_sems (by decide) r.2⟩) (Cert.FfnDownRefIdeal.Value.run m ρ)
theorem preserves : Cert.preserves_FfnDown_FfnDownIdeal := trivial

theorem algebraic : Cert.algebraic_FfnDownIdeal_FfnDownRefIdeal := by
  intro m ρ m' ρ' _ hagree
  exact ⟨_, (θ_run Cert.FfnDownIdeal.defs _ _).mono (fun r h c => ⟨(h c).1.trans (Cert.FfnDownIdeal.Val.final m c), (h c).2⟩) (Cert.FfnDownIdeal.Value.run_blocks m ρ),
    Cert.FfnDownRefIdeal.Val.run m' ρ' _ _ (fun c => (hagree c).1) (fun c => (hagree c).2)⟩

end Cert.Proof.FfnDownClaims
end
-- ==== Proof.DwInClaims.lean ====
/- The gradient of the input projection: the call's accumulated blocks are the products over all 4096 rows, and so is the reference's
   gradient. -/
module
public import proofs.«01_k».proof.Defs
public import proofs.«01_k».proof.Proof.Index
public import proofs.«01_k».proof.Proof.Gen.DwIn
public import proofs.«01_k».proof.Proof.Gen.DwInIdeal
public import proofs.«01_k».proof.Proof.Gen.DwInRefIdeal
public import proofs.«01_k».proof.Proof.Gen.DwInIdeal.Value
public import proofs.«01_k».proof.Proof.Gen.DwInRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.DwInIdeal.Val
open Cert.DwInIdeal Cert.DwInIdeal.Gen

theorem idx0 : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The call's result, from the rows and the gradient of the projection. -/
def dw (a : Vec Ideal S4096x1024 .f32) (b : Vec Ideal S4096x2048 .bf16) (i : S1024x2048.Idx) : EReal :=
  ∑ k : Fin 4096, (a (ix2 k (i 0)) : EReal) * (b (ix2 k (i 1)) : EReal)

section
variable (m : (ℓ : Loc nD τ sig) → Buf (Elt Ideal) ℓ) (c : Dev nD)

/-- The two factors, as the arrays hold them. -/
abbrev lhs : Vec Ideal S4096x1024 .f32 := m ((c : Thread nD τ).loc main_arg0)
abbrev rhs : Vec Ideal S4096x2048 .bf16 := m ((c : Thread nD τ).loc main_arg1)

/-- The blocks that a point reads. -/
def lB (t : Fin cfg0.N) : Vec Ideal S1024x1024 .f32 := iblk m c 0 t
def rB (t : Fin cfg0.N) : Vec Ideal S1024x1024 .bf16 := iblk m c 1 t

theorem lB_at (t : Fin cfg0.N) (i : Fin 1024) (r : Fin 1024) (k : Fin 4096) (hk : k.val = t.val % 4 * 1024 + r.val) :
    lB m c t (ix2 r i) = lhs m c (ix2 k i) := by
  obtain ⟨k, _⟩ := k
  obtain rfl := hk
  dsimp only [lB, lhs]
  blk_point [iblk, idx0 t]

theorem rB_at (t : Fin cfg0.N) (i : Fin 1024) (r : Fin 1024) (a : Fin 2048) (k : Fin 4096) (ha : a.val = t.val / 4 * 1024 + i.val) (hk : k.val = t.val % 4 * 1024 + r.val) :
    rB m c t (ix2 r i) = rhs m c (ix2 k a) := by
  obtain ⟨a, _⟩ := a
  obtain rfl := ha
  obtain ⟨k, _⟩ := k
  obtain rfl := hk
  dsimp only [rB, rhs]
  blk_point [iblk, idx0 t]

/-- What a point adds to the block it accumulates. -/
def part (t : Fin cfg0.N) (y : S1024x1024.Idx) : EReal :=
  ∑ r : Fin 1024, (lB m c t (ix2 r (y 0)) : EReal) * (rB m c t (ix2 r (y 1)) : EReal)

theorem first_at (t : Fin cfg0.N) (y : S1024x1024.Idx) :
    k0_pay2 (F := Ideal) (iblk m c 0 t) (iblk m c 1 t) y = (0 : EReal) + part m c t y := by
  idx_vars y
  pointwise [k0_pay2, k0_pay1]
  rfl

theorem next_at (t : Fin cfg0.N) (a : Vec Ideal S1024x1024 .f32) (y : S1024x1024.Idx) :
    k0_pay3 (F := Ideal) (iblk m c 0 t) (iblk m c 1 t) a y = (a y : EReal) + part m c t y := by
  idx_vars y
  pointwise [k0_pay3, k0_pay1]
  rfl

/-- The block that a block's last point leaves in the accumulator, and writes out. -/
theorem acc_at (t : Fin cfg0.N) (h : t.val % 4 = 3) (y : S1024x1024.Idx) :
    ((outsAt0 m c t.val t.isLt).2 y : EReal)
      = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by
      rw [outsAt0_A m c t h (by omega) (by omega)]; frame_out
      exact first_at m c t y)
    (fun t h y => by
      by_cases h2 : t.val % 4 = 3
      · rw [outsAt0_C m c t h (by omega) h2]; frame_out
        exact (next_at m c t _ y).trans (by rw [read_unread_whole])
      · rw [outsAt0_B m c t h (by omega) h2]; frame_out
        exact (next_at m c t _ y).trans (by rw [read_unread_whole]))
    t h y, zero_add]

theorem out_at (t : Fin cfg0.N) (h : t.val % 4 = 3) : (outsAt0 m c t.val t.isLt).1 = (outsAt0 m c t.val t.isLt).2 := by
  rw [outsAt0_C m c t (by omega) (by omega) h]; frame_out

theorem final : (dats m 0 c).arrAt 2 cfg0.N = dw (lhs m c) (rhs m c) := by
  refine (dats m 0 c).arrAt_eq_of_covers 2 _ (by decide +kernel) fun t hf y => ?_
  have h7 := (flush0_2 t).mp hf
  blk_simp
  rw [after0_2]
  idx_vars y
  suffices H : ∀ (a : Fin 1024) (b : Fin 2048), a.val = y0.val → b.val = t.val / 4 * 1024 + y1.val →
      (outsAt0 m c t.val t.isLt).1 (ix2 y0 y1) = dw (lhs m c) (rhs m c) (ix2 a b) from
    H _ _ (by blk_simp [idx0 t] <;> try omega) (by blk_simp [idx0 t] <;> try omega)
  intro a b ha hb
  obtain rfl : a = y0 := Fin.ext ha
  rw [out_at m c t h7, acc_at m c t h7]
  refine Fin.sum_mul_add_congr fun s r hlt => ?_
  exact congrArg₂ (fun x y : EReal => x * y) (lB_at m c _ a r _ (by show s.val * 1024 + r.val = (4 * (t.val / 4) + s.val) % 4 * 1024 + r.val; omega))
    (rB_at m c _ y1 r _ _ (by show b.val = (4 * (t.val / 4) + s.val) / 4 * 1024 + y1.val; omega) (by show s.val * 1024 + r.val = (4 * (t.val / 4) + s.val) % 4 * 1024 + r.val; omega))

end
end Cert.DwInIdeal.Val

namespace Cert.DwInRefIdeal.Val
open Cert.DwInRefIdeal Cert.DwInRefIdeal.Gen

/-- The reference's run: the same sums over the 4096 rows. -/
theorem run (m : (ℓ : Loc nD τ sig) → Buf (Elt Ideal) ℓ) (ρ : Dev nD → PrngReg)
    (a : Dev nD → Vec Ideal S4096x1024 .f32) (b : Dev nD → Vec Ideal S4096x2048 .bf16)
    (ha : ∀ c : Dev nD, m ((c.tc : Thread nD τ).loc main_arg0) = a c) (hb : ∀ c : Dev nD, m ((c.tc : Thread nD τ).loc main_arg1) = b c) :
    θ_run defs (onTc (τ := τ) (main (F := Ideal))) ⟨m, fun _ => 0, ρ⟩ fun r => ∀ c : Dev nD,
      r.2.mem ((c.tc : Thread nD τ).loc main_v4) = (Cert.DwInIdeal.Val.dw (a c) (b c) : FVec Ideal S1024x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.DwInRefIdeal.Value.run m ρ)
  rw [ha, hb]
  funext i
  idx_vars i
  pointwise
  exact Finset.sum_congr rfl fun k _ => mul_comm _ _
end Cert.DwInRefIdeal.Val

namespace Cert.Proof.DwInClaims

/-- The two programs have one text, and so one table of bodies. -/
theorem bodies_eq : Cert.DwIn.defs₀ (F := Bits) = Cert.DwInIdeal.defs₀ := by
  refine congrArg Defs.onTc (funext fun l => funext fun a => ?_)
  obtain ⟨_ | n, h⟩ := l
  · rfl
  · exact absurd h (by omega)
theorem defs_eq : Cert.DwIn.defs (F := Bits) = Cert.DwInIdeal.defs :=
  congrArg (Pipeline.defs Cert.DwInIdeal.pcfgs) bodies_eq

theorem frame_p : Cert.quiescent_DwIn := fun m ρ _ => by
  rw [defs_eq]
  exact Cert.DwInIdeal.Gen.frame (F := Bits) m ρ
theorem frame_pi : Cert.quiescent_DwInIdeal := fun m ρ _ => Cert.DwInIdeal.Gen.frame m ρ
theorem frame_ri : Cert.quiescent_DwInRefIdeal := fun m ρ _ =>
  (θ_run Cert.DwInRefIdeal.defs _ _).mono (fun r h => ⟨fun c => (h c).2, sem_eq_zero_of_no_sems (by decide) r.2⟩) (Cert.DwInRefIdeal.Value.run m ρ)
theorem preserves : Cert.preserves_DwIn_DwInIdeal := trivial

theorem algebraic : Cert.algebraic_DwInIdeal_DwInRefIdeal := by
  intro m ρ m' ρ' _ hagree
  exact ⟨_, (θ_run Cert.DwInIdeal.defs _ _).mono (fun r h c => ⟨(h c).1.trans (Cert.DwInIdeal.Val.final m c), (h c).2⟩) (Cert.DwInIdeal.Value.run_blocks m ρ),
    Cert.DwInRefIdeal.Val.run m' ρ' _ _ (fun c => (hagree c).1) (fun c => (hagree c).2)⟩

end Cert.Proof.DwInClaims
end
-- ==== Proof.DHClaims.lean ====
/- The gradient of a layer's input: the call's accumulated blocks are the products over all 2048 columns of the input projection, to which
   a block's last point adds the residual's share of the gradient. -/
module
public import proofs.«01_k».proof.Defs
public import proofs.«01_k».proof.Proof.Index
public import proofs.«01_k».proof.Proof.Gen.DH
public import proofs.«01_k».proof.Proof.Gen.DHIdeal
public import proofs.«01_k».proof.Proof.Gen.DHRefIdeal
public import proofs.«01_k».proof.Proof.Gen.DHIdeal.Value
public import proofs.«01_k».proof.Proof.Gen.DHRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.DHIdeal.Val
open Cert.DHIdeal Cert.DHIdeal.Gen

theorem idx0 : ∀ t : Fin cfg0.N, win0_0.index t = ![t.val / 2, t.val % 2] ∧ win0_1.index t = ![0, t.val % 2]
    ∧ win0_2.index t = ![t.val / 2, 0] ∧ win0_3.index t = ![t.val / 2, 0] :=
  (by decide +kernel : ∀ t : Fin grid0.N, _)

/-- The product, from the gradient of the projection and the weight. -/
def prod (a : Vec Ideal S4096x2048 .bf16) (b : Vec Ideal S1024x2048 .f32) (i : S4096x1024.Idx) : EReal :=
  ∑ k : Fin 2048, (a (ix2 (i 0) k) : EReal) * (b (ix2 (i 1) k) : EReal)

/-- The call's result: the product, and the residual's share of the gradient. -/
def dh (a : Vec Ideal S4096x2048 .bf16) (b : Vec Ideal S1024x2048 .f32) (z : Vec Ideal S4096x1024 .f32) (i : S4096x1024.Idx) : EReal :=
  prod a b i + (Ideal.ofBits .f32 0x3FB504F3#32 : EReal) * (z (ix2 (i 0) (i 1)) : EReal)

section
variable (m : (ℓ : Loc nD τ sig) → Buf (Elt Ideal) ℓ) (c : Dev nD)

/-- The two factors and the residual's gradient, as the arrays hold them. -/
abbrev lhs : Vec Ideal S4096x2048 .bf16 := m ((c : Thread nD τ).loc main_arg0)
abbrev add : Vec Ideal S4096x1024 .f32 := m ((c : Thread nD τ).loc main_arg2)
abbrev rhs : Vec Ideal S1024x2048 .f32 := m ((c : Thread nD τ).loc main_arg1)

/-- The call reads the weight after a change of format. -/
theorem cast_at : (V m c main_v0 : Vec Ideal S1024x2048 .bf16) = rhs m c := by
  show StableHlo.after hostOps0 _ _ = _
  after_results
  rfl

/-- The blocks that a point reads. -/
def lB (t : Fin cfg0.N) : Vec Ideal S1024x1024 .bf16 := iblk m c 0 t
def zB (t : Fin cfg0.N) : Vec Ideal S1024x1024 .f32 := iblk m c 2 t
def rB (t : Fin cfg0.N) : Vec Ideal S1024x1024 .bf16 := iblk m c 1 t

theorem lB_at (t : Fin cfg0.N) (i : Fin 1024) (r : Fin 1024) (a : Fin 4096) (k : Fin 2048) (ha : a.val = t.val / 2 * 1024 + i.val) (hk : k.val = t.val % 2 * 1024 + r.val) :
    lB m c t (ix2 i r) = lhs m c (ix2 a k) := by
  obtain ⟨a, _⟩ := a
  obtain rfl := ha
  obtain ⟨k, _⟩ := k
  obtain rfl := hk
  dsimp only [lB, lhs]
  blk_point [iblk, idx0 t]

theorem rB_at (t : Fin cfg0.N) (i : Fin 1024) (r : Fin 1024) (k : Fin 2048) (hk : k.val = t.val % 2 * 1024 + r.val) :
    rB m c t (ix2 i r) = rhs m c (ix2 i k) := by
  obtain ⟨k, _⟩ := k
  obtain rfl := hk
  rw [← cast_at]
  dsimp only [rB]
  blk_point [iblk, idx0 t]

theorem zB_at (t : Fin cfg0.N) (i : Fin 1024) (r : Fin 1024) (a : Fin 4096) (ha : a.val = t.val / 2 * 1024 + i.val) :
    zB m c t (ix2 i r) = add m c (ix2 a r) := by
  obtain ⟨a, _⟩ := a
  obtain rfl := ha
  dsimp only [zB, add]
  blk_point [iblk, idx0 t]

/-- What a point adds to the block it accumulates. -/
def part (t : Fin cfg0.N) (y : S1024x1024.Idx) : EReal :=
  ∑ r : Fin 1024, (lB m c t (ix2 (y 0) r) : EReal) * (rB m c t (ix2 (y 1) r) : EReal)

theorem first_at (t : Fin cfg0.N) (y : S1024x1024.Idx) :
    k0_pay2 (F := Ideal) (iblk m c 0 t) (iblk m c 1 t) y = (0 : EReal) + part m c t y := by
  idx_vars y
  pointwise [k0_pay2, k0_pay1]
  rfl

theorem next_at (t : Fin cfg0.N) (a : Vec Ideal S1024x1024 .f32) (y : S1024x1024.Idx) :
    k0_pay3 (F := Ideal) (iblk m c 0 t) (iblk m c 1 t) a y = (a y : EReal) + part m c t y := by
  idx_vars y
  pointwise [k0_pay3, k0_pay1]
  rfl

/-- The block that a block's last point leaves in the accumulator, and writes out. -/
theorem acc_at (t : Fin cfg0.N) (h : t.val % 2 = 1) (y : S1024x1024.Idx) :
    ((outsAt0 m c t.val t.isLt).2 y : EReal)
      = ∑ s : Fin 2, part m c ⟨2 * (t.val / 2) + s.val, Pipeline.run_point_lt_of_flush t h s⟩ y := by
  rw [Pipeline.eq_sum_fin_of_reset_step_apply_of_flush (fun n h => (outsAt0 m c n h).2) 2 (fun _ => (0 : EReal)) (part m c)
    (fun t h y => by
      rw [outsAt0_A m c t h (by omega) (by omega)]; frame_out
      exact first_at m c t y)
    (fun t h y => by
      rw [outsAt0_B m c t h (by omega) (by omega)]; frame_out
      exact (next_at m c t _ y).trans (by rw [read_unread_whole]))
    t h y, zero_add]

/-- What a block's last point writes out: the accumulator, and the residual's share. -/
theorem out_at (t : Fin cfg0.N) (h : t.val % 2 = 1) (y : S1024x1024.Idx) :
    ((outsAt0 m c t.val t.isLt).1 y : EReal)
      = ((outsAt0 m c t.val t.isLt).2 y : EReal) + (Ideal.ofBits .f32 0x3FB504F3#32 : EReal) * (zB m c t y : EReal) := by
  rw [outsAt0_B m c t (by omega) h h]; frame_out
  idx_vars y
  pointwise [k0_pay4]
  rfl

theorem final : (dats m 0 c).arrAt 3 cfg0.N = dh (lhs m c) (rhs m c) (add m c) := by
  refine (dats m 0 c).arrAt_eq_of_covers 3 _ (by decide +kernel) fun t hf y => ?_
  have h7 := (flush0_3 t).mp hf
  blk_simp
  rw [after0_3]
  idx_vars y
  suffices H : ∀ (a : Fin 4096) (b : Fin 1024), a.val = t.val / 2 * 1024 + y0.val → b.val = y1.val →
      (outsAt0 m c t.val t.isLt).1 (ix2 y0 y1) = dh (lhs m c) (rhs m c) (add m c) (ix2 a b) from
    H _ _ (by blk_simp [idx0 t] <;> try omega) (by blk_simp [idx0 t] <;> try omega)
  intro a b ha hb
  obtain rfl : b = y1 := Fin.ext hb
  rw [out_at m c t h7, acc_at m c t h7, zB_at m c t y0 b a ha]
  refine congrArg (fun x : EReal => x + _) ?_
  refine Fin.sum_mul_add_congr fun s r hlt => ?_
  exact congrArg₂ (fun x y : EReal => x * y) (lB_at m c _ y0 r _ _ (by show a.val = (2 * (t.val / 2) + s.val) / 2 * 1024 + y0.val; omega) (by show s.val * 1024 + r.val = (2 * (t.val / 2) + s.val) % 2 * 1024 + r.val; omega))
    (rB_at m c _ b r _ (by show s.val * 1024 + r.val = (2 * (t.val / 2) + s.val) % 2 * 1024 + r.val; omega))

end
end Cert.DHIdeal.Val

namespace Cert.DHRefIdeal.Val
open Cert.DHRefIdeal Cert.DHRefIdeal.Gen

/-- The reference's run: the same sums over the 2048 columns, and the residual's share. -/
theorem run (m : (ℓ : Loc nD τ sig) → Buf (Elt Ideal) ℓ) (ρ : Dev nD → PrngReg)
    (a : Dev nD → Vec Ideal S4096x2048 .bf16) (b : Dev nD → Vec Ideal S1024x2048 .f32)
    (z : Dev nD → Vec Ideal S4096x1024 .f32)
    (ha : ∀ c : Dev nD, m ((c.tc : Thread nD τ).loc main_arg0) = a c) (hb : ∀ c : Dev nD, m ((c.tc : Thread nD τ).loc main_arg1) = b c)
    (hz : ∀ c : Dev nD, m ((c.tc : Thread nD τ).loc main_arg2) = z c) :
    θ_run defs (onTc (τ := τ) (main (F := Ideal))) ⟨m, fun _ => 0, ρ⟩ fun r => ∀ c : Dev nD,
      r.2.mem ((c.tc : Thread nD τ).loc main_v8) = (Cert.DHIdeal.Val.dh (a c) (b c) (z c) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.DHRefIdeal.Value.run m ρ)
  rw [ha, hb, hz]
  funext i
  idx_vars i
  pointwise
  rfl
end Cert.DHRefIdeal.Val

namespace Cert.Proof.DHClaims

/-- The two programs have one text, and so one table of bodies. -/
theorem bodies_eq : Cert.DH.defs₀ (F := Bits) = Cert.DHIdeal.defs₀ := by
  refine congrArg Defs.onTc (funext fun l => funext fun a => ?_)
  obtain ⟨_ | n, h⟩ := l
  · rfl
  · exact absurd h (by omega)
theorem defs_eq : Cert.DH.defs (F := Bits) = Cert.DHIdeal.defs :=
  congrArg (Pipeline.defs Cert.DHIdeal.pcfgs) bodies_eq

theorem frame_p : Cert.quiescent_DH := fun m ρ _ => by
  rw [defs_eq]
  exact Cert.DHIdeal.Gen.frame (F := Bits) m ρ
theorem frame_pi : Cert.quiescent_DHIdeal := fun m ρ _ => Cert.DHIdeal.Gen.frame m ρ
theorem frame_ri : Cert.quiescent_DHRefIdeal := fun m ρ _ =>
  (θ_run Cert.DHRefIdeal.defs _ _).mono (fun r h => ⟨fun c => (h c).2, sem_eq_zero_of_no_sems (by decide) r.2⟩) (Cert.DHRefIdeal.Value.run m ρ)
theorem preserves : Cert.preserves_DH_DHIdeal := trivial

theorem algebraic : Cert.algebraic_DHIdeal_DHRefIdeal := by
  intro m ρ m' ρ' _ hagree
  exact ⟨_, (θ_run Cert.DHIdeal.defs _ _).mono (fun r h c => ⟨(h c).1.trans (Cert.DHIdeal.Val.final m c), (h c).2⟩) (Cert.DHIdeal.Value.run_blocks m ρ),
    Cert.DHRefIdeal.Val.run m' ρ' _ _ _ (fun c => (hagree c).1) (fun c => (hagree c).2.1) (fun c => (hagree c).2.2)⟩

end Cert.Proof.DHClaims
end
-- ==== Proof.DwOutClaims.lean ====
/- The gradient of the output projection: the call's accumulated block is the products over all 4096 rows, and so is the reference's
   gradient. -/
module
public import proofs.«01_k».proof.Defs
public import proofs.«01_k».proof.Proof.Index
public import proofs.«01_k».proof.Proof.Gen.DwOut
public import proofs.«01_k».proof.Proof.Gen.DwOutIdeal
public import proofs.«01_k».proof.Proof.Gen.DwOutRefIdeal
public import proofs.«01_k».proof.Proof.Gen.DwOutIdeal.Value
public import proofs.«01_k».proof.Proof.Gen.DwOutRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.DwOutIdeal.Val
open Cert.DwOutIdeal Cert.DwOutIdeal.Gen

theorem idx0 : ∀ t : Fin cfg0.N, win0_0.index t = ![t.val % 4, 0] ∧ win0_1.index t = ![t.val % 4, 0]
    ∧ win0_2.index t = ![0, 0] :=
  (by decide +kernel : ∀ t : Fin grid0.N, _)

/-- The call's result, from the mixers' outputs and the gradient of the projection. -/
def dw (a : Vec Ideal S4096x1024 .bf16) (b : Vec Ideal S4096x1024 .f32) (i : S1024x1024.Idx) : EReal :=
  ∑ k : Fin 4096, (a (ix2 k (i 0)) : EReal) * (b (ix2 k (i 1)) : EReal)

section
variable (m : (ℓ : Loc nD τ sig) → Buf (Elt Ideal) ℓ) (c : Dev nD)

/-- The two factors, as the arrays hold them. -/
abbrev lhs : Vec Ideal S4096x1024 .bf16 := m ((c : Thread nD τ).loc main_arg0)
abbrev rhs : Vec Ideal S4096x1024 .f32 := m ((c : Thread nD τ).loc main_arg1)

/-- The blocks that a point reads. -/
def lB (t : Fin cfg0.N) : Vec Ideal S1024x1024 .bf16 := iblk m c 0 t
def rB (t : Fin cfg0.N) : Vec Ideal S1024x1024 .f32 := iblk m c 1 t

theorem lB_at (t : Fin cfg0.N) (i : Fin 1024) (r : Fin 1024) (k : Fin 4096) (hk : k.val = t.val % 4 * 1024 + r.val) :
    lB m c t (ix2 r i) = lhs m c (ix2 k i) := by
  obtain ⟨k, _⟩ := k
  obtain rfl := hk
  dsimp only [lB, lhs]
  blk_point [iblk, idx0 t]

theorem rB_at (t : Fin cfg0.N) (i : Fin 1024) (r : Fin 1024) (k : Fin 4096) (hk : k.val = t.val % 4 * 1024 + r.val) :
    rB m c t (ix2 r i) = rhs m c (ix2 k i) := by
  obtain ⟨k, _⟩ := k
  obtain rfl := hk
  dsimp only [rB, rhs]
  blk_point [iblk, idx0 t]

/-- What a point adds to the block it accumulates. -/
def part (t : Fin cfg0.N) (y : S1024x1024.Idx) : EReal :=
  ∑ r : Fin 1024, (lB m c t (ix2 r (y 0)) : EReal) * (rB m c t (ix2 r (y 1)) : EReal)

theorem first_at (t : Fin cfg0.N) (y : S1024x1024.Idx) :
    k0_pay2 (F := Ideal) (iblk m c 0 t) (iblk m c 1 t) y = (0 : EReal) + part m c t y := by
  idx_vars y
  pointwise [k0_pay2, k0_pay1]
  rfl

theorem next_at (t : Fin cfg0.N) (a : Vec Ideal S1024x1024 .f32) (y : S1024x1024.Idx) :
    k0_pay3 (F := Ideal) (iblk m c 0 t) (iblk m c 1 t) a y = (a y : EReal) + part m c t y := by
  idx_vars y
  pointwise [k0_pay3, k0_pay1]
  rfl

/-- The block that a block's last point leaves in the accumulator, and writes out. -/
theorem acc_at (t : Fin cfg0.N) (h : t.val % 4 = 3) (y : S1024x1024.Idx) :
    ((outsAt0 m c t.val t.isLt).2 y : EReal)
      = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by
      rw [outsAt0_A m c t h (by have := Nat.lt_of_lt_of_eq t.isLt N_0; omega) (by omega)]; frame_out
      exact first_at m c t y)
    (fun t h y => by
      by_cases h2 : t.val % 4 = 3
      · rw [outsAt0_C m c t h (by omega) h2]; frame_out
        exact (next_at m c t _ y).trans (by rw [read_unread_whole])
      · rw [outsAt0_B m c t h (by omega) h2]; frame_out
        exact (next_at m c t _ y).trans (by rw [read_unread_whole]))
    t h y, zero_add]

theorem out_at (t : Fin cfg0.N) (h : t.val % 4 = 3) : (outsAt0 m c t.val t.isLt).1 = (outsAt0 m c t.val t.isLt).2 := by
  rw [outsAt0_C m c t (by omega) (by omega) h]; frame_out

theorem final : (dats m 0 c).arrAt 2 cfg0.N = dw (lhs m c) (rhs m c) := by
  refine (dats m 0 c).arrAt_eq_of_covers 2 _ (by decide +kernel) fun t hf y => ?_
  have h7 := (flush0_2 t).mp hf
  blk_simp
  rw [after0_2]
  idx_vars y
  suffices H : ∀ (a : Fin 1024) (b : Fin 1024), a.val = y0.val → b.val = y1.val →
      (outsAt0 m c t.val t.isLt).1 (ix2 y0 y1) = dw (lhs m c) (rhs m c) (ix2 a b) from
    H _ _ (by blk_simp [idx0 t] <;> try omega) (by blk_simp [idx0 t] <;> try omega)
  intro a b ha hb
  obtain rfl : a = y0 := Fin.ext ha
  obtain rfl : b = y1 := Fin.ext hb
  rw [out_at m c t h7, acc_at m c t h7]
  refine Fin.sum_mul_add_congr fun s r hlt => ?_
  exact congrArg₂ (fun x y : EReal => x * y) (lB_at m c _ a r _ (by show s.val * 1024 + r.val = (4 * (t.val / 4) + s.val) % 4 * 1024 + r.val; omega))
    (rB_at m c _ b r _ (by show s.val * 1024 + r.val = (4 * (t.val / 4) + s.val) % 4 * 1024 + r.val; omega))

end
end Cert.DwOutIdeal.Val

namespace Cert.DwOutRefIdeal.Val
open Cert.DwOutRefIdeal Cert.DwOutRefIdeal.Gen

/-- The reference's run: the same sums over the 4096 rows. -/
theorem run (m : (ℓ : Loc nD τ sig) → Buf (Elt Ideal) ℓ) (ρ : Dev nD → PrngReg)
    (a : Dev nD → Vec Ideal S4096x1024 .bf16) (b : Dev nD → Vec Ideal S4096x1024 .f32)
    (ha : ∀ c : Dev nD, m ((c.tc : Thread nD τ).loc main_arg0) = a c) (hb : ∀ c : Dev nD, m ((c.tc : Thread nD τ).loc main_arg1) = b c) :
    θ_run defs (onTc (τ := τ) (main (F := Ideal))) ⟨m, fun _ => 0, ρ⟩ fun r => ∀ c : Dev nD,
      r.2.mem ((c.tc : Thread nD τ).loc main_v4) = (Cert.DwOutIdeal.Val.dw (a c) (b c) : FVec Ideal S1024x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.DwOutRefIdeal.Value.run m ρ)
  rw [ha, hb]
  funext i
  idx_vars i
  pointwise
  exact Finset.sum_congr rfl fun k _ => mul_comm _ _
end Cert.DwOutRefIdeal.Val

namespace Cert.Proof.DwOutClaims

/-- The two programs have one text, and so one table of bodies. -/
theorem bodies_eq : Cert.DwOut.defs₀ (F := Bits) = Cert.DwOutIdeal.defs₀ := by
  refine congrArg Defs.onTc (funext fun l => funext fun a => ?_)
  obtain ⟨_ | n, h⟩ := l
  · rfl
  · exact absurd h (by omega)
theorem defs_eq : Cert.DwOut.defs (F := Bits) = Cert.DwOutIdeal.defs :=
  congrArg (Pipeline.defs Cert.DwOutIdeal.pcfgs) bodies_eq

theorem frame_p : Cert.quiescent_DwOut := fun m ρ _ => by
  rw [defs_eq]
  exact Cert.DwOutIdeal.Gen.frame (F := Bits) m ρ
theorem frame_pi : Cert.quiescent_DwOutIdeal := fun m ρ _ => Cert.DwOutIdeal.Gen.frame m ρ
theorem frame_ri : Cert.quiescent_DwOutRefIdeal := fun m ρ _ =>
  (θ_run Cert.DwOutRefIdeal.defs _ _).mono (fun r h => ⟨fun c => (h c).2, sem_eq_zero_of_no_sems (by decide) r.2⟩) (Cert.DwOutRefIdeal.Value.run m ρ)
theorem preserves : Cert.preserves_DwOut_DwOutIdeal := trivial

theorem algebraic : Cert.algebraic_DwOutIdeal_DwOutRefIdeal := by
  intro m ρ m' ρ' _ hagree
  exact ⟨_, (θ_run Cert.DwOutIdeal.defs _ _).mono (fun r h c => ⟨(h c).1.trans (Cert.DwOutIdeal.Val.final m c), (h c).2⟩) (Cert.DwOutIdeal.Value.run_blocks m ρ),
    Cert.DwOutRefIdeal.Val.run m' ρ' _ _ (fun c => (hagree c).1) (fun c => (hagree c).2)⟩

end Cert.Proof.DwOutClaims
end
-- ==== Proof.DMixcatClaims.lean ====
/- The gradient of the mixers' outputs: every block is written once, with the products over all 1024 columns, as the reference's
   gradient has them. -/
module
public import proofs.«01_k».proof.Defs
public import proofs.«01_k».proof.Proof.Index
public import proofs.«01_k».proof.Proof.Gen.DMixcat
public import proofs.«01_k».proof.Proof.Gen.DMixcatIdeal
public import proofs.«01_k».proof.Proof.Gen.DMixcatRefIdeal
public import proofs.«01_k».proof.Proof.Gen.DMixcatIdeal.Value
public import proofs.«01_k».proof.Proof.Gen.DMixcatRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.DMixcatIdeal.Val
open Cert.DMixcatIdeal Cert.DMixcatIdeal.Gen

theorem idx0 : ∀ t : Fin cfg0.N, win0_0.index t = ![t.val, 0] ∧ win0_1.index t = ![0, 0]
    ∧ win0_2.index t = ![t.val, 0] :=
  (by decide +kernel : ∀ t : Fin grid0.N, _)

/-- The call's result, from the gradient of the projection and the weight. -/
def dx (a : Vec Ideal S4096x1024 .f32) (b : Vec Ideal S1024x1024 .f32) (i : S4096x1024.Idx) : EReal :=
  ∑ k : Fin 1024, (a (ix2 (i 0) k) : EReal) * (b (ix2 (i 1) k) : EReal)

section
variable (m : (ℓ : Loc nD τ sig) → Buf (Elt Ideal) ℓ) (c : Dev nD)

/-- The two factors, as the arrays hold them. -/
abbrev lhs : Vec Ideal S4096x1024 .f32 := m ((c : Thread nD τ).loc main_arg0)
abbrev rhs : Vec Ideal S1024x1024 .f32 := m ((c : Thread nD τ).loc main_arg1)

/-- The call reads the weight after a change of format. -/
theorem cast_at : (V m c main_v0 : Vec Ideal S1024x1024 .bf16) = rhs m c := by
  show StableHlo.after hostOps0 _ _ = _
  after_results
  rfl

/-- The blocks that a point reads. -/
def lB (t : Fin cfg0.N) : Vec Ideal S1024x1024 .f32 := iblk m c 0 t
def rB (t : Fin cfg0.N) : Vec Ideal S1024x1024 .bf16 := iblk m c 1 t

theorem lB_at (t : Fin cfg0.N) (i : Fin 1024) (r : Fin 1024) (a : Fin 4096) (ha : a.val = t.val * 1024 + i.val) :
    lB m c t (ix2 i r) = lhs m c (ix2 a r) := by
  obtain ⟨a, _⟩ := a
  obtain rfl := ha
  dsimp only [lB, lhs]
  blk_point [iblk, idx0 t]

theorem rB_at (t : Fin cfg0.N) (i : Fin 1024) (r : Fin 1024) :
    rB m c t (ix2 i r) = rhs m c (ix2 i r) := by
  rw [← cast_at]
  dsimp only [rB]
  blk_point [iblk, idx0 t]

/-- What a point adds to the block it accumulates. -/
def part (t : Fin cfg0.N) (y : S1024x1024.Idx) : EReal :=
  ∑ r : Fin 1024, (lB m c t (ix2 (y 0) r) : EReal) * (rB m c t (ix2 (y 1) r) : EReal)

theorem out_at (t : Fin cfg0.N) (y : S1024x1024.Idx) : outsAt0 m c t y = part m c t y := by
  unfold outsAt0
  frame_out
  idx_vars y
  pointwise [k0_pay2, k0_pay1]
  rfl

theorem final : (dats m 0 c).arrAt 2 cfg0.N = dx (lhs m c) (rhs m c) := by
  refine (dats m 0 c).arrAt_eq_of_covers 2 _ (by decide +kernel) fun t hf y => ?_
  blk_simp
  rw [after0_2]
  idx_vars y
  suffices H : ∀ (a : Fin 4096) (b : Fin 1024), a.val = t.val * 1024 + y0.val → b.val = y1.val →
      outsAt0 m c t (ix2 y0 y1) = dx (lhs m c) (rhs m c) (ix2 a b) from
    H _ _ (by blk_simp [idx0 t] <;> try omega) (by blk_simp [idx0 t] <;> try omega)
  intro a b ha hb
  obtain rfl : b = y1 := Fin.ext hb
  rw [out_at]
  refine Finset.sum_congr rfl fun r _ => ?_
  exact congrArg₂ (fun x y : EReal => x * y) (lB_at m c _ y0 r _ ha)
    (rB_at m c _ b r)

end
end Cert.DMixcatIdeal.Val

namespace Cert.DMixcatRefIdeal.Val
open Cert.DMixcatRefIdeal Cert.DMixcatRefIdeal.Gen

/-- The reference's run: the same sums over the 1024 columns. -/
theorem run (m : (ℓ : Loc nD τ sig) → Buf (Elt Ideal) ℓ) (ρ : Dev nD → PrngReg)
    (a : Dev nD → Vec Ideal S4096x1024 .f32) (b : Dev nD → Vec Ideal S1024x1024 .f32)
    (ha : ∀ c : Dev nD, m ((c.tc : Thread nD τ).loc main_arg0) = a c) (hb : ∀ c : Dev nD, m ((c.tc : Thread nD τ).loc main_arg1) = b c) :
    θ_run defs (onTc (τ := τ) (main (F := Ideal))) ⟨m, fun _ => 0, ρ⟩ fun r => ∀ c : Dev nD,
      r.2.mem ((c.tc : Thread nD τ).loc main_v4) = (Cert.DMixcatIdeal.Val.dx (a c) (b c) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.DMixcatRefIdeal.Value.run m ρ)
  rw [ha, hb]
  funext i
  idx_vars i
  pointwise
  rfl
end Cert.DMixcatRefIdeal.Val

namespace Cert.Proof.DMixcatClaims

/-- The two programs have one text, and so one table of bodies. -/
theorem bodies_eq : Cert.DMixcat.defs₀ (F := Bits) = Cert.DMixcatIdeal.defs₀ := by
  refine congrArg Defs.onTc (funext fun l => funext fun a => ?_)
  obtain ⟨_ | n, h⟩ := l
  · rfl
  · exact absurd h (by omega)
theorem defs_eq : Cert.DMixcat.defs (F := Bits) = Cert.DMixcatIdeal.defs :=
  congrArg (Pipeline.defs Cert.DMixcatIdeal.pcfgs) bodies_eq

theorem frame_p : Cert.quiescent_DMixcat := fun m ρ _ => by
  rw [defs_eq]
  exact Cert.DMixcatIdeal.Gen.frame (F := Bits) m ρ
theorem frame_pi : Cert.quiescent_DMixcatIdeal := fun m ρ _ => Cert.DMixcatIdeal.Gen.frame m ρ
theorem frame_ri : Cert.quiescent_DMixcatRefIdeal := fun m ρ _ =>
  (θ_run Cert.DMixcatRefIdeal.defs _ _).mono (fun r h => ⟨fun c => (h c).2, sem_eq_zero_of_no_sems (by decide) r.2⟩) (Cert.DMixcatRefIdeal.Value.run m ρ)
theorem preserves : Cert.preserves_DMixcat_DMixcatIdeal := trivial

theorem algebraic : Cert.algebraic_DMixcatIdeal_DMixcatRefIdeal := by
  intro m ρ m' ρ' _ hagree
  exact ⟨_, (θ_run Cert.DMixcatIdeal.defs _ _).mono (fun r h c => ⟨(h c).1.trans (Cert.DMixcatIdeal.Val.final m c), (h c).2⟩) (Cert.DMixcatIdeal.Value.run_blocks m ρ),
    Cert.DMixcatRefIdeal.Val.run m' ρ' _ _ (fun c => (hagree c).1) (fun c => (hagree c).2)⟩

end Cert.Proof.DMixcatClaims
end
-- ==== Proof.ProjClaims.lean ====
/- The input projection: every block is written once, with the products over all 1024 columns, as the reference's product has them. -/
module
public import proofs.«01_k».proof.Defs
public import proofs.«01_k».proof.Proof.Index
public import proofs.«01_k».proof.Proof.Gen.Proj
public import proofs.«01_k».proof.Proof.Gen.ProjIdeal
public import proofs.«01_k».proof.Proof.Gen.ProjRefIdeal
public import proofs.«01_k».proof.Proof.Gen.ProjIdeal.Value
public import proofs.«01_k».proof.Proof.Gen.ProjRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.ProjIdeal.Val
open Cert.ProjIdeal Cert.ProjIdeal.Gen

theorem idx0 : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The call's result, from the rows and the weight. -/
def out (a : Vec Ideal S4096x1024 .f32) (b : Vec Ideal S1024x2048 .f32) (i : S4096x2048.Idx) : EReal :=
  ∑ k : Fin 1024, (a (ix2 (i 0) k) : EReal) * (b (ix2 k (i 1)) : EReal)

section
variable (m : (ℓ : Loc nD τ sig) → Buf (Elt Ideal) ℓ) (c : Dev nD)

/-- The two factors, as the arrays hold them. -/
abbrev lhs : Vec Ideal S4096x1024 .f32 := m ((c : Thread nD τ).loc main_arg0)
abbrev rhs : Vec Ideal S1024x2048 .f32 := m ((c : Thread nD τ).loc main_arg1)

/-- The call reads the weight after a change of format. -/
theorem cast_at : (V m c main_v0 : Vec Ideal S1024x2048 .bf16) = rhs m c := by
  show StableHlo.after hostOps0 _ _ = _
  after_results
  rfl

/-- The blocks that a point reads. -/
def lB (t : Fin cfg0.N) : Vec Ideal S1024x1024 .f32 := iblk m c 0 t
def rB (t : Fin cfg0.N) : Vec Ideal S1024x1024 .bf16 := iblk m c 1 t

theorem lB_at (t : Fin cfg0.N) (i : Fin 1024) (r : Fin 1024) (a : Fin 4096) (ha : a.val = t.val / 2 * 1024 + i.val) :
    lB m c t (ix2 i r) = lhs m c (ix2 a r) := by
  obtain ⟨a, _⟩ := a
  obtain rfl := ha
  dsimp only [lB, lhs]
  blk_point [iblk, idx0 t]

theorem rB_at (t : Fin cfg0.N) (i : Fin 1024) (r : Fin 1024) (a : Fin 2048) (ha : a.val = t.val % 2 * 1024 + i.val) :
    rB m c t (ix2 r i) = rhs m c (ix2 r a) := by
  obtain ⟨a, _⟩ := a
  obtain rfl := ha
  rw [← cast_at]
  dsimp only [rB]
  blk_point [iblk, idx0 t]

/-- What a point adds to the block it accumulates. -/
def part (t : Fin cfg0.N) (y : S1024x1024.Idx) : EReal :=
  ∑ r : Fin 1024, (lB m c t (ix2 (y 0) r) : EReal) * (rB m c t (ix2 r (y 1)) : EReal)

theorem out_at (t : Fin cfg0.N) (y : S1024x1024.Idx) : outsAt0 m c t y = part m c t y := by
  unfold outsAt0
  frame_out
  idx_vars y
  pointwise [k0_pay2, k0_pay1]
  rfl

theorem final : (dats m 0 c).arrAt 2 cfg0.N = out (lhs m c) (rhs m c) := by
  refine (dats m 0 c).arrAt_eq_of_covers 2 _ (by decide +kernel) fun t hf y => ?_
  blk_simp
  rw [after0_2]
  idx_vars y
  suffices H : ∀ (a : Fin 4096) (b : Fin 2048), a.val = t.val / 2 * 1024 + y0.val → b.val = t.val % 2 * 1024 + y1.val →
      outsAt0 m c t (ix2 y0 y1) = out (lhs m c) (rhs m c) (ix2 a b) from
    H _ _ (by blk_simp [idx0 t] <;> try omega) (by blk_simp [idx0 t] <;> try omega)
  intro a b ha hb
  rw [out_at]
  refine Finset.sum_congr rfl fun r _ => ?_
  exact congrArg₂ (fun x y : EReal => x * y) (lB_at m c _ y0 r _ ha)
    (rB_at m c _ y1 r _ hb)

end
end Cert.ProjIdeal.Val

namespace Cert.ProjRefIdeal.Val
open Cert.ProjRefIdeal Cert.ProjRefIdeal.Gen

/-- The reference's run: the same sums over the 1024 columns. -/
theorem run (m : (ℓ : Loc nD τ sig) → Buf (Elt Ideal) ℓ) (ρ : Dev nD → PrngReg)
    (a : Dev nD → Vec Ideal S4096x1024 .f32) (b : Dev nD → Vec Ideal S1024x2048 .f32)
    (ha : ∀ c : Dev nD, m ((c.tc : Thread nD τ).loc main_arg0) = a c) (hb : ∀ c : Dev nD, m ((c.tc : Thread nD τ).loc main_arg1) = b c) :
    θ_run defs (onTc (τ := τ) (main (F := Ideal))) ⟨m, fun _ => 0, ρ⟩ fun r => ∀ c : Dev nD,
      r.2.mem ((c.tc : Thread nD τ).loc main_v0) = (Cert.ProjIdeal.Val.out (a c) (b c) : FVec Ideal S4096x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.ProjRefIdeal.Value.run m ρ)
  rw [ha, hb]
  funext i
  idx_vars i
  pointwise
  rfl
end Cert.ProjRefIdeal.Val

namespace Cert.Proof.ProjClaims

/-- The two programs have one text, and so one table of bodies. -/
theorem bodies_eq : Cert.Proj.defs₀ (F := Bits) = Cert.ProjIdeal.defs₀ := by
  refine congrArg Defs.onTc (funext fun l => funext fun a => ?_)
  obtain ⟨_ | n, h⟩ := l
  · rfl
  · exact absurd h (by omega)
theorem defs_eq : Cert.Proj.defs (F := Bits) = Cert.ProjIdeal.defs :=
  congrArg (Pipeline.defs Cert.ProjIdeal.pcfgs) bodies_eq

theorem frame_p : Cert.quiescent_Proj := fun m ρ _ => by
  rw [defs_eq]
  exact Cert.ProjIdeal.Gen.frame (F := Bits) m ρ
theorem frame_pi : Cert.quiescent_ProjIdeal := fun m ρ _ => Cert.ProjIdeal.Gen.frame m ρ
theorem frame_ri : Cert.quiescent_ProjRefIdeal := fun m ρ _ =>
  (θ_run Cert.ProjRefIdeal.defs _ _).mono (fun r h => ⟨fun c => (h c).2, sem_eq_zero_of_no_sems (by decide) r.2⟩) (Cert.ProjRefIdeal.Value.run m ρ)
theorem preserves : Cert.preserves_Proj_ProjIdeal := trivial

theorem algebraic : Cert.algebraic_ProjIdeal_ProjRefIdeal := by
  intro m ρ m' ρ' _ hagree
  exact ⟨_, (θ_run Cert.ProjIdeal.defs _ _).mono (fun r h c => ⟨(h c).1.trans (Cert.ProjIdeal.Val.final m c), (h c).2⟩) (Cert.ProjIdeal.Value.run_blocks m ρ),
    Cert.ProjRefIdeal.Val.run m' ρ' _ _ (fun c => (hagree c).1) (fun c => (hagree c).2)⟩

end Cert.Proof.ProjClaims
end
-- ==== Proof.OutProjClaims.lean ====
/- The output projection: every block is written once, with the products over all 1024 columns, as the reference's product has them. -/
module
public import proofs.«01_k».proof.Defs
public import proofs.«01_k».proof.Proof.Index
public import proofs.«01_k».proof.Proof.Gen.OutProj
public import proofs.«01_k».proof.Proof.Gen.OutProjIdeal
public import proofs.«01_k».proof.Proof.Gen.OutProjRefIdeal
public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.OutProjIdeal.Val
open Cert.OutProjIdeal Cert.OutProjIdeal.Gen

theorem idx0 : ∀ t : Fin cfg0.N, win0_0.index t = ![t.val, 0] ∧ win0_1.index t = ![0, 0]
    ∧ win0_2.index t = ![t.val, 0] :=
  (by decide +kernel : ∀ t : Fin grid0.N, _)

/-- The call's result, from the mixers' outputs and the weight. -/
def out (a : Vec Ideal S4096x1024 .bf16) (b : Vec Ideal S1024x1024 .f32) (i : S4096x1024.Idx) : EReal :=
  ∑ k : Fin 1024, (a (ix2 (i 0) k) : EReal) * (b (ix2 k (i 1)) : EReal)

section
variable (m : (ℓ : Loc nD τ sig) → Buf (Elt Ideal) ℓ) (c : Dev nD)

/-- The two factors, as the arrays hold them. -/
abbrev lhs : Vec Ideal S4096x1024 .bf16 := m ((c : Thread nD τ).loc main_arg0)
abbrev rhs : Vec Ideal S1024x1024 .f32 := m ((c : Thread nD τ).loc main_arg1)

/-- The call reads the weight after a change of format. -/
theorem cast_at : (V m c main_v0 : Vec Ideal S1024x1024 .bf16) = rhs m c := by
  show StableHlo.after hostOps0 _ _ = _
  after_results
  rfl

/-- The blocks that a point reads. -/
def lB (t : Fin cfg0.N) : Vec Ideal S1024x1024 .bf16 := iblk m c 0 t
def rB (t : Fin cfg0.N) : Vec Ideal S1024x1024 .bf16 := iblk m c 1 t

theorem lB_at (t : Fin cfg0.N) (i : Fin 1024) (r : Fin 1024) (a : Fin 4096) (ha : a.val = t.val * 1024 + i.val) :
    lB m c t (ix2 i r) = lhs m c (ix2 a r) := by
  obtain ⟨a, _⟩ := a
  obtain rfl := ha
  dsimp only [lB, lhs]
  blk_point [iblk, idx0 t]

theorem rB_at (t : Fin cfg0.N) (i : Fin 1024) (r : Fin 1024) :
    rB m c t (ix2 r i) = rhs m c (ix2 r i) := by
  rw [← cast_at]
  dsimp only [rB]
  blk_point [iblk, idx0 t]

/-- What a point adds to the block it accumulates. -/
def part (t : Fin cfg0.N) (y : S1024x1024.Idx) : EReal :=
  ∑ r : Fin 1024, (lB m c t (ix2 (y 0) r) : EReal) * (rB m c t (ix2 r (y 1)) : EReal)

theorem out_at (t : Fin cfg0.N) (y : S1024x1024.Idx) : outsAt0 m c t y = part m c t y := by
  unfold outsAt0
  frame_out
  idx_vars y
  pointwise [k0_pay2, k0_pay1]
  rfl

theorem final : (dats m 0 c).arrAt 2 cfg0.N = out (lhs m c) (rhs m c) := by
  refine (dats m 0 c).arrAt_eq_of_covers 2 _ (by decide +kernel) fun t hf y => ?_
  blk_simp
  rw [after0_2]
  idx_vars y
  suffices H : ∀ (a : Fin 4096) (b : Fin 1024), a.val = t.val * 1024 + y0.val → b.val = y1.val →
      outsAt0 m c t (ix2 y0 y1) = out (lhs m c) (rhs m c) (ix2 a b) from
    H _ _ (by blk_simp [idx0 t] <;> try omega) (by blk_simp [idx0 t] <;> try omega)
  intro a b ha hb
  obtain rfl : b = y1 := Fin.ext hb
  rw [out_at]
  refine Finset.sum_congr rfl fun r _ => ?_
  exact congrArg₂ (fun x y : EReal => x * y) (lB_at m c _ y0 r _ ha)
    (rB_at m c _ b r)

end
end Cert.OutProjIdeal.Val

namespace Cert.OutProjRefIdeal.Val
open Cert.OutProjRefIdeal Cert.OutProjRefIdeal.Gen

/-- The reference's run: the same sums over the 1024 columns. -/
theorem run (m : (ℓ : Loc nD τ sig) → Buf (Elt Ideal) ℓ) (ρ : Dev nD → PrngReg)
    (a : Dev nD → Vec Ideal S4096x1024 .bf16) (b : Dev nD → Vec Ideal S1024x1024 .f32)
    (ha : ∀ c : Dev nD, m ((c.tc : Thread nD τ).loc main_arg0) = a c) (hb : ∀ c : Dev nD, m ((c.tc : Thread nD τ).loc main_arg1) = b c) :
    θ_run defs (onTc (τ := τ) (main (F := Ideal))) ⟨m, fun _ => 0, ρ⟩ fun r => ∀ c : Dev nD,
      r.2.mem ((c.tc : Thread nD τ).loc main_v1) = (Cert.OutProjIdeal.Val.out (a c) (b c) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.OutProjRefIdeal.Value.run m ρ)
  rw [ha, hb]
  funext i
  idx_vars i
  pointwise
  rfl
end Cert.OutProjRefIdeal.Val

namespace Cert.Proof.OutProjClaims

/-- The two programs have one text, and so one table of bodies. -/
theorem bodies_eq : Cert.OutProj.defs₀ (F := Bits) = Cert.OutProjIdeal.defs₀ := by
  refine congrArg Defs.onTc (funext fun l => funext fun a => ?_)
  obtain ⟨_ | n, h⟩ := l
  · rfl
  · exact absurd h (by omega)
theorem defs_eq : Cert.OutProj.defs (F := Bits) = Cert.OutProjIdeal.defs :=
  congrArg (Pipeline.defs Cert.OutProjIdeal.pcfgs) bodies_eq

theorem frame_p : Cert.quiescent_OutProj := fun m ρ _ => by
  rw [defs_eq]
  exact Cert.OutProjIdeal.Gen.frame (F := Bits) m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono (fun r h => ⟨fun c => (h c).2, sem_eq_zero_of_no_sems (by decide) r.2⟩) (Cert.OutProjRefIdeal.Value.run m ρ)
theorem preserves : Cert.preserves_OutProj_OutProjIdeal := trivial

theorem algebraic : Cert.algebraic_OutProjIdeal_OutProjRefIdeal := by
  intro m ρ m' ρ' _ hagree
  exact ⟨_, (θ_run Cert.OutProjIdeal.defs _ _).mono (fun r h c => ⟨(h c).1.trans (Cert.OutProjIdeal.Val.final m c), (h c).2⟩) (Cert.OutProjIdeal.Value.run_blocks m ρ),
    Cert.OutProjRefIdeal.Val.run m' ρ' _ _ (fun c => (hagree c).1) (fun c => (hagree c).2)⟩

end Cert.Proof.OutProjClaims
end
-- ==== Proof.Norm.lean ====
/- A row's layer norm: its mean, its deviation, the normalised row, and the gradient of the row. -/
module
public import Idealize.ShloMosaic.Lib.Pipeline.ValueKit
public import proofs.«01_k».proof.Proof.Softmax
public import Mathlib.Tactic.FieldSimp
public import Mathlib.Tactic.LinearCombination
@[expose] public section
noncomputable section
open Idealize.ShloMosaic
namespace Cert.Norm

/-- A row's mean. -/
def mean (z : Fin 1024 → EReal) : EReal := Ideal.div (∑ k : Fin 1024, z k) (Ideal.ofBits .f32 0x44800000#32)
/-- The row less its mean. -/
def cen (z : Fin 1024 → EReal) (j : Fin 1024) : EReal := z j - mean z
/-- The reciprocal of the row's deviation. -/
def rs (z : Fin 1024 → EReal) : EReal := Ideal.rsqrt (mean (fun k => cen z k * cen z k) + Ideal.ofBits .f32 0x3727C5AC#32)
/-- The normalised row. -/
def hat (z : Fin 1024 → EReal) (j : Fin 1024) : EReal := cen z j * rs z
/-- The gradient of a row, from the gradient of the normalised row. -/
def dz (d z : Fin 1024 → EReal) (j : Fin 1024) : EReal := rs z * (d j - mean d - hat z j * mean (fun k => d k * hat z k))

/-- The same gradient by the derivative of each step: what comes back through the variance, through the deviations, and through the mean. -/
def pull (d z : Fin 1024 → EReal) : EReal :=
  ∑ _x : Fin 1, Ideal.div ((∑ k : Fin 1024, cen z k * d k)
    * (Ideal.ofBits .f32 0xBF000000#32 * Ideal.div (rs z) (mean (fun k => cen z k * cen z k) + Ideal.ofBits .f32 0x3727C5AC#32))) (Ideal.ofBits .f32 0x44800000#32)
def back (d z : Fin 1024 → EReal) (j : Fin 1024) : EReal := d j * rs z + cen z j * pull d z + pull d z * cen z j
def vjp (d z : Fin 1024 → EReal) (j : Fin 1024) : EReal :=
  back d z j + ∑ _x : Fin 1, Ideal.div (∑ k : Fin 1024, -back d z k) (Ideal.ofBits .f32 0x44800000#32)

/-! ## On real rows -/

theorem width : Ideal.ofBits .f32 0x44800000#32 = ((1024 : ℝ) : EReal) := by
  simp [Ideal.ofBits, Ideal.ieee]
  rw [← EReal.coe_mul]
  norm_num

theorem neg_half : Ideal.ofBits .f32 0xBF000000#32 = ((-(1 / 2) : ℝ) : EReal) := by
  simp [Ideal.ofBits, Ideal.ieee]
  rw [← EReal.coe_mul]
  norm_num

theorem alpha_real : ∃ a : ℝ, Ideal.ofBits .f32 0x3FB504F3#32 = (a : EReal) := by
  refine ⟨11863283 / 8388608, ?_⟩
  simp [Ideal.ofBits, Ideal.ieee]
  rw [← EReal.coe_mul]
  norm_num

theorem eps_pos : ∃ e : ℝ, 0 < e ∧ Ideal.ofBits .f32 0x3727C5AC#32 = (e : EReal) := by
  refine ⟨2748779 / 274877906944, by norm_num, ?_⟩
  simp [Ideal.ofBits, Ideal.ieee]
  rw [← EReal.coe_mul]
  norm_num

theorem div_real (x y : ℝ) (h : y ≠ 0) : Ideal.div (x : EReal) (y : EReal) = ((x / y : ℝ) : EReal) := by
  rw [Ideal.div_coe h, ← EReal.coe_mul]
  congr 1
  ring

theorem mean_real (f : Fin 1024 → ℝ) : mean (fun k => (f k : EReal)) = (((∑ k, f k) / 1024 : ℝ) : EReal) := by
  unfold mean
  rw [width, ← Cert.Attn.coe_sum, div_real _ _ (by norm_num)]

/-- A real row less its mean. -/
def rc (Z : Fin 1024 → ℝ) (j : Fin 1024) : ℝ := Z j - (∑ k, Z k) / 1024

theorem cen_real (Z : Fin 1024 → ℝ) (j : Fin 1024) : cen (fun k => (Z k : EReal)) j = (rc Z j : EReal) := by
  unfold cen
  rw [mean_real, ← EReal.coe_sub]
  rfl

theorem sum_rc (Z : Fin 1024 → ℝ) : ∑ j, rc Z j = 0 := by
  unfold rc
  rw [Finset.sum_sub_distrib, Finset.sum_const, Finset.card_univ, Fintype.card_fin, nsmul_eq_mul]
  norm_num
  ring

theorem var_real (Z : Fin 1024 → ℝ) :
    mean (fun k => cen (fun k => (Z k : EReal)) k * cen (fun k => (Z k : EReal)) k) = (((∑ k, rc Z k * rc Z k) / 1024 : ℝ) : EReal) := by
  simp only [cen_real, ← EReal.coe_mul]
  exact mean_real _

/-- The reciprocal of a real row's deviation is a real whose square is the reciprocal of the variance, which is positive. -/
theorem rs_real (Z : Fin 1024 → ℝ) : ∃ R v : ℝ, 0 < v ∧ R * R * v = 1
    ∧ mean (fun k => cen (fun k => (Z k : EReal)) k * cen (fun k => (Z k : EReal)) k) + Ideal.ofBits .f32 0x3727C5AC#32 = (v : EReal)
    ∧ rs (fun k => (Z k : EReal)) = (R : EReal) := by
  obtain ⟨e, he, hE⟩ := eps_pos
  have hs : 0 ≤ ∑ k, rc Z k * rc Z k := Finset.sum_nonneg fun k _ => mul_self_nonneg _
  have hv : 0 < (∑ k, rc Z k * rc Z k) / 1024 + e := by positivity
  have hm : mean (fun k => cen (fun k => (Z k : EReal)) k * cen (fun k => (Z k : EReal)) k) + Ideal.ofBits .f32 0x3727C5AC#32
      = (((∑ k, rc Z k * rc Z k) / 1024 + e : ℝ) : EReal) := by
    rw [var_real, hE, ← EReal.coe_add]
  refine ⟨(Real.sqrt ((∑ k, rc Z k * rc Z k) / 1024 + e))⁻¹, _, hv, ?_, hm, ?_⟩
  · rw [← mul_inv, Real.mul_self_sqrt hv.le, inv_mul_cancel₀ hv.ne']
  · unfold rs
    rw [hm, Ideal.rsqrt_coe, if_neg (not_lt.2 hv.le), if_neg hv.ne']

/-- The two forms of the gradient agree on real rows. -/
theorem vjp_eq (D Z : Fin 1024 → ℝ) (j : Fin 1024) :
    vjp (fun k => (D k : EReal)) (fun k => (Z k : EReal)) j = dz (fun k => (D k : EReal)) (fun k => (Z k : EReal)) j := by
  obtain ⟨R, v, hv, hR, hV, hr⟩ := rs_real Z
  have hp : pull (fun k => (D k : EReal)) (fun k => (Z k : EReal)) = (((∑ k, rc Z k * D k) * (-(1 / 2) * (R / v)) / 1024 : ℝ) : EReal) := by
    unfold pull
    rw [Fin.sum_univ_one, hV, hr, neg_half, width, div_real _ _ hv.ne']
    simp only [cen_real, ← EReal.coe_mul, ← Cert.Attn.coe_sum]
    exact div_real _ _ (by norm_num)
  generalize hP : (∑ k, rc Z k * D k) * (-(1 / 2) * (R / v)) / 1024 = P at hp
  have hb : ∀ k, back (fun k => (D k : EReal)) (fun k => (Z k : EReal)) k = ((D k * R + rc Z k * P + P * rc Z k : ℝ) : EReal) := fun k => by
    unfold back
    rw [hp, hr, cen_real]
    simp only [← EReal.coe_mul, ← EReal.coe_add]
  have hs : ∑ k, -(D k * R + rc Z k * P + P * rc Z k) = -((∑ k, D k) * R) := by
    rw [Finset.sum_neg_distrib, Finset.sum_add_distrib, Finset.sum_add_distrib, ← Finset.sum_mul, ← Finset.sum_mul, ← Finset.mul_sum, sum_rc]
    ring
  have ht : ∑ k, D k * (rc Z k * R) = (∑ k, rc Z k * D k) * R := by
    rw [Finset.sum_mul]
    exact Finset.sum_congr rfl fun k _ => by ring
  have hq : R / v = R * R * R := by
    rw [div_eq_iff hv.ne']
    linear_combination -R * hR
  unfold vjp dz hat
  rw [Fin.sum_univ_one]
  simp only [hb, hr, cen_real, width, ← EReal.coe_mul, ← EReal.coe_neg, ← Cert.Attn.coe_sum, mean_real, ← EReal.coe_sub]
  rw [hs, ht, div_real _ _ (by norm_num), ← EReal.coe_add]
  congr 1
  rw [← hP, hq]
  ring

/-! ## The loss -/

/-- Row `r` of tile `s`. -/
def tile (s : Fin 8) (r : Fin 512) : Fin 4096 := ⟨s.val * 512 + r.val, by omega⟩

theorem inv_width : Ideal.ofBits .f32 0x3A800000#32 = ((1 / 1024 : ℝ) : EReal) := by
  simp [Ideal.ofBits, Ideal.ieee]
  rw [← EReal.coe_mul]
  norm_num

theorem half_width : Ideal.ofBits .f32 0x3A000000#32 = ((1 / 2048 : ℝ) : EReal) := by
  simp [Ideal.ofBits, Ideal.ieee]
  rw [← EReal.coe_mul]
  norm_num

theorem half : Ideal.ofBits .f32 0x3F000000#32 = ((1 / 2 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

/-- An error's gradient by the derivative of each step is the error over the row's width. -/
theorem grad_scale (e : EReal) :
    Ideal.div (Ideal.ofBits .f32 0x3F000000#32) (Ideal.ofBits .f32 0x44800000#32)
      * (Ideal.ofBits .f32 0x40000000#32 * e) = e * Ideal.ofBits .f32 0x3A800000#32 := by
  rw [half, two, width, inv_width, div_real _ _ (by norm_num), ← mul_assoc, ← EReal.coe_mul, mul_comm]
  norm_num

/-- Half the sum of the rows' mean squares is the sum of the tiles' shares. -/
theorem loss_eq (e : Fin 4096 → Fin 1024 → ℝ) :
    Ideal.ofBits .f32 0x3F000000#32 * ∑ i : Fin 4096, Ideal.div (∑ k : Fin 1024, (e i k : EReal) * (e i k : EReal)) (Ideal.ofBits .f32 0x44800000#32)
      = ∑ s : Fin 8, (∑ k : Fin 1024, ∑ r : Fin 512, (e (tile s r) k : EReal) * (e (tile s r) k : EReal)) * Ideal.ofBits .f32 0x3A000000#32 := by
  have h : ∀ x : ℝ, Ideal.div (x : EReal) ((1024 : ℝ) : EReal) = ((x / 1024 : ℝ) : EReal) := fun x => div_real _ _ (by norm_num)
  rw [half, width, half_width]
  simp only [← EReal.coe_mul, ← Cert.Attn.coe_sum, h]
  congr 1
  have hs : ∑ s : Fin 8, ∑ k : Fin 1024, ∑ r : Fin 512, e (tile s r) k * e (tile s r) k = ∑ i : Fin 4096, ∑ k : Fin 1024, e i k * e i k :=
    (Finset.sum_congr rfl fun s _ => Finset.sum_comm).trans
      (Fin.sum_mul_add_congr (f := fun i : Fin 4096 => ∑ k : Fin 1024, e i k * e i k) fun s r hl => rfl)
  rw [← Finset.sum_div, ← Finset.sum_mul, hs]
  ring

end Cert.Norm
end
-- ==== Proof.LnInClaims.lean ====
/- The layer norm of the step's input. -/
module
public import proofs.«01_k».proof.Defs
public import proofs.«01_k».proof.Proof.Norm
public import proofs.«01_k».proof.Proof.Gen.LnIn
public import proofs.«01_k».proof.Proof.Gen.LnInIdeal
public import proofs.«01_k».proof.Proof.Gen.LnInRefIdeal
public import proofs.«01_k».proof.Proof.Gen.LnInIdeal.Value
public import proofs.«01_k».proof.Proof.Gen.LnInRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Norm
namespace Cert.LnInIdeal.Val
open Cert.LnInIdeal Cert.LnInIdeal.Gen

theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The row that is normalised, and the call's result. -/
def row (x : Vec Ideal S4096x1024 .f32) (i : Fin 4096) (k : Fin 1024) : EReal := x (ix2 i k)
def ln (x : Vec Ideal S4096x1024 .f32) (g b : Vec Ideal S1024 .f32) (i : S4096x1024.Idx) : EReal :=
  hat (row x (i 0)) (i 1) * (g (ix1 (i 1)) : EReal) + (b (ix1 (i 1)) : EReal)

section
variable (m : (ℓ : Loc nD τ sig) → Buf (Elt Ideal) ℓ) (c : Dev nD)

/-- The arguments, as the arrays hold them. -/
abbrev aX : Vec Ideal S4096x1024 .f32 := m ((c : Thread nD τ).loc main_arg0)
abbrev aG : Vec Ideal S1024 .f32 := m ((c : Thread nD τ).loc main_arg1)
abbrev aB : Vec Ideal S1024 .f32 := m ((c : Thread nD τ).loc main_arg2)

/-- The blocks that a point reads. -/
def xB (t : Fin cfg0.N) : Vec Ideal S512x1024 .f32 := iblk m c 0 t
def gB (t : Fin cfg0.N) : Vec Ideal S1x1024 .f32 := iblk m c 1 t
def bB (t : Fin cfg0.N) : Vec Ideal S1x1024 .f32 := iblk m c 2 t

theorem g_at (k : Fin 1024) : (V m c main_v0 : Vec Ideal S1x1024 .f32) (ix2 0 k) = aG m c (ix1 k) := by
  show StableHlo.after hostOps0 _ _ _ = _
  after_results
  pointwise

theorem b_at (k : Fin 1024) : (V m c main_v1 : Vec Ideal S1x1024 .f32) (ix2 0 k) = aB m c (ix1 k) := by
  show StableHlo.after hostOps0 _ _ _ = _
  after_results
  pointwise

theorem xB_at (t : Fin cfg0.N) (i : Fin 512) (k : Fin 1024) (a : Fin 4096) (ha : a.val = t.val * 512 + i.val) :
    xB m c t (ix2 i k) = aX m c (ix2 a k) := by
  obtain ⟨a, _⟩ := a
  obtain rfl := ha
  dsimp only [xB, aX]
  blk_point [iblk, idx0 t]

theorem gB_at (t : Fin cfg0.N) (k : Fin 1024) : gB m c t (ix2 0 k) = aG m c (ix1 k) := by
  rw [← g_at]
  dsimp only [gB]
  blk_point [iblk, idx0 t]

theorem bB_at (t : Fin cfg0.N) (k : Fin 1024) : bB m c t (ix2 0 k) = aB m c (ix1 k) := by
  rw [← b_at]
  dsimp only [bB]
  blk_point [iblk, idx0 t]

/-- A block's rows. -/
def bRow (t : Fin cfg0.N) (i : Fin 512) (k : Fin 1024) : EReal := xB m c t (ix2 i k)
theorem bRow_at (t : Fin cfg0.N) (i : Fin 512) (k : Fin 1024) (a : Fin 4096) (ha : a.val = t.val * 512 + i.val) :
    bRow m c t i k = row (aX m c) a k := xB_at m c t i k a ha

theorem out_at (t : Fin cfg0.N) (y : S512x1024.Idx) :
    (out0_3 (iblk m c 0 t) (iblk m c 1 t) (iblk m c 2 t) y : EReal) = hat (bRow m c t (y 0)) (y 1) * (gB m c t (ix2 0 (y 1)) : EReal) + (bB m c t (ix2 0 (y 1)) : EReal) := by
  frame_out
  idx_vars y
  pointwise [k0_pay1]
  rfl

theorem final : (dats m 0 c).arrAt 3 cfg0.N = ln (aX m c) (aG m c) (aB m c) := by
  refine (dats m 0 c).arrAt_eq_of_covers 3 _ (by decide +kernel) fun t hf y => ?_
  blk_simp
  rw [after0_3]
  idx_vars y
  suffices H : ∀ (a : Fin 4096) (b : Fin 1024), a.val = t.val * 512 + y0.val → b.val = y1.val →
      out0_3 (iblk m c 0 t) (iblk m c 1 t) (iblk m c 2 t) (ix2 y0 y1) = ln (aX m c) (aG m c) (aB m c) (ix2 a b) from
    H _ _ (by blk_simp [idx0 t] <;> try omega) (by blk_simp [idx0 t] <;> try omega)
  intro a b ha hb
  obtain rfl : b = y1 := Fin.ext hb
  refine (out_at m c t _).trans ?_
  exact congrArg₂ (fun x y : EReal => x + y)
    (congrArg₂ (fun x y : EReal => x * y) (congrArg (fun z => hat z b) (funext fun k => bRow_at m c t y0 k a ha)) (gB_at m c t b)) (bB_at m c t b)

end
end Cert.LnInIdeal.Val

namespace Cert.LnInRefIdeal.Val
open Cert.LnInRefIdeal Cert.LnInRefIdeal.Gen
open Cert.LnInIdeal.Val (row ln)

section
variable (m : (ℓ : Loc nD τ sig) → Buf (Elt Ideal) ℓ) (c : Dev nD)

/-- The reference's arguments. -/
abbrev rX : Vec Ideal S4096x1024 .f32 := m ((c.tc : Thread nD τ).loc main_arg0)
abbrev rG : Vec Ideal S1024 .f32 := m ((c.tc : Thread nD τ).loc main_arg1)
abbrev rB : Vec Ideal S1024 .f32 := m ((c.tc : Thread nD τ).loc main_arg2)
end

/-- The reference's run: the same normalised rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (ln (rX m c) (rG m c) (rB m c) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext i
  idx_vars i
  pointwise
  rfl
end Cert.LnInRefIdeal.Val

namespace Cert.Proof.LnInClaims

/-- The two programs have one text, and so one table of bodies. -/
theorem bodies_eq : Cert.LnIn.defs₀ (F := Bits) = Cert.LnInIdeal.defs₀ := by
  refine congrArg Defs.onTc (funext fun l => funext fun a => ?_)
  obtain ⟨_ | n, h⟩ := l
  · rfl
  · exact absurd h (by omega)
theorem defs_eq : Cert.LnIn.defs (F := Bits) = Cert.LnInIdeal.defs :=
  congrArg (Pipeline.defs Cert.LnInIdeal.pcfgs) bodies_eq

theorem frame_p : Cert.quiescent_LnIn := fun m ρ _ => by
  rw [defs_eq]
  exact Cert.LnInIdeal.Gen.frame (F := Bits) m ρ
theorem frame_pi : Cert.quiescent_LnInIdeal := fun m ρ _ => Cert.LnInIdeal.Gen.frame m ρ
theorem frame_ri : Cert.quiescent_LnInRefIdeal := fun m ρ _ =>
  (θ_run Cert.LnInRefIdeal.defs _ _).mono (fun r h => ⟨fun c => (h c).2, sem_eq_zero_of_no_sems (by decide) r.2⟩) (Cert.LnInRefIdeal.Value.run m ρ)
theorem preserves : Cert.preserves_LnIn_LnInIdeal := trivial

theorem algebraic : Cert.algebraic_LnInIdeal_LnInRefIdeal := by
  intro m ρ m' ρ' hpre hagree
  refine ⟨_, (θ_run Cert.LnInIdeal.defs _ _).mono (fun r h c => ⟨(h c).1.trans (Cert.LnInIdeal.Val.final m c), (h c).2⟩)
      (Cert.LnInIdeal.Value.run_blocks m ρ), ?_⟩
  refine (θ_run Cert.LnInRefIdeal.defs _ _).mono (fun r h c => ?_) (Cert.LnInRefIdeal.Val.run m' ρ')
  obtain ⟨a0, a1, a2⟩ := hagree c
  obtain ⟨h0, hr⟩ := h c
  dsimp only [Cert.LnInRefIdeal.Val.rX, Cert.LnInRefIdeal.Val.rG, Cert.LnInRefIdeal.Val.rB] at h0
  rw [a0, a1, a2] at h0
  exact ⟨h0, hr⟩

end Cert.Proof.LnInClaims
end
-- ==== Proof.LnMixClaims.lean ====
/- The layer norm of a residual: the sum of a layer's scaled input and its output. -/
module
public import proofs.«01_k».proof.Defs
public import proofs.«01_k».proof.Proof.Norm
public import proofs.«01_k».proof.Proof.Gen.LnMix
public import proofs.«01_k».proof.Proof.Gen.LnMixIdeal
public import proofs.«01_k».proof.Proof.Gen.LnMixRefIdeal
public import proofs.«01_k».proof.Proof.Gen.LnMixIdeal.Value
public import proofs.«01_k».proof.Proof.Gen.LnMixRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Norm
namespace Cert.LnMixIdeal.Val
open Cert.LnMixIdeal Cert.LnMixIdeal.Gen

theorem idx0 : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

/-- The row that is normalised, and the call's result. -/
def row (x h : Vec Ideal S4096x1024 .f32) (i : Fin 4096) (k : Fin 1024) : EReal := (Ideal.ofBits .f32 0x3FB504F3#32 : EReal) * (h (ix2 i k) : EReal) + (x (ix2 i k) : EReal)
def ln (x h : Vec Ideal S4096x1024 .f32) (g b : Vec Ideal S1024 .f32) (i : S4096x1024.Idx) : EReal :=
  hat (row x h (i 0)) (i 1) * (g (ix1 (i 1)) : EReal) + (b (ix1 (i 1)) : EReal)

section
variable (m : (ℓ : Loc nD τ sig) → Buf (Elt Ideal) ℓ) (c : Dev nD)

/-- The arguments, as the arrays hold them. -/
abbrev aX : Vec Ideal S4096x1024 .f32 := m ((c : Thread nD τ).loc main_arg0)
abbrev aH : Vec Ideal S4096x1024 .f32 := m ((c : Thread nD τ).loc main_arg1)
abbrev aG : Vec Ideal S1024 .f32 := m ((c : Thread nD τ).loc main_arg2)
abbrev aB : Vec Ideal S1024 .f32 := m ((c : Thread nD τ).loc main_arg3)

/-- The blocks that a point reads. -/
def xB (t : Fin cfg0.N) : Vec Ideal S512x1024 .f32 := iblk m c 0 t
def hB (t : Fin cfg0.N) : Vec Ideal S512x1024 .f32 := iblk m c 1 t
def gB (t : Fin cfg0.N) : Vec Ideal S1x1024 .f32 := iblk m c 2 t
def bB (t : Fin cfg0.N) : Vec Ideal S1x1024 .f32 := iblk m c 3 t

theorem g_at (k : Fin 1024) : (V m c main_v0 : Vec Ideal S1x1024 .f32) (ix2 0 k) = aG m c (ix1 k) := by
  show StableHlo.after hostOps0 _ _ _ = _
  after_results
  pointwise

theorem b_at (k : Fin 1024) : (V m c main_v1 : Vec Ideal S1x1024 .f32) (ix2 0 k) = aB m c (ix1 k) := by
  show StableHlo.after hostOps0 _ _ _ = _
  after_results
  pointwise

theorem xB_at (t : Fin cfg0.N) (i : Fin 512) (k : Fin 1024) (a : Fin 4096) (ha : a.val = t.val * 512 + i.val) :
    xB m c t (ix2 i k) = aX m c (ix2 a k) := by
  obtain ⟨a, _⟩ := a
  obtain rfl := ha
  dsimp only [xB, aX]
  blk_point [iblk, idx0 t]

theorem hB_at (t : Fin cfg0.N) (i : Fin 512) (k : Fin 1024) (a : Fin 4096) (ha : a.val = t.val * 512 + i.val) :
    hB m c t (ix2 i k) = aH m c (ix2 a k) := by
  obtain ⟨a, _⟩ := a
  obtain rfl := ha
  dsimp only [hB, aH]
  blk_point [iblk, idx0 t]

theorem gB_at (t : Fin cfg0.N) (k : Fin 1024) : gB m c t (ix2 0 k) = aG m c (ix1 k) := by
  rw [← g_at]
  dsimp only [gB]
  blk_point [iblk, idx0 t]

theorem bB_at (t : Fin cfg0.N) (k : Fin 1024) : bB m c t (ix2 0 k) = aB m c (ix1 k) := by
  rw [← b_at]
  dsimp only [bB]
  blk_point [iblk, idx0 t]

/-- A block's rows. -/
def bRow (t : Fin cfg0.N) (i : Fin 512) (k : Fin 1024) : EReal := (Ideal.ofBits .f32 0x3FB504F3#32 : EReal) * (hB m c t (ix2 i k) : EReal) + (xB m c t (ix2 i k) : EReal)
theorem bRow_at (t : Fin cfg0.N) (i : Fin 512) (k : Fin 1024) (a : Fin 4096) (ha : a.val = t.val * 512 + i.val) :
    bRow m c t i k = row (aX m c) (aH m c) a k := congrArg₂ (fun x y : EReal => (Ideal.ofBits .f32 0x3FB504F3#32 : EReal) * x + y) (hB_at m c t i k a ha) (xB_at m c t i k a ha)

theorem out_at (t : Fin cfg0.N) (y : S512x1024.Idx) :
    (out0_4 (iblk m c 0 t) (iblk m c 1 t) (iblk m c 2 t) (iblk m c 3 t) y : EReal) = hat (bRow m c t (y 0)) (y 1) * (gB m c t (ix2 0 (y 1)) : EReal) + (bB m c t (ix2 0 (y 1)) : EReal) := by
  frame_out
  idx_vars y
  pointwise [k0_pay1]
  rfl

theorem final : (dats m 0 c).arrAt 4 cfg0.N = ln (aX m c) (aH m c) (aG m c) (aB m c) := by
  refine (dats m 0 c).arrAt_eq_of_covers 4 _ (by decide +kernel) fun t hf y => ?_
  blk_simp
  rw [after0_4]
  idx_vars y
  suffices H : ∀ (a : Fin 4096) (b : Fin 1024), a.val = t.val * 512 + y0.val → b.val = y1.val →
      out0_4 (iblk m c 0 t) (iblk m c 1 t) (iblk m c 2 t) (iblk m c 3 t) (ix2 y0 y1) = ln (aX m c) (aH m c) (aG m c) (aB m c) (ix2 a b) from
    H _ _ (by blk_simp [idx0 t] <;> try omega) (by blk_simp [idx0 t] <;> try omega)
  intro a b ha hb
  obtain rfl : b = y1 := Fin.ext hb
  refine (out_at m c t _).trans ?_
  exact congrArg₂ (fun x y : EReal => x + y)
    (congrArg₂ (fun x y : EReal => x * y) (congrArg (fun z => hat z b) (funext fun k => bRow_at m c t y0 k a ha)) (gB_at m c t b)) (bB_at m c t b)

end
end Cert.LnMixIdeal.Val

namespace Cert.LnMixRefIdeal.Val
open Cert.LnMixRefIdeal Cert.LnMixRefIdeal.Gen
open Cert.LnMixIdeal.Val (row ln)

section
variable (m : (ℓ : Loc nD τ sig) → Buf (Elt Ideal) ℓ) (c : Dev nD)

/-- The reference's arguments. -/
abbrev rX : Vec Ideal S4096x1024 .f32 := m ((c.tc : Thread nD τ).loc main_arg0)
abbrev rH : Vec Ideal S4096x1024 .f32 := m ((c.tc : Thread nD τ).loc main_arg1)
abbrev rG : Vec Ideal S1024 .f32 := m ((c.tc : Thread nD τ).loc main_arg2)
abbrev rB : Vec Ideal S1024 .f32 := m ((c.tc : Thread nD τ).loc main_arg3)
end

/-- The reference's run: the same normalised rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = (ln (rX m c) (rH m c) (rG m c) (rB m c) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run m ρ)
  funext i
  idx_vars i
  pointwise
  rfl
end Cert.LnMixRefIdeal.Val

namespace Cert.Proof.LnMixClaims

/-- The two programs have one text, and so one table of bodies. -/
theorem bodies_eq : Cert.LnMix.defs₀ (F := Bits) = Cert.LnMixIdeal.defs₀ := by
  refine congrArg Defs.onTc (funext fun l => funext fun a => ?_)
  obtain ⟨_ | n, h⟩ := l
  · rfl
  · exact absurd h (by omega)
theorem defs_eq : Cert.LnMix.defs (F := Bits) = Cert.LnMixIdeal.defs :=
  congrArg (Pipeline.defs Cert.LnMixIdeal.pcfgs) bodies_eq

theorem frame_p : Cert.quiescent_LnMix := fun m ρ _ => by
  rw [defs_eq]
  exact Cert.LnMixIdeal.Gen.frame (F := Bits) m ρ
theorem frame_pi : Cert.quiescent_LnMixIdeal := fun m ρ _ => Cert.LnMixIdeal.Gen.frame m ρ
theorem frame_ri : Cert.quiescent_LnMixRefIdeal := fun m ρ _ =>
  (θ_run Cert.LnMixRefIdeal.defs _ _).mono (fun r h => ⟨fun c => (h c).2, sem_eq_zero_of_no_sems (by decide) r.2⟩) (Cert.LnMixRefIdeal.Value.run m ρ)
theorem preserves : Cert.preserves_LnMix_LnMixIdeal := trivial

theorem algebraic : Cert.algebraic_LnMixIdeal_LnMixRefIdeal := by
  intro m ρ m' ρ' hpre hagree
  refine ⟨_, (θ_run Cert.LnMixIdeal.defs _ _).mono (fun r h c => ⟨(h c).1.trans (Cert.LnMixIdeal.Val.final m c), (h c).2⟩)
      (Cert.LnMixIdeal.Value.run_blocks m ρ), ?_⟩
  refine (θ_run Cert.LnMixRefIdeal.defs _ _).mono (fun r h c => ?_) (Cert.LnMixRefIdeal.Val.run m' ρ')
  obtain ⟨a0, a1, a2, a3⟩ := hagree c
  obtain ⟨h0, hr⟩ := h c
  dsimp only [Cert.LnMixRefIdeal.Val.rX, Cert.LnMixRefIdeal.Val.rH, Cert.LnMixRefIdeal.Val.rG, Cert.LnMixRefIdeal.Val.rB] at h0
  rw [a0, a1, a2, a3] at h0
  exact ⟨h0, hr⟩

end Cert.Proof.LnMixClaims
end
-- ==== Proof.LnInBwdClaims.lean ====
/- The backward of the layer norm of the step's input. -/
module
public import proofs.«01_k».proof.Defs
public import proofs.«01_k».proof.Proof.Norm
public import proofs.«01_k».proof.Proof.GqaFinite
public import proofs.«01_k».proof.Proof.Gen.LnInBwd
public import proofs.«01_k».proof.Proof.Gen.LnInBwdIdeal
public import proofs.«01_k».proof.Proof.Gen.LnInBwdRefIdeal
public import proofs.«01_k».proof.Proof.Gen.LnInBwdIdeal.Value
public import proofs.«01_k».proof.Proof.Gen.LnInBwdRefIdeal.Run
public import proofs.«01_k».proof.Proof.Gen.Pre_finite_in
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Norm
namespace Cert.LnInBwdIdeal.Val
open Cert.LnInBwdIdeal Cert.LnInBwdIdeal.Gen

theorem idx0 : ∀ t : Fin cfg0.N, win0_0.index t = ![t.val, 0] ∧ win0_1.index t = ![t.val, 0]
    ∧ win0_2.index t = ![0, 0] ∧ win0_3.index t = ![t.val, 0] ∧ win0_4.index t = ![0, 0] ∧ win0_5.index t = ![0, 0] :=
  (by decide +kernel : ∀ t : Fin grid0.N, _)

/-- The row that is normalised, and the gradient of its normalised row. -/
def row (x : Vec Ideal S4096x1024 .f32) (i : Fin 4096) (k : Fin 1024) : EReal := x (ix2 i k)
def grd (d : Vec Ideal S4096x1024 .f32) (i : Fin 4096) (k : Fin 1024) : EReal := d (ix2 i k)

/-- The three results. -/
def dxA (d : Vec Ideal S4096x1024 .f32) (x : Vec Ideal S4096x1024 .f32) (g : Vec Ideal S1024 .f32) (i : S4096x1024.Idx) : EReal :=
  dz (fun k => grd d (i 0) k * (g (ix1 k) : EReal)) (row x (i 0)) (i 1)
def dgA (d : Vec Ideal S4096x1024 .f32) (x : Vec Ideal S4096x1024 .f32) (i : S1x1024.Idx) : EReal :=
  ∑ r : Fin 4096, grd d r (i 1) * hat (row x r) (i 1)
def dbA (d : Vec Ideal S4096x1024 .f32) (i : S1x1024.Idx) : EReal := ∑ r : Fin 4096, grd d r (i 1)

section
variable (m : (ℓ : Loc nD τ sig) → Buf (Elt Ideal) ℓ) (c : Dev nD)

/-- The arguments, as the arrays hold them. -/
abbrev aD : Vec Ideal S4096x1024 .f32 := m ((c : Thread nD τ).loc main_arg0)
abbrev aX : Vec Ideal S4096x1024 .f32 := m ((c : Thread nD τ).loc main_arg1)
abbrev aG : Vec Ideal S1024 .f32 := m ((c : Thread nD τ).loc main_arg2)

/-- The blocks that a point reads. -/
def dB (t : Fin cfg0.N) : Vec Ideal S512x1024 .f32 := iblk m c 0 t
def xB (t : Fin cfg0.N) : Vec Ideal S512x1024 .f32 := iblk m c 1 t
def gB (t : Fin cfg0.N) : Vec Ideal S1x1024 .f32 := iblk m c 2 t

theorem gain_at (k : Fin 1024) : (V m c main_v0 : Vec Ideal S1x1024 .f32) (ix2 0 k) = aG m c (ix1 k) := by
  show StableHlo.after hostOps0 _ _ _ = _
  after_results
  pointwise

theorem dB_at (t : Fin cfg0.N) (i : Fin 512) (k : Fin 1024) (a : Fin 4096) (ha : a.val = t.val * 512 + i.val) :
    dB m c t (ix2 i k) = grd (aD m c) a k := by
  obtain ⟨a, _⟩ := a
  obtain rfl := ha
  dsimp only [dB, grd, aD]
  blk_point [iblk, idx0 t]

theorem xB_at (t : Fin cfg0.N) (i : Fin 512) (k : Fin 1024) (a : Fin 4096) (ha : a.val = t.val * 512 + i.val) :
    xB m c t (ix2 i k) = row (aX m c) a k := by
  obtain ⟨a, _⟩ := a
  obtain rfl := ha
  dsimp only [xB, row, aX]
  blk_point [iblk, idx0 t]

theorem gB_at (t : Fin cfg0.N) (k : Fin 1024) : gB m c t (ix2 0 k) = aG m c (ix1 k) := by
  rw [← gain_at]
  dsimp only [gB]
  blk_point [iblk, idx0 t]

/-- A block's rows, and what a point adds to the sums of the gain's and the shift's gradients. -/
def bRow (t : Fin cfg0.N) (i : Fin 512) (k : Fin 1024) : EReal := xB m c t (ix2 i k)
def bGrd (t : Fin cfg0.N) (i : Fin 512) (k : Fin 1024) : EReal := dB m c t (ix2 i k)
def partG (t : Fin cfg0.N) (y : S1x1024.Idx) : EReal := ∑ r : Fin 512, bGrd m c t r (y 1) * hat (bRow m c t r) (y 1)
def partB (t : Fin cfg0.N) (y : S1x1024.Idx) : EReal := ∑ r : Fin 512, bGrd m c t r (y 1)

theorem dx_at (t : Fin cfg0.N) (y : S512x1024.Idx) :
    ((outsAt0 m c t.val t.isLt).1 y : EReal)
      = dz (fun k => bGrd m c t (y 0) k * (gB m c t (ix2 0 k) : EReal)) (bRow m c t (y 0)) (y 1) := by
  have H : ∀ y : S512x1024.Idx, (k0_pay1 (F := Ideal) (k0_pay7 (iblk m c 1 t)) (k0_pay8 (iblk m c 1 t)) (k0_pay9 (iblk m c 0 t) (iblk m c 2 t)) (k0_pay10 (iblk m c 0 t) (iblk m c 2 t)) y : EReal)
      = dz (fun k => bGrd m c t (y 0) k * (gB m c t (ix2 0 k) : EReal)) (bRow m c t (y 0)) (y 1) := fun y => by
    idx_vars y
    pointwise [k0_pay1, k0_pay7, k0_pay8, k0_pay9, k0_pay10, k0_pay6]
    rfl
  by_cases h : t.val % 8 = 0
  · rw [outsAt0_A m c t h h]; frame_out
    exact H y
  · rw [outsAt0_B m c t h h]; frame_out
    exact H y

theorem dg_next (t : Fin cfg0.N) (a : Vec Ideal S1x1024 .f32) (y : S1x1024.Idx) :
    (k0_pay2 (F := Ideal) (iblk m c 0 t) (k0_pay8 (iblk m c 1 t)) a y : EReal) = (a y : EReal) + partG m c t y := by
  idx_vars y
  pointwise [k0_pay2, k0_pay8, k0_pay7, k0_pay6]
  rfl

theorem db_next (t : Fin cfg0.N) (a : Vec Ideal S1x1024 .f32) (y : S1x1024.Idx) :
    (k0_pay3 (F := Ideal) (iblk m c 0 t) a y : EReal) = (a y : EReal) + partB m c t y := by
  idx_vars y
  pointwise [k0_pay3]
  rfl

theorem zero_dg (y : S1x1024.Idx) : (k0_pay4 (F := Ideal) y : EReal) = 0 := by
  pointwise [k0_pay4]

theorem dg_acc (t : Fin cfg0.N) (h : t.val % 8 = 7) (y : S1x1024.Idx) :
    ((outsAt0 m c t.val t.isLt).2.1 y : EReal)
      = ∑ s : Fin 8, partG m c ⟨8 * (t.val / 8) + s.val, Pipeline.run_point_lt_of_flush t h s⟩ y := by
  rw [Pipeline.eq_sum_fin_of_reset_step_apply_of_flush (fun n h => (outsAt0 m c n h).2.1) 8 (fun _ => (0 : EReal)) (partG m c)
    (fun t h y => by
      rw [outsAt0_A m c t h h]; frame_out
      exact (dg_next m c t (k0_pay4 (F := Ideal)) y).trans (by rw [zero_dg]))
    (fun t h y => by
      rw [outsAt0_B m c t h h]; frame_out
      exact dg_next m c t _ y)
    t h y, zero_add]

theorem zero_db (y : S1x1024.Idx) : (k0_pay5 (F := Ideal) y : EReal) = 0 := by
  pointwise [k0_pay5]

theorem db_acc (t : Fin cfg0.N) (h : t.val % 8 = 7) (y : S1x1024.Idx) :
    ((outsAt0 m c t.val t.isLt).2.2 y : EReal)
      = ∑ s : Fin 8, partB m c ⟨8 * (t.val / 8) + s.val, Pipeline.run_point_lt_of_flush t h s⟩ y := by
  rw [Pipeline.eq_sum_fin_of_reset_step_apply_of_flush (fun n h => (outsAt0 m c n h).2.2) 8 (fun _ => (0 : EReal)) (partB m c)
    (fun t h y => by
      rw [outsAt0_A m c t h h]; frame_out
      exact (db_next m c t (k0_pay5 (F := Ideal)) y).trans (by rw [zero_db]))
    (fun t h y => by
      rw [outsAt0_B m c t h h]; frame_out
      exact db_next m c t _ y)
    t h y, zero_add]

theorem final_dx : (dats m 0 c).arrAt 3 cfg0.N = dxA (aD m c) (aX m c) (aG m c) := by
  refine (dats m 0 c).arrAt_eq_of_covers 3 _ (by decide +kernel) fun t hf y => ?_
  blk_simp
  rw [after0_3]
  idx_vars y
  suffices H : ∀ (a : Fin 4096) (b : Fin 1024), a.val = t.val * 512 + y0.val → b.val = y1.val →
      (outsAt0 m c t.val t.isLt).1 (ix2 y0 y1) = dxA (aD m c) (aX m c) (aG m c) (ix2 a b) from
    H _ _ (by blk_simp [idx0 t] <;> try omega) (by blk_simp [idx0 t] <;> try omega)
  intro a b ha hb
  obtain rfl : b = y1 := Fin.ext hb
  refine (dx_at m c t _).trans ?_
  exact congrArg₂ (fun d z => dz d z b)
    (funext fun k => congrArg₂ (fun x y : EReal => x * y) (dB_at m c t y0 k a ha) (gB_at m c t k))
    (funext fun k => xB_at m c t y0 k a ha)

theorem final_dg : (dats m 0 c).arrAt 4 cfg0.N = dgA (aD m c) (aX m c) := by
  refine (dats m 0 c).arrAt_eq_of_covers 4 _ (by decide +kernel) fun t hf y => ?_
  have h7 := (flush0_4 t).mp hf
  blk_simp
  rw [after0_4]
  idx_vars y
  suffices H : ∀ i : S1x1024.Idx, (i 1).val = y1.val → (outsAt0 m c t.val t.isLt).2.1 (ix2 y0 y1) = dgA (aD m c) (aX m c) i from
    H _ (by blk_simp [idx0 t] <;> try omega)
  intro i hb
  obtain hb : i 1 = y1 := Fin.ext hb
  refine (dg_acc m c t h7 _).trans ?_
  unfold dgA
  rw [hb]
  have h0 : t.val / 8 = 0 := by have := t.isLt; have : cfg0.N = 8 := by decide +kernel
                                omega
  refine Fin.sum_mul_add_congr fun s r hlt => ?_
  have e : (⟨s.val * 512 + r.val, hlt⟩ : Fin 4096).val = (8 * (t.val / 8) + s.val) * 512 + r.val := by show s.val * 512 + r.val = _; omega
  exact congrArg₂ (fun x y : EReal => x * y) (dB_at m c _ r y1 _ e)
    (congrArg (fun z => hat z y1) (funext fun k => xB_at m c _ r k _ e))

theorem final_db : (dats m 0 c).arrAt 5 cfg0.N = dbA (aD m c) := by
  refine (dats m 0 c).arrAt_eq_of_covers 5 _ (by decide +kernel) fun t hf y => ?_
  have h7 := (flush0_5 t).mp hf
  blk_simp
  rw [after0_5]
  idx_vars y
  suffices H : ∀ i : S1x1024.Idx, (i 1).val = y1.val → (outsAt0 m c t.val t.isLt).2.2 (ix2 y0 y1) = dbA (aD m c) i from
    H _ (by blk_simp [idx0 t] <;> try omega)
  intro i hb
  obtain hb : i 1 = y1 := Fin.ext hb
  refine (db_acc m c t h7 _).trans ?_
  unfold dbA
  rw [hb]
  have h0 : t.val / 8 = 0 := by have := t.isLt; have : cfg0.N = 8 := by decide +kernel
                                omega
  refine Fin.sum_mul_add_congr fun s r hlt => ?_
  have e : (⟨s.val * 512 + r.val, hlt⟩ : Fin 4096).val = (8 * (t.val / 8) + s.val) * 512 + r.val := by show s.val * 512 + r.val = _; omega
  exact dB_at m c _ r y1 _ e

end
end Cert.LnInBwdIdeal.Val

namespace Cert.LnInBwdRefIdeal.Val
open Cert.LnInBwdRefIdeal Cert.LnInBwdRefIdeal.Gen
open Cert.LnInBwdIdeal.Val (row grd aD aX aG dxA dgA dbA)

section
variable (m : (ℓ : Loc nD τ sig) → Buf (Elt Ideal) ℓ) (c : Dev nD)

/-- The reference's arguments. -/
abbrev rD : Vec Ideal S4096x1024 .f32 := m ((c.tc : Thread nD τ).loc main_arg0)
abbrev rX : Vec Ideal S4096x1024 .f32 := m ((c.tc : Thread nD τ).loc main_arg1)
abbrev rG : Vec Ideal S1024 .f32 := m ((c.tc : Thread nD τ).loc main_arg2)

theorem dx_at (i : S4096x1024.Idx) :
    (Value.res_main_v57 m c i : EReal) = vjp (fun k => grd (rD m c) (i 0) k * (rG m c (ix1 k) : EReal)) (row (rX m c) (i 0)) (i 1) := by
  unfold Value.res_main_v57
  idx_vars i
  pointwise
  rfl

end

/-- The reference's run: the gradient of a row by the derivative of each step, and the two sums over the rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = ((fun i => vjp (fun k => grd (rD m c) (i 0) k * (rG m c (ix1 k) : EReal)) (row (rX m c) (i 0)) (i 1)) : FVec Ideal S4096x1024 .f32)
      ∧ r.2.mem ((c.tc : Thread nD τ).loc main_v58) = (dgA (rD m c) (rX m c) : FVec Ideal S1x1024 .f32)
      ∧ r.2.mem ((c.tc : Thread nD τ).loc main_v59) = (dbA (rD m c) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext (dx_at m c)), (h c).2.1.trans ?_, (h c).2.2.1.trans ?_, (h c).2.2.2⟩) (Value.run m ρ)
  · funext i
    idx_vars i
    pointwise
    refine (Fin.sum_univ_one _).trans ?_
    exact Finset.sum_congr rfl fun k _ => mul_comm _ _
  · funext i
    idx_vars i
    pointwise
    exact Fin.sum_univ_one _
end Cert.LnInBwdRefIdeal.Val

namespace Cert.Proof.LnInBwdClaims
open Cert.Attn (real_of_abs_lt)
open Cert.LnInBwdIdeal.Val (row grd dxA)

section
open Cert.Pre_finite_in

theorem reals (d : FVec Ideal S4096x1024 .f32) (x : FVec Ideal S4096x1024 .f32) (g : FVec Ideal S1024 .f32) (h : fn d x g = fun _ => 1#1) :
    (∀ i, d i = (((d i : EReal).toReal : ℝ) : EReal)) ∧ (∀ i, x i = (((x i : EReal).toReal : ℝ) : EReal))
      ∧ (∀ i, g i = (((g i : EReal).toReal : ℝ) : EReal)) := by
  have h0 := congrFun h (fun a => a.elim0)
  unfold fn at h0
  obtain ⟨h1, hg⟩ := IntOp.andi_eq_one.1 h0
  obtain ⟨hd, hx⟩ := IntOp.andi_eq_one.1 h1
  exact ⟨fun i => real_of_abs_lt _ (Host.reduce_andi_all _ _ _ _ _ hd i), fun i => real_of_abs_lt _ (Host.reduce_andi_all _ _ _ _ _ hx i),
    fun i => real_of_abs_lt _ (Host.reduce_andi_all _ _ _ _ _ hg i)⟩

/-- On real arguments the two forms of the rows' gradient agree. -/
theorem dx_eq (d : FVec Ideal S4096x1024 .f32) (x : FVec Ideal S4096x1024 .f32) (g : FVec Ideal S1024 .f32)
    (h : Cert.Pre_finite_in.fn d x g = fun _ => 1#1) (i : Fin 4096) (j : Fin 1024) :
    vjp (fun k => grd d i k * (g (ix1 k) : EReal)) (row x i) j = dz (fun k => grd d i k * (g (ix1 k) : EReal)) (row x i) j := by
  obtain ⟨fd, fx, fg⟩ := reals d x g h
  have eD : (fun k => grd d i k * (g (ix1 k) : EReal)) = fun k => (((d (ix2 i k) : EReal).toReal * (g (ix1 k) : EReal).toReal : ℝ) : EReal) :=
    funext fun k => (congrArg₂ (fun x y : EReal => x * y) (fd _) (fg _)).trans (EReal.coe_mul _ _).symm
  have eZ : row x i = fun k => (((x (ix2 i k) : EReal).toReal : ℝ) : EReal) := funext fun k => fx _
  rw [eD, eZ]
  exact vjp_eq _ _ j
end

/-- The two programs have one text, and so one table of bodies. -/
theorem bodies_eq : Cert.LnInBwd.defs₀ (F := Bits) = Cert.LnInBwdIdeal.defs₀ := by
  refine congrArg Defs.onTc (funext fun l => funext fun a => ?_)
  obtain ⟨_ | n, h⟩ := l
  · rfl
  · exact absurd h (by omega)
theorem defs_eq : Cert.LnInBwd.defs (F := Bits) = Cert.LnInBwdIdeal.defs :=
  congrArg (Pipeline.defs Cert.LnInBwdIdeal.pcfgs) bodies_eq

theorem frame_p : Cert.quiescent_LnInBwd := fun m ρ _ => by
  rw [defs_eq]
  exact Cert.LnInBwdIdeal.Gen.frame (F := Bits) m ρ
theorem frame_pi : Cert.quiescent_LnInBwdIdeal := fun m ρ _ => Cert.LnInBwdIdeal.Gen.frame m ρ
theorem frame_pi_finite : Cert.quiescent_LnInBwdIdeal_pre_finite_in := fun m ρ _ => Cert.LnInBwdIdeal.Gen.frame m ρ
theorem frame_ri : Cert.quiescent_LnInBwdRefIdeal := fun m ρ _ =>
  (θ_run Cert.LnInBwdRefIdeal.defs _ _).mono (fun r h => ⟨fun c => (h c).2.2.2, sem_eq_zero_of_no_sems (by decide) r.2⟩) (Cert.LnInBwdRefIdeal.Value.run m ρ)
theorem frame_ri_finite : Cert.quiescent_LnInBwdRefIdeal_pre_finite_in := fun m ρ _ => frame_ri m ρ trivial
theorem preserves : Cert.preserves_LnInBwd_LnInBwdIdeal := trivial

theorem algebraic : Cert.algebraic_LnInBwdIdeal_LnInBwdRefIdeal_pre_finite_in := by
  intro m ρ m' ρ' hpre hagree
  refine ⟨_, _, _, (θ_run Cert.LnInBwdIdeal.defs _ _).mono (fun r h c => ⟨(h c).1.trans (Cert.LnInBwdIdeal.Val.final_dx m c),
      (h c).2.1.trans (Cert.LnInBwdIdeal.Val.final_dg m c), (h c).2.2.1.trans (Cert.LnInBwdIdeal.Val.final_db m c), (h c).2.2.2⟩)
      (Cert.LnInBwdIdeal.Value.run_blocks m ρ), ?_⟩
  refine (θ_run Cert.LnInBwdRefIdeal.defs _ _).mono (fun r h c => ?_) (Cert.LnInBwdRefIdeal.Val.run m' ρ')
  obtain ⟨a0, a1, a2⟩ := hagree c
  obtain ⟨h0, h1, h2, hr⟩ := h c
  dsimp only [Cert.LnInBwdRefIdeal.Val.rD, Cert.LnInBwdRefIdeal.Val.rX, Cert.LnInBwdRefIdeal.Val.rG] at h0 h1 h2
  rw [a0, a1, a2] at h0
  rw [a0, a1] at h1
  rw [a0] at h2
  exact ⟨h0.trans (funext fun i => dx_eq _ _ _ (hpre c) (i 0) (i 1)), h1, h2, hr⟩

end Cert.Proof.LnInBwdClaims
end
-- ==== Proof.LnFfnBwdClaims.lean ====
/- The backward of the layer norm after a feed-forward network's residual. -/
module
public import proofs.«01_k».proof.Defs
public import proofs.«01_k».proof.Proof.Norm
public import proofs.«01_k».proof.Proof.GqaFinite
public import proofs.«01_k».proof.Proof.Gen.LnFfnBwd
public import proofs.«01_k».proof.Proof.Gen.LnFfnBwdIdeal
public import proofs.«01_k».proof.Proof.Gen.LnFfnBwdRefIdeal
public import proofs.«01_k».proof.Proof.Gen.LnFfnBwdIdeal.Value
public import proofs.«01_k».proof.Proof.Gen.LnFfnBwdRefIdeal.Run
public import proofs.«01_k».proof.Proof.Gen.Pre_finite_ffn
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Norm
namespace Cert.LnFfnBwdIdeal.Val
open Cert.LnFfnBwdIdeal Cert.LnFfnBwdIdeal.Gen

theorem idx0 : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] ∧ win0_6.index t = ![0, 0] :=
  (by decide +kernel : ∀ t : Fin grid0.N, _)

/-- The row that is normalised, and the gradient of its normalised row. -/
def row (x h : Vec Ideal S4096x1024 .f32) (i : Fin 4096) (k : Fin 1024) : EReal := (Ideal.ofBits .f32 0x3FB504F3#32 : EReal) * (h (ix2 i k) : EReal) + (x (ix2 i k) : EReal)
def grd (d : Vec Ideal S4096x1024 .f32) (i : Fin 4096) (k : Fin 1024) : EReal := d (ix2 i k)

/-- The three results. -/
def dxA (d : Vec Ideal S4096x1024 .f32) (x h : Vec Ideal S4096x1024 .f32) (g : Vec Ideal S1024 .f32) (i : S4096x1024.Idx) : EReal :=
  dz (fun k => grd d (i 0) k * (g (ix1 k) : EReal)) (row x h (i 0)) (i 1)
def dgA (d : Vec Ideal S4096x1024 .f32) (x h : Vec Ideal S4096x1024 .f32) (i : S1x1024.Idx) : EReal :=
  ∑ r : Fin 4096, grd d r (i 1) * hat (row x h r) (i 1)
def dbA (d : Vec Ideal S4096x1024 .f32) (i : S1x1024.Idx) : EReal := ∑ r : Fin 4096, grd d r (i 1)

section
variable (m : (ℓ : Loc nD τ sig) → Buf (Elt Ideal) ℓ) (c : Dev nD)

/-- The arguments, as the arrays hold them. -/
abbrev aD : Vec Ideal S4096x1024 .f32 := m ((c : Thread nD τ).loc main_arg0)
abbrev aX : Vec Ideal S4096x1024 .f32 := m ((c : Thread nD τ).loc main_arg1)
abbrev aH : Vec Ideal S4096x1024 .f32 := m ((c : Thread nD τ).loc main_arg2)
abbrev aG : Vec Ideal S1024 .f32 := m ((c : Thread nD τ).loc main_arg3)

/-- The blocks that a point reads. -/
def dB (t : Fin cfg0.N) : Vec Ideal S512x1024 .f32 := iblk m c 0 t
def xB (t : Fin cfg0.N) : Vec Ideal S512x1024 .f32 := iblk m c 1 t
def hB (t : Fin cfg0.N) : Vec Ideal S512x1024 .f32 := iblk m c 2 t
def gB (t : Fin cfg0.N) : Vec Ideal S1x1024 .f32 := iblk m c 3 t

theorem gain_at (k : Fin 1024) : (V m c main_v0 : Vec Ideal S1x1024 .f32) (ix2 0 k) = aG m c (ix1 k) := by
  show StableHlo.after hostOps0 _ _ _ = _
  after_results
  pointwise

theorem dB_at (t : Fin cfg0.N) (i : Fin 512) (k : Fin 1024) (a : Fin 4096) (ha : a.val = t.val * 512 + i.val) :
    dB m c t (ix2 i k) = aD m c (ix2 a k) := by
  obtain ⟨a, _⟩ := a
  obtain rfl := ha
  dsimp only [dB, aD]
  blk_point [iblk, idx0 t]

theorem xB_at (t : Fin cfg0.N) (i : Fin 512) (k : Fin 1024) (a : Fin 4096) (ha : a.val = t.val * 512 + i.val) :
    xB m c t (ix2 i k) = aX m c (ix2 a k) := by
  obtain ⟨a, _⟩ := a
  obtain rfl := ha
  dsimp only [xB, aX]
  blk_point [iblk, idx0 t]

theorem hB_at (t : Fin cfg0.N) (i : Fin 512) (k : Fin 1024) (a : Fin 4096) (ha : a.val = t.val * 512 + i.val) :
    hB m c t (ix2 i k) = aH m c (ix2 a k) := by
  obtain ⟨a, _⟩ := a
  obtain rfl := ha
  dsimp only [hB, aH]
  blk_point [iblk, idx0 t]

theorem gB_at (t : Fin cfg0.N) (k : Fin 1024) : gB m c t (ix2 0 k) = aG m c (ix1 k) := by
  rw [← gain_at]
  dsimp only [gB]
  blk_point [iblk, idx0 t]

/-- A block's rows, and what a point adds to the sums of the gain's and the shift's gradients. -/
def bRow (t : Fin cfg0.N) (i : Fin 512) (k : Fin 1024) : EReal := (Ideal.ofBits .f32 0x3FB504F3#32 : EReal) * (hB m c t (ix2 i k) : EReal) + (xB m c t (ix2 i k) : EReal)
def bGrd (t : Fin cfg0.N) (i : Fin 512) (k : Fin 1024) : EReal := dB m c t (ix2 i k)
def partG (t : Fin cfg0.N) (y : S1x1024.Idx) : EReal := ∑ r : Fin 512, bGrd m c t r (y 1) * hat (bRow m c t r) (y 1)
def partB (t : Fin cfg0.N) (y : S1x1024.Idx) : EReal := ∑ r : Fin 512, bGrd m c t r (y 1)

theorem bRow_at (t : Fin cfg0.N) (i : Fin 512) (k : Fin 1024) (a : Fin 4096) (ha : a.val = t.val * 512 + i.val) :
    bRow m c t i k = row (aX m c) (aH m c) a k := congrArg₂ (fun x y : EReal => (Ideal.ofBits .f32 0x3FB504F3#32 : EReal) * x + y) (hB_at m c t i k a ha) (xB_at m c t i k a ha)
theorem bGrd_at (t : Fin cfg0.N) (i : Fin 512) (k : Fin 1024) (a : Fin 4096) (ha : a.val = t.val * 512 + i.val) :
    bGrd m c t i k = grd (aD m c) a k := dB_at m c t i k a ha

theorem dx_at (t : Fin cfg0.N) (y : S512x1024.Idx) :
    ((outsAt0 m c t.val t.isLt).1 y : EReal)
      = dz (fun k => bGrd m c t (y 0) k * (gB m c t (ix2 0 k) : EReal)) (bRow m c t (y 0)) (y 1) := by
  have H : ∀ y : S512x1024.Idx, (k0_pay1 (F := Ideal) (k0_pay7 (iblk m c 1 t) (iblk m c 2 t)) (k0_pay8 (iblk m c 1 t) (iblk m c 2 t)) (k0_pay9 (iblk m c 0 t) (iblk m c 3 t)) y : EReal)
      = dz (fun k => bGrd m c t (y 0) k * (gB m c t (ix2 0 k) : EReal)) (bRow m c t (y 0)) (y 1) := fun y => by
    idx_vars y
    pointwise [k0_pay1, k0_pay2, k0_pay3, k0_pay4, k0_pay6, k0_pay7, k0_pay8, k0_pay9]
    rfl
  by_cases h : t.val % 8 = 0
  · rw [outsAt0_A m c t h h]; frame_out
    exact H y
  · rw [outsAt0_B m c t h h]; frame_out
    exact H y

theorem dg_next (t : Fin cfg0.N) (a : Vec Ideal S1x1024 .f32) (y : S1x1024.Idx) :
    (k0_pay2 (F := Ideal) (iblk m c 0 t) (k0_pay8 (iblk m c 1 t) (iblk m c 2 t)) a y : EReal) = (a y : EReal) + partG m c t y := by
  idx_vars y
  pointwise [k0_pay1, k0_pay2, k0_pay3, k0_pay4, k0_pay6, k0_pay7, k0_pay8, k0_pay9]
  rfl

theorem db_next (t : Fin cfg0.N) (a : Vec Ideal S1x1024 .f32) (y : S1x1024.Idx) :
    (k0_pay3 (F := Ideal) (iblk m c 0 t) a y : EReal) = (a y : EReal) + partB m c t y := by
  idx_vars y
  pointwise [k0_pay1, k0_pay2, k0_pay3, k0_pay4, k0_pay6, k0_pay7, k0_pay8, k0_pay9]
  rfl

theorem zero_dg (y : S1x1024.Idx) : (k0_pay4 (F := Ideal) y : EReal) = 0 := by
  pointwise [k0_pay4]

theorem dg_acc (t : Fin cfg0.N) (h : t.val % 8 = 7) (y : S1x1024.Idx) :
    ((outsAt0 m c t.val t.isLt).2.1 y : EReal)
      = ∑ s : Fin 8, partG m c ⟨8 * (t.val / 8) + s.val, Pipeline.run_point_lt_of_flush t h s⟩ y := by
  rw [Pipeline.eq_sum_fin_of_reset_step_apply_of_flush (fun n h => (outsAt0 m c n h).2.1) 8 (fun _ => (0 : EReal)) (partG m c)
    (fun t h y => by
      rw [outsAt0_A m c t h h]; frame_out
      exact (dg_next m c t (k0_pay4 (F := Ideal)) y).trans (by rw [zero_dg]))
    (fun t h y => by
      rw [outsAt0_B m c t h h]; frame_out
      exact dg_next m c t _ y)
    t h y, zero_add]

theorem zero_db (y : S1x1024.Idx) : (k0_pay5 (F := Ideal) y : EReal) = 0 := by
  pointwise [k0_pay5]

theorem db_acc (t : Fin cfg0.N) (h : t.val % 8 = 7) (y : S1x1024.Idx) :
    ((outsAt0 m c t.val t.isLt).2.2 y : EReal)
      = ∑ s : Fin 8, partB m c ⟨8 * (t.val / 8) + s.val, Pipeline.run_point_lt_of_flush t h s⟩ y := by
  rw [Pipeline.eq_sum_fin_of_reset_step_apply_of_flush (fun n h => (outsAt0 m c n h).2.2) 8 (fun _ => (0 : EReal)) (partB m c)
    (fun t h y => by
      rw [outsAt0_A m c t h h]; frame_out
      exact (db_next m c t (k0_pay5 (F := Ideal)) y).trans (by rw [zero_db]))
    (fun t h y => by
      rw [outsAt0_B m c t h h]; frame_out
      exact db_next m c t _ y)
    t h y, zero_add]

theorem final_dx : (dats m 0 c).arrAt 4 cfg0.N = dxA (aD m c) (aX m c) (aH m c) (aG m c) := by
  refine (dats m 0 c).arrAt_eq_of_covers 4 _ (by decide +kernel) fun t hf y => ?_
  blk_simp
  rw [after0_4]
  idx_vars y
  suffices H : ∀ (a : Fin 4096) (b : Fin 1024), a.val = t.val * 512 + y0.val → b.val = y1.val →
      (outsAt0 m c t.val t.isLt).1 (ix2 y0 y1) = dxA (aD m c) (aX m c) (aH m c) (aG m c) (ix2 a b) from
    H _ _ (by blk_simp [idx0 t] <;> try omega) (by blk_simp [idx0 t] <;> try omega)
  intro a b ha hb
  obtain rfl : b = y1 := Fin.ext hb
  refine (dx_at m c t _).trans ?_
  exact congrArg₂ (fun d z => dz d z b)
    (funext fun k => congrArg₂ (fun x y : EReal => x * y) (bGrd_at m c t y0 k a ha) (gB_at m c t k))
    (funext fun k => bRow_at m c t y0 k a ha)

theorem final_dg : (dats m 0 c).arrAt 5 cfg0.N = dgA (aD m c) (aX m c) (aH m c) := by
  refine (dats m 0 c).arrAt_eq_of_covers 5 _ (by decide +kernel) fun t hf y => ?_
  have h7 := (flush0_5 t).mp hf
  blk_simp
  rw [after0_5]
  idx_vars y
  suffices H : ∀ i : S1x1024.Idx, (i 1).val = y1.val → (outsAt0 m c t.val t.isLt).2.1 (ix2 y0 y1) = dgA (aD m c) (aX m c) (aH m c) i from
    H _ (by blk_simp [idx0 t] <;> try omega)
  intro i hb
  obtain hb : i 1 = y1 := Fin.ext hb
  refine (dg_acc m c t h7 _).trans ?_
  unfold dgA
  rw [hb]
  have h0 : t.val / 8 = 0 := by have := t.isLt; have : cfg0.N = 8 := by decide +kernel
                                omega
  refine Fin.sum_mul_add_congr fun s r hlt => ?_
  have e : (⟨s.val * 512 + r.val, hlt⟩ : Fin 4096).val = (8 * (t.val / 8) + s.val) * 512 + r.val := by show s.val * 512 + r.val = _; omega
  exact congrArg₂ (fun x y : EReal => x * y) (bGrd_at m c _ r y1 _ e)
    (congrArg (fun z => hat z y1) (funext fun k => bRow_at m c _ r k _ e))

theorem final_db : (dats m 0 c).arrAt 6 cfg0.N = dbA (aD m c) := by
  refine (dats m 0 c).arrAt_eq_of_covers 6 _ (by decide +kernel) fun t hf y => ?_
  have h7 := (flush0_6 t).mp hf
  blk_simp
  rw [after0_6]
  idx_vars y
  suffices H : ∀ i : S1x1024.Idx, (i 1).val = y1.val → (outsAt0 m c t.val t.isLt).2.2 (ix2 y0 y1) = dbA (aD m c) i from
    H _ (by blk_simp [idx0 t] <;> try omega)
  intro i hb
  obtain hb : i 1 = y1 := Fin.ext hb
  refine (db_acc m c t h7 _).trans ?_
  unfold dbA
  rw [hb]
  have h0 : t.val / 8 = 0 := by have := t.isLt; have : cfg0.N = 8 := by decide +kernel
                                omega
  refine Fin.sum_mul_add_congr fun s r hlt => ?_
  have e : (⟨s.val * 512 + r.val, hlt⟩ : Fin 4096).val = (8 * (t.val / 8) + s.val) * 512 + r.val := by show s.val * 512 + r.val = _; omega
  exact bGrd_at m c _ r y1 _ e

end
end Cert.LnFfnBwdIdeal.Val

namespace Cert.LnFfnBwdRefIdeal.Val
open Cert.LnFfnBwdRefIdeal Cert.LnFfnBwdRefIdeal.Gen
open Cert.LnFfnBwdIdeal.Val (row grd dxA dgA dbA)

section
variable (m : (ℓ : Loc nD τ sig) → Buf (Elt Ideal) ℓ) (c : Dev nD)

/-- The reference's arguments. -/
abbrev rD : Vec Ideal S4096x1024 .f32 := m ((c.tc : Thread nD τ).loc main_arg0)
abbrev rX : Vec Ideal S4096x1024 .f32 := m ((c.tc : Thread nD τ).loc main_arg1)
abbrev rH : Vec Ideal S4096x1024 .f32 := m ((c.tc : Thread nD τ).loc main_arg2)
abbrev rG : Vec Ideal S1024 .f32 := m ((c.tc : Thread nD τ).loc main_arg3)

theorem dx_at (i : S4096x1024.Idx) :
    (Value.res_main_v60 m c i : EReal) = vjp (fun k => grd (rD m c) (i 0) k * (rG m c (ix1 k) : EReal)) (row (rX m c) (rH m c) (i 0)) (i 1) := by
  unfold Value.res_main_v60
  idx_vars i
  pointwise
  rfl

end

/-- The reference's run: the gradient of a row by the derivative of each step, and the two sums over the rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = ((fun i => vjp (fun k => grd (rD m c) (i 0) k * (rG m c (ix1 k) : EReal)) (row (rX m c) (rH m c) (i 0)) (i 1)) : FVec Ideal S4096x1024 .f32)
      ∧ r.2.mem ((c.tc : Thread nD τ).loc main_v61) = (dgA (rD m c) (rX m c) (rH m c) : FVec Ideal S1x1024 .f32)
      ∧ r.2.mem ((c.tc : Thread nD τ).loc main_v62) = (dbA (rD m c) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext (dx_at m c)), (h c).2.1.trans ?_, (h c).2.2.1.trans ?_, (h c).2.2.2⟩) (Value.run m ρ)
  · funext i
    idx_vars i
    pointwise
    refine (Fin.sum_univ_one _).trans ?_
    exact Finset.sum_congr rfl fun k _ => mul_comm _ _
  · funext i
    idx_vars i
    pointwise
    exact Fin.sum_univ_one _
end Cert.LnFfnBwdRefIdeal.Val

namespace Cert.Proof.LnFfnBwdClaims
open Cert.Attn (real_of_abs_lt)
open Cert.LnFfnBwdIdeal.Val (row grd dxA)

section
open Cert.Pre_finite_ffn

theorem reals (d : FVec Ideal S4096x1024 .f32) (x : FVec Ideal S4096x1024 .f32) (h : FVec Ideal S4096x1024 .f32) (g : FVec Ideal S1024 .f32) (hp : fn d x h g = fun _ => 1#1) :
    (∀ i, d i = (((d i : EReal).toReal : ℝ) : EReal)) ∧ (∀ i, x i = (((x i : EReal).toReal : ℝ) : EReal)) ∧ (∀ i, h i = (((h i : EReal).toReal : ℝ) : EReal)) ∧ (∀ i, g i = (((g i : EReal).toReal : ℝ) : EReal)) := by
  have h0 := congrFun hp (fun a => a.elim0)
  unfold fn fn_part1 at h0
  obtain ⟨h13, hh⟩ := IntOp.andi_eq_one.1 h0
  obtain ⟨h12, hg⟩ := IntOp.andi_eq_one.1 h13
  obtain ⟨hd, hx⟩ := IntOp.andi_eq_one.1 h12
  exact ⟨fun i => real_of_abs_lt _ (Host.reduce_andi_all _ _ _ _ _ hd i),
    fun i => real_of_abs_lt _ (Host.reduce_andi_all _ _ _ _ _ hx i),
    fun i => real_of_abs_lt _ (Host.reduce_andi_all _ _ _ _ _ hh i),
    fun i => real_of_abs_lt _ (Host.reduce_andi_all _ _ _ _ _ hg i)⟩

/-- On real arguments the two forms of the rows' gradient agree. -/
theorem dx_eq (d : FVec Ideal S4096x1024 .f32) (x : FVec Ideal S4096x1024 .f32) (h : FVec Ideal S4096x1024 .f32) (g : FVec Ideal S1024 .f32)
    (h0 : Cert.Pre_finite_ffn.fn d x h g = fun _ => 1#1) (i : Fin 4096) (j : Fin 1024) :
    vjp (fun k => grd d i k * (g (ix1 k) : EReal)) (row x h i) j = dz (fun k => grd d i k * (g (ix1 k) : EReal)) (row x h i) j := by
  obtain ⟨fd, fx, fh, fg⟩ := reals d x h g h0
  obtain ⟨α, hα⟩ := alpha_real
  have eD : ∀ k, grd d i k = (((d (ix2 i k) : EReal).toReal : ℝ) : EReal) := fun k => fd _
  have eG : (fun k => grd d i k * (g (ix1 k) : EReal)) = fun k => ((((d (ix2 i k) : EReal).toReal) * (g (ix1 k) : EReal).toReal : ℝ) : EReal) :=
    funext fun k => (congrArg₂ (fun x y : EReal => x * y) (eD k) (fg _)).trans (EReal.coe_mul _ _).symm
  have eZ : row x h i = fun k => ((α * (h (ix2 i k) : EReal).toReal + (x (ix2 i k) : EReal).toReal : ℝ) : EReal) := funext fun k => (congrArg₂ (fun x y : EReal => (Ideal.ofBits .f32 0x3FB504F3#32 : EReal) * x + y) (fh _) (fx _)).trans (by rw [hα, ← EReal.coe_mul, ← EReal.coe_add])
  rw [eG, eZ]
  exact vjp_eq _ _ j
end

/-- The two programs have one text, and so one table of bodies. -/
theorem bodies_eq : Cert.LnFfnBwd.defs₀ (F := Bits) = Cert.LnFfnBwdIdeal.defs₀ := by
  refine congrArg Defs.onTc (funext fun l => funext fun a => ?_)
  obtain ⟨_ | n, h⟩ := l
  · rfl
  · exact absurd h (by omega)
theorem defs_eq : Cert.LnFfnBwd.defs (F := Bits) = Cert.LnFfnBwdIdeal.defs :=
  congrArg (Pipeline.defs Cert.LnFfnBwdIdeal.pcfgs) bodies_eq

theorem frame_p : Cert.quiescent_LnFfnBwd := fun m ρ _ => by
  rw [defs_eq]
  exact Cert.LnFfnBwdIdeal.Gen.frame (F := Bits) m ρ
theorem frame_pi : Cert.quiescent_LnFfnBwdIdeal := fun m ρ _ => Cert.LnFfnBwdIdeal.Gen.frame m ρ
theorem frame_pi_finite : Cert.quiescent_LnFfnBwdIdeal_pre_finite_ffn := fun m ρ _ => Cert.LnFfnBwdIdeal.Gen.frame m ρ
theorem frame_ri : Cert.quiescent_LnFfnBwdRefIdeal := fun m ρ _ =>
  (θ_run Cert.LnFfnBwdRefIdeal.defs _ _).mono (fun r h => ⟨fun c => (h c).2.2.2, sem_eq_zero_of_no_sems (by decide) r.2⟩) (Cert.LnFfnBwdRefIdeal.Value.run m ρ)
theorem frame_ri_finite : Cert.quiescent_LnFfnBwdRefIdeal_pre_finite_ffn := fun m ρ _ => frame_ri m ρ trivial
theorem preserves : Cert.preserves_LnFfnBwd_LnFfnBwdIdeal := trivial

theorem algebraic : Cert.algebraic_LnFfnBwdIdeal_LnFfnBwdRefIdeal_pre_finite_ffn := by
  intro m ρ m' ρ' hpre hagree
  refine ⟨_, _, _, (θ_run Cert.LnFfnBwdIdeal.defs _ _).mono (fun r h c => ⟨(h c).1.trans (Cert.LnFfnBwdIdeal.Val.final_dx m c),
      (h c).2.1.trans (Cert.LnFfnBwdIdeal.Val.final_dg m c), (h c).2.2.1.trans (Cert.LnFfnBwdIdeal.Val.final_db m c), (h c).2.2.2⟩)
      (Cert.LnFfnBwdIdeal.Value.run_blocks m ρ), ?_⟩
  refine (θ_run Cert.LnFfnBwdRefIdeal.defs _ _).mono (fun r h c => ?_) (Cert.LnFfnBwdRefIdeal.Val.run m' ρ')
  obtain ⟨a0, a1, a2, a3⟩ := hagree c
  obtain ⟨h0, h1, h2, hr⟩ := h c
  dsimp only [Cert.LnFfnBwdRefIdeal.Val.rD, Cert.LnFfnBwdRefIdeal.Val.rX, Cert.LnFfnBwdRefIdeal.Val.rH, Cert.LnFfnBwdRefIdeal.Val.rG] at h0 h1 h2
  rw [a0, a1, a2, a3] at h0
  rw [a0, a1, a2] at h1
  rw [a0] at h2
  exact ⟨h0.trans (funext fun i => dx_eq _ _ _ _ (hpre c) (i 0) (i 1)), h1, h2, hr⟩

end Cert.Proof.LnFfnBwdClaims
end
-- ==== Proof.LnMixBwdClaims.lean ====
/- The backward of the layer norm after a mixer's residual, from the two parts of the gradient of its rows. -/
module
public import proofs.«01_k».proof.Defs
public import proofs.«01_k».proof.Proof.Norm
public import proofs.«01_k».proof.Proof.GqaFinite
public import proofs.«01_k».proof.Proof.Gen.LnMixBwd
public import proofs.«01_k».proof.Proof.Gen.LnMixBwdIdeal
public import proofs.«01_k».proof.Proof.Gen.LnMixBwdRefIdeal
public import proofs.«01_k».proof.Proof.Gen.LnMixBwdIdeal.Value
public import proofs.«01_k».proof.Proof.Gen.LnMixBwdRefIdeal.Run
public import proofs.«01_k».proof.Proof.Gen.Pre_finite_mix
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Norm
namespace Cert.LnMixBwdIdeal.Val
open Cert.LnMixBwdIdeal Cert.LnMixBwdIdeal.Gen

theorem idx0 : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![0, 0] ∧ win0_7.index t = ![0, 0] :=
  (by decide +kernel : ∀ t : Fin grid0.N, _)

/-- The row that is normalised, and the gradient of its normalised row. -/
def row (x h : Vec Ideal S4096x1024 .f32) (i : Fin 4096) (k : Fin 1024) : EReal := (Ideal.ofBits .f32 0x3FB504F3#32 : EReal) * (h (ix2 i k) : EReal) + (x (ix2 i k) : EReal)
def grd (d e : Vec Ideal S4096x1024 .f32) (i : Fin 4096) (k : Fin 1024) : EReal := (Ideal.ofBits .f32 0x3FB504F3#32 : EReal) * (d (ix2 i k) : EReal) + (e (ix2 i k) : EReal)
/-- The same with its two parts in the other order. -/
def grd' (d e : Vec Ideal S4096x1024 .f32) (i : Fin 4096) (k : Fin 1024) : EReal := (e (ix2 i k) : EReal) + (Ideal.ofBits .f32 0x3FB504F3#32 : EReal) * (d (ix2 i k) : EReal)
theorem grd_comm (d e : Vec Ideal S4096x1024 .f32) : grd' d e = grd d e := funext fun i => funext fun k => add_comm _ _

/-- The three results. -/
def dxA (d e : Vec Ideal S4096x1024 .f32) (x h : Vec Ideal S4096x1024 .f32) (g : Vec Ideal S1024 .f32) (i : S4096x1024.Idx) : EReal :=
  dz (fun k => grd d e (i 0) k * (g (ix1 k) : EReal)) (row x h (i 0)) (i 1)
def dgA (d e : Vec Ideal S4096x1024 .f32) (x h : Vec Ideal S4096x1024 .f32) (i : S1x1024.Idx) : EReal :=
  ∑ r : Fin 4096, grd d e r (i 1) * hat (row x h r) (i 1)
def dbA (d e : Vec Ideal S4096x1024 .f32) (i : S1x1024.Idx) : EReal := ∑ r : Fin 4096, grd d e r (i 1)

section
variable (m : (ℓ : Loc nD τ sig) → Buf (Elt Ideal) ℓ) (c : Dev nD)

/-- The arguments, as the arrays hold them. -/
abbrev aD : Vec Ideal S4096x1024 .f32 := m ((c : Thread nD τ).loc main_arg0)
abbrev aE : Vec Ideal S4096x1024 .f32 := m ((c : Thread nD τ).loc main_arg1)
abbrev aX : Vec Ideal S4096x1024 .f32 := m ((c : Thread nD τ).loc main_arg2)
abbrev aH : Vec Ideal S4096x1024 .f32 := m ((c : Thread nD τ).loc main_arg3)
abbrev aG : Vec Ideal S1024 .f32 := m ((c : Thread nD τ).loc main_arg4)

/-- The blocks that a point reads. -/
def dB (t : Fin cfg0.N) : Vec Ideal S512x1024 .f32 := iblk m c 0 t
def eB (t : Fin cfg0.N) : Vec Ideal S512x1024 .f32 := iblk m c 1 t
def xB (t : Fin cfg0.N) : Vec Ideal S512x1024 .f32 := iblk m c 2 t
def hB (t : Fin cfg0.N) : Vec Ideal S512x1024 .f32 := iblk m c 3 t
def gB (t : Fin cfg0.N) : Vec Ideal S1x1024 .f32 := iblk m c 4 t

theorem gain_at (k : Fin 1024) : (V m c main_v0 : Vec Ideal S1x1024 .f32) (ix2 0 k) = aG m c (ix1 k) := by
  show StableHlo.after hostOps0 _ _ _ = _
  after_results
  pointwise

theorem dB_at (t : Fin cfg0.N) (i : Fin 512) (k : Fin 1024) (a : Fin 4096) (ha : a.val = t.val * 512 + i.val) :
    dB m c t (ix2 i k) = aD m c (ix2 a k) := by
  obtain ⟨a, _⟩ := a
  obtain rfl := ha
  dsimp only [dB, aD]
  blk_point [iblk, idx0 t]

theorem eB_at (t : Fin cfg0.N) (i : Fin 512) (k : Fin 1024) (a : Fin 4096) (ha : a.val = t.val * 512 + i.val) :
    eB m c t (ix2 i k) = aE m c (ix2 a k) := by
  obtain ⟨a, _⟩ := a
  obtain rfl := ha
  dsimp only [eB, aE]
  blk_point [iblk, idx0 t]

theorem xB_at (t : Fin cfg0.N) (i : Fin 512) (k : Fin 1024) (a : Fin 4096) (ha : a.val = t.val * 512 + i.val) :
    xB m c t (ix2 i k) = aX m c (ix2 a k) := by
  obtain ⟨a, _⟩ := a
  obtain rfl := ha
  dsimp only [xB, aX]
  blk_point [iblk, idx0 t]

theorem hB_at (t : Fin cfg0.N) (i : Fin 512) (k : Fin 1024) (a : Fin 4096) (ha : a.val = t.val * 512 + i.val) :
    hB m c t (ix2 i k) = aH m c (ix2 a k) := by
  obtain ⟨a, _⟩ := a
  obtain rfl := ha
  dsimp only [hB, aH]
  blk_point [iblk, idx0 t]

theorem gB_at (t : Fin cfg0.N) (k : Fin 1024) : gB m c t (ix2 0 k) = aG m c (ix1 k) := by
  rw [← gain_at]
  dsimp only [gB]
  blk_point [iblk, idx0 t]

/-- A block's rows, and what a point adds to the sums of the gain's and the shift's gradients. -/
def bRow (t : Fin cfg0.N) (i : Fin 512) (k : Fin 1024) : EReal := (Ideal.ofBits .f32 0x3FB504F3#32 : EReal) * (hB m c t (ix2 i k) : EReal) + (xB m c t (ix2 i k) : EReal)
def bGrd (t : Fin cfg0.N) (i : Fin 512) (k : Fin 1024) : EReal := (Ideal.ofBits .f32 0x3FB504F3#32 : EReal) * (dB m c t (ix2 i k) : EReal) + (eB m c t (ix2 i k) : EReal)
def partG (t : Fin cfg0.N) (y : S1x1024.Idx) : EReal := ∑ r : Fin 512, bGrd m c t r (y 1) * hat (bRow m c t r) (y 1)
def partB (t : Fin cfg0.N) (y : S1x1024.Idx) : EReal := ∑ r : Fin 512, bGrd m c t r (y 1)

theorem bRow_at (t : Fin cfg0.N) (i : Fin 512) (k : Fin 1024) (a : Fin 4096) (ha : a.val = t.val * 512 + i.val) :
    bRow m c t i k = row (aX m c) (aH m c) a k := congrArg₂ (fun x y : EReal => (Ideal.ofBits .f32 0x3FB504F3#32 : EReal) * x + y) (hB_at m c t i k a ha) (xB_at m c t i k a ha)
theorem bGrd_at (t : Fin cfg0.N) (i : Fin 512) (k : Fin 1024) (a : Fin 4096) (ha : a.val = t.val * 512 + i.val) :
    bGrd m c t i k = grd (aD m c) (aE m c) a k := congrArg₂ (fun x y : EReal => (Ideal.ofBits .f32 0x3FB504F3#32 : EReal) * x + y) (dB_at m c t i k a ha) (eB_at m c t i k a ha)

theorem dx_at (t : Fin cfg0.N) (y : S512x1024.Idx) :
    ((outsAt0 m c t.val t.isLt).1 y : EReal)
      = dz (fun k => bGrd m c t (y 0) k * (gB m c t (ix2 0 k) : EReal)) (bRow m c t (y 0)) (y 1) := by
  have H : ∀ y : S512x1024.Idx, (k0_pay2 (F := Ideal) (iblk m c 1 t) (k0_pay8 (iblk m c 2 t) (iblk m c 3 t)) (k0_pay9 (iblk m c 2 t) (iblk m c 3 t)) (k0_pay10 (iblk m c 0 t)) (iblk m c 4 t) y : EReal)
      = dz (fun k => bGrd m c t (y 0) k * (gB m c t (ix2 0 k) : EReal)) (bRow m c t (y 0)) (y 1) := fun y => by
    idx_vars y
    pointwise [k0_pay1, k0_pay2, k0_pay3, k0_pay4, k0_pay6, k0_pay7, k0_pay8, k0_pay9, k0_pay10]
    rfl
  by_cases h : t.val % 8 = 0
  · rw [outsAt0_A m c t h h]; frame_out
    exact H y
  · rw [outsAt0_B m c t h h]; frame_out
    exact H y

theorem dg_next (t : Fin cfg0.N) (a : Vec Ideal S1x1024 .f32) (y : S1x1024.Idx) :
    (k0_pay3 (F := Ideal) (iblk m c 1 t) (k0_pay9 (iblk m c 2 t) (iblk m c 3 t)) (k0_pay10 (iblk m c 0 t)) a y : EReal) = (a y : EReal) + partG m c t y := by
  idx_vars y
  pointwise [k0_pay1, k0_pay2, k0_pay3, k0_pay4, k0_pay6, k0_pay7, k0_pay8, k0_pay9, k0_pay10]
  rfl

theorem db_next (t : Fin cfg0.N) (a : Vec Ideal S1x1024 .f32) (y : S1x1024.Idx) :
    (k0_pay4 (F := Ideal) (iblk m c 1 t) (k0_pay10 (iblk m c 0 t)) a y : EReal) = (a y : EReal) + partB m c t y := by
  idx_vars y
  pointwise [k0_pay1, k0_pay2, k0_pay3, k0_pay4, k0_pay6, k0_pay7, k0_pay8, k0_pay9, k0_pay10]
  rfl

theorem zero_dg (y : S1x1024.Idx) : (k0_pay5 (F := Ideal) y : EReal) = 0 := by
  pointwise [k0_pay5]

theorem dg_acc (t : Fin cfg0.N) (h : t.val % 8 = 7) (y : S1x1024.Idx) :
    ((outsAt0 m c t.val t.isLt).2.1 y : EReal)
      = ∑ s : Fin 8, partG m c ⟨8 * (t.val / 8) + s.val, Pipeline.run_point_lt_of_flush t h s⟩ y := by
  rw [Pipeline.eq_sum_fin_of_reset_step_apply_of_flush (fun n h => (outsAt0 m c n h).2.1) 8 (fun _ => (0 : EReal)) (partG m c)
    (fun t h y => by
      rw [outsAt0_A m c t h h]; frame_out
      exact (dg_next m c t (k0_pay5 (F := Ideal)) y).trans (by rw [zero_dg]))
    (fun t h y => by
      rw [outsAt0_B m c t h h]; frame_out
      exact dg_next m c t _ y)
    t h y, zero_add]

theorem zero_db (y : S1x1024.Idx) : (k0_pay6 (F := Ideal) y : EReal) = 0 := by
  pointwise [k0_pay6]

theorem db_acc (t : Fin cfg0.N) (h : t.val % 8 = 7) (y : S1x1024.Idx) :
    ((outsAt0 m c t.val t.isLt).2.2 y : EReal)
      = ∑ s : Fin 8, partB m c ⟨8 * (t.val / 8) + s.val, Pipeline.run_point_lt_of_flush t h s⟩ y := by
  rw [Pipeline.eq_sum_fin_of_reset_step_apply_of_flush (fun n h => (outsAt0 m c n h).2.2) 8 (fun _ => (0 : EReal)) (partB m c)
    (fun t h y => by
      rw [outsAt0_A m c t h h]; frame_out
      exact (db_next m c t (k0_pay6 (F := Ideal)) y).trans (by rw [zero_db]))
    (fun t h y => by
      rw [outsAt0_B m c t h h]; frame_out
      exact db_next m c t _ y)
    t h y, zero_add]

theorem final_dx : (dats m 0 c).arrAt 5 cfg0.N = dxA (aD m c) (aE m c) (aX m c) (aH m c) (aG m c) := by
  refine (dats m 0 c).arrAt_eq_of_covers 5 _ (by decide +kernel) fun t hf y => ?_
  blk_simp
  rw [after0_5]
  idx_vars y
  suffices H : ∀ (a : Fin 4096) (b : Fin 1024), a.val = t.val * 512 + y0.val → b.val = y1.val →
      (outsAt0 m c t.val t.isLt).1 (ix2 y0 y1) = dxA (aD m c) (aE m c) (aX m c) (aH m c) (aG m c) (ix2 a b) from
    H _ _ (by blk_simp [idx0 t] <;> try omega) (by blk_simp [idx0 t] <;> try omega)
  intro a b ha hb
  obtain rfl : b = y1 := Fin.ext hb
  refine (dx_at m c t _).trans ?_
  exact congrArg₂ (fun d z => dz d z b)
    (funext fun k => congrArg₂ (fun x y : EReal => x * y) (bGrd_at m c t y0 k a ha) (gB_at m c t k))
    (funext fun k => bRow_at m c t y0 k a ha)

theorem final_dg : (dats m 0 c).arrAt 6 cfg0.N = dgA (aD m c) (aE m c) (aX m c) (aH m c) := by
  refine (dats m 0 c).arrAt_eq_of_covers 6 _ (by decide +kernel) fun t hf y => ?_
  have h7 := (flush0_6 t).mp hf
  blk_simp
  rw [after0_6]
  idx_vars y
  suffices H : ∀ i : S1x1024.Idx, (i 1).val = y1.val → (outsAt0 m c t.val t.isLt).2.1 (ix2 y0 y1) = dgA (aD m c) (aE m c) (aX m c) (aH m c) i from
    H _ (by blk_simp [idx0 t] <;> try omega)
  intro i hb
  obtain hb : i 1 = y1 := Fin.ext hb
  refine (dg_acc m c t h7 _).trans ?_
  unfold dgA
  rw [hb]
  have h0 : t.val / 8 = 0 := by have := t.isLt; have : cfg0.N = 8 := by decide +kernel
                                omega
  refine Fin.sum_mul_add_congr fun s r hlt => ?_
  have e : (⟨s.val * 512 + r.val, hlt⟩ : Fin 4096).val = (8 * (t.val / 8) + s.val) * 512 + r.val := by show s.val * 512 + r.val = _; omega
  exact congrArg₂ (fun x y : EReal => x * y) (bGrd_at m c _ r y1 _ e)
    (congrArg (fun z => hat z y1) (funext fun k => bRow_at m c _ r k _ e))

theorem final_db : (dats m 0 c).arrAt 7 cfg0.N = dbA (aD m c) (aE m c) := by
  refine (dats m 0 c).arrAt_eq_of_covers 7 _ (by decide +kernel) fun t hf y => ?_
  have h7 := (flush0_7 t).mp hf
  blk_simp
  rw [after0_7]
  idx_vars y
  suffices H : ∀ i : S1x1024.Idx, (i 1).val = y1.val → (outsAt0 m c t.val t.isLt).2.2 (ix2 y0 y1) = dbA (aD m c) (aE m c) i from
    H _ (by blk_simp [idx0 t] <;> try omega)
  intro i hb
  obtain hb : i 1 = y1 := Fin.ext hb
  refine (db_acc m c t h7 _).trans ?_
  unfold dbA
  rw [hb]
  have h0 : t.val / 8 = 0 := by have := t.isLt; have : cfg0.N = 8 := by decide +kernel
                                omega
  refine Fin.sum_mul_add_congr fun s r hlt => ?_
  have e : (⟨s.val * 512 + r.val, hlt⟩ : Fin 4096).val = (8 * (t.val / 8) + s.val) * 512 + r.val := by show s.val * 512 + r.val = _; omega
  exact bGrd_at m c _ r y1 _ e

end
end Cert.LnMixBwdIdeal.Val

namespace Cert.LnMixBwdRefIdeal.Val
open Cert.LnMixBwdRefIdeal Cert.LnMixBwdRefIdeal.Gen
open Cert.LnMixBwdIdeal.Val (row grd grd' grd_comm aD aX aG dxA dgA dbA)

section
variable (m : (ℓ : Loc nD τ sig) → Buf (Elt Ideal) ℓ) (c : Dev nD)

/-- The reference's arguments. -/
abbrev rD : Vec Ideal S4096x1024 .f32 := m ((c.tc : Thread nD τ).loc main_arg0)
abbrev rE : Vec Ideal S4096x1024 .f32 := m ((c.tc : Thread nD τ).loc main_arg1)
abbrev rX : Vec Ideal S4096x1024 .f32 := m ((c.tc : Thread nD τ).loc main_arg2)
abbrev rH : Vec Ideal S4096x1024 .f32 := m ((c.tc : Thread nD τ).loc main_arg3)
abbrev rG : Vec Ideal S1024 .f32 := m ((c.tc : Thread nD τ).loc main_arg4)

theorem dx_at (i : S4096x1024.Idx) :
    (Value.res_main_v65 m c i : EReal) = vjp (fun k => grd (rD m c) (rE m c) (i 0) k * (rG m c (ix1 k) : EReal)) (row (rX m c) (rH m c) (i 0)) (i 1) := by
  rw [← grd_comm]
  unfold Value.res_main_v65
  idx_vars i
  pointwise
  rfl

end

/-- The reference's run: the gradient of a row by the derivative of each step, and the two sums over the rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = ((fun i => vjp (fun k => grd (rD m c) (rE m c) (i 0) k * (rG m c (ix1 k) : EReal)) (row (rX m c) (rH m c) (i 0)) (i 1)) : FVec Ideal S4096x1024 .f32)
      ∧ r.2.mem ((c.tc : Thread nD τ).loc main_v66) = (dgA (rD m c) (rE m c) (rX m c) (rH m c) : FVec Ideal S1x1024 .f32)
      ∧ r.2.mem ((c.tc : Thread nD τ).loc main_v67) = (dbA (rD m c) (rE m c) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext (dx_at m c)), (h c).2.1.trans ?_, (h c).2.2.1.trans ?_, (h c).2.2.2⟩) (Value.run m ρ)
  · funext i
    idx_vars i
    pointwise
    refine (Fin.sum_univ_one _).trans ?_
    unfold dgA
    rw [← grd_comm]
    exact Finset.sum_congr rfl fun k _ => mul_comm _ _
  · funext i
    idx_vars i
    pointwise
    unfold dbA
    rw [← grd_comm]
    exact Fin.sum_univ_one _
end Cert.LnMixBwdRefIdeal.Val

namespace Cert.Proof.LnMixBwdClaims
open Cert.Attn (real_of_abs_lt)
open Cert.LnMixBwdIdeal.Val (row grd dxA)

section
open Cert.Pre_finite_mix

theorem reals (d : FVec Ideal S4096x1024 .f32) (e : FVec Ideal S4096x1024 .f32) (x : FVec Ideal S4096x1024 .f32) (h : FVec Ideal S4096x1024 .f32) (g : FVec Ideal S1024 .f32) (hp : fn d e x h g = fun _ => 1#1) :
    (∀ i, d i = (((d i : EReal).toReal : ℝ) : EReal)) ∧ (∀ i, e i = (((e i : EReal).toReal : ℝ) : EReal)) ∧ (∀ i, x i = (((x i : EReal).toReal : ℝ) : EReal)) ∧ (∀ i, h i = (((h i : EReal).toReal : ℝ) : EReal)) ∧ (∀ i, g i = (((g i : EReal).toReal : ℝ) : EReal)) := by
  have h0 := congrFun hp (fun a => a.elim0)
  unfold fn fn_part1 at h0
  obtain ⟨h14, he⟩ := IntOp.andi_eq_one.1 h0
  obtain ⟨h13, hh⟩ := IntOp.andi_eq_one.1 h14
  obtain ⟨h12, hg⟩ := IntOp.andi_eq_one.1 h13
  obtain ⟨hd, hx⟩ := IntOp.andi_eq_one.1 h12
  exact ⟨fun i => real_of_abs_lt _ (Host.reduce_andi_all _ _ _ _ _ hd i),
    fun i => real_of_abs_lt _ (Host.reduce_andi_all _ _ _ _ _ he i),
    fun i => real_of_abs_lt _ (Host.reduce_andi_all _ _ _ _ _ hx i),
    fun i => real_of_abs_lt _ (Host.reduce_andi_all _ _ _ _ _ hh i),
    fun i => real_of_abs_lt _ (Host.reduce_andi_all _ _ _ _ _ hg i)⟩

/-- On real arguments the two forms of the rows' gradient agree. -/
theorem dx_eq (d : FVec Ideal S4096x1024 .f32) (e : FVec Ideal S4096x1024 .f32) (x : FVec Ideal S4096x1024 .f32) (h : FVec Ideal S4096x1024 .f32) (g : FVec Ideal S1024 .f32)
    (h0 : Cert.Pre_finite_mix.fn d e x h g = fun _ => 1#1) (i : Fin 4096) (j : Fin 1024) :
    vjp (fun k => grd d e i k * (g (ix1 k) : EReal)) (row x h i) j = dz (fun k => grd d e i k * (g (ix1 k) : EReal)) (row x h i) j := by
  obtain ⟨fd, fe, fx, fh, fg⟩ := reals d e x h g h0
  obtain ⟨α, hα⟩ := alpha_real
  have eD : ∀ k, grd d e i k = ((α * (d (ix2 i k) : EReal).toReal + (e (ix2 i k) : EReal).toReal : ℝ) : EReal) := fun k => (congrArg₂ (fun x y : EReal => (Ideal.ofBits .f32 0x3FB504F3#32 : EReal) * x + y) (fd _) (fe _)).trans (by rw [hα, ← EReal.coe_mul, ← EReal.coe_add])
  have eG : (fun k => grd d e i k * (g (ix1 k) : EReal)) = fun k => (((α * (d (ix2 i k) : EReal).toReal + (e (ix2 i k) : EReal).toReal) * (g (ix1 k) : EReal).toReal : ℝ) : EReal) :=
    funext fun k => (congrArg₂ (fun x y : EReal => x * y) (eD k) (fg _)).trans (EReal.coe_mul _ _).symm
  have eZ : row x h i = fun k => ((α * (h (ix2 i k) : EReal).toReal + (x (ix2 i k) : EReal).toReal : ℝ) : EReal) := funext fun k => (congrArg₂ (fun x y : EReal => (Ideal.ofBits .f32 0x3FB504F3#32 : EReal) * x + y) (fh _) (fx _)).trans (by rw [hα, ← EReal.coe_mul, ← EReal.coe_add])
  rw [eG, eZ]
  exact vjp_eq _ _ j
end

/-- The two programs have one text, and so one table of bodies. -/
theorem bodies_eq : Cert.LnMixBwd.defs₀ (F := Bits) = Cert.LnMixBwdIdeal.defs₀ := by
  refine congrArg Defs.onTc (funext fun l => funext fun a => ?_)
  obtain ⟨_ | n, h⟩ := l
  · rfl
  · exact absurd h (by omega)
theorem defs_eq : Cert.LnMixBwd.defs (F := Bits) = Cert.LnMixBwdIdeal.defs :=
  congrArg (Pipeline.defs Cert.LnMixBwdIdeal.pcfgs) bodies_eq

theorem frame_p : Cert.quiescent_LnMixBwd := fun m ρ _ => by
  rw [defs_eq]
  exact Cert.LnMixBwdIdeal.Gen.frame (F := Bits) m ρ
theorem frame_pi : Cert.quiescent_LnMixBwdIdeal := fun m ρ _ => Cert.LnMixBwdIdeal.Gen.frame m ρ
theorem frame_pi_finite : Cert.quiescent_LnMixBwdIdeal_pre_finite_mix := fun m ρ _ => Cert.LnMixBwdIdeal.Gen.frame m ρ
theorem frame_ri : Cert.quiescent_LnMixBwdRefIdeal := fun m ρ _ =>
  (θ_run Cert.LnMixBwdRefIdeal.defs _ _).mono (fun r h => ⟨fun c => (h c).2.2.2, sem_eq_zero_of_no_sems (by decide) r.2⟩) (Cert.LnMixBwdRefIdeal.Value.run m ρ)
theorem frame_ri_finite : Cert.quiescent_LnMixBwdRefIdeal_pre_finite_mix := fun m ρ _ => frame_ri m ρ trivial
theorem preserves : Cert.preserves_LnMixBwd_LnMixBwdIdeal := trivial

theorem algebraic : Cert.algebraic_LnMixBwdIdeal_LnMixBwdRefIdeal_pre_finite_mix := by
  intro m ρ m' ρ' hpre hagree
  refine ⟨_, _, _, (θ_run Cert.LnMixBwdIdeal.defs _ _).mono (fun r h c => ⟨(h c).1.trans (Cert.LnMixBwdIdeal.Val.final_dx m c),
      (h c).2.1.trans (Cert.LnMixBwdIdeal.Val.final_dg m c), (h c).2.2.1.trans (Cert.LnMixBwdIdeal.Val.final_db m c), (h c).2.2.2⟩)
      (Cert.LnMixBwdIdeal.Value.run_blocks m ρ), ?_⟩
  refine (θ_run Cert.LnMixBwdRefIdeal.defs _ _).mono (fun r h c => ?_) (Cert.LnMixBwdRefIdeal.Val.run m' ρ')
  obtain ⟨a0, a1, a2, a3, a4⟩ := hagree c
  obtain ⟨h0, h1, h2, hr⟩ := h c
  dsimp only [Cert.LnMixBwdRefIdeal.Val.rD, Cert.LnMixBwdRefIdeal.Val.rE, Cert.LnMixBwdRefIdeal.Val.rX, Cert.LnMixBwdRefIdeal.Val.rH, Cert.LnMixBwdRefIdeal.Val.rG] at h0 h1 h2
  rw [a0, a1, a2, a3, a4] at h0
  rw [a0, a1, a2, a3] at h1
  rw [a0, a1] at h2
  exact ⟨h0.trans (funext fun i => dx_eq _ _ _ _ _ (hpre c) (i 0) (i 1)), h1, h2, hr⟩

end Cert.Proof.LnMixBwdClaims
end
-- ==== Proof.LossClaims.lean ====
/- The loss of the last layer norm's rows, and its backward. -/
module
public import proofs.«01_k».proof.Defs
public import proofs.«01_k».proof.Proof.Norm
public import proofs.«01_k».proof.Proof.GqaFinite
public import proofs.«01_k».proof.Proof.Gen.Loss
public import proofs.«01_k».proof.Proof.Gen.LossIdeal
public import proofs.«01_k».proof.Proof.Gen.LossRefIdeal
public import proofs.«01_k».proof.Proof.Gen.LossIdeal.Value
public import proofs.«01_k».proof.Proof.Gen.LossRefIdeal.Run
public import proofs.«01_k».proof.Proof.Gen.Pre_finite_loss
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Norm
namespace Cert.LossIdeal.Val
open Cert.LossIdeal Cert.LossIdeal.Gen

theorem idx0 : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![0, 0] ∧ win0_8.index t = ![0, 0] :=
  (by decide +kernel : ∀ t : Fin grid0.N, _)

/-- The row that is normalised, the error of its norm, and the error's gradient. -/
def row (x h : Vec Ideal S4096x1024 .f32) (i : Fin 4096) (k : Fin 1024) : EReal := (Ideal.ofBits .f32 0x3FB504F3#32 : EReal) * (h (ix2 i k) : EReal) + (x (ix2 i k) : EReal)
def err (x h u : Vec Ideal S4096x1024 .f32) (g b : Vec Ideal S1024 .f32) (i : Fin 4096) (k : Fin 1024) : EReal :=
  hat (row x h i) k * (g (ix1 k) : EReal) + (b (ix1 k) : EReal) - (u (ix2 i k) : EReal)
def grd (x h u : Vec Ideal S4096x1024 .f32) (g b : Vec Ideal S1024 .f32) (i : Fin 4096) (k : Fin 1024) : EReal := err x h u g b i k * Ideal.ofBits .f32 0x3A800000#32

/-- The four results. -/
def dxA (x h u : Vec Ideal S4096x1024 .f32) (g b : Vec Ideal S1024 .f32) (i : S4096x1024.Idx) : EReal :=
  dz (fun k => grd x h u g b (i 0) k * (g (ix1 k) : EReal)) (row x h (i 0)) (i 1)
def dgA (x h u : Vec Ideal S4096x1024 .f32) (g b : Vec Ideal S1024 .f32) (i : S1x1024.Idx) : EReal := ∑ r : Fin 4096, grd x h u g b r (i 1) * hat (row x h r) (i 1)
def dbA (x h u : Vec Ideal S4096x1024 .f32) (g b : Vec Ideal S1024 .f32) (i : S1x1024.Idx) : EReal := ∑ r : Fin 4096, grd x h u g b r (i 1)
def lossA (x h u : Vec Ideal S4096x1024 .f32) (g b : Vec Ideal S1024 .f32) (_ : S1x128.Idx) : EReal :=
  ∑ s : Fin 8, (∑ k : Fin 1024, ∑ r : Fin 512, err x h u g b (tile s r) k * err x h u g b (tile s r) k) * Ideal.ofBits .f32 0x3A000000#32

section
variable (m : (ℓ : Loc nD τ sig) → Buf (Elt Ideal) ℓ) (c : Dev nD)

/-- The arguments, as the arrays hold them. -/
abbrev aX : Vec Ideal S4096x1024 .f32 := m ((c : Thread nD τ).loc main_arg0)
abbrev aH : Vec Ideal S4096x1024 .f32 := m ((c : Thread nD τ).loc main_arg1)
abbrev aU : Vec Ideal S4096x1024 .f32 := m ((c : Thread nD τ).loc main_arg2)
abbrev aG : Vec Ideal S1024 .f32 := m ((c : Thread nD τ).loc main_arg3)
abbrev aB : Vec Ideal S1024 .f32 := m ((c : Thread nD τ).loc main_arg4)

/-- The blocks that a point reads. -/
def xB (t : Fin cfg0.N) : Vec Ideal S512x1024 .f32 := iblk m c 0 t
def hB (t : Fin cfg0.N) : Vec Ideal S512x1024 .f32 := iblk m c 1 t
def uB (t : Fin cfg0.N) : Vec Ideal S512x1024 .f32 := iblk m c 2 t
def gB (t : Fin cfg0.N) : Vec Ideal S1x1024 .f32 := iblk m c 3 t
def bB (t : Fin cfg0.N) : Vec Ideal S1x1024 .f32 := iblk m c 4 t

theorem g_at (k : Fin 1024) : (V m c main_v0 : Vec Ideal S1x1024 .f32) (ix2 0 k) = aG m c (ix1 k) := by
  show StableHlo.after hostOps0 _ _ _ = _
  after_results
  pointwise

theorem b_at (k : Fin 1024) : (V m c main_v1 : Vec Ideal S1x1024 .f32) (ix2 0 k) = aB m c (ix1 k) := by
  show StableHlo.after hostOps0 _ _ _ = _
  after_results
  pointwise

theorem xB_at (t : Fin cfg0.N) (i : Fin 512) (k : Fin 1024) (a : Fin 4096) (ha : a.val = t.val * 512 + i.val) :
    xB m c t (ix2 i k) = aX m c (ix2 a k) := by
  obtain ⟨a, _⟩ := a
  obtain rfl := ha
  dsimp only [xB, aX]
  blk_point [iblk, idx0 t]

theorem hB_at (t : Fin cfg0.N) (i : Fin 512) (k : Fin 1024) (a : Fin 4096) (ha : a.val = t.val * 512 + i.val) :
    hB m c t (ix2 i k) = aH m c (ix2 a k) := by
  obtain ⟨a, _⟩ := a
  obtain rfl := ha
  dsimp only [hB, aH]
  blk_point [iblk, idx0 t]

theorem uB_at (t : Fin cfg0.N) (i : Fin 512) (k : Fin 1024) (a : Fin 4096) (ha : a.val = t.val * 512 + i.val) :
    uB m c t (ix2 i k) = aU m c (ix2 a k) := by
  obtain ⟨a, _⟩ := a
  obtain rfl := ha
  dsimp only [uB, aU]
  blk_point [iblk, idx0 t]

theorem gB_at (t : Fin cfg0.N) (k : Fin 1024) : gB m c t (ix2 0 k) = aG m c (ix1 k) := by
  rw [← g_at]
  dsimp only [gB]
  blk_point [iblk, idx0 t]

theorem bB_at (t : Fin cfg0.N) (k : Fin 1024) : bB m c t (ix2 0 k) = aB m c (ix1 k) := by
  rw [← b_at]
  dsimp only [bB]
  blk_point [iblk, idx0 t]

/-- A block's rows and errors, and what a point adds to the sums. -/
def bRow (t : Fin cfg0.N) (i : Fin 512) (k : Fin 1024) : EReal := (Ideal.ofBits .f32 0x3FB504F3#32 : EReal) * (hB m c t (ix2 i k) : EReal) + (xB m c t (ix2 i k) : EReal)
def bErr (t : Fin cfg0.N) (i : Fin 512) (k : Fin 1024) : EReal :=
  hat (bRow m c t i) k * (gB m c t (ix2 0 k) : EReal) + (bB m c t (ix2 0 k) : EReal) - (uB m c t (ix2 i k) : EReal)
def bGrd (t : Fin cfg0.N) (i : Fin 512) (k : Fin 1024) : EReal := bErr m c t i k * Ideal.ofBits .f32 0x3A800000#32
def partG (t : Fin cfg0.N) (y : S1x1024.Idx) : EReal := ∑ r : Fin 512, bGrd m c t r (y 1) * hat (bRow m c t r) (y 1)
def partB (t : Fin cfg0.N) (y : S1x1024.Idx) : EReal := ∑ r : Fin 512, bGrd m c t r (y 1)
def partL (t : Fin cfg0.N) (_ : S1x128.Idx) : EReal := (∑ k : Fin 1024, ∑ r : Fin 512, bErr m c t r k * bErr m c t r k) * Ideal.ofBits .f32 0x3A000000#32

theorem bRow_at (t : Fin cfg0.N) (i : Fin 512) (k : Fin 1024) (a : Fin 4096) (ha : a.val = t.val * 512 + i.val) :
    bRow m c t i k = row (aX m c) (aH m c) a k :=
  congrArg₂ (fun x y : EReal => (Ideal.ofBits .f32 0x3FB504F3#32 : EReal) * x + y) (hB_at m c t i k a ha) (xB_at m c t i k a ha)
theorem bErr_at (t : Fin cfg0.N) (i : Fin 512) (k : Fin 1024) (a : Fin 4096) (ha : a.val = t.val * 512 + i.val) :
    bErr m c t i k = err (aX m c) (aH m c) (aU m c) (aG m c) (aB m c) a k :=
  congrArg₂ (fun x y : EReal => x - y) (congrArg₂ (fun x y : EReal => x + y)
    (congrArg₂ (fun x y : EReal => x * y) (congrArg (fun z => hat z k) (funext fun j => bRow_at m c t i j a ha)) (gB_at m c t k)) (bB_at m c t k))
    (uB_at m c t i k a ha)
theorem bGrd_at (t : Fin cfg0.N) (i : Fin 512) (k : Fin 1024) (a : Fin 4096) (ha : a.val = t.val * 512 + i.val) :
    bGrd m c t i k = grd (aX m c) (aH m c) (aU m c) (aG m c) (aB m c) a k := congrArg (fun x : EReal => x * _) (bErr_at m c t i k a ha)

theorem dx_at (t : Fin cfg0.N) (y : S512x1024.Idx) :
    ((outsAt0 m c t.val t.isLt).1 y : EReal)
      = dz (fun k => bGrd m c t (y 0) k * (gB m c t (ix2 0 k) : EReal)) (bRow m c t (y 0)) (y 1) := by
  have H : ∀ y : S512x1024.Idx, (k0_pay13 (F := Ideal) (iblk m c 2 t) (k0_pay7 (iblk m c 0 t) (iblk m c 1 t)) (k0_pay8 (iblk m c 0 t) (iblk m c 1 t)) (iblk m c 3 t) (iblk m c 4 t) (iblk m c 3 t) y : EReal)
      = dz (fun k => bGrd m c t (y 0) k * (gB m c t (ix2 0 k) : EReal)) (bRow m c t (y 0)) (y 1) := fun y => by
    idx_vars y
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  by_cases h : t.val % 8 = 0
  · rw [outsAt0_A m c t h h h]; frame_out
    exact H y
  · rw [outsAt0_B m c t h h h]; frame_out
    exact H y

theorem dg_next (t : Fin cfg0.N) (a : Vec Ideal S1x1024 .f32) (y : S1x1024.Idx) :
    (k0_pay1 (F := Ideal) (k0_pay14 (iblk m c 2 t) (k0_pay7 (iblk m c 0 t) (iblk m c 1 t)) (k0_pay8 (iblk m c 0 t) (iblk m c 1 t)) (iblk m c 3 t) (iblk m c 4 t)) (k0_pay16 a) y : EReal) = (a y : EReal) + partG m c t y := by
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem db_next (t : Fin cfg0.N) (a : Vec Ideal S1x1024 .f32) (y : S1x1024.Idx) :
    (k0_pay2 (F := Ideal) (k0_pay15 (iblk m c 2 t) (k0_pay7 (iblk m c 0 t) (iblk m c 1 t)) (k0_pay8 (iblk m c 0 t) (iblk m c 1 t)) (iblk m c 3 t) (iblk m c 4 t)) a y : EReal) = (a y : EReal) + partB m c t y := by
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem loss_next (t : Fin cfg0.N) (a : Vec Ideal S1x128 .f32) (y : S1x128.Idx) :
    (k0_pay3 (F := Ideal) (k0_pay11 (iblk m c 2 t) (k0_pay7 (iblk m c 0 t) (iblk m c 1 t)) (k0_pay8 (iblk m c 0 t) (iblk m c 1 t)) (iblk m c 3 t) (iblk m c 4 t)) a y : EReal) = (a y : EReal) + partL m c t y := by
  idx_vars y
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem zero_dg (y : S1x1024.Idx) : (k0_pay4 (F := Ideal) y : EReal) = 0 := by
  pointwise [k0_pay4]

theorem dg_acc (t : Fin cfg0.N) (h : t.val % 8 = 7) (y : S1x1024.Idx) :
    ((outsAt0 m c t.val t.isLt).2.1 y : EReal)
      = ∑ s : Fin 8, partG m c ⟨8 * (t.val / 8) + s.val, Pipeline.run_point_lt_of_flush t h s⟩ y := by
  rw [Pipeline.eq_sum_fin_of_reset_step_apply_of_flush (fun n h => (outsAt0 m c n h).2.1) 8 (fun _ => (0 : EReal)) (partG m c)
    (fun t h y => by
      rw [outsAt0_A m c t h h h]; frame_out
      exact (dg_next m c t (k0_pay4 (F := Ideal)) y).trans (by rw [zero_dg]))
    (fun t h y => by
      rw [outsAt0_B m c t h h h]; frame_out
      exact dg_next m c t _ y)
    t h y, zero_add]

theorem zero_db (y : S1x1024.Idx) : (k0_pay5 (F := Ideal) y : EReal) = 0 := by
  pointwise [k0_pay5]

theorem db_acc (t : Fin cfg0.N) (h : t.val % 8 = 7) (y : S1x1024.Idx) :
    ((outsAt0 m c t.val t.isLt).2.2.1 y : EReal)
      = ∑ s : Fin 8, partB m c ⟨8 * (t.val / 8) + s.val, Pipeline.run_point_lt_of_flush t h s⟩ y := by
  rw [Pipeline.eq_sum_fin_of_reset_step_apply_of_flush (fun n h => (outsAt0 m c n h).2.2.1) 8 (fun _ => (0 : EReal)) (partB m c)
    (fun t h y => by
      rw [outsAt0_A m c t h h h]; frame_out
      exact (db_next m c t (k0_pay5 (F := Ideal)) y).trans (by rw [zero_db]))
    (fun t h y => by
      rw [outsAt0_B m c t h h h]; frame_out
      exact db_next m c t _ y)
    t h y, zero_add]

theorem zero_loss (y : S1x128.Idx) : (k0_pay6 (F := Ideal) y : EReal) = 0 := by
  pointwise [k0_pay6]

theorem loss_acc (t : Fin cfg0.N) (h : t.val % 8 = 7) (y : S1x128.Idx) :
    ((outsAt0 m c t.val t.isLt).2.2.2 y : EReal)
      = ∑ s : Fin 8, partL m c ⟨8 * (t.val / 8) + s.val, Pipeline.run_point_lt_of_flush t h s⟩ y := by
  rw [Pipeline.eq_sum_fin_of_reset_step_apply_of_flush (fun n h => (outsAt0 m c n h).2.2.2) 8 (fun _ => (0 : EReal)) (partL m c)
    (fun t h y => by
      rw [outsAt0_A m c t h h h]; frame_out
      exact (loss_next m c t (k0_pay6 (F := Ideal)) y).trans (by rw [zero_loss]))
    (fun t h y => by
      rw [outsAt0_B m c t h h h]; frame_out
      exact loss_next m c t _ y)
    t h y, zero_add]

theorem final_dx : (dats m 0 c).arrAt 5 cfg0.N = dxA (aX m c) (aH m c) (aU m c) (aG m c) (aB m c) := by
  refine (dats m 0 c).arrAt_eq_of_covers 5 _ (by decide +kernel) fun t hf y => ?_
  blk_simp
  rw [after0_5]
  idx_vars y
  suffices H : ∀ (a : Fin 4096) (b : Fin 1024), a.val = t.val * 512 + y0.val → b.val = y1.val →
      (outsAt0 m c t.val t.isLt).1 (ix2 y0 y1) = dxA (aX m c) (aH m c) (aU m c) (aG m c) (aB m c) (ix2 a b) from
    H _ _ (by blk_simp [idx0 t] <;> try omega) (by blk_simp [idx0 t] <;> try omega)
  intro a b ha hb
  obtain rfl : b = y1 := Fin.ext hb
  refine (dx_at m c t _).trans ?_
  exact congrArg₂ (fun d z => dz d z b)
    (funext fun k => congrArg₂ (fun x y : EReal => x * y) (bGrd_at m c t y0 k a ha) (gB_at m c t k))
    (funext fun k => bRow_at m c t y0 k a ha)

theorem final_dg : (dats m 0 c).arrAt 6 cfg0.N = dgA (aX m c) (aH m c) (aU m c) (aG m c) (aB m c) := by
  refine (dats m 0 c).arrAt_eq_of_covers 6 _ (by decide +kernel) fun t hf y => ?_
  have h7 := (flush0_6 t).mp hf
  blk_simp
  rw [after0_6]
  idx_vars y
  suffices H : ∀ i : S1x1024.Idx, (i 1).val = y1.val → (outsAt0 m c t.val t.isLt).2.1 (ix2 y0 y1) = dgA (aX m c) (aH m c) (aU m c) (aG m c) (aB m c) i from
    H _ (by blk_simp [idx0 t] <;> try omega)
  intro i hb
  obtain hb : i 1 = y1 := Fin.ext hb
  refine (dg_acc m c t h7 _).trans ?_
  unfold dgA
  rw [hb]
  have h0 : t.val / 8 = 0 := by have := t.isLt; have : cfg0.N = 8 := by decide +kernel
                                omega
  refine Fin.sum_mul_add_congr fun s r hlt => ?_
  have e : (⟨s.val * 512 + r.val, hlt⟩ : Fin 4096).val = (8 * (t.val / 8) + s.val) * 512 + r.val := by show s.val * 512 + r.val = _; omega
  exact congrArg₂ (fun x y : EReal => x * y) (bGrd_at m c _ r y1 _ e)
    (congrArg (fun z => hat z y1) (funext fun k => bRow_at m c _ r k _ e))

theorem final_db : (dats m 0 c).arrAt 7 cfg0.N = dbA (aX m c) (aH m c) (aU m c) (aG m c) (aB m c) := by
  refine (dats m 0 c).arrAt_eq_of_covers 7 _ (by decide +kernel) fun t hf y => ?_
  have h7 := (flush0_7 t).mp hf
  blk_simp
  rw [after0_7]
  idx_vars y
  suffices H : ∀ i : S1x1024.Idx, (i 1).val = y1.val → (outsAt0 m c t.val t.isLt).2.2.1 (ix2 y0 y1) = dbA (aX m c) (aH m c) (aU m c) (aG m c) (aB m c) i from
    H _ (by blk_simp [idx0 t] <;> try omega)
  intro i hb
  obtain hb : i 1 = y1 := Fin.ext hb
  refine (db_acc m c t h7 _).trans ?_
  unfold dbA
  rw [hb]
  have h0 : t.val / 8 = 0 := by have := t.isLt; have : cfg0.N = 8 := by decide +kernel
                                omega
  refine Fin.sum_mul_add_congr fun s r hlt => ?_
  have e : (⟨s.val * 512 + r.val, hlt⟩ : Fin 4096).val = (8 * (t.val / 8) + s.val) * 512 + r.val := by show s.val * 512 + r.val = _; omega
  exact bGrd_at m c _ r y1 _ e

theorem final_loss : (dats m 0 c).arrAt 8 cfg0.N = lossA (aX m c) (aH m c) (aU m c) (aG m c) (aB m c) := by
  refine (dats m 0 c).arrAt_eq_of_covers 8 _ (by decide +kernel) fun t hf y => ?_
  have h7 := (flush0_8 t).mp hf
  blk_simp
  rw [after0_8]
  idx_vars y
  refine (loss_acc m c t h7 _).trans ?_
  have h0 : t.val / 8 = 0 := by have := t.isLt; have : cfg0.N = 8 := by decide +kernel
                                omega
  refine Finset.sum_congr rfl fun s _ => congrArg (fun x : EReal => x * _) ?_
  refine Finset.sum_congr rfl fun k _ => Finset.sum_congr rfl fun r _ => ?_
  have e : (tile s r).val = (8 * (t.val / 8) + s.val) * 512 + r.val := by show s.val * 512 + r.val = _; omega
  exact congrArg₂ (fun x y : EReal => x * y) (bErr_at m c _ r k _ e) (bErr_at m c _ r k _ e)

end
end Cert.LossIdeal.Val

namespace Cert.LossRefIdeal.Val
open Cert.LossRefIdeal Cert.LossRefIdeal.Gen
open Cert.LossIdeal.Val (row err grd dxA dgA dbA lossA)

/-- The error's gradient by the derivative of each step. -/
def rgrd (x h u : Vec Ideal S4096x1024 .f32) (g b : Vec Ideal S1024 .f32) (i : Fin 4096) (k : Fin 1024) : EReal :=
  Ideal.div (Ideal.ofBits .f32 0x3F000000#32) (Ideal.ofBits .f32 0x44800000#32)
    * (Ideal.ofBits .f32 0x40000000#32 * err x h u g b i k)
theorem rgrd_eq (x h u : Vec Ideal S4096x1024 .f32) (g b : Vec Ideal S1024 .f32) : rgrd x h u g b = grd x h u g b := funext fun i => funext fun k => grad_scale _
/-- The loss as one sum over the rows. -/
def total (x h u : Vec Ideal S4096x1024 .f32) (g b : Vec Ideal S1024 .f32) : EReal :=
  Ideal.ofBits .f32 0x3F000000#32 * ∑ i : Fin 4096, Ideal.div (∑ k : Fin 1024, err x h u g b i k * err x h u g b i k) (Ideal.ofBits .f32 0x44800000#32)

section
variable (m : (ℓ : Loc nD τ sig) → Buf (Elt Ideal) ℓ) (c : Dev nD)

/-- The reference's arguments. -/
abbrev rX : Vec Ideal S4096x1024 .f32 := m ((c.tc : Thread nD τ).loc main_arg0)
abbrev rH : Vec Ideal S4096x1024 .f32 := m ((c.tc : Thread nD τ).loc main_arg1)
abbrev rU : Vec Ideal S4096x1024 .f32 := m ((c.tc : Thread nD τ).loc main_arg2)
abbrev rG : Vec Ideal S1024 .f32 := m ((c.tc : Thread nD τ).loc main_arg3)
abbrev rB : Vec Ideal S1024 .f32 := m ((c.tc : Thread nD τ).loc main_arg4)

theorem dx_at (i : S4096x1024.Idx) :
    (Value.res_main_v73 m c i : EReal) = vjp (fun k => grd (rX m c) (rH m c) (rU m c) (rG m c) (rB m c) (i 0) k * (rG m c (ix1 k) : EReal)) (row (rX m c) (rH m c) (i 0)) (i 1) := by
  rw [← rgrd_eq]
  unfold Value.res_main_v73
  idx_vars i
  pointwise
  rfl

theorem dg_at (i : S1x1024.Idx) : (Value.res_main_v74 m c i : EReal) = dgA (rX m c) (rH m c) (rU m c) (rG m c) (rB m c) i := by
  unfold Value.res_main_v74 dgA
  rw [← rgrd_eq]
  idx_vars i
  pointwise
  refine (Fin.sum_univ_one (M := EReal) _).trans ?_
  exact Finset.sum_congr rfl fun k _ => mul_comm (_ : EReal) _

end

/-- The reference's run: the gradient of a row by the derivative of each step, and the two sums over the rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73) = ((fun i => vjp (fun k => grd (rX m c) (rH m c) (rU m c) (rG m c) (rB m c) (i 0) k * (rG m c (ix1 k) : EReal)) (row (rX m c) (rH m c) (i 0)) (i 1)) : FVec Ideal S4096x1024 .f32)
      ∧ r.2.mem ((c.tc : Thread nD τ).loc main_v74) = (dgA (rX m c) (rH m c) (rU m c) (rG m c) (rB m c) : FVec Ideal S1x1024 .f32)
      ∧ r.2.mem ((c.tc : Thread nD τ).loc main_v75) = (dbA (rX m c) (rH m c) (rU m c) (rG m c) (rB m c) : FVec Ideal S1x1024 .f32)
      ∧ r.2.mem ((c.tc : Thread nD τ).loc main_v76) = ((fun _ => total (rX m c) (rH m c) (rU m c) (rG m c) (rB m c)) : FVec Ideal S1x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext (dx_at m c)), (h c).2.1.trans (funext (dg_at m c)), (h c).2.2.1.trans ?_, (h c).2.2.2.1.trans ?_, (h c).2.2.2.2⟩) (Value.run m ρ)
  · funext i
    idx_vars i
    pointwise
    unfold dbA
    rw [← rgrd_eq]
    exact Fin.sum_univ_one _
  · unfold Value.res_main_v76
    funext i
    idx_vars i
    pointwise
    rfl
end Cert.LossRefIdeal.Val

namespace Cert.Proof.LossClaims
open Cert.Attn (real_of_abs_lt)
open Cert.LossIdeal.Val (row err grd dxA lossA)
open Cert.LossRefIdeal.Val (total)

section
open Cert.Pre_finite_loss

theorem reals (x h u : FVec Ideal S4096x1024 .f32) (g b : FVec Ideal S1024 .f32) (hp : fn x h u g b = fun _ => 1#1) :
    (∀ i, x i = (((x i : EReal).toReal : ℝ) : EReal)) ∧ (∀ i, h i = (((h i : EReal).toReal : ℝ) : EReal)) ∧ (∀ i, u i = (((u i : EReal).toReal : ℝ) : EReal)) ∧ (∀ i, g i = (((g i : EReal).toReal : ℝ) : EReal)) ∧ (∀ i, b i = (((b i : EReal).toReal : ℝ) : EReal)) := by
  have h0 := congrFun hp (fun a => a.elim0)
  unfold fn fn_part1 at h0
  obtain ⟨h1, hb⟩ := IntOp.andi_eq_one.1 h0
  obtain ⟨h2, hh⟩ := IntOp.andi_eq_one.1 h1
  obtain ⟨h3, hg⟩ := IntOp.andi_eq_one.1 h2
  obtain ⟨hu, hx⟩ := IntOp.andi_eq_one.1 h3
  exact ⟨fun i => real_of_abs_lt _ (Host.reduce_andi_all _ _ _ _ _ hx i),
    fun i => real_of_abs_lt _ (Host.reduce_andi_all _ _ _ _ _ hh i),
    fun i => real_of_abs_lt _ (Host.reduce_andi_all _ _ _ _ _ hu i),
    fun i => real_of_abs_lt _ (Host.reduce_andi_all _ _ _ _ _ hg i),
    fun i => real_of_abs_lt _ (Host.reduce_andi_all _ _ _ _ _ hb i)⟩

/-- The rows and the errors of real arguments are real. -/
theorem row_real (x h u : FVec Ideal S4096x1024 .f32) (g b : FVec Ideal S1024 .f32) (h0 : fn x h u g b = fun _ => 1#1) (i : Fin 4096) :
    ∃ Z : Fin 1024 → ℝ, row x h i = fun k => (Z k : EReal) := by
  obtain ⟨fx, fh, fu, fg, fb⟩ := reals x h u g b h0
  obtain ⟨α, hα⟩ := alpha_real
  exact ⟨fun k => α * (h (ix2 i k) : EReal).toReal + (x (ix2 i k) : EReal).toReal, funext fun k => (congrArg₂ (fun x y : EReal => (Ideal.ofBits .f32 0x3FB504F3#32 : EReal) * x + y) (fh _) (fx _)).trans (by rw [hα, ← EReal.coe_mul, ← EReal.coe_add])⟩
theorem err_real (x h u : FVec Ideal S4096x1024 .f32) (g b : FVec Ideal S1024 .f32) (h0 : fn x h u g b = fun _ => 1#1) (i : Fin 4096) (k : Fin 1024) :
    ∃ e : ℝ, err x h u g b i k = (e : EReal) := by
  obtain ⟨fx, fh, fu, fg, fb⟩ := reals x h u g b h0
  obtain ⟨Z, hZ⟩ := row_real x h u g b h0 i
  obtain ⟨R, v, _, _, _, hr⟩ := rs_real Z
  refine ⟨rc Z k * R * (g (ix1 k) : EReal).toReal + (b (ix1 k) : EReal).toReal - (u (ix2 i k) : EReal).toReal, ?_⟩
  have e1 : hat (row x h i) k = ((rc Z k * R : ℝ) : EReal) := by
    unfold hat
    rw [hZ, cen_real, hr, ← EReal.coe_mul]
  refine (congrArg₂ (fun x y : EReal => x - y) (congrArg₂ (fun x y : EReal => x + y) (congrArg₂ (fun x y : EReal => x * y) e1 (fg _)) (fb _)) (fu _)).trans ?_
  simp only [← EReal.coe_mul, ← EReal.coe_add, ← EReal.coe_sub]

/-- On real arguments the two forms of the rows' gradient agree. -/
theorem dx_eq (x h u : FVec Ideal S4096x1024 .f32) (g b : FVec Ideal S1024 .f32) (h0 : fn x h u g b = fun _ => 1#1) (i : Fin 4096) (j : Fin 1024) :
    vjp (fun k => grd x h u g b i k * (g (ix1 k) : EReal)) (row x h i) j = dz (fun k => grd x h u g b i k * (g (ix1 k) : EReal)) (row x h i) j := by
  obtain ⟨fx, fh, fu, fg, fb⟩ := reals x h u g b h0
  obtain ⟨Z, hZ⟩ := row_real x h u g b h0 i
  choose e he using err_real x h u g b h0 i
  have eG : (fun k => grd x h u g b i k * (g (ix1 k) : EReal)) = fun k => ((e k * (1 / 1024) * (g (ix1 k) : EReal).toReal : ℝ) : EReal) :=
    funext fun k => (congrArg₂ (fun x y : EReal => x * _ * y) (he k) (fg _)).trans (by rw [inv_width, ← EReal.coe_mul, ← EReal.coe_mul])
  rw [eG, hZ]
  exact vjp_eq _ _ j

/-- On real arguments the two forms of the loss agree. -/
theorem loss_eq (x h u : FVec Ideal S4096x1024 .f32) (g b : FVec Ideal S1024 .f32) (h0 : fn x h u g b = fun _ => 1#1) (i : Cert.LossIdeal.S1x128.Idx) : total x h u g b = lossA x h u g b i := by
  choose e he using err_real x h u g b h0
  unfold total lossA
  simp only [he]
  exact Cert.Norm.loss_eq e
end

/-- The two programs have one text, and so one table of bodies. -/
theorem bodies_eq : Cert.Loss.defs₀ (F := Bits) = Cert.LossIdeal.defs₀ := by
  refine congrArg Defs.onTc (funext fun l => funext fun a => ?_)
  obtain ⟨_ | n, h⟩ := l
  · rfl
  · exact absurd h (by omega)
theorem defs_eq : Cert.Loss.defs (F := Bits) = Cert.LossIdeal.defs :=
  congrArg (Pipeline.defs Cert.LossIdeal.pcfgs) bodies_eq

theorem frame_p : Cert.quiescent_Loss := fun m ρ _ => by
  rw [defs_eq]
  exact Cert.LossIdeal.Gen.frame (F := Bits) m ρ
theorem frame_pi : Cert.quiescent_LossIdeal := fun m ρ _ => Cert.LossIdeal.Gen.frame m ρ
theorem frame_pi_finite : Cert.quiescent_LossIdeal_pre_finite_loss := fun m ρ _ => Cert.LossIdeal.Gen.frame m ρ
theorem frame_ri : Cert.quiescent_LossRefIdeal := fun m ρ _ =>
  (θ_run Cert.LossRefIdeal.defs _ _).mono (fun r h => ⟨fun c => (h c).2.2.2.2, sem_eq_zero_of_no_sems (by decide) r.2⟩) (Cert.LossRefIdeal.Value.run m ρ)
theorem frame_ri_finite : Cert.quiescent_LossRefIdeal_pre_finite_loss := fun m ρ _ => frame_ri m ρ trivial
theorem preserves : Cert.preserves_Loss_LossIdeal := trivial

theorem algebraic : Cert.algebraic_LossIdeal_LossRefIdeal_pre_finite_loss := by
  intro m ρ m' ρ' hpre hagree
  refine ⟨_, _, _, _, (θ_run Cert.LossIdeal.defs _ _).mono (fun r h c => ⟨(h c).1.trans (Cert.LossIdeal.Val.final_dx m c),
      (h c).2.1.trans (Cert.LossIdeal.Val.final_dg m c), (h c).2.2.1.trans (Cert.LossIdeal.Val.final_db m c),
      (h c).2.2.2.1.trans (Cert.LossIdeal.Val.final_loss m c), (h c).2.2.2.2⟩)
      (Cert.LossIdeal.Value.run_blocks m ρ), ?_⟩
  refine (θ_run Cert.LossRefIdeal.defs _ _).mono (fun r h c => ?_) (Cert.LossRefIdeal.Val.run m' ρ')
  obtain ⟨a0, a1, a2, a3, a4⟩ := hagree c
  obtain ⟨h0, h1, h2, h3, hr⟩ := h c
  dsimp only [Cert.LossRefIdeal.Val.rX, Cert.LossRefIdeal.Val.rH, Cert.LossRefIdeal.Val.rU, Cert.LossRefIdeal.Val.rG, Cert.LossRefIdeal.Val.rB] at h0 h1 h2 h3
  rw [a0, a1, a2, a3, a4] at h0 h1 h2 h3
  exact ⟨h0.trans (funext fun i => dx_eq _ _ _ _ _ (hpre c) (i 0) (i 1)), h1, h2, h3.trans (funext fun i => loss_eq _ _ _ _ _ (hpre c) i), hr⟩

end Cert.Proof.LossClaims
end
-- ==== Proof.Adam.lean ====
/- The optimiser's step of one entry. -/
module
public import Idealize.ShloMosaic.PureOps
public import Idealize.ShloMosaic.PureOps.Ideal
@[expose] public section
noncomputable section
open Idealize.ShloMosaic
namespace Cert.Adam

/-- The two moments after the step, and the weight's change. -/
def mom (g m : EReal) : EReal := Ideal.ofBits .f32 0x3F666666#32 * m + Ideal.ofBits .f32 0x3DCCCCCD#32 * g
def var (g v : EReal) : EReal := Ideal.ofBits .f32 0x3F7FBE77#32 * v + Ideal.ofBits .f32 0x3A83126F#32 * (g * g)
def step (g w m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32) + Ideal.ofBits .f32 0x3C23D70A#32 * w)

end Cert.Adam
end
-- ==== Proof.AdamInClaims.lean ====
/- The optimiser's step of one weight, a layer at a time. -/
module
public import proofs.«01_k».proof.Defs
public import proofs.«01_k».proof.Proof.Adam
public import proofs.«01_k».proof.Proof.Gen.AdamIn
public import proofs.«01_k».proof.Proof.Gen.AdamInIdeal
public import proofs.«01_k».proof.Proof.Gen.AdamInRefIdeal
public import proofs.«01_k».proof.Proof.Gen.AdamInIdeal.Value
public import proofs.«01_k».proof.Proof.Gen.AdamInRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Adam
namespace Cert.AdamInIdeal.Val
open Cert.AdamInIdeal Cert.AdamInIdeal.Gen

theorem idx0 : ∀ t : Fin cfg0.N, win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] :=
  (by decide +kernel : ∀ t : Fin grid0.N, _)
theorem idxA : ∀ t : Fin cfg0.N, t.val < 1 → win0_0.index t = ![0, t.val, 0] :=
  (by decide +kernel : ∀ t : Fin grid0.N, _)
theorem idxB : ∀ t : Fin cfg0.N, 1 ≤ t.val → win0_1.index t = ![0, t.val - 1, 0] :=
  (by decide +kernel : ∀ t : Fin grid0.N, _)
theorem npoints : cfg0.N = 2 := by decide +kernel

/-- The gradients of the two layers as one array. -/
def grad (g0 g1 : Vec Ideal S1x1024x472 .f32) (i : S2x1024x472.Idx) : EReal :=
  if (i 0).val = 0 then (g0 (ix3 0 (i 1) (i 2)) : EReal) else (g1 (ix3 0 (i 1) (i 2)) : EReal)

/-- The changes and the moments. -/
def dA (g0 g1 : Vec Ideal S1x1024x472 .f32) (w m v : Vec Ideal S2x1024x472 .f32) (i : S2x1024x472.Idx) : EReal := step (grad g0 g1 i) (w i) (m i) (v i)
def mA (g0 g1 : Vec Ideal S1x1024x472 .f32) (m : Vec Ideal S2x1024x472 .f32) (i : S2x1024x472.Idx) : EReal := mom (grad g0 g1 i) (m i)
def vA (g0 g1 : Vec Ideal S1x1024x472 .f32) (v : Vec Ideal S2x1024x472 .f32) (i : S2x1024x472.Idx) : EReal := var (grad g0 g1 i) (v i)

section
variable (m : (ℓ : Loc nD τ sig) → Buf (Elt Ideal) ℓ) (c : Dev nD)

/-- The arguments, as the arrays hold them. -/
abbrev aG0 : Vec Ideal S1x1024x472 .f32 := m ((c : Thread nD τ).loc main_arg0)
abbrev aG1 : Vec Ideal S1x1024x472 .f32 := m ((c : Thread nD τ).loc main_arg1)
abbrev aW : Vec Ideal S2x1024x472 .f32 := m ((c : Thread nD τ).loc main_arg2)
abbrev aM : Vec Ideal S2x1024x472 .f32 := m ((c : Thread nD τ).loc main_arg3)
abbrev aV : Vec Ideal S2x1024x472 .f32 := m ((c : Thread nD τ).loc main_arg4)

/-- The blocks that a point reads, and the one of the two gradients that it uses. -/
def g0B (t : Fin cfg0.N) : Vec Ideal S1x1024x472 .f32 := iblk m c 0 t
def g1B (t : Fin cfg0.N) : Vec Ideal S1x1024x472 .f32 := iblk m c 1 t
def wB (t : Fin cfg0.N) : Vec Ideal S1x1024x472 .f32 := iblk m c 2 t
def mB (t : Fin cfg0.N) : Vec Ideal S1x1024x472 .f32 := iblk m c 3 t
def vB (t : Fin cfg0.N) : Vec Ideal S1x1024x472 .f32 := iblk m c 4 t
def gB (t : Fin cfg0.N) (y : S1x1024x472.Idx) : EReal := if t.val < 1 then (g0B m c t y : EReal) else (g1B m c t y : EReal)

theorem wB_at (t : Fin cfg0.N) (y : Fin 1024) (k : Fin 472) (l : Fin 2) (a : Fin 1024) (hl : l.val = t.val / 1) (ha : a.val = t.val % 1 * 1024 + y.val) :
    wB m c t (ix3 0 y k) = aW m c (ix3 l a k) := by
  obtain ⟨l, _⟩ := l
  obtain ⟨a, _⟩ := a
  obtain rfl := hl
  obtain rfl := ha
  dsimp only [wB, aW]
  blk_point [iblk, idx0 t]

theorem mB_at (t : Fin cfg0.N) (y : Fin 1024) (k : Fin 472) (l : Fin 2) (a : Fin 1024) (hl : l.val = t.val / 1) (ha : a.val = t.val % 1 * 1024 + y.val) :
    mB m c t (ix3 0 y k) = aM m c (ix3 l a k) := by
  obtain ⟨l, _⟩ := l
  obtain ⟨a, _⟩ := a
  obtain rfl := hl
  obtain rfl := ha
  dsimp only [mB, aM]
  blk_point [iblk, idx0 t]

theorem vB_at (t : Fin cfg0.N) (y : Fin 1024) (k : Fin 472) (l : Fin 2) (a : Fin 1024) (hl : l.val = t.val / 1) (ha : a.val = t.val % 1 * 1024 + y.val) :
    vB m c t (ix3 0 y k) = aV m c (ix3 l a k) := by
  obtain ⟨l, _⟩ := l
  obtain ⟨a, _⟩ := a
  obtain rfl := hl
  obtain rfl := ha
  dsimp only [vB, aV]
  blk_point [iblk, idx0 t]

theorem g0B_at (t : Fin cfg0.N) (h : t.val < 1) (y : Fin 1024) (k : Fin 472) (a : Fin 1024) (ha : a.val = t.val * 1024 + y.val) :
    g0B m c t (ix3 0 y k) = aG0 m c (ix3 0 a k) := by
  obtain ⟨a, _⟩ := a
  obtain rfl := ha
  dsimp only [g0B, aG0]
  blk_point [iblk, idxA t h]

theorem g1B_at (t : Fin cfg0.N) (h : 1 ≤ t.val) (y : Fin 1024) (k : Fin 472) (a : Fin 1024) (ha : a.val = (t.val - 1) * 1024 + y.val) :
    g1B m c t (ix3 0 y k) = aG1 m c (ix3 0 a k) := by
  obtain ⟨a, _⟩ := a
  obtain rfl := ha
  dsimp only [g1B, aG1]
  blk_point [iblk, idxB t h]

theorem gB_at (t : Fin cfg0.N) (y : Fin 1024) (k : Fin 472) (l : Fin 2) (a : Fin 1024) (hl : l.val = t.val / 1) (ha : a.val = t.val % 1 * 1024 + y.val) :
    gB m c t (ix3 0 y k) = grad (aG0 m c) (aG1 m c) (ix3 l a k) := by
  have ht : t.val < 2 := npoints ▸ t.isLt
  by_cases h : t.val < 1
  · have h0 : ((ix3 l a k : S2x1024x472.Idx) 0).val = 0 := by show l.val = 0; omega
    unfold gB grad
    rw [if_pos h, if_pos h0]
    exact g0B_at m c t h y k a (by omega)
  · have h0 : ¬((ix3 l a k : S2x1024x472.Idx) 0).val = 0 := by show ¬l.val = 0; omega
    unfold gB grad
    rw [if_neg h, if_neg h0]
    exact g1B_at m c t (by omega) y k a (by omega)

theorem g_at (t : Fin cfg0.N) (y : S1x1024x472.Idx) : ((outsAt0 m c t.val t.isLt).1 y : EReal) = gB m c t y := by
  have hA : ∀ y : S1x1024x472.Idx, (k0_pay8 (F := Ideal) (iblk m c 0 t) y : EReal) = g0B m c t y := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x1024x472.Idx, (k0_pay13 (F := Ideal) (iblk m c 1 t) y : EReal) = g1B m c t y := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 2 := npoints ▸ t.isLt
  unfold gB
  by_cases h : t.val < 1
  · rw [if_pos h, outsAt0_A m c t (by omega) (by omega)]
    frame_out
    exact hA y
  · rw [if_neg h, outsAt0_B m c t (by omega) (by omega)]
    frame_out
    exact hB y

theorem d_at (t : Fin cfg0.N) (y : S1x1024x472.Idx) : ((outsAt0 m c t.val t.isLt).2.1 y : EReal) = step (gB m c t y) (wB m c t y) (mB m c t y) (vB m c t y) := by
  have hA : ∀ y : S1x1024x472.Idx, (k0_pay1 (F := Ideal) (k0_pay11 (iblk m c 0 t) (iblk m c 3 t) (iblk m c 4 t) (iblk m c 2 t)) y : EReal) = step (g0B m c t y) (wB m c t y) (mB m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x1024x472.Idx, (k0_pay4 (F := Ideal) (k0_pay16 (iblk m c 1 t) (iblk m c 3 t) (iblk m c 4 t) (iblk m c 2 t)) y : EReal) = step (g1B m c t y) (wB m c t y) (mB m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 2 := npoints ▸ t.isLt
  unfold gB
  by_cases h : t.val < 1
  · rw [if_pos h, outsAt0_A m c t (by omega) (by omega)]
    frame_out
    exact hA y
  · rw [if_neg h, outsAt0_B m c t (by omega) (by omega)]
    frame_out
    exact hB y

theorem m_at (t : Fin cfg0.N) (y : S1x1024x472.Idx) : ((outsAt0 m c t.val t.isLt).2.2.1 y : EReal) = mom (gB m c t y) (mB m c t y) := by
  have hA : ∀ y : S1x1024x472.Idx, (k0_pay2 (F := Ideal) (k0_pay9 (iblk m c 0 t) (iblk m c 3 t)) y : EReal) = mom (g0B m c t y) (mB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x1024x472.Idx, (k0_pay5 (F := Ideal) (k0_pay14 (iblk m c 1 t) (iblk m c 3 t)) y : EReal) = mom (g1B m c t y) (mB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 2 := npoints ▸ t.isLt
  unfold gB
  by_cases h : t.val < 1
  · rw [if_pos h, outsAt0_A m c t (by omega) (by omega)]
    frame_out
    exact hA y
  · rw [if_neg h, outsAt0_B m c t (by omega) (by omega)]
    frame_out
    exact hB y

theorem v_at (t : Fin cfg0.N) (y : S1x1024x472.Idx) : ((outsAt0 m c t.val t.isLt).2.2.2 y : EReal) = var (gB m c t y) (vB m c t y) := by
  have hA : ∀ y : S1x1024x472.Idx, (k0_pay3 (F := Ideal) (k0_pay10 (iblk m c 0 t) (iblk m c 4 t)) y : EReal) = var (g0B m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x1024x472.Idx, (k0_pay6 (F := Ideal) (k0_pay15 (iblk m c 1 t) (iblk m c 4 t)) y : EReal) = var (g1B m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 2 := npoints ▸ t.isLt
  unfold gB
  by_cases h : t.val < 1
  · rw [if_pos h, outsAt0_A m c t (by omega) (by omega)]
    frame_out
    exact hA y
  · rw [if_neg h, outsAt0_B m c t (by omega) (by omega)]
    frame_out
    exact hB y

theorem final_g : (dats m 0 c).arrAt 5 cfg0.N = grad (aG0 m c) (aG1 m c) := by
  refine (dats m 0 c).arrAt_eq_of_covers 5 _ (by decide +kernel) fun t hf y => ?_
  blk_simp
  rw [after0_5]
  idx_vars y
  obtain rfl : y0 = 0 := Subsingleton.elim _ _
  suffices H : ∀ i : S2x1024x472.Idx, (i 0).val = t.val / 1 → (i 1).val = t.val % 1 * 1024 + y1.val → (i 2).val = y2.val →
      ((outsAt0 m c t.val t.isLt).1 (ix3 0 y1 y2) : EReal) = grad (aG0 m c) (aG1 m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (g_at m c t _).trans (gB_at m c t y1 b l a hl ha)

theorem final_d : (dats m 0 c).arrAt 6 cfg0.N = dA (aG0 m c) (aG1 m c) (aW m c) (aM m c) (aV m c) := by
  refine (dats m 0 c).arrAt_eq_of_covers 6 _ (by decide +kernel) fun t hf y => ?_
  blk_simp
  rw [after0_6]
  idx_vars y
  obtain rfl : y0 = 0 := Subsingleton.elim _ _
  suffices H : ∀ i : S2x1024x472.Idx, (i 0).val = t.val / 1 → (i 1).val = t.val % 1 * 1024 + y1.val → (i 2).val = y2.val →
      ((outsAt0 m c t.val t.isLt).2.1 (ix3 0 y1 y2) : EReal) = dA (aG0 m c) (aG1 m c) (aW m c) (aM m c) (aV m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (d_at m c t _).trans (by unfold dA; rw [gB_at m c t y1 b l a hl ha, wB_at m c t y1 b l a hl ha, mB_at m c t y1 b l a hl ha, vB_at m c t y1 b l a hl ha])

theorem final_m : (dats m 0 c).arrAt 7 cfg0.N = mA (aG0 m c) (aG1 m c) (aM m c) := by
  refine (dats m 0 c).arrAt_eq_of_covers 7 _ (by decide +kernel) fun t hf y => ?_
  blk_simp
  rw [after0_7]
  idx_vars y
  obtain rfl : y0 = 0 := Subsingleton.elim _ _
  suffices H : ∀ i : S2x1024x472.Idx, (i 0).val = t.val / 1 → (i 1).val = t.val % 1 * 1024 + y1.val → (i 2).val = y2.val →
      ((outsAt0 m c t.val t.isLt).2.2.1 (ix3 0 y1 y2) : EReal) = mA (aG0 m c) (aG1 m c) (aM m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (m_at m c t _).trans (by unfold mA; rw [gB_at m c t y1 b l a hl ha, mB_at m c t y1 b l a hl ha])

theorem final_v : (dats m 0 c).arrAt 8 cfg0.N = vA (aG0 m c) (aG1 m c) (aV m c) := by
  refine (dats m 0 c).arrAt_eq_of_covers 8 _ (by decide +kernel) fun t hf y => ?_
  blk_simp
  rw [after0_8]
  idx_vars y
  obtain rfl : y0 = 0 := Subsingleton.elim _ _
  suffices H : ∀ i : S2x1024x472.Idx, (i 0).val = t.val / 1 → (i 1).val = t.val % 1 * 1024 + y1.val → (i 2).val = y2.val →
      ((outsAt0 m c t.val t.isLt).2.2.2 (ix3 0 y1 y2) : EReal) = vA (aG0 m c) (aG1 m c) (aV m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (v_at m c t _).trans (by unfold vA; rw [gB_at m c t y1 b l a hl ha, vB_at m c t y1 b l a hl ha])

end
end Cert.AdamInIdeal.Val

namespace Cert.AdamInRefIdeal.Val
open Cert.AdamInRefIdeal Cert.AdamInRefIdeal.Gen
open Cert.AdamInIdeal.Val (grad dA mA vA)

section
variable (m : (ℓ : Loc nD τ sig) → Buf (Elt Ideal) ℓ) (c : Dev nD)

/-- The reference's arguments. -/
abbrev rG0 : Vec Ideal S1x1024x472 .f32 := m ((c.tc : Thread nD τ).loc main_arg0)
abbrev rG1 : Vec Ideal S1x1024x472 .f32 := m ((c.tc : Thread nD τ).loc main_arg1)
abbrev rW : Vec Ideal S2x1024x472 .f32 := m ((c.tc : Thread nD τ).loc main_arg2)
abbrev rM : Vec Ideal S2x1024x472 .f32 := m ((c.tc : Thread nD τ).loc main_arg3)
abbrev rV : Vec Ideal S2x1024x472 .f32 := m ((c.tc : Thread nD τ).loc main_arg4)

theorem cat_at (g0 g1 : Vec Ideal S1x1024x472 .f32) (i : S2x1024x472.Idx) :
    (concatenate S2x1024x472 0 [⟨S1x1024x472, g0⟩, ⟨S1x1024x472, g1⟩] concatenates_S1x1024x472_S1x1024x472_S2x1024x472_d0 i : EReal) = grad g0 g1 i := by
  idx_vars i
  obtain rfl | rfl : i0 = 0 ∨ i0 = 1 := by omega
  · refine Eq.trans ?_ (if_pos (show ((ix3 0 i1 i2 : S2x1024x472.Idx) 0).val = 0 from rfl)).symm
    pointwise
    all_goals rfl
  · refine Eq.trans ?_ (if_neg (show ¬((ix3 1 i1 i2 : S2x1024x472.Idx) 0).val = 0 from fun h => by simp at h)).symm
    pointwise
    all_goals rfl
end

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (grad (rG0 m c) (rG1 m c) : FVec Ideal S2x1024x472 .f32)
      ∧ r.2.mem ((c.tc : Thread nD τ).loc main_v24) = (dA (rG0 m c) (rG1 m c) (rW m c) (rM m c) (rV m c) : FVec Ideal S2x1024x472 .f32)
      ∧ r.2.mem ((c.tc : Thread nD τ).loc main_v5) = (mA (rG0 m c) (rG1 m c) (rM m c) : FVec Ideal S2x1024x472 .f32)
      ∧ r.2.mem ((c.tc : Thread nD τ).loc main_v11) = (vA (rG0 m c) (rG1 m c) (rV m c) : FVec Ideal S2x1024x472 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  have e : concatenate S2x1024x472 0 [⟨S1x1024x472, rG0 m c⟩, ⟨S1x1024x472, rG1 m c⟩] concatenates_S1x1024x472_S1x1024x472_S2x1024x472_d0
      = (grad (rG0 m c) (rG1 m c) : FVec Ideal S2x1024x472 .f32) := funext (cat_at _ _)
  obtain ⟨h0, h1, h2, h3, hr⟩ := h c
  rw [e] at h0 h1 h2 h3
  refine ⟨h0, h1.trans (funext fun i => ?_), h2.trans (funext fun i => ?_), h3.trans (funext fun i => ?_), hr⟩
  · pointwise
    rfl
  · pointwise
    rfl
  · pointwise
    rfl
end Cert.AdamInRefIdeal.Val

namespace Cert.Proof.AdamInClaims

/-- The two programs have one text, and so one table of bodies. -/
theorem bodies_eq : Cert.AdamIn.defs₀ (F := Bits) = Cert.AdamInIdeal.defs₀ := by
  refine congrArg Defs.onTc (funext fun l => funext fun a => ?_)
  obtain ⟨_ | n, h⟩ := l
  · rfl
  · exact absurd h (by omega)
theorem defs_eq : Cert.AdamIn.defs (F := Bits) = Cert.AdamInIdeal.defs :=
  congrArg (Pipeline.defs Cert.AdamInIdeal.pcfgs) bodies_eq

theorem frame_p : Cert.quiescent_AdamIn := fun m ρ _ => by
  rw [defs_eq]
  exact Cert.AdamInIdeal.Gen.frame (F := Bits) m ρ
theorem frame_pi : Cert.quiescent_AdamInIdeal := fun m ρ _ => Cert.AdamInIdeal.Gen.frame m ρ
theorem frame_ri : Cert.quiescent_AdamInRefIdeal := fun m ρ _ =>
  (θ_run Cert.AdamInRefIdeal.defs _ _).mono (fun r h => ⟨fun c => (h c).2.2.2.2, sem_eq_zero_of_no_sems (by decide) r.2⟩) (Cert.AdamInRefIdeal.Value.run m ρ)
theorem preserves : Cert.preserves_AdamIn_AdamInIdeal := trivial

theorem algebraic : Cert.algebraic_AdamInIdeal_AdamInRefIdeal := by
  intro m ρ m' ρ' hpre hagree
  refine ⟨_, _, _, _, (θ_run Cert.AdamInIdeal.defs _ _).mono (fun r h c => ⟨(h c).1.trans (Cert.AdamInIdeal.Val.final_g m c),
      (h c).2.1.trans (Cert.AdamInIdeal.Val.final_d m c), (h c).2.2.1.trans (Cert.AdamInIdeal.Val.final_m m c),
      (h c).2.2.2.1.trans (Cert.AdamInIdeal.Val.final_v m c), (h c).2.2.2.2⟩)
      (Cert.AdamInIdeal.Value.run_blocks m ρ), ?_⟩
  refine (θ_run Cert.AdamInRefIdeal.defs _ _).mono (fun r h c => ?_) (Cert.AdamInRefIdeal.Val.run m' ρ')
  obtain ⟨a0, a1, a2, a3, a4⟩ := hagree c
  obtain ⟨h0, h1, h2, h3, hr⟩ := h c
  dsimp only [Cert.AdamInRefIdeal.Val.rG0, Cert.AdamInRefIdeal.Val.rG1, Cert.AdamInRefIdeal.Val.rW, Cert.AdamInRefIdeal.Val.rM, Cert.AdamInRefIdeal.Val.rV] at h0 h1 h2 h3
  rw [a0, a1] at h0
  rw [a0, a1, a2, a3, a4] at h1
  rw [a0, a1, a3] at h2
  rw [a0, a1, a4] at h3
  exact ⟨h0, h1, h2, h3, hr⟩

end Cert.Proof.AdamInClaims
end
-- ==== Proof.AdamOutClaims.lean ====
/- The optimiser's step of one weight, a layer at a time. -/
module
public import proofs.«01_k».proof.Defs
public import proofs.«01_k».proof.Proof.Adam
public import proofs.«01_k».proof.Proof.Gen.AdamOut
public import proofs.«01_k».proof.Proof.Gen.AdamOutIdeal
public import proofs.«01_k».proof.Proof.Gen.AdamOutRefIdeal
public import proofs.«01_k».proof.Proof.Gen.AdamOutIdeal.Value
public import proofs.«01_k».proof.Proof.Gen.AdamOutRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Adam
namespace Cert.AdamOutIdeal.Val
open Cert.AdamOutIdeal Cert.AdamOutIdeal.Gen

theorem idx0 : ∀ t : Fin cfg0.N, win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] :=
  (by decide +kernel : ∀ t : Fin grid0.N, _)
theorem idxA : ∀ t : Fin cfg0.N, t.val < 1 → win0_0.index t = ![0, t.val, 0] :=
  (by decide +kernel : ∀ t : Fin grid0.N, _)
theorem idxB : ∀ t : Fin cfg0.N, 1 ≤ t.val → win0_1.index t = ![0, t.val - 1, 0] :=
  (by decide +kernel : ∀ t : Fin grid0.N, _)
theorem npoints : cfg0.N = 2 := by decide +kernel

/-- The gradients of the two layers as one array. -/
def grad (g0 g1 : Vec Ideal S1x256x1024 .f32) (i : S2x256x1024.Idx) : EReal :=
  if (i 0).val = 0 then (g0 (ix3 0 (i 1) (i 2)) : EReal) else (g1 (ix3 0 (i 1) (i 2)) : EReal)

/-- The changes and the moments. -/
def dA (g0 g1 : Vec Ideal S1x256x1024 .f32) (w m v : Vec Ideal S2x256x1024 .f32) (i : S2x256x1024.Idx) : EReal := step (grad g0 g1 i) (w i) (m i) (v i)
def mA (g0 g1 : Vec Ideal S1x256x1024 .f32) (m : Vec Ideal S2x256x1024 .f32) (i : S2x256x1024.Idx) : EReal := mom (grad g0 g1 i) (m i)
def vA (g0 g1 : Vec Ideal S1x256x1024 .f32) (v : Vec Ideal S2x256x1024 .f32) (i : S2x256x1024.Idx) : EReal := var (grad g0 g1 i) (v i)

section
variable (m : (ℓ : Loc nD τ sig) → Buf (Elt Ideal) ℓ) (c : Dev nD)

/-- The arguments, as the arrays hold them. -/
abbrev aG0 : Vec Ideal S1x256x1024 .f32 := m ((c : Thread nD τ).loc main_arg0)
abbrev aG1 : Vec Ideal S1x256x1024 .f32 := m ((c : Thread nD τ).loc main_arg1)
abbrev aW : Vec Ideal S2x256x1024 .f32 := m ((c : Thread nD τ).loc main_arg2)
abbrev aM : Vec Ideal S2x256x1024 .f32 := m ((c : Thread nD τ).loc main_arg3)
abbrev aV : Vec Ideal S2x256x1024 .f32 := m ((c : Thread nD τ).loc main_arg4)

/-- The blocks that a point reads, and the one of the two gradients that it uses. -/
def g0B (t : Fin cfg0.N) : Vec Ideal S1x256x1024 .f32 := iblk m c 0 t
def g1B (t : Fin cfg0.N) : Vec Ideal S1x256x1024 .f32 := iblk m c 1 t
def wB (t : Fin cfg0.N) : Vec Ideal S1x256x1024 .f32 := iblk m c 2 t
def mB (t : Fin cfg0.N) : Vec Ideal S1x256x1024 .f32 := iblk m c 3 t
def vB (t : Fin cfg0.N) : Vec Ideal S1x256x1024 .f32 := iblk m c 4 t
def gB (t : Fin cfg0.N) (y : S1x256x1024.Idx) : EReal := if t.val < 1 then (g0B m c t y : EReal) else (g1B m c t y : EReal)

theorem wB_at (t : Fin cfg0.N) (y : Fin 256) (k : Fin 1024) (l : Fin 2) (a : Fin 256) (hl : l.val = t.val / 1) (ha : a.val = t.val % 1 * 256 + y.val) :
    wB m c t (ix3 0 y k) = aW m c (ix3 l a k) := by
  obtain ⟨l, _⟩ := l
  obtain ⟨a, _⟩ := a
  obtain rfl := hl
  obtain rfl := ha
  dsimp only [wB, aW]
  blk_point [iblk, idx0 t]

theorem mB_at (t : Fin cfg0.N) (y : Fin 256) (k : Fin 1024) (l : Fin 2) (a : Fin 256) (hl : l.val = t.val / 1) (ha : a.val = t.val % 1 * 256 + y.val) :
    mB m c t (ix3 0 y k) = aM m c (ix3 l a k) := by
  obtain ⟨l, _⟩ := l
  obtain ⟨a, _⟩ := a
  obtain rfl := hl
  obtain rfl := ha
  dsimp only [mB, aM]
  blk_point [iblk, idx0 t]

theorem vB_at (t : Fin cfg0.N) (y : Fin 256) (k : Fin 1024) (l : Fin 2) (a : Fin 256) (hl : l.val = t.val / 1) (ha : a.val = t.val % 1 * 256 + y.val) :
    vB m c t (ix3 0 y k) = aV m c (ix3 l a k) := by
  obtain ⟨l, _⟩ := l
  obtain ⟨a, _⟩ := a
  obtain rfl := hl
  obtain rfl := ha
  dsimp only [vB, aV]
  blk_point [iblk, idx0 t]

theorem g0B_at (t : Fin cfg0.N) (h : t.val < 1) (y : Fin 256) (k : Fin 1024) (a : Fin 256) (ha : a.val = t.val * 256 + y.val) :
    g0B m c t (ix3 0 y k) = aG0 m c (ix3 0 a k) := by
  obtain ⟨a, _⟩ := a
  obtain rfl := ha
  dsimp only [g0B, aG0]
  blk_point [iblk, idxA t h]

theorem g1B_at (t : Fin cfg0.N) (h : 1 ≤ t.val) (y : Fin 256) (k : Fin 1024) (a : Fin 256) (ha : a.val = (t.val - 1) * 256 + y.val) :
    g1B m c t (ix3 0 y k) = aG1 m c (ix3 0 a k) := by
  obtain ⟨a, _⟩ := a
  obtain rfl := ha
  dsimp only [g1B, aG1]
  blk_point [iblk, idxB t h]

theorem gB_at (t : Fin cfg0.N) (y : Fin 256) (k : Fin 1024) (l : Fin 2) (a : Fin 256) (hl : l.val = t.val / 1) (ha : a.val = t.val % 1 * 256 + y.val) :
    gB m c t (ix3 0 y k) = grad (aG0 m c) (aG1 m c) (ix3 l a k) := by
  have ht : t.val < 2 := npoints ▸ t.isLt
  by_cases h : t.val < 1
  · have h0 : ((ix3 l a k : S2x256x1024.Idx) 0).val = 0 := by show l.val = 0; omega
    unfold gB grad
    rw [if_pos h, if_pos h0]
    exact g0B_at m c t h y k a (by omega)
  · have h0 : ¬((ix3 l a k : S2x256x1024.Idx) 0).val = 0 := by show ¬l.val = 0; omega
    unfold gB grad
    rw [if_neg h, if_neg h0]
    exact g1B_at m c t (by omega) y k a (by omega)

theorem g_at (t : Fin cfg0.N) (y : S1x256x1024.Idx) : ((outsAt0 m c t.val t.isLt).1 y : EReal) = gB m c t y := by
  have hA : ∀ y : S1x256x1024.Idx, (k0_pay8 (F := Ideal) (iblk m c 0 t) y : EReal) = g0B m c t y := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x256x1024.Idx, (k0_pay13 (F := Ideal) (iblk m c 1 t) y : EReal) = g1B m c t y := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 2 := npoints ▸ t.isLt
  unfold gB
  by_cases h : t.val < 1
  · rw [if_pos h, outsAt0_A m c t (by omega) (by omega)]
    frame_out
    exact hA y
  · rw [if_neg h, outsAt0_B m c t (by omega) (by omega)]
    frame_out
    exact hB y

theorem d_at (t : Fin cfg0.N) (y : S1x256x1024.Idx) : ((outsAt0 m c t.val t.isLt).2.1 y : EReal) = step (gB m c t y) (wB m c t y) (mB m c t y) (vB m c t y) := by
  have hA : ∀ y : S1x256x1024.Idx, (k0_pay1 (F := Ideal) (k0_pay11 (iblk m c 0 t) (iblk m c 3 t) (iblk m c 4 t) (iblk m c 2 t)) y : EReal) = step (g0B m c t y) (wB m c t y) (mB m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x256x1024.Idx, (k0_pay4 (F := Ideal) (k0_pay16 (iblk m c 1 t) (iblk m c 3 t) (iblk m c 4 t) (iblk m c 2 t)) y : EReal) = step (g1B m c t y) (wB m c t y) (mB m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 2 := npoints ▸ t.isLt
  unfold gB
  by_cases h : t.val < 1
  · rw [if_pos h, outsAt0_A m c t (by omega) (by omega)]
    frame_out
    exact hA y
  · rw [if_neg h, outsAt0_B m c t (by omega) (by omega)]
    frame_out
    exact hB y

theorem m_at (t : Fin cfg0.N) (y : S1x256x1024.Idx) : ((outsAt0 m c t.val t.isLt).2.2.1 y : EReal) = mom (gB m c t y) (mB m c t y) := by
  have hA : ∀ y : S1x256x1024.Idx, (k0_pay2 (F := Ideal) (k0_pay9 (iblk m c 0 t) (iblk m c 3 t)) y : EReal) = mom (g0B m c t y) (mB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x256x1024.Idx, (k0_pay5 (F := Ideal) (k0_pay14 (iblk m c 1 t) (iblk m c 3 t)) y : EReal) = mom (g1B m c t y) (mB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 2 := npoints ▸ t.isLt
  unfold gB
  by_cases h : t.val < 1
  · rw [if_pos h, outsAt0_A m c t (by omega) (by omega)]
    frame_out
    exact hA y
  · rw [if_neg h, outsAt0_B m c t (by omega) (by omega)]
    frame_out
    exact hB y

theorem v_at (t : Fin cfg0.N) (y : S1x256x1024.Idx) : ((outsAt0 m c t.val t.isLt).2.2.2 y : EReal) = var (gB m c t y) (vB m c t y) := by
  have hA : ∀ y : S1x256x1024.Idx, (k0_pay3 (F := Ideal) (k0_pay10 (iblk m c 0 t) (iblk m c 4 t)) y : EReal) = var (g0B m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x256x1024.Idx, (k0_pay6 (F := Ideal) (k0_pay15 (iblk m c 1 t) (iblk m c 4 t)) y : EReal) = var (g1B m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 2 := npoints ▸ t.isLt
  unfold gB
  by_cases h : t.val < 1
  · rw [if_pos h, outsAt0_A m c t (by omega) (by omega)]
    frame_out
    exact hA y
  · rw [if_neg h, outsAt0_B m c t (by omega) (by omega)]
    frame_out
    exact hB y

theorem final_g : (dats m 0 c).arrAt 5 cfg0.N = grad (aG0 m c) (aG1 m c) := by
  refine (dats m 0 c).arrAt_eq_of_covers 5 _ (by decide +kernel) fun t hf y => ?_
  blk_simp
  rw [after0_5]
  idx_vars y
  obtain rfl : y0 = 0 := Subsingleton.elim _ _
  suffices H : ∀ i : S2x256x1024.Idx, (i 0).val = t.val / 1 → (i 1).val = t.val % 1 * 256 + y1.val → (i 2).val = y2.val →
      ((outsAt0 m c t.val t.isLt).1 (ix3 0 y1 y2) : EReal) = grad (aG0 m c) (aG1 m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (g_at m c t _).trans (gB_at m c t y1 b l a hl ha)

theorem final_d : (dats m 0 c).arrAt 6 cfg0.N = dA (aG0 m c) (aG1 m c) (aW m c) (aM m c) (aV m c) := by
  refine (dats m 0 c).arrAt_eq_of_covers 6 _ (by decide +kernel) fun t hf y => ?_
  blk_simp
  rw [after0_6]
  idx_vars y
  obtain rfl : y0 = 0 := Subsingleton.elim _ _
  suffices H : ∀ i : S2x256x1024.Idx, (i 0).val = t.val / 1 → (i 1).val = t.val % 1 * 256 + y1.val → (i 2).val = y2.val →
      ((outsAt0 m c t.val t.isLt).2.1 (ix3 0 y1 y2) : EReal) = dA (aG0 m c) (aG1 m c) (aW m c) (aM m c) (aV m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (d_at m c t _).trans (by unfold dA; rw [gB_at m c t y1 b l a hl ha, wB_at m c t y1 b l a hl ha, mB_at m c t y1 b l a hl ha, vB_at m c t y1 b l a hl ha])

theorem final_m : (dats m 0 c).arrAt 7 cfg0.N = mA (aG0 m c) (aG1 m c) (aM m c) := by
  refine (dats m 0 c).arrAt_eq_of_covers 7 _ (by decide +kernel) fun t hf y => ?_
  blk_simp
  rw [after0_7]
  idx_vars y
  obtain rfl : y0 = 0 := Subsingleton.elim _ _
  suffices H : ∀ i : S2x256x1024.Idx, (i 0).val = t.val / 1 → (i 1).val = t.val % 1 * 256 + y1.val → (i 2).val = y2.val →
      ((outsAt0 m c t.val t.isLt).2.2.1 (ix3 0 y1 y2) : EReal) = mA (aG0 m c) (aG1 m c) (aM m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (m_at m c t _).trans (by unfold mA; rw [gB_at m c t y1 b l a hl ha, mB_at m c t y1 b l a hl ha])

theorem final_v : (dats m 0 c).arrAt 8 cfg0.N = vA (aG0 m c) (aG1 m c) (aV m c) := by
  refine (dats m 0 c).arrAt_eq_of_covers 8 _ (by decide +kernel) fun t hf y => ?_
  blk_simp
  rw [after0_8]
  idx_vars y
  obtain rfl : y0 = 0 := Subsingleton.elim _ _
  suffices H : ∀ i : S2x256x1024.Idx, (i 0).val = t.val / 1 → (i 1).val = t.val % 1 * 256 + y1.val → (i 2).val = y2.val →
      ((outsAt0 m c t.val t.isLt).2.2.2 (ix3 0 y1 y2) : EReal) = vA (aG0 m c) (aG1 m c) (aV m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (v_at m c t _).trans (by unfold vA; rw [gB_at m c t y1 b l a hl ha, vB_at m c t y1 b l a hl ha])

end
end Cert.AdamOutIdeal.Val

namespace Cert.AdamOutRefIdeal.Val
open Cert.AdamOutRefIdeal Cert.AdamOutRefIdeal.Gen
open Cert.AdamOutIdeal.Val (grad dA mA vA)

section
variable (m : (ℓ : Loc nD τ sig) → Buf (Elt Ideal) ℓ) (c : Dev nD)

/-- The reference's arguments. -/
abbrev rG0 : Vec Ideal S1x256x1024 .f32 := m ((c.tc : Thread nD τ).loc main_arg0)
abbrev rG1 : Vec Ideal S1x256x1024 .f32 := m ((c.tc : Thread nD τ).loc main_arg1)
abbrev rW : Vec Ideal S2x256x1024 .f32 := m ((c.tc : Thread nD τ).loc main_arg2)
abbrev rM : Vec Ideal S2x256x1024 .f32 := m ((c.tc : Thread nD τ).loc main_arg3)
abbrev rV : Vec Ideal S2x256x1024 .f32 := m ((c.tc : Thread nD τ).loc main_arg4)

theorem cat_at (g0 g1 : Vec Ideal S1x256x1024 .f32) (i : S2x256x1024.Idx) :
    (concatenate S2x256x1024 0 [⟨S1x256x1024, g0⟩, ⟨S1x256x1024, g1⟩] concatenates_S1x256x1024_S1x256x1024_S2x256x1024_d0 i : EReal) = grad g0 g1 i := by
  idx_vars i
  obtain rfl | rfl : i0 = 0 ∨ i0 = 1 := by omega
  · refine Eq.trans ?_ (if_pos (show ((ix3 0 i1 i2 : S2x256x1024.Idx) 0).val = 0 from rfl)).symm
    pointwise
    all_goals rfl
  · refine Eq.trans ?_ (if_neg (show ¬((ix3 1 i1 i2 : S2x256x1024.Idx) 0).val = 0 from fun h => by simp at h)).symm
    pointwise
    all_goals rfl
end

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (grad (rG0 m c) (rG1 m c) : FVec Ideal S2x256x1024 .f32)
      ∧ r.2.mem ((c.tc : Thread nD τ).loc main_v24) = (dA (rG0 m c) (rG1 m c) (rW m c) (rM m c) (rV m c) : FVec Ideal S2x256x1024 .f32)
      ∧ r.2.mem ((c.tc : Thread nD τ).loc main_v5) = (mA (rG0 m c) (rG1 m c) (rM m c) : FVec Ideal S2x256x1024 .f32)
      ∧ r.2.mem ((c.tc : Thread nD τ).loc main_v11) = (vA (rG0 m c) (rG1 m c) (rV m c) : FVec Ideal S2x256x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  have e : concatenate S2x256x1024 0 [⟨S1x256x1024, rG0 m c⟩, ⟨S1x256x1024, rG1 m c⟩] concatenates_S1x256x1024_S1x256x1024_S2x256x1024_d0
      = (grad (rG0 m c) (rG1 m c) : FVec Ideal S2x256x1024 .f32) := funext (cat_at _ _)
  obtain ⟨h0, h1, h2, h3, hr⟩ := h c
  rw [e] at h0 h1 h2 h3
  refine ⟨h0, h1.trans (funext fun i => ?_), h2.trans (funext fun i => ?_), h3.trans (funext fun i => ?_), hr⟩
  · pointwise
    rfl
  · pointwise
    rfl
  · pointwise
    rfl
end Cert.AdamOutRefIdeal.Val

namespace Cert.Proof.AdamOutClaims

/-- The two programs have one text, and so one table of bodies. -/
theorem bodies_eq : Cert.AdamOut.defs₀ (F := Bits) = Cert.AdamOutIdeal.defs₀ := by
  refine congrArg Defs.onTc (funext fun l => funext fun a => ?_)
  obtain ⟨_ | n, h⟩ := l
  · rfl
  · exact absurd h (by omega)
theorem defs_eq : Cert.AdamOut.defs (F := Bits) = Cert.AdamOutIdeal.defs :=
  congrArg (Pipeline.defs Cert.AdamOutIdeal.pcfgs) bodies_eq

theorem frame_p : Cert.quiescent_AdamOut := fun m ρ _ => by
  rw [defs_eq]
  exact Cert.AdamOutIdeal.Gen.frame (F := Bits) m ρ
theorem frame_pi : Cert.quiescent_AdamOutIdeal := fun m ρ _ => Cert.AdamOutIdeal.Gen.frame m ρ
theorem frame_ri : Cert.quiescent_AdamOutRefIdeal := fun m ρ _ =>
  (θ_run Cert.AdamOutRefIdeal.defs _ _).mono (fun r h => ⟨fun c => (h c).2.2.2.2, sem_eq_zero_of_no_sems (by decide) r.2⟩) (Cert.AdamOutRefIdeal.Value.run m ρ)
theorem preserves : Cert.preserves_AdamOut_AdamOutIdeal := trivial

theorem algebraic : Cert.algebraic_AdamOutIdeal_AdamOutRefIdeal := by
  intro m ρ m' ρ' hpre hagree
  refine ⟨_, _, _, _, (θ_run Cert.AdamOutIdeal.defs _ _).mono (fun r h c => ⟨(h c).1.trans (Cert.AdamOutIdeal.Val.final_g m c),
      (h c).2.1.trans (Cert.AdamOutIdeal.Val.final_d m c), (h c).2.2.1.trans (Cert.AdamOutIdeal.Val.final_m m c),
      (h c).2.2.2.1.trans (Cert.AdamOutIdeal.Val.final_v m c), (h c).2.2.2.2⟩)
      (Cert.AdamOutIdeal.Value.run_blocks m ρ), ?_⟩
  refine (θ_run Cert.AdamOutRefIdeal.defs _ _).mono (fun r h c => ?_) (Cert.AdamOutRefIdeal.Val.run m' ρ')
  obtain ⟨a0, a1, a2, a3, a4⟩ := hagree c
  obtain ⟨h0, h1, h2, h3, hr⟩ := h c
  dsimp only [Cert.AdamOutRefIdeal.Val.rG0, Cert.AdamOutRefIdeal.Val.rG1, Cert.AdamOutRefIdeal.Val.rW, Cert.AdamOutRefIdeal.Val.rM, Cert.AdamOutRefIdeal.Val.rV] at h0 h1 h2 h3
  rw [a0, a1] at h0
  rw [a0, a1, a2, a3, a4] at h1
  rw [a0, a1, a3] at h2
  rw [a0, a1, a4] at h3
  exact ⟨h0, h1, h2, h3, hr⟩

end Cert.Proof.AdamOutClaims
end
-- ==== Proof.AdamUpClaims.lean ====
/- The optimiser's step of one weight, a layer at a time. -/
module
public import proofs.«01_k».proof.Defs
public import proofs.«01_k».proof.Proof.Adam
public import proofs.«01_k».proof.Proof.Gen.AdamUp
public import proofs.«01_k».proof.Proof.Gen.AdamUpIdeal
public import proofs.«01_k».proof.Proof.Gen.AdamUpRefIdeal
public import proofs.«01_k».proof.Proof.Gen.AdamUpIdeal.Value
public import proofs.«01_k».proof.Proof.Gen.AdamUpRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Adam
namespace Cert.AdamUpIdeal.Val
open Cert.AdamUpIdeal Cert.AdamUpIdeal.Gen

theorem idx0 : ∀ t : Fin cfg0.N, win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)
theorem idxA : ∀ t : Fin cfg0.N, t.val < 4 → win0_0.index t = ![0, t.val, 0] :=
  (by decide +kernel : ∀ t : Fin grid0.N, _)
theorem idxB : ∀ t : Fin cfg0.N, 4 ≤ t.val → win0_1.index t = ![0, t.val - 4, 0] :=
  (by decide +kernel : ∀ t : Fin grid0.N, _)
theorem npoints : cfg0.N = 8 := by decide +kernel

/-- The gradients of the two layers as one array. -/
def grad (g0 g1 : Vec Ideal S1x1024x1408 .f32) (i : S2x1024x1408.Idx) : EReal :=
  if (i 0).val = 0 then (g0 (ix3 0 (i 1) (i 2)) : EReal) else (g1 (ix3 0 (i 1) (i 2)) : EReal)

/-- The changes and the moments. -/
def dA (g0 g1 : Vec Ideal S1x1024x1408 .f32) (w m v : Vec Ideal S2x1024x1408 .f32) (i : S2x1024x1408.Idx) : EReal := step (grad g0 g1 i) (w i) (m i) (v i)
def mA (g0 g1 : Vec Ideal S1x1024x1408 .f32) (m : Vec Ideal S2x1024x1408 .f32) (i : S2x1024x1408.Idx) : EReal := mom (grad g0 g1 i) (m i)
def vA (g0 g1 : Vec Ideal S1x1024x1408 .f32) (v : Vec Ideal S2x1024x1408 .f32) (i : S2x1024x1408.Idx) : EReal := var (grad g0 g1 i) (v i)

section
variable (m : (ℓ : Loc nD τ sig) → Buf (Elt Ideal) ℓ) (c : Dev nD)

/-- The arguments, as the arrays hold them. -/
abbrev aG0 : Vec Ideal S1x1024x1408 .f32 := m ((c : Thread nD τ).loc main_arg0)
abbrev aG1 : Vec Ideal S1x1024x1408 .f32 := m ((c : Thread nD τ).loc main_arg1)
abbrev aW : Vec Ideal S2x1024x1408 .f32 := m ((c : Thread nD τ).loc main_arg2)
abbrev aM : Vec Ideal S2x1024x1408 .f32 := m ((c : Thread nD τ).loc main_arg3)
abbrev aV : Vec Ideal S2x1024x1408 .f32 := m ((c : Thread nD τ).loc main_arg4)

/-- The blocks that a point reads, and the one of the two gradients that it uses. -/
def g0B (t : Fin cfg0.N) : Vec Ideal S1x256x1408 .f32 := iblk m c 0 t
def g1B (t : Fin cfg0.N) : Vec Ideal S1x256x1408 .f32 := iblk m c 1 t
def wB (t : Fin cfg0.N) : Vec Ideal S1x256x1408 .f32 := iblk m c 2 t
def mB (t : Fin cfg0.N) : Vec Ideal S1x256x1408 .f32 := iblk m c 3 t
def vB (t : Fin cfg0.N) : Vec Ideal S1x256x1408 .f32 := iblk m c 4 t
def gB (t : Fin cfg0.N) (y : S1x256x1408.Idx) : EReal := if t.val < 4 then (g0B m c t y : EReal) else (g1B m c t y : EReal)

theorem wB_at (t : Fin cfg0.N) (y : Fin 256) (k : Fin 1408) (l : Fin 2) (a : Fin 1024) (hl : l.val = t.val / 4) (ha : a.val = t.val % 4 * 256 + y.val) :
    wB m c t (ix3 0 y k) = aW m c (ix3 l a k) := by
  obtain ⟨l, _⟩ := l
  obtain ⟨a, _⟩ := a
  obtain rfl := hl
  obtain rfl := ha
  dsimp only [wB, aW]
  blk_point [iblk, idx0 t]

theorem mB_at (t : Fin cfg0.N) (y : Fin 256) (k : Fin 1408) (l : Fin 2) (a : Fin 1024) (hl : l.val = t.val / 4) (ha : a.val = t.val % 4 * 256 + y.val) :
    mB m c t (ix3 0 y k) = aM m c (ix3 l a k) := by
  obtain ⟨l, _⟩ := l
  obtain ⟨a, _⟩ := a
  obtain rfl := hl
  obtain rfl := ha
  dsimp only [mB, aM]
  blk_point [iblk, idx0 t]

theorem vB_at (t : Fin cfg0.N) (y : Fin 256) (k : Fin 1408) (l : Fin 2) (a : Fin 1024) (hl : l.val = t.val / 4) (ha : a.val = t.val % 4 * 256 + y.val) :
    vB m c t (ix3 0 y k) = aV m c (ix3 l a k) := by
  obtain ⟨l, _⟩ := l
  obtain ⟨a, _⟩ := a
  obtain rfl := hl
  obtain rfl := ha
  dsimp only [vB, aV]
  blk_point [iblk, idx0 t]

theorem g0B_at (t : Fin cfg0.N) (h : t.val < 4) (y : Fin 256) (k : Fin 1408) (a : Fin 1024) (ha : a.val = t.val * 256 + y.val) :
    g0B m c t (ix3 0 y k) = aG0 m c (ix3 0 a k) := by
  obtain ⟨a, _⟩ := a
  obtain rfl := ha
  dsimp only [g0B, aG0]
  blk_point [iblk, idxA t h]

theorem g1B_at (t : Fin cfg0.N) (h : 4 ≤ t.val) (y : Fin 256) (k : Fin 1408) (a : Fin 1024) (ha : a.val = (t.val - 4) * 256 + y.val) :
    g1B m c t (ix3 0 y k) = aG1 m c (ix3 0 a k) := by
  obtain ⟨a, _⟩ := a
  obtain rfl := ha
  dsimp only [g1B, aG1]
  blk_point [iblk, idxB t h]

theorem gB_at (t : Fin cfg0.N) (y : Fin 256) (k : Fin 1408) (l : Fin 2) (a : Fin 1024) (hl : l.val = t.val / 4) (ha : a.val = t.val % 4 * 256 + y.val) :
    gB m c t (ix3 0 y k) = grad (aG0 m c) (aG1 m c) (ix3 l a k) := by
  have ht : t.val < 8 := npoints ▸ t.isLt
  by_cases h : t.val < 4
  · have h0 : ((ix3 l a k : S2x1024x1408.Idx) 0).val = 0 := by show l.val = 0; omega
    unfold gB grad
    rw [if_pos h, if_pos h0]
    exact g0B_at m c t h y k a (by omega)
  · have h0 : ¬((ix3 l a k : S2x1024x1408.Idx) 0).val = 0 := by show ¬l.val = 0; omega
    unfold gB grad
    rw [if_neg h, if_neg h0]
    exact g1B_at m c t (by omega) y k a (by omega)

theorem g_at (t : Fin cfg0.N) (y : S1x256x1408.Idx) : ((outsAt0 m c t.val t.isLt).1 y : EReal) = gB m c t y := by
  have hA : ∀ y : S1x256x1408.Idx, (k0_pay8 (F := Ideal) (iblk m c 0 t) y : EReal) = g0B m c t y := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x256x1408.Idx, (k0_pay13 (F := Ideal) (iblk m c 1 t) y : EReal) = g1B m c t y := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 8 := npoints ▸ t.isLt
  unfold gB
  by_cases h : t.val < 4
  · rw [if_pos h, outsAt0_A m c t (by omega) (by omega)]
    frame_out
    exact hA y
  · rw [if_neg h, outsAt0_B m c t (by omega) (by omega)]
    frame_out
    exact hB y

theorem d_at (t : Fin cfg0.N) (y : S1x256x1408.Idx) : ((outsAt0 m c t.val t.isLt).2.1 y : EReal) = step (gB m c t y) (wB m c t y) (mB m c t y) (vB m c t y) := by
  have hA : ∀ y : S1x256x1408.Idx, (k0_pay1 (F := Ideal) (k0_pay11 (iblk m c 0 t) (iblk m c 3 t) (iblk m c 4 t) (iblk m c 2 t)) y : EReal) = step (g0B m c t y) (wB m c t y) (mB m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x256x1408.Idx, (k0_pay4 (F := Ideal) (k0_pay16 (iblk m c 1 t) (iblk m c 3 t) (iblk m c 4 t) (iblk m c 2 t)) y : EReal) = step (g1B m c t y) (wB m c t y) (mB m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 8 := npoints ▸ t.isLt
  unfold gB
  by_cases h : t.val < 4
  · rw [if_pos h, outsAt0_A m c t (by omega) (by omega)]
    frame_out
    exact hA y
  · rw [if_neg h, outsAt0_B m c t (by omega) (by omega)]
    frame_out
    exact hB y

theorem m_at (t : Fin cfg0.N) (y : S1x256x1408.Idx) : ((outsAt0 m c t.val t.isLt).2.2.1 y : EReal) = mom (gB m c t y) (mB m c t y) := by
  have hA : ∀ y : S1x256x1408.Idx, (k0_pay2 (F := Ideal) (k0_pay9 (iblk m c 0 t) (iblk m c 3 t)) y : EReal) = mom (g0B m c t y) (mB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x256x1408.Idx, (k0_pay5 (F := Ideal) (k0_pay14 (iblk m c 1 t) (iblk m c 3 t)) y : EReal) = mom (g1B m c t y) (mB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 8 := npoints ▸ t.isLt
  unfold gB
  by_cases h : t.val < 4
  · rw [if_pos h, outsAt0_A m c t (by omega) (by omega)]
    frame_out
    exact hA y
  · rw [if_neg h, outsAt0_B m c t (by omega) (by omega)]
    frame_out
    exact hB y

theorem v_at (t : Fin cfg0.N) (y : S1x256x1408.Idx) : ((outsAt0 m c t.val t.isLt).2.2.2 y : EReal) = var (gB m c t y) (vB m c t y) := by
  have hA : ∀ y : S1x256x1408.Idx, (k0_pay3 (F := Ideal) (k0_pay10 (iblk m c 0 t) (iblk m c 4 t)) y : EReal) = var (g0B m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x256x1408.Idx, (k0_pay6 (F := Ideal) (k0_pay15 (iblk m c 1 t) (iblk m c 4 t)) y : EReal) = var (g1B m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 8 := npoints ▸ t.isLt
  unfold gB
  by_cases h : t.val < 4
  · rw [if_pos h, outsAt0_A m c t (by omega) (by omega)]
    frame_out
    exact hA y
  · rw [if_neg h, outsAt0_B m c t (by omega) (by omega)]
    frame_out
    exact hB y

theorem final_g : (dats m 0 c).arrAt 5 cfg0.N = grad (aG0 m c) (aG1 m c) := by
  refine (dats m 0 c).arrAt_eq_of_covers 5 _ (by decide +kernel) fun t hf y => ?_
  blk_simp
  rw [after0_5]
  idx_vars y
  obtain rfl : y0 = 0 := Subsingleton.elim _ _
  suffices H : ∀ i : S2x1024x1408.Idx, (i 0).val = t.val / 4 → (i 1).val = t.val % 4 * 256 + y1.val → (i 2).val = y2.val →
      ((outsAt0 m c t.val t.isLt).1 (ix3 0 y1 y2) : EReal) = grad (aG0 m c) (aG1 m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (g_at m c t _).trans (gB_at m c t y1 b l a hl ha)

theorem final_d : (dats m 0 c).arrAt 6 cfg0.N = dA (aG0 m c) (aG1 m c) (aW m c) (aM m c) (aV m c) := by
  refine (dats m 0 c).arrAt_eq_of_covers 6 _ (by decide +kernel) fun t hf y => ?_
  blk_simp
  rw [after0_6]
  idx_vars y
  obtain rfl : y0 = 0 := Subsingleton.elim _ _
  suffices H : ∀ i : S2x1024x1408.Idx, (i 0).val = t.val / 4 → (i 1).val = t.val % 4 * 256 + y1.val → (i 2).val = y2.val →
      ((outsAt0 m c t.val t.isLt).2.1 (ix3 0 y1 y2) : EReal) = dA (aG0 m c) (aG1 m c) (aW m c) (aM m c) (aV m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (d_at m c t _).trans (by unfold dA; rw [gB_at m c t y1 b l a hl ha, wB_at m c t y1 b l a hl ha, mB_at m c t y1 b l a hl ha, vB_at m c t y1 b l a hl ha])

theorem final_m : (dats m 0 c).arrAt 7 cfg0.N = mA (aG0 m c) (aG1 m c) (aM m c) := by
  refine (dats m 0 c).arrAt_eq_of_covers 7 _ (by decide +kernel) fun t hf y => ?_
  blk_simp
  rw [after0_7]
  idx_vars y
  obtain rfl : y0 = 0 := Subsingleton.elim _ _
  suffices H : ∀ i : S2x1024x1408.Idx, (i 0).val = t.val / 4 → (i 1).val = t.val % 4 * 256 + y1.val → (i 2).val = y2.val →
      ((outsAt0 m c t.val t.isLt).2.2.1 (ix3 0 y1 y2) : EReal) = mA (aG0 m c) (aG1 m c) (aM m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (m_at m c t _).trans (by unfold mA; rw [gB_at m c t y1 b l a hl ha, mB_at m c t y1 b l a hl ha])

theorem final_v : (dats m 0 c).arrAt 8 cfg0.N = vA (aG0 m c) (aG1 m c) (aV m c) := by
  refine (dats m 0 c).arrAt_eq_of_covers 8 _ (by decide +kernel) fun t hf y => ?_
  blk_simp
  rw [after0_8]
  idx_vars y
  obtain rfl : y0 = 0 := Subsingleton.elim _ _
  suffices H : ∀ i : S2x1024x1408.Idx, (i 0).val = t.val / 4 → (i 1).val = t.val % 4 * 256 + y1.val → (i 2).val = y2.val →
      ((outsAt0 m c t.val t.isLt).2.2.2 (ix3 0 y1 y2) : EReal) = vA (aG0 m c) (aG1 m c) (aV m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (v_at m c t _).trans (by unfold vA; rw [gB_at m c t y1 b l a hl ha, vB_at m c t y1 b l a hl ha])

end
end Cert.AdamUpIdeal.Val

namespace Cert.AdamUpRefIdeal.Val
open Cert.AdamUpRefIdeal Cert.AdamUpRefIdeal.Gen
open Cert.AdamUpIdeal.Val (grad dA mA vA)

section
variable (m : (ℓ : Loc nD τ sig) → Buf (Elt Ideal) ℓ) (c : Dev nD)

/-- The reference's arguments. -/
abbrev rG0 : Vec Ideal S1x1024x1408 .f32 := m ((c.tc : Thread nD τ).loc main_arg0)
abbrev rG1 : Vec Ideal S1x1024x1408 .f32 := m ((c.tc : Thread nD τ).loc main_arg1)
abbrev rW : Vec Ideal S2x1024x1408 .f32 := m ((c.tc : Thread nD τ).loc main_arg2)
abbrev rM : Vec Ideal S2x1024x1408 .f32 := m ((c.tc : Thread nD τ).loc main_arg3)
abbrev rV : Vec Ideal S2x1024x1408 .f32 := m ((c.tc : Thread nD τ).loc main_arg4)

theorem cat_at (g0 g1 : Vec Ideal S1x1024x1408 .f32) (i : S2x1024x1408.Idx) :
    (concatenate S2x1024x1408 0 [⟨S1x1024x1408, g0⟩, ⟨S1x1024x1408, g1⟩] concatenates_S1x1024x1408_S1x1024x1408_S2x1024x1408_d0 i : EReal) = grad g0 g1 i := by
  idx_vars i
  obtain rfl | rfl : i0 = 0 ∨ i0 = 1 := by omega
  · refine Eq.trans ?_ (if_pos (show ((ix3 0 i1 i2 : S2x1024x1408.Idx) 0).val = 0 from rfl)).symm
    pointwise
    all_goals rfl
  · refine Eq.trans ?_ (if_neg (show ¬((ix3 1 i1 i2 : S2x1024x1408.Idx) 0).val = 0 from fun h => by simp at h)).symm
    pointwise
    all_goals rfl
end

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (grad (rG0 m c) (rG1 m c) : FVec Ideal S2x1024x1408 .f32)
      ∧ r.2.mem ((c.tc : Thread nD τ).loc main_v24) = (dA (rG0 m c) (rG1 m c) (rW m c) (rM m c) (rV m c) : FVec Ideal S2x1024x1408 .f32)
      ∧ r.2.mem ((c.tc : Thread nD τ).loc main_v5) = (mA (rG0 m c) (rG1 m c) (rM m c) : FVec Ideal S2x1024x1408 .f32)
      ∧ r.2.mem ((c.tc : Thread nD τ).loc main_v11) = (vA (rG0 m c) (rG1 m c) (rV m c) : FVec Ideal S2x1024x1408 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  have e : concatenate S2x1024x1408 0 [⟨S1x1024x1408, rG0 m c⟩, ⟨S1x1024x1408, rG1 m c⟩] concatenates_S1x1024x1408_S1x1024x1408_S2x1024x1408_d0
      = (grad (rG0 m c) (rG1 m c) : FVec Ideal S2x1024x1408 .f32) := funext (cat_at _ _)
  obtain ⟨h0, h1, h2, h3, hr⟩ := h c
  rw [e] at h0 h1 h2 h3
  refine ⟨h0, h1.trans (funext fun i => ?_), h2.trans (funext fun i => ?_), h3.trans (funext fun i => ?_), hr⟩
  · pointwise
    rfl
  · pointwise
    rfl
  · pointwise
    rfl
end Cert.AdamUpRefIdeal.Val

namespace Cert.Proof.AdamUpClaims

/-- The two programs have one text, and so one table of bodies. -/
theorem bodies_eq : Cert.AdamUp.defs₀ (F := Bits) = Cert.AdamUpIdeal.defs₀ := by
  refine congrArg Defs.onTc (funext fun l => funext fun a => ?_)
  obtain ⟨_ | n, h⟩ := l
  · rfl
  · exact absurd h (by omega)
theorem defs_eq : Cert.AdamUp.defs (F := Bits) = Cert.AdamUpIdeal.defs :=
  congrArg (Pipeline.defs Cert.AdamUpIdeal.pcfgs) bodies_eq

theorem frame_p : Cert.quiescent_AdamUp := fun m ρ _ => by
  rw [defs_eq]
  exact Cert.AdamUpIdeal.Gen.frame (F := Bits) m ρ
theorem frame_pi : Cert.quiescent_AdamUpIdeal := fun m ρ _ => Cert.AdamUpIdeal.Gen.frame m ρ
theorem frame_ri : Cert.quiescent_AdamUpRefIdeal := fun m ρ _ =>
  (θ_run Cert.AdamUpRefIdeal.defs _ _).mono (fun r h => ⟨fun c => (h c).2.2.2.2, sem_eq_zero_of_no_sems (by decide) r.2⟩) (Cert.AdamUpRefIdeal.Value.run m ρ)
theorem preserves : Cert.preserves_AdamUp_AdamUpIdeal := trivial

theorem algebraic : Cert.algebraic_AdamUpIdeal_AdamUpRefIdeal := by
  intro m ρ m' ρ' hpre hagree
  refine ⟨_, _, _, _, (θ_run Cert.AdamUpIdeal.defs _ _).mono (fun r h c => ⟨(h c).1.trans (Cert.AdamUpIdeal.Val.final_g m c),
      (h c).2.1.trans (Cert.AdamUpIdeal.Val.final_d m c), (h c).2.2.1.trans (Cert.AdamUpIdeal.Val.final_m m c),
      (h c).2.2.2.1.trans (Cert.AdamUpIdeal.Val.final_v m c), (h c).2.2.2.2⟩)
      (Cert.AdamUpIdeal.Value.run_blocks m ρ), ?_⟩
  refine (θ_run Cert.AdamUpRefIdeal.defs _ _).mono (fun r h c => ?_) (Cert.AdamUpRefIdeal.Val.run m' ρ')
  obtain ⟨a0, a1, a2, a3, a4⟩ := hagree c
  obtain ⟨h0, h1, h2, h3, hr⟩ := h c
  dsimp only [Cert.AdamUpRefIdeal.Val.rG0, Cert.AdamUpRefIdeal.Val.rG1, Cert.AdamUpRefIdeal.Val.rW, Cert.AdamUpRefIdeal.Val.rM, Cert.AdamUpRefIdeal.Val.rV] at h0 h1 h2 h3
  rw [a0, a1] at h0
  rw [a0, a1, a2, a3, a4] at h1
  rw [a0, a1, a3] at h2
  rw [a0, a1, a4] at h3
  exact ⟨h0, h1, h2, h3, hr⟩

end Cert.Proof.AdamUpClaims
end
-- ==== Proof.AdamDownClaims.lean ====
/- The optimiser's step of one weight, a layer at a time. -/
module
public import proofs.«01_k».proof.Defs
public import proofs.«01_k».proof.Proof.Adam
public import proofs.«01_k».proof.Proof.Gen.AdamDown
public import proofs.«01_k».proof.Proof.Gen.AdamDownIdeal
public import proofs.«01_k».proof.Proof.Gen.AdamDownRefIdeal
public import proofs.«01_k».proof.Proof.Gen.AdamDownIdeal.Value
public import proofs.«01_k».proof.Proof.Gen.AdamDownRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.Adam
namespace Cert.AdamDownIdeal.Val
open Cert.AdamDownIdeal Cert.AdamDownIdeal.Gen

theorem idx0 : ∀ t : Fin cfg0.N, win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)
theorem idxA : ∀ t : Fin cfg0.N, t.val < 2 → win0_0.index t = ![0, t.val, 0] :=
  (by decide +kernel : ∀ t : Fin grid0.N, _)
theorem idxB : ∀ t : Fin cfg0.N, 2 ≤ t.val → win0_1.index t = ![0, t.val - 2, 0] :=
  (by decide +kernel : ∀ t : Fin grid0.N, _)
theorem npoints : cfg0.N = 4 := by decide +kernel

/-- The gradients of the two layers as one array. -/
def grad (g0 g1 : Vec Ideal S1x704x1024 .f32) (i : S2x704x1024.Idx) : EReal :=
  if (i 0).val = 0 then (g0 (ix3 0 (i 1) (i 2)) : EReal) else (g1 (ix3 0 (i 1) (i 2)) : EReal)

/-- The changes and the moments. -/
def dA (g0 g1 : Vec Ideal S1x704x1024 .f32) (w m v : Vec Ideal S2x704x1024 .f32) (i : S2x704x1024.Idx) : EReal := step (grad g0 g1 i) (w i) (m i) (v i)
def mA (g0 g1 : Vec Ideal S1x704x1024 .f32) (m : Vec Ideal S2x704x1024 .f32) (i : S2x704x1024.Idx) : EReal := mom (grad g0 g1 i) (m i)
def vA (g0 g1 : Vec Ideal S1x704x1024 .f32) (v : Vec Ideal S2x704x1024 .f32) (i : S2x704x1024.Idx) : EReal := var (grad g0 g1 i) (v i)

section
variable (m : (ℓ : Loc nD τ sig) → Buf (Elt Ideal) ℓ) (c : Dev nD)

/-- The arguments, as the arrays hold them. -/
abbrev aG0 : Vec Ideal S1x704x1024 .f32 := m ((c : Thread nD τ).loc main_arg0)
abbrev aG1 : Vec Ideal S1x704x1024 .f32 := m ((c : Thread nD τ).loc main_arg1)
abbrev aW : Vec Ideal S2x704x1024 .f32 := m ((c : Thread nD τ).loc main_arg2)
abbrev aM : Vec Ideal S2x704x1024 .f32 := m ((c : Thread nD τ).loc main_arg3)
abbrev aV : Vec Ideal S2x704x1024 .f32 := m ((c : Thread nD τ).loc main_arg4)

/-- The blocks that a point reads, and the one of the two gradients that it uses. -/
def g0B (t : Fin cfg0.N) : Vec Ideal S1x352x1024 .f32 := iblk m c 0 t
def g1B (t : Fin cfg0.N) : Vec Ideal S1x352x1024 .f32 := iblk m c 1 t
def wB (t : Fin cfg0.N) : Vec Ideal S1x352x1024 .f32 := iblk m c 2 t
def mB (t : Fin cfg0.N) : Vec Ideal S1x352x1024 .f32 := iblk m c 3 t
def vB (t : Fin cfg0.N) : Vec Ideal S1x352x1024 .f32 := iblk m c 4 t
def gB (t : Fin cfg0.N) (y : S1x352x1024.Idx) : EReal := if t.val < 2 then (g0B m c t y : EReal) else (g1B m c t y : EReal)

theorem wB_at (t : Fin cfg0.N) (y : Fin 352) (k : Fin 1024) (l : Fin 2) (a : Fin 704) (hl : l.val = t.val / 2) (ha : a.val = t.val % 2 * 352 + y.val) :
    wB m c t (ix3 0 y k) = aW m c (ix3 l a k) := by
  obtain ⟨l, _⟩ := l
  obtain ⟨a, _⟩ := a
  obtain rfl := hl
  obtain rfl := ha
  dsimp only [wB, aW]
  blk_point [iblk, idx0 t]

theorem mB_at (t : Fin cfg0.N) (y : Fin 352) (k : Fin 1024) (l : Fin 2) (a : Fin 704) (hl : l.val = t.val / 2) (ha : a.val = t.val % 2 * 352 + y.val) :
    mB m c t (ix3 0 y k) = aM m c (ix3 l a k) := by
  obtain ⟨l, _⟩ := l
  obtain ⟨a, _⟩ := a
  obtain rfl := hl
  obtain rfl := ha
  dsimp only [mB, aM]
  blk_point [iblk, idx0 t]

theorem vB_at (t : Fin cfg0.N) (y : Fin 352) (k : Fin 1024) (l : Fin 2) (a : Fin 704) (hl : l.val = t.val / 2) (ha : a.val = t.val % 2 * 352 + y.val) :
    vB m c t (ix3 0 y k) = aV m c (ix3 l a k) := by
  obtain ⟨l, _⟩ := l
  obtain ⟨a, _⟩ := a
  obtain rfl := hl
  obtain rfl := ha
  dsimp only [vB, aV]
  blk_point [iblk, idx0 t]

theorem g0B_at (t : Fin cfg0.N) (h : t.val < 2) (y : Fin 352) (k : Fin 1024) (a : Fin 704) (ha : a.val = t.val * 352 + y.val) :
    g0B m c t (ix3 0 y k) = aG0 m c (ix3 0 a k) := by
  obtain ⟨a, _⟩ := a
  obtain rfl := ha
  dsimp only [g0B, aG0]
  blk_point [iblk, idxA t h]

theorem g1B_at (t : Fin cfg0.N) (h : 2 ≤ t.val) (y : Fin 352) (k : Fin 1024) (a : Fin 704) (ha : a.val = (t.val - 2) * 352 + y.val) :
    g1B m c t (ix3 0 y k) = aG1 m c (ix3 0 a k) := by
  obtain ⟨a, _⟩ := a
  obtain rfl := ha
  dsimp only [g1B, aG1]
  blk_point [iblk, idxB t h]

theorem gB_at (t : Fin cfg0.N) (y : Fin 352) (k : Fin 1024) (l : Fin 2) (a : Fin 704) (hl : l.val = t.val / 2) (ha : a.val = t.val % 2 * 352 + y.val) :
    gB m c t (ix3 0 y k) = grad (aG0 m c) (aG1 m c) (ix3 l a k) := by
  have ht : t.val < 4 := npoints ▸ t.isLt
  by_cases h : t.val < 2
  · have h0 : ((ix3 l a k : S2x704x1024.Idx) 0).val = 0 := by show l.val = 0; omega
    unfold gB grad
    rw [if_pos h, if_pos h0]
    exact g0B_at m c t h y k a (by omega)
  · have h0 : ¬((ix3 l a k : S2x704x1024.Idx) 0).val = 0 := by show ¬l.val = 0; omega
    unfold gB grad
    rw [if_neg h, if_neg h0]
    exact g1B_at m c t (by omega) y k a (by omega)

theorem g_at (t : Fin cfg0.N) (y : S1x352x1024.Idx) : ((outsAt0 m c t.val t.isLt).1 y : EReal) = gB m c t y := by
  have hA : ∀ y : S1x352x1024.Idx, (k0_pay8 (F := Ideal) (iblk m c 0 t) y : EReal) = g0B m c t y := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x352x1024.Idx, (k0_pay13 (F := Ideal) (iblk m c 1 t) y : EReal) = g1B m c t y := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 4 := npoints ▸ t.isLt
  unfold gB
  by_cases h : t.val < 2
  · rw [if_pos h, outsAt0_A m c t (by omega) (by omega)]
    frame_out
    exact hA y
  · rw [if_neg h, outsAt0_B m c t (by omega) (by omega)]
    frame_out
    exact hB y

theorem d_at (t : Fin cfg0.N) (y : S1x352x1024.Idx) : ((outsAt0 m c t.val t.isLt).2.1 y : EReal) = step (gB m c t y) (wB m c t y) (mB m c t y) (vB m c t y) := by
  have hA : ∀ y : S1x352x1024.Idx, (k0_pay1 (F := Ideal) (k0_pay11 (iblk m c 0 t) (iblk m c 3 t) (iblk m c 4 t) (iblk m c 2 t)) y : EReal) = step (g0B m c t y) (wB m c t y) (mB m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x352x1024.Idx, (k0_pay4 (F := Ideal) (k0_pay16 (iblk m c 1 t) (iblk m c 3 t) (iblk m c 4 t) (iblk m c 2 t)) y : EReal) = step (g1B m c t y) (wB m c t y) (mB m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 4 := npoints ▸ t.isLt
  unfold gB
  by_cases h : t.val < 2
  · rw [if_pos h, outsAt0_A m c t (by omega) (by omega)]
    frame_out
    exact hA y
  · rw [if_neg h, outsAt0_B m c t (by omega) (by omega)]
    frame_out
    exact hB y

theorem m_at (t : Fin cfg0.N) (y : S1x352x1024.Idx) : ((outsAt0 m c t.val t.isLt).2.2.1 y : EReal) = mom (gB m c t y) (mB m c t y) := by
  have hA : ∀ y : S1x352x1024.Idx, (k0_pay2 (F := Ideal) (k0_pay9 (iblk m c 0 t) (iblk m c 3 t)) y : EReal) = mom (g0B m c t y) (mB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x352x1024.Idx, (k0_pay5 (F := Ideal) (k0_pay14 (iblk m c 1 t) (iblk m c 3 t)) y : EReal) = mom (g1B m c t y) (mB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 4 := npoints ▸ t.isLt
  unfold gB
  by_cases h : t.val < 2
  · rw [if_pos h, outsAt0_A m c t (by omega) (by omega)]
    frame_out
    exact hA y
  · rw [if_neg h, outsAt0_B m c t (by omega) (by omega)]
    frame_out
    exact hB y

theorem v_at (t : Fin cfg0.N) (y : S1x352x1024.Idx) : ((outsAt0 m c t.val t.isLt).2.2.2 y : EReal) = var (gB m c t y) (vB m c t y) := by
  have hA : ∀ y : S1x352x1024.Idx, (k0_pay3 (F := Ideal) (k0_pay10 (iblk m c 0 t) (iblk m c 4 t)) y : EReal) = var (g0B m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have hB : ∀ y : S1x352x1024.Idx, (k0_pay6 (F := Ideal) (k0_pay15 (iblk m c 1 t) (iblk m c 4 t)) y : EReal) = var (g1B m c t y) (vB m c t y) := fun y => by
    idx_vars y
    obtain rfl : y0 = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16]
    rfl
  have ht : t.val < 4 := npoints ▸ t.isLt
  unfold gB
  by_cases h : t.val < 2
  · rw [if_pos h, outsAt0_A m c t (by omega) (by omega)]
    frame_out
    exact hA y
  · rw [if_neg h, outsAt0_B m c t (by omega) (by omega)]
    frame_out
    exact hB y

theorem final_g : (dats m 0 c).arrAt 5 cfg0.N = grad (aG0 m c) (aG1 m c) := by
  refine (dats m 0 c).arrAt_eq_of_covers 5 _ (by decide +kernel) fun t hf y => ?_
  blk_simp
  rw [after0_5]
  idx_vars y
  obtain rfl : y0 = 0 := Subsingleton.elim _ _
  suffices H : ∀ i : S2x704x1024.Idx, (i 0).val = t.val / 2 → (i 1).val = t.val % 2 * 352 + y1.val → (i 2).val = y2.val →
      ((outsAt0 m c t.val t.isLt).1 (ix3 0 y1 y2) : EReal) = grad (aG0 m c) (aG1 m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (g_at m c t _).trans (gB_at m c t y1 b l a hl ha)

theorem final_d : (dats m 0 c).arrAt 6 cfg0.N = dA (aG0 m c) (aG1 m c) (aW m c) (aM m c) (aV m c) := by
  refine (dats m 0 c).arrAt_eq_of_covers 6 _ (by decide +kernel) fun t hf y => ?_
  blk_simp
  rw [after0_6]
  idx_vars y
  obtain rfl : y0 = 0 := Subsingleton.elim _ _
  suffices H : ∀ i : S2x704x1024.Idx, (i 0).val = t.val / 2 → (i 1).val = t.val % 2 * 352 + y1.val → (i 2).val = y2.val →
      ((outsAt0 m c t.val t.isLt).2.1 (ix3 0 y1 y2) : EReal) = dA (aG0 m c) (aG1 m c) (aW m c) (aM m c) (aV m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (d_at m c t _).trans (by unfold dA; rw [gB_at m c t y1 b l a hl ha, wB_at m c t y1 b l a hl ha, mB_at m c t y1 b l a hl ha, vB_at m c t y1 b l a hl ha])

theorem final_m : (dats m 0 c).arrAt 7 cfg0.N = mA (aG0 m c) (aG1 m c) (aM m c) := by
  refine (dats m 0 c).arrAt_eq_of_covers 7 _ (by decide +kernel) fun t hf y => ?_
  blk_simp
  rw [after0_7]
  idx_vars y
  obtain rfl : y0 = 0 := Subsingleton.elim _ _
  suffices H : ∀ i : S2x704x1024.Idx, (i 0).val = t.val / 2 → (i 1).val = t.val % 2 * 352 + y1.val → (i 2).val = y2.val →
      ((outsAt0 m c t.val t.isLt).2.2.1 (ix3 0 y1 y2) : EReal) = mA (aG0 m c) (aG1 m c) (aM m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (m_at m c t _).trans (by unfold mA; rw [gB_at m c t y1 b l a hl ha, mB_at m c t y1 b l a hl ha])

theorem final_v : (dats m 0 c).arrAt 8 cfg0.N = vA (aG0 m c) (aG1 m c) (aV m c) := by
  refine (dats m 0 c).arrAt_eq_of_covers 8 _ (by decide +kernel) fun t hf y => ?_
  blk_simp
  rw [after0_8]
  idx_vars y
  obtain rfl : y0 = 0 := Subsingleton.elim _ _
  suffices H : ∀ i : S2x704x1024.Idx, (i 0).val = t.val / 2 → (i 1).val = t.val % 2 * 352 + y1.val → (i 2).val = y2.val →
      ((outsAt0 m c t.val t.isLt).2.2.2 (ix3 0 y1 y2) : EReal) = vA (aG0 m c) (aG1 m c) (aV m c) i from
    H _ (by blk_simp [idx0 t] <;> try omega) (by blk_simp [idx0 t] <;> try omega) (by blk_simp [idx0 t] <;> try omega)
  intro i hl ha hb
  idx_vars i
  obtain ⟨l, rfl⟩ : ∃ l, l = i0 := ⟨_, rfl⟩
  obtain ⟨a, rfl⟩ : ∃ a, a = i1 := ⟨_, rfl⟩
  obtain ⟨b, rfl⟩ : ∃ b, b = i2 := ⟨_, rfl⟩
  obtain rfl : b = y2 := Fin.ext hb
  exact (v_at m c t _).trans (by unfold vA; rw [gB_at m c t y1 b l a hl ha, vB_at m c t y1 b l a hl ha])

end
end Cert.AdamDownIdeal.Val

namespace Cert.AdamDownRefIdeal.Val
open Cert.AdamDownRefIdeal Cert.AdamDownRefIdeal.Gen
open Cert.AdamDownIdeal.Val (grad dA mA vA)

section
variable (m : (ℓ : Loc nD τ sig) → Buf (Elt Ideal) ℓ) (c : Dev nD)

/-- The reference's arguments. -/
abbrev rG0 : Vec Ideal S1x704x1024 .f32 := m ((c.tc : Thread nD τ).loc main_arg0)
abbrev rG1 : Vec Ideal S1x704x1024 .f32 := m ((c.tc : Thread nD τ).loc main_arg1)
abbrev rW : Vec Ideal S2x704x1024 .f32 := m ((c.tc : Thread nD τ).loc main_arg2)
abbrev rM : Vec Ideal S2x704x1024 .f32 := m ((c.tc : Thread nD τ).loc main_arg3)
abbrev rV : Vec Ideal S2x704x1024 .f32 := m ((c.tc : Thread nD τ).loc main_arg4)

theorem cat_at (g0 g1 : Vec Ideal S1x704x1024 .f32) (i : S2x704x1024.Idx) :
    (concatenate S2x704x1024 0 [⟨S1x704x1024, g0⟩, ⟨S1x704x1024, g1⟩] concatenates_S1x704x1024_S1x704x1024_S2x704x1024_d0 i : EReal) = grad g0 g1 i := by
  idx_vars i
  obtain rfl | rfl : i0 = 0 ∨ i0 = 1 := by omega
  · refine Eq.trans ?_ (if_pos (show ((ix3 0 i1 i2 : S2x704x1024.Idx) 0).val = 0 from rfl)).symm
    pointwise
    all_goals rfl
  · refine Eq.trans ?_ (if_neg (show ¬((ix3 1 i1 i2 : S2x704x1024.Idx) 0).val = 0 from fun h => by simp at h)).symm
    pointwise
    all_goals rfl
end

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (grad (rG0 m c) (rG1 m c) : FVec Ideal S2x704x1024 .f32)
      ∧ r.2.mem ((c.tc : Thread nD τ).loc main_v24) = (dA (rG0 m c) (rG1 m c) (rW m c) (rM m c) (rV m c) : FVec Ideal S2x704x1024 .f32)
      ∧ r.2.mem ((c.tc : Thread nD τ).loc main_v5) = (mA (rG0 m c) (rG1 m c) (rM m c) : FVec Ideal S2x704x1024 .f32)
      ∧ r.2.mem ((c.tc : Thread nD τ).loc main_v11) = (vA (rG0 m c) (rG1 m c) (rV m c) : FVec Ideal S2x704x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  have e : concatenate S2x704x1024 0 [⟨S1x704x1024, rG0 m c⟩, ⟨S1x704x1024, rG1 m c⟩] concatenates_S1x704x1024_S1x704x1024_S2x704x1024_d0
      = (grad (rG0 m c) (rG1 m c) : FVec Ideal S2x704x1024 .f32) := funext (cat_at _ _)
  obtain ⟨h0, h1, h2, h3, hr⟩ := h c
  rw [e] at h0 h1 h2 h3
  refine ⟨h0, h1.trans (funext fun i => ?_), h2.trans (funext fun i => ?_), h3.trans (funext fun i => ?_), hr⟩
  · pointwise
    rfl
  · pointwise
    rfl
  · pointwise
    rfl
end Cert.AdamDownRefIdeal.Val

namespace Cert.Proof.AdamDownClaims

/-- The two programs have one text, and so one table of bodies. -/
theorem bodies_eq : Cert.AdamDown.defs₀ (F := Bits) = Cert.AdamDownIdeal.defs₀ := by
  refine congrArg Defs.onTc (funext fun l => funext fun a => ?_)
  obtain ⟨_ | n, h⟩ := l
  · rfl
  · exact absurd h (by omega)
theorem defs_eq : Cert.AdamDown.defs (F := Bits) = Cert.AdamDownIdeal.defs :=
  congrArg (Pipeline.defs Cert.AdamDownIdeal.pcfgs) bodies_eq

theorem frame_p : Cert.quiescent_AdamDown := fun m ρ _ => by
  rw [defs_eq]
  exact Cert.AdamDownIdeal.Gen.frame (F := Bits) m ρ
theorem frame_pi : Cert.quiescent_AdamDownIdeal := fun m ρ _ => Cert.AdamDownIdeal.Gen.frame m ρ
theorem frame_ri : Cert.quiescent_AdamDownRefIdeal := fun m ρ _ =>
  (θ_run Cert.AdamDownRefIdeal.defs _ _).mono (fun r h => ⟨fun c => (h c).2.2.2.2, sem_eq_zero_of_no_sems (by decide) r.2⟩) (Cert.AdamDownRefIdeal.Value.run m ρ)
theorem preserves : Cert.preserves_AdamDown_AdamDownIdeal := trivial

theorem algebraic : Cert.algebraic_AdamDownIdeal_AdamDownRefIdeal := by
  intro m ρ m' ρ' hpre hagree
  refine ⟨_, _, _, _, (θ_run Cert.AdamDownIdeal.defs _ _).mono (fun r h c => ⟨(h c).1.trans (Cert.AdamDownIdeal.Val.final_g m c),
      (h c).2.1.trans (Cert.AdamDownIdeal.Val.final_d m c), (h c).2.2.1.trans (Cert.AdamDownIdeal.Val.final_m m c),
      (h c).2.2.2.1.trans (Cert.AdamDownIdeal.Val.final_v m c), (h c).2.2.2.2⟩)
      (Cert.AdamDownIdeal.Value.run_blocks m ρ), ?_⟩
  refine (θ_run Cert.AdamDownRefIdeal.defs _ _).mono (fun r h c => ?_) (Cert.AdamDownRefIdeal.Val.run m' ρ')
  obtain ⟨a0, a1, a2, a3, a4⟩ := hagree c
  obtain ⟨h0, h1, h2, h3, hr⟩ := h c
  dsimp only [Cert.AdamDownRefIdeal.Val.rG0, Cert.AdamDownRefIdeal.Val.rG1, Cert.AdamDownRefIdeal.Val.rW, Cert.AdamDownRefIdeal.Val.rM, Cert.AdamDownRefIdeal.Val.rV] at h0 h1 h2 h3
  rw [a0, a1] at h0
  rw [a0, a1, a2, a3, a4] at h1
  rw [a0, a1, a3] at h2
  rw [a0, a1, a4] at h3
  exact ⟨h0, h1, h2, h3, hr⟩

end Cert.Proof.AdamDownClaims
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentRefIdeal
public import proofs.«01_k».proof.Proof.Gen.LatentRefIdeal.Run
public import proofs.«01_k».proof.Proof.Gen.Pre_finite_latent
public import proofs.«01_k».proof.Proof.GqaClaims
public import proofs.«01_k».proof.Proof.LatentClaims
public import proofs.«01_k».proof.Proof.DwUpClaims
public import proofs.«01_k».proof.Proof.DH1Claims
public import proofs.«01_k».proof.Proof.DwDownClaims
public import proofs.«01_k».proof.Proof.DActClaims
public import proofs.«01_k».proof.Proof.FfnUpClaims
public import proofs.«01_k».proof.Proof.FfnDownClaims
public import proofs.«01_k».proof.Proof.DwInClaims
public import proofs.«01_k».proof.Proof.DHClaims
public import proofs.«01_k».proof.Proof.DwOutClaims
public import proofs.«01_k».proof.Proof.DMixcatClaims
public import proofs.«01_k».proof.Proof.ProjClaims
public import proofs.«01_k».proof.Proof.OutProjClaims
public import proofs.«01_k».proof.Proof.LnInClaims
public import proofs.«01_k».proof.Proof.LnMixClaims
public import proofs.«01_k».proof.Proof.LnInBwdClaims
public import proofs.«01_k».proof.Proof.LnFfnBwdClaims
public import proofs.«01_k».proof.Proof.LnMixBwdClaims
public import proofs.«01_k».proof.Proof.LossClaims
public import proofs.«01_k».proof.Proof.AdamInClaims
public import proofs.«01_k».proof.Proof.AdamOutClaims
public import proofs.«01_k».proof.Proof.AdamUpClaims
public import proofs.«01_k».proof.Proof.AdamDownClaims
public import proofs.«01_k».proof.Proof.Gen.DwUp
public import proofs.«01_k».proof.Proof.Gen.DwUpIdeal
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DH1
public import proofs.«01_k».proof.Proof.Gen.DH1Ideal
public import proofs.«01_k».proof.Proof.Gen.DH1Ideal.Value
public import proofs.«01_k».proof.Proof.Gen.DH1RefIdeal
public import proofs.«01_k».proof.Proof.Gen.DH1RefIdeal.Run
public import proofs.«01_k».proof.Proof.Gen.DwDown
public import proofs.«01_k».proof.Proof.Gen.DwDownIdeal
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DAct
public import proofs.«01_k».proof.Proof.Gen.DActIdeal
public import proofs.«01_k».proof.Proof.Gen.DActIdeal.Value
public import proofs.«01_k».proof.Proof.Gen.DActRefIdeal
public import proofs.«01_k».proof.Proof.Gen.DActRefIdeal.Run
public import proofs.«01_k».proof.Proof.Gen.FfnUp
public import proofs.«01_k».proof.Proof.Gen.FfnUpIdeal
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDownIdeal
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.DwIn
public import proofs.«01_k».proof.Proof.Gen.DwInIdeal
public import proofs.«01_k».proof.Proof.Gen.DwInIdeal.Value
public import proofs.«01_k».proof.Proof.Gen.DwInRefIdeal
public import proofs.«01_k».proof.Proof.Gen.DwInRefIdeal.Run
public import proofs.«01_k».proof.Proof.Gen.DH
public import proofs.«01_k».proof.Proof.Gen.DHIdeal
public import proofs.«01_k».proof.Proof.Gen.DHIdeal.Value
public import proofs.«01_k».proof.Proof.Gen.DHRefIdeal
public import proofs.«01_k».proof.Proof.Gen.DHRefIdeal.Run
public import proofs.«01_k».proof.Proof.Gen.DwOut
public import proofs.«01_k».proof.Proof.Gen.DwOutIdeal
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DMixcat
public import proofs.«01_k».proof.Proof.Gen.DMixcatIdeal
public import proofs.«01_k».proof.Proof.Gen.DMixcatIdeal.Value
public import proofs.«01_k».proof.Proof.Gen.DMixcatRefIdeal
public import proofs.«01_k».proof.Proof.Gen.DMixcatRefIdeal.Run
public import proofs.«01_k».proof.Proof.Gen.Proj
public import proofs.«01_k».proof.Proof.Gen.ProjIdeal
public import proofs.«01_k».proof.Proof.Gen.ProjIdeal.Value
public import proofs.«01_k».proof.Proof.Gen.ProjRefIdeal
public import proofs.«01_k».proof.Proof.Gen.ProjRefIdeal.Run
public import proofs.«01_k».proof.Proof.Gen.OutProj
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import Idealize.ShloMosaic.Adequacy
public import Idealize.ShloMosaic.Init
public import proofs.«01_k».proof.Proof.Gen.LnIn
public import proofs.«01_k».proof.Proof.Gen.LnInIdeal
public import proofs.«01_k».proof.Proof.Gen.LnInRefIdeal
public import proofs.«01_k».proof.Proof.Gen.LnInIdeal.Skeleton
public import proofs.«01_k».proof.Proof.Gen.LnInIdeal.Launch
public import proofs.«01_k».proof.Proof.Gen.LnInIdeal.Points
public import proofs.«01_k».proof.Proof.Gen.LnInIdeal.Frame
public import proofs.«01_k».proof.Proof.Gen.LnInIdeal.Value
public import proofs.«01_k».proof.Proof.Gen.LnInRefIdeal.Run
public import proofs.«01_k».proof.Proof.Gen.LnMix
public import proofs.«01_k».proof.Proof.Gen.LnMixIdeal
public import proofs.«01_k».proof.Proof.Gen.LnMixRefIdeal
public import proofs.«01_k».proof.Proof.Gen.LnMixIdeal.Skeleton
public import proofs.«01_k».proof.Proof.Gen.LnMixIdeal.Launch
public import proofs.«01_k».proof.Proof.Gen.LnMixIdeal.Points
public import proofs.«01_k».proof.Proof.Gen.LnMixIdeal.Frame
public import proofs.«01_k».proof.Proof.Gen.LnMixIdeal.Value
public import proofs.«01_k».proof.Proof.Gen.LnMixRefIdeal.Run
public import proofs.«01_k».proof.Proof.Gen.LnInBwd
public import proofs.«01_k».proof.Proof.Gen.LnInBwdIdeal
public import proofs.«01_k».proof.Proof.Gen.LnInBwdRefIdeal
public import proofs.«01_k».proof.Proof.Gen.LnInBwdIdeal.Skeleton
public import proofs.«01_k».proof.Proof.Gen.LnInBwdIdeal.Launch
public import proofs.«01_k».proof.Proof.Gen.LnInBwdIdeal.Points
public import proofs.«01_k».proof.Proof.Gen.LnInBwdIdeal.Frame
public import proofs.«01_k».proof.Proof.Gen.LnInBwdIdeal.Value
public import proofs.«01_k».proof.Proof.Gen.LnInBwdRefIdeal.Run
public import proofs.«01_k».proof.Proof.Gen.LnFfnBwd
public import proofs.«01_k».proof.Proof.Gen.LnFfnBwdIdeal
public import proofs.«01_k».proof.Proof.Gen.LnFfnBwdRefIdeal
public import proofs.«01_k».proof.Proof.Gen.LnFfnBwdIdeal.Skeleton
public import proofs.«01_k».proof.Proof.Gen.LnFfnBwdIdeal.Launch
public import proofs.«01_k».proof.Proof.Gen.LnFfnBwdIdeal.Points
public import proofs.«01_k».proof.Proof.Gen.LnFfnBwdIdeal.Frame
public import proofs.«01_k».proof.Proof.Gen.LnFfnBwdIdeal.Value
public import proofs.«01_k».proof.Proof.Gen.LnFfnBwdRefIdeal.Run
public import proofs.«01_k».proof.Proof.Gen.LnMixBwd
public import proofs.«01_k».proof.Proof.Gen.LnMixBwdIdeal
public import proofs.«01_k».proof.Proof.Gen.LnMixBwdRefIdeal
public import proofs.«01_k».proof.Proof.Gen.LnMixBwdIdeal.Skeleton
public import proofs.«01_k».proof.Proof.Gen.LnMixBwdIdeal.Launch
public import proofs.«01_k».proof.Proof.Gen.LnMixBwdIdeal.Points
public import proofs.«01_k».proof.Proof.Gen.LnMixBwdIdeal.Frame
public import proofs.«01_k».proof.Proof.Gen.LnMixBwdIdeal.Value
public import proofs.«01_k».proof.Proof.Gen.LnMixBwdRefIdeal.Run
public import proofs.«01_k».proof.Proof.Gen.Loss
public import proofs.«01_k».proof.Proof.Gen.LossIdeal
public import proofs.«01_k».proof.Proof.Gen.LossRefIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.AdamIn
public import proofs.«01_k».proof.Proof.Gen.AdamInIdeal
public import proofs.«01_k».proof.Proof.Gen.AdamInRefIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamOut
public import proofs.«01_k».proof.Proof.Gen.AdamOutIdeal
public import proofs.«01_k».proof.Proof.Gen.AdamOutRefIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamUp
public import proofs.«01_k».proof.Proof.Gen.AdamUpIdeal
public import proofs.«01_k».proof.Proof.Gen.AdamUpRefIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamDown
public import proofs.«01_k».proof.Proof.Gen.AdamDownIdeal
public import proofs.«01_k».proof.Proof.Gen.AdamDownRefIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.Pre_finite_in
public import proofs.«01_k».proof.Proof.Gen.Pre_finite_ffn
public import proofs.«01_k».proof.Proof.Gen.Pre_finite_mix
public import proofs.«01_k».proof.Proof.Gen.Pre_finite_loss

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Latent.Gen.facts, Cert.LatentIdeal.Gen.facts, Cert.LatentRefIdeal.Gen.facts,
    Cert.DwUp.Gen.facts, Cert.DwUpIdeal.Gen.facts, Cert.DwUpRefIdeal.Gen.facts,
    Cert.DH1.Gen.facts, Cert.DH1Ideal.Gen.facts, Cert.DH1RefIdeal.Gen.facts,
    Cert.DwDown.Gen.facts, Cert.DwDownIdeal.Gen.facts, Cert.DwDownRefIdeal.Gen.facts,
    Cert.DAct.Gen.facts, Cert.DActIdeal.Gen.facts, Cert.DActRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.DwIn.Gen.facts, Cert.DwInIdeal.Gen.facts, Cert.DwInRefIdeal.Gen.facts,
    Cert.DH.Gen.facts, Cert.DHIdeal.Gen.facts, Cert.DHRefIdeal.Gen.facts,
    Cert.DwOut.Gen.facts, Cert.DwOutIdeal.Gen.facts, Cert.DwOutRefIdeal.Gen.facts,
    Cert.DMixcat.Gen.facts, Cert.DMixcatIdeal.Gen.facts, Cert.DMixcatRefIdeal.Gen.facts,
    Cert.Proj.Gen.facts, Cert.ProjIdeal.Gen.facts, Cert.ProjRefIdeal.Gen.facts,
    Cert.OutProj.Gen.facts, Cert.OutProjIdeal.Gen.facts, Cert.OutProjRefIdeal.Gen.facts,
    Cert.LnIn.Gen.facts, Cert.LnInIdeal.Gen.facts, Cert.LnInRefIdeal.Gen.facts,
    Cert.LnMix.Gen.facts, Cert.LnMixIdeal.Gen.facts, Cert.LnMixRefIdeal.Gen.facts,
    Cert.LnInBwd.Gen.facts, Cert.LnInBwdIdeal.Gen.facts, Cert.LnInBwdRefIdeal.Gen.facts,
    Cert.LnFfnBwd.Gen.facts, Cert.LnFfnBwdIdeal.Gen.facts, Cert.LnFfnBwdRefIdeal.Gen.facts,
    Cert.LnMixBwd.Gen.facts, Cert.LnMixBwdIdeal.Gen.facts, Cert.LnMixBwdRefIdeal.Gen.facts,
    Cert.Loss.Gen.facts, Cert.LossIdeal.Gen.facts, Cert.LossRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.Pre_finite.Gen.facts, Cert.Pre_finite_latent.Gen.facts, Cert.Pre_finite_in.Gen.facts, Cert.Pre_finite_ffn.Gen.facts, Cert.Pre_finite_mix.Gen.facts, Cert.Pre_finite_loss.Gen.facts,
    GqaClaims.frame_p, GqaClaims.frame_pi, GqaClaims.frame_pi_finite, GqaClaims.frame_ri, GqaClaims.frame_ri_finite,
    LatentClaims.frame_p, LatentClaims.frame_pi, LatentClaims.frame_pi_finite, LatentClaims.frame_ri, LatentClaims.frame_ri_finite,
    DwUpClaims.frame_p, DwUpClaims.frame_pi, DwUpClaims.frame_ri,
    DH1Claims.frame_p, DH1Claims.frame_pi, DH1Claims.frame_ri,
    DwDownClaims.frame_p, DwDownClaims.frame_pi, DwDownClaims.frame_ri,
    DActClaims.frame_p, DActClaims.frame_pi, DActClaims.frame_ri,
    FfnUpClaims.frame_p, FfnUpClaims.frame_pi, FfnUpClaims.frame_ri,
    FfnDownClaims.frame_p, FfnDownClaims.frame_pi, FfnDownClaims.frame_ri,
    DwInClaims.frame_p, DwInClaims.frame_pi, DwInClaims.frame_ri,
    DHClaims.frame_p, DHClaims.frame_pi, DHClaims.frame_ri,
    DwOutClaims.frame_p, DwOutClaims.frame_pi, DwOutClaims.frame_ri,
    DMixcatClaims.frame_p, DMixcatClaims.frame_pi, DMixcatClaims.frame_ri,
    ProjClaims.frame_p, ProjClaims.frame_pi, ProjClaims.frame_ri,
    OutProjClaims.frame_p, OutProjClaims.frame_pi, OutProjClaims.frame_ri,
    LnInClaims.frame_p, LnInClaims.frame_pi, LnInClaims.frame_ri,
    LnMixClaims.frame_p, LnMixClaims.frame_pi, LnMixClaims.frame_ri,
    LnInBwdClaims.frame_p, LnInBwdClaims.frame_pi, LnInBwdClaims.frame_pi_finite, LnInBwdClaims.frame_ri, LnInBwdClaims.frame_ri_finite,
    LnFfnBwdClaims.frame_p, LnFfnBwdClaims.frame_pi, LnFfnBwdClaims.frame_pi_finite, LnFfnBwdClaims.frame_ri, LnFfnBwdClaims.frame_ri_finite,
    LnMixBwdClaims.frame_p, LnMixBwdClaims.frame_pi, LnMixBwdClaims.frame_pi_finite, LnMixBwdClaims.frame_ri, LnMixBwdClaims.frame_ri_finite,
    LossClaims.frame_p, LossClaims.frame_pi, LossClaims.frame_pi_finite, LossClaims.frame_ri, LossClaims.frame_ri_finite,
    AdamInClaims.frame_p, AdamInClaims.frame_pi, AdamInClaims.frame_ri,
    AdamOutClaims.frame_p, AdamOutClaims.frame_pi, AdamOutClaims.frame_ri,
    AdamUpClaims.frame_p, AdamUpClaims.frame_pi, AdamUpClaims.frame_ri,
    AdamDownClaims.frame_p, AdamDownClaims.frame_pi, AdamDownClaims.frame_ri,
    GqaClaims.preserves, GqaClaims.algebraic,
    LatentClaims.preserves, LatentClaims.algebraic,
    DwUpClaims.preserves, DwUpClaims.algebraic,
    DH1Claims.preserves, DH1Claims.algebraic,
    DwDownClaims.preserves, DwDownClaims.algebraic,
    DActClaims.preserves, DActClaims.algebraic,
    FfnUpClaims.preserves, FfnUpClaims.algebraic,
    FfnDownClaims.preserves, FfnDownClaims.algebraic,
    DwInClaims.preserves, DwInClaims.algebraic,
    DHClaims.preserves, DHClaims.algebraic,
    DwOutClaims.preserves, DwOutClaims.algebraic,
    DMixcatClaims.preserves, DMixcatClaims.algebraic,
    ProjClaims.preserves, ProjClaims.algebraic,
    OutProjClaims.preserves, OutProjClaims.algebraic,
    LnInClaims.preserves, LnInClaims.algebraic,
    LnMixClaims.preserves, LnMixClaims.algebraic,
    LnInBwdClaims.preserves, LnInBwdClaims.algebraic,
    LnFfnBwdClaims.preserves, LnFfnBwdClaims.algebraic,
    LnMixBwdClaims.preserves, LnMixBwdClaims.algebraic,
    LossClaims.preserves, LossClaims.algebraic,
    AdamInClaims.preserves, AdamInClaims.algebraic,
    AdamOutClaims.preserves, AdamOutClaims.algebraic,
    AdamUpClaims.preserves, AdamUpClaims.algebraic,
    AdamDownClaims.preserves, AdamDownClaims.algebraic⟩

end Cert.Proof

end
